-- ==== Defs.lean ====
def Pre_Kernel [hPre_rows_in_range : Cert.Pre_rows_in_range.Facts] (m : (ℓ : Loc Cert.Kernel.nD Cert.Kernel.τ Cert.Kernel.sig) → Buf (Elt Bits) ℓ) : Prop :=
  ∀ c : Dev Cert.Kernel.nD,
    (Cert.Pre_rows_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_rows_in_range : Cert.Pre_rows_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_rows_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_rows_in_range : Cert.Pre_rows_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Candidates [hPre_candidates_in_table : Cert.Pre_candidates_in_table.Facts] (m : (ℓ : Loc Cert.Candidates.nD Cert.Candidates.τ Cert.Candidates.sig) → Buf (Elt Bits) ℓ) : Prop :=
  ∀ c : Dev Cert.Candidates.nD,
    (Cert.Pre_candidates_in_table.fn (F := Bits) (m ((c.tc : Thread Cert.Candidates.nD Cert.Candidates.τ).loc Cert.Candidates.main_arg0)) (m ((c.tc : Thread Cert.Candidates.nD Cert.Candidates.τ).loc Cert.Candidates.main_arg1))) = (fun _ => 1#1)

def Pre_CandidatesIdeal [hPre_candidates_in_table : Cert.Pre_candidates_in_table.Facts] (m : (ℓ : Loc Cert.CandidatesIdeal.nD Cert.CandidatesIdeal.τ Cert.CandidatesIdeal.sig) → Buf (Elt Ideal) ℓ) : Prop :=
  ∀ c : Dev Cert.CandidatesIdeal.nD,
    (Cert.Pre_candidates_in_table.fn (F := Ideal) (m ((c.tc : Thread Cert.CandidatesIdeal.nD Cert.CandidatesIdeal.τ).loc Cert.CandidatesIdeal.main_arg0)) (m ((c.tc : Thread Cert.CandidatesIdeal.nD Cert.CandidatesIdeal.τ).loc Cert.CandidatesIdeal.main_arg1))) = (fun _ => 1#1)

def Pre_CandidatesReferenceIdeal [hPre_candidates_in_table : Cert.Pre_candidates_in_table.Facts] (m : (ℓ : Loc Cert.CandidatesReferenceIdeal.nD Cert.CandidatesReferenceIdeal.τ Cert.CandidatesReferenceIdeal.sig) → Buf (Elt Ideal) ℓ) : Prop :=
  ∀ c : Dev Cert.CandidatesReferenceIdeal.nD,
    (Cert.Pre_candidates_in_table.fn (F := Ideal) (m ((c.tc : Thread Cert.CandidatesReferenceIdeal.nD Cert.CandidatesReferenceIdeal.τ).loc Cert.CandidatesReferenceIdeal.main_arg0)) (m ((c.tc : Thread Cert.CandidatesReferenceIdeal.nD Cert.CandidatesReferenceIdeal.τ).loc Cert.CandidatesReferenceIdeal.main_arg1))) = (fun _ => 1#1)

def Pre_CandidatesReference [hPre_candidates_in_table : Cert.Pre_candidates_in_table.Facts] (m : (ℓ : Loc Cert.CandidatesReference.nD Cert.CandidatesReference.τ Cert.CandidatesReference.sig) → Buf (Elt Bits) ℓ) : Prop :=
  ∀ c : Dev Cert.CandidatesReference.nD,
    (Cert.Pre_candidates_in_table.fn (F := Bits) (m ((c.tc : Thread Cert.CandidatesReference.nD Cert.CandidatesReference.τ).loc Cert.CandidatesReference.main_arg0)) (m ((c.tc : Thread Cert.CandidatesReference.nD Cert.CandidatesReference.τ).loc Cert.CandidatesReference.main_arg1))) = (fun _ => 1#1)

def Pre_WholeIdeal [hPre_scores_distinct : Cert.Pre_scores_distinct.Facts] (m : (ℓ : Loc Cert.WholeIdeal.nD Cert.WholeIdeal.τ Cert.WholeIdeal.sig) → Buf (Elt Ideal) ℓ) : Prop :=
  ∀ c : Dev Cert.WholeIdeal.nD,
    (Cert.Pre_scores_distinct.fn (F := Ideal) (m ((c.tc : Thread Cert.WholeIdeal.nD Cert.WholeIdeal.τ).loc Cert.WholeIdeal.main_arg0)) (m ((c.tc : Thread Cert.WholeIdeal.nD Cert.WholeIdeal.τ).loc Cert.WholeIdeal.main_arg1)) (m ((c.tc : Thread Cert.WholeIdeal.nD Cert.WholeIdeal.τ).loc Cert.WholeIdeal.main_arg2))) = (fun _ => 1#1)

def Pre_WholeReferenceIdeal [hPre_scores_distinct : Cert.Pre_scores_distinct.Facts] (m : (ℓ : Loc Cert.WholeReferenceIdeal.nD Cert.WholeReferenceIdeal.τ Cert.WholeReferenceIdeal.sig) → Buf (Elt Ideal) ℓ) : Prop :=
  ∀ c : Dev Cert.WholeReferenceIdeal.nD,
    (Cert.Pre_scores_distinct.fn (F := Ideal) (m ((c.tc : Thread Cert.WholeReferenceIdeal.nD Cert.WholeReferenceIdeal.τ).loc Cert.WholeReferenceIdeal.main_arg0)) (m ((c.tc : Thread Cert.WholeReferenceIdeal.nD Cert.WholeReferenceIdeal.τ).loc Cert.WholeReferenceIdeal.main_arg1)) (m ((c.tc : Thread Cert.WholeReferenceIdeal.nD Cert.WholeReferenceIdeal.τ).loc Cert.WholeReferenceIdeal.main_arg2))) = (fun _ => 1#1)

def quiescent_Kernel [hKernel : Cert.Kernel.Facts] [hPre_rows_in_range : Cert.Pre_rows_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_rows_in_range : Cert.Pre_rows_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] [hPre_rows_in_range : Cert.Pre_rows_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Candidates [hCandidates : Cert.Candidates.Facts] [hPre_candidates_in_table : Cert.Pre_candidates_in_table.Facts] : Prop :=
  ∀ (m : (ℓ : Loc Cert.Candidates.nD Cert.Candidates.τ Cert.Candidates.sig) → Buf (Elt Bits) ℓ) (g : Dev Cert.Candidates.nD → PrngReg), Pre_Candidates m →
    θ_run (Cert.Candidates.defs (F := Bits)) (Cert.Candidates.threads (F := Bits)) ⟨m, fun _ => 0, g⟩ (fun r => (∀ c : Dev Cert.Candidates.nD,
      r.2.mem ((c.tc : Thread Cert.Candidates.nD Cert.Candidates.τ).loc Cert.Candidates.main_arg0) = m ((c.tc : Thread Cert.Candidates.nD Cert.Candidates.τ).loc Cert.Candidates.main_arg0)
      ∧ r.2.mem ((c.tc : Thread Cert.Candidates.nD Cert.Candidates.τ).loc Cert.Candidates.main_arg1) = m ((c.tc : Thread Cert.Candidates.nD Cert.Candidates.τ).loc Cert.Candidates.main_arg1))
      ∧ r.2.sem = fun _ => 0)

def quiescent_CandidatesIdeal [hCandidatesIdeal : Cert.CandidatesIdeal.Facts] [hPre_candidates_in_table : Cert.Pre_candidates_in_table.Facts] : Prop :=
  ∀ (m : (ℓ : Loc Cert.CandidatesIdeal.nD Cert.CandidatesIdeal.τ Cert.CandidatesIdeal.sig) → Buf (Elt Ideal) ℓ) (g : Dev Cert.CandidatesIdeal.nD → PrngReg), Pre_CandidatesIdeal m →
    θ_run (Cert.CandidatesIdeal.defs (F := Ideal)) (Cert.CandidatesIdeal.threads (F := Ideal)) ⟨m, fun _ => 0, g⟩ (fun r => (∀ c : Dev Cert.CandidatesIdeal.nD,
      r.2.mem ((c.tc : Thread Cert.CandidatesIdeal.nD Cert.CandidatesIdeal.τ).loc Cert.CandidatesIdeal.main_arg0) = m ((c.tc : Thread Cert.CandidatesIdeal.nD Cert.CandidatesIdeal.τ).loc Cert.CandidatesIdeal.main_arg0)
      ∧ r.2.mem ((c.tc : Thread Cert.CandidatesIdeal.nD Cert.CandidatesIdeal.τ).loc Cert.CandidatesIdeal.main_arg1) = m ((c.tc : Thread Cert.CandidatesIdeal.nD Cert.CandidatesIdeal.τ).loc Cert.CandidatesIdeal.main_arg1))
      ∧ r.2.sem = fun _ => 0)

def quiescent_CandidatesReferenceIdeal [hCandidatesReferenceIdeal : Cert.CandidatesReferenceIdeal.Facts] [hPre_candidates_in_table : Cert.Pre_candidates_in_table.Facts] : Prop :=
  ∀ (m : (ℓ : Loc Cert.CandidatesReferenceIdeal.nD Cert.CandidatesReferenceIdeal.τ Cert.CandidatesReferenceIdeal.sig) → Buf (Elt Ideal) ℓ) (g : Dev Cert.CandidatesReferenceIdeal.nD → PrngReg), Pre_CandidatesReferenceIdeal m →
    θ_run (Cert.CandidatesReferenceIdeal.defs (F := Ideal)) (onTc (τ := Cert.CandidatesReferenceIdeal.τ) (Cert.CandidatesReferenceIdeal.main (F := Ideal))) ⟨m, fun _ => 0, g⟩ (fun r => (∀ c : Dev Cert.CandidatesReferenceIdeal.nD,
      r.2.mem ((c.tc : Thread Cert.CandidatesReferenceIdeal.nD Cert.CandidatesReferenceIdeal.τ).loc Cert.CandidatesReferenceIdeal.main_arg0) = m ((c.tc : Thread Cert.CandidatesReferenceIdeal.nD Cert.CandidatesReferenceIdeal.τ).loc Cert.CandidatesReferenceIdeal.main_arg0)
      ∧ r.2.mem ((c.tc : Thread Cert.CandidatesReferenceIdeal.nD Cert.CandidatesReferenceIdeal.τ).loc Cert.CandidatesReferenceIdeal.main_arg1) = m ((c.tc : Thread Cert.CandidatesReferenceIdeal.nD Cert.CandidatesReferenceIdeal.τ).loc Cert.CandidatesReferenceIdeal.main_arg1))
      ∧ r.2.sem = fun _ => 0)

def quiescent_CandidatesReference [hCandidatesReference : Cert.CandidatesReference.Facts] [hPre_candidates_in_table : Cert.Pre_candidates_in_table.Facts] : Prop :=
  ∀ (m : (ℓ : Loc Cert.CandidatesReference.nD Cert.CandidatesReference.τ Cert.CandidatesReference.sig) → Buf (Elt Bits) ℓ) (g : Dev Cert.CandidatesReference.nD → PrngReg), Pre_CandidatesReference m →
    θ_run (Cert.CandidatesReference.defs (F := Bits)) (onTc (τ := Cert.CandidatesReference.τ) (Cert.CandidatesReference.main (F := Bits))) ⟨m, fun _ => 0, g⟩ (fun r => (∀ c : Dev Cert.CandidatesReference.nD,
      r.2.mem ((c.tc : Thread Cert.CandidatesReference.nD Cert.CandidatesReference.τ).loc Cert.CandidatesReference.main_arg0) = m ((c.tc : Thread Cert.CandidatesReference.nD Cert.CandidatesReference.τ).loc Cert.CandidatesReference.main_arg0)
      ∧ r.2.mem ((c.tc : Thread Cert.CandidatesReference.nD Cert.CandidatesReference.τ).loc Cert.CandidatesReference.main_arg1) = m ((c.tc : Thread Cert.CandidatesReference.nD Cert.CandidatesReference.τ).loc Cert.CandidatesReference.main_arg1))
      ∧ r.2.sem = fun _ => 0)

def quiescent_WholeIdeal [hWholeIdeal : Cert.WholeIdeal.Facts] [hPre_scores_distinct : Cert.Pre_scores_distinct.Facts] : Prop :=
  ∀ (m : (ℓ : Loc Cert.WholeIdeal.nD Cert.WholeIdeal.τ Cert.WholeIdeal.sig) → Buf (Elt Ideal) ℓ) (g : Dev Cert.WholeIdeal.nD → PrngReg), Pre_WholeIdeal m →
    θ_run (Cert.WholeIdeal.defs (F := Ideal)) (Cert.WholeIdeal.threads (F := Ideal)) ⟨m, fun _ => 0, g⟩ (fun r => (∀ c : Dev Cert.WholeIdeal.nD,
      r.2.mem ((c.tc : Thread Cert.WholeIdeal.nD Cert.WholeIdeal.τ).loc Cert.WholeIdeal.main_arg0) = m ((c.tc : Thread Cert.WholeIdeal.nD Cert.WholeIdeal.τ).loc Cert.WholeIdeal.main_arg0)
      ∧ r.2.mem ((c.tc : Thread Cert.WholeIdeal.nD Cert.WholeIdeal.τ).loc Cert.WholeIdeal.main_arg1) = m ((c.tc : Thread Cert.WholeIdeal.nD Cert.WholeIdeal.τ).loc Cert.WholeIdeal.main_arg1)
      ∧ r.2.mem ((c.tc : Thread Cert.WholeIdeal.nD Cert.WholeIdeal.τ).loc Cert.WholeIdeal.main_arg2) = m ((c.tc : Thread Cert.WholeIdeal.nD Cert.WholeIdeal.τ).loc Cert.WholeIdeal.main_arg2))
      ∧ r.2.sem = fun _ => 0)

def quiescent_WholeReferenceIdeal [hWholeReferenceIdeal : Cert.WholeReferenceIdeal.Facts] [hPre_scores_distinct : Cert.Pre_scores_distinct.Facts] : Prop :=
  ∀ (m : (ℓ : Loc Cert.WholeReferenceIdeal.nD Cert.WholeReferenceIdeal.τ Cert.WholeReferenceIdeal.sig) → Buf (Elt Ideal) ℓ) (g : Dev Cert.WholeReferenceIdeal.nD → PrngReg), Pre_WholeReferenceIdeal m →
    θ_run (Cert.WholeReferenceIdeal.defs (F := Ideal)) (onTc (τ := Cert.WholeReferenceIdeal.τ) (Cert.WholeReferenceIdeal.main (F := Ideal))) ⟨m, fun _ => 0, g⟩ (fun r => (∀ c : Dev Cert.WholeReferenceIdeal.nD,
      r.2.mem ((c.tc : Thread Cert.WholeReferenceIdeal.nD Cert.WholeReferenceIdeal.τ).loc Cert.WholeReferenceIdeal.main_arg0) = m ((c.tc : Thread Cert.WholeReferenceIdeal.nD Cert.WholeReferenceIdeal.τ).loc Cert.WholeReferenceIdeal.main_arg0)
      ∧ r.2.mem ((c.tc : Thread Cert.WholeReferenceIdeal.nD Cert.WholeReferenceIdeal.τ).loc Cert.WholeReferenceIdeal.main_arg1) = m ((c.tc : Thread Cert.WholeReferenceIdeal.nD Cert.WholeReferenceIdeal.τ).loc Cert.WholeReferenceIdeal.main_arg1)
      ∧ r.2.mem ((c.tc : Thread Cert.WholeReferenceIdeal.nD Cert.WholeReferenceIdeal.τ).loc Cert.WholeReferenceIdeal.main_arg2) = m ((c.tc : Thread Cert.WholeReferenceIdeal.nD Cert.WholeReferenceIdeal.τ).loc Cert.WholeReferenceIdeal.main_arg2))
      ∧ r.2.sem = fun _ => 0)

def preserves_Kernel_KernelIdeal : Prop :=
  IdealRules.named_const.Statement Cert.KernelIdeal.κ "fifth" .f32 0x3E4CCCCD#32 ((1 / 5 : ℝ) : EReal)

def algebraic_KernelIdeal_ReferenceIdeal [hKernelIdeal : Cert.KernelIdeal.Facts] [hReferenceIdeal : Cert.ReferenceIdeal.Facts] [hPre_rows_in_range : Cert.Pre_rows_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Candidates_CandidatesIdeal : Prop :=
  True

def algebraic_CandidatesIdeal_CandidatesReferenceIdeal [hCandidatesIdeal : Cert.CandidatesIdeal.Facts] [hCandidatesReferenceIdeal : Cert.CandidatesReferenceIdeal.Facts] [hPre_candidates_in_table : Cert.Pre_candidates_in_table.Facts] : Prop :=
  ∀ (m : (ℓ : Loc Cert.CandidatesIdeal.nD Cert.CandidatesIdeal.τ Cert.CandidatesIdeal.sig) → Buf (Elt Ideal) ℓ) (g : Dev Cert.CandidatesIdeal.nD → PrngReg)
    (m' : (ℓ : Loc Cert.CandidatesReferenceIdeal.nD Cert.CandidatesReferenceIdeal.τ Cert.CandidatesReferenceIdeal.sig) → Buf (Elt Ideal) ℓ) (g' : Dev Cert.CandidatesReferenceIdeal.nD → PrngReg), Pre_CandidatesIdeal m →
    (∀ c : Dev Cert.CandidatesIdeal.nD,
      m' ((c.tc : Thread Cert.CandidatesReferenceIdeal.nD Cert.CandidatesReferenceIdeal.τ).loc Cert.CandidatesReferenceIdeal.main_arg0) = m ((c.tc : Thread Cert.CandidatesIdeal.nD Cert.CandidatesIdeal.τ).loc Cert.CandidatesIdeal.main_arg0)
      ∧ m' ((c.tc : Thread Cert.CandidatesReferenceIdeal.nD Cert.CandidatesReferenceIdeal.τ).loc Cert.CandidatesReferenceIdeal.main_arg1) = m ((c.tc : Thread Cert.CandidatesIdeal.nD Cert.CandidatesIdeal.τ).loc Cert.CandidatesIdeal.main_arg1)) →
    ∃ (v0 : (c : Dev Cert.CandidatesIdeal.nD) → Buf (Elt Ideal) ((c.tc : Thread Cert.CandidatesIdeal.nD Cert.CandidatesIdeal.τ).loc Cert.CandidatesIdeal.main_v1)),
      θ_run (Cert.CandidatesIdeal.defs (F := Ideal)) (Cert.CandidatesIdeal.threads (F := Ideal)) ⟨m, fun _ => 0, g⟩ (fun r => ∀ c : Dev Cert.CandidatesIdeal.nD,
          r.2.mem ((c.tc : Thread Cert.CandidatesIdeal.nD Cert.CandidatesIdeal.τ).loc Cert.CandidatesIdeal.main_v1) = v0 c
          ∧ r.2.mem ((c.tc : Thread Cert.CandidatesIdeal.nD Cert.CandidatesIdeal.τ).loc Cert.CandidatesIdeal.main_arg0) = m ((c.tc : Thread Cert.CandidatesIdeal.nD Cert.CandidatesIdeal.τ).loc Cert.CandidatesIdeal.main_arg0)
          ∧ r.2.mem ((c.tc : Thread Cert.CandidatesIdeal.nD Cert.CandidatesIdeal.τ).loc Cert.CandidatesIdeal.main_arg1) = m ((c.tc : Thread Cert.CandidatesIdeal.nD Cert.CandidatesIdeal.τ).loc Cert.CandidatesIdeal.main_arg1))
      ∧ θ_run (Cert.CandidatesReferenceIdeal.defs (F := Ideal)) (onTc (τ := Cert.CandidatesReferenceIdeal.τ) (Cert.CandidatesReferenceIdeal.main (F := Ideal))) ⟨m', fun _ => 0, g'⟩ (fun r => ∀ c : Dev Cert.CandidatesReferenceIdeal.nD,
          r.2.mem ((c.tc : Thread Cert.CandidatesReferenceIdeal.nD Cert.CandidatesReferenceIdeal.τ).loc Cert.CandidatesReferenceIdeal.main_v1) = v0 c
          ∧ r.2.mem ((c.tc : Thread Cert.CandidatesReferenceIdeal.nD Cert.CandidatesReferenceIdeal.τ).loc Cert.CandidatesReferenceIdeal.main_arg0) = m' ((c.tc : Thread Cert.CandidatesReferenceIdeal.nD Cert.CandidatesReferenceIdeal.τ).loc Cert.CandidatesReferenceIdeal.main_arg0)
          ∧ r.2.mem ((c.tc : Thread Cert.CandidatesReferenceIdeal.nD Cert.CandidatesReferenceIdeal.τ).loc Cert.CandidatesReferenceIdeal.main_arg1) = m' ((c.tc : Thread Cert.CandidatesReferenceIdeal.nD Cert.CandidatesReferenceIdeal.τ).loc Cert.CandidatesReferenceIdeal.main_arg1))

def bitexact_Candidates_CandidatesReference [hCandidates : Cert.Candidates.Facts] [hCandidatesReference : Cert.CandidatesReference.Facts] [hPre_candidates_in_table : Cert.Pre_candidates_in_table.Facts] : Prop :=
  ∀ (m : (ℓ : Loc Cert.Candidates.nD Cert.Candidates.τ Cert.Candidates.sig) → Buf (Elt Bits) ℓ) (g : Dev Cert.Candidates.nD → PrngReg)
    (m' : (ℓ : Loc Cert.CandidatesReference.nD Cert.CandidatesReference.τ Cert.CandidatesReference.sig) → Buf (Elt Bits) ℓ) (g' : Dev Cert.CandidatesReference.nD → PrngReg), Pre_Candidates m →
    (∀ c : Dev Cert.Candidates.nD,
      m' ((c.tc : Thread Cert.CandidatesReference.nD Cert.CandidatesReference.τ).loc Cert.CandidatesReference.main_arg0) = m ((c.tc : Thread Cert.Candidates.nD Cert.Candidates.τ).loc Cert.Candidates.main_arg0)
      ∧ m' ((c.tc : Thread Cert.CandidatesReference.nD Cert.CandidatesReference.τ).loc Cert.CandidatesReference.main_arg1) = m ((c.tc : Thread Cert.Candidates.nD Cert.Candidates.τ).loc Cert.Candidates.main_arg1)) →
    ∃ (v0 : (c : Dev Cert.Candidates.nD) → Buf (Elt Bits) ((c.tc : Thread Cert.Candidates.nD Cert.Candidates.τ).loc Cert.Candidates.main_v1)),
      θ_run (Cert.Candidates.defs (F := Bits)) (Cert.Candidates.threads (F := Bits)) ⟨m, fun _ => 0, g⟩ (fun r => ∀ c : Dev Cert.Candidates.nD,
          r.2.mem ((c.tc : Thread Cert.Candidates.nD Cert.Candidates.τ).loc Cert.Candidates.main_v1) = v0 c
          ∧ r.2.mem ((c.tc : Thread Cert.Candidates.nD Cert.Candidates.τ).loc Cert.Candidates.main_arg0) = m ((c.tc : Thread Cert.Candidates.nD Cert.Candidates.τ).loc Cert.Candidates.main_arg0)
          ∧ r.2.mem ((c.tc : Thread Cert.Candidates.nD Cert.Candidates.τ).loc Cert.Candidates.main_arg1) = m ((c.tc : Thread Cert.Candidates.nD Cert.Candidates.τ).loc Cert.Candidates.main_arg1))
      ∧ θ_run (Cert.CandidatesReference.defs (F := Bits)) (onTc (τ := Cert.CandidatesReference.τ) (Cert.CandidatesReference.main (F := Bits))) ⟨m', fun _ => 0, g'⟩ (fun r => ∀ c : Dev Cert.CandidatesReference.nD,
          r.2.mem ((c.tc : Thread Cert.CandidatesReference.nD Cert.CandidatesReference.τ).loc Cert.CandidatesReference.main_v1) = v0 c
          ∧ r.2.mem ((c.tc : Thread Cert.CandidatesReference.nD Cert.CandidatesReference.τ).loc Cert.CandidatesReference.main_arg0) = m' ((c.tc : Thread Cert.CandidatesReference.nD Cert.CandidatesReference.τ).loc Cert.CandidatesReference.main_arg0)
          ∧ r.2.mem ((c.tc : Thread Cert.CandidatesReference.nD Cert.CandidatesReference.τ).loc Cert.CandidatesReference.main_arg1) = m' ((c.tc : Thread Cert.CandidatesReference.nD Cert.CandidatesReference.τ).loc Cert.CandidatesReference.main_arg1))

def algebraic_WholeIdeal_WholeReferenceIdeal [hWholeIdeal : Cert.WholeIdeal.Facts] [hWholeReferenceIdeal : Cert.WholeReferenceIdeal.Facts] [hPre_scores_distinct : Cert.Pre_scores_distinct.Facts] : Prop :=
  ∀ (m : (ℓ : Loc Cert.WholeIdeal.nD Cert.WholeIdeal.τ Cert.WholeIdeal.sig) → Buf (Elt Ideal) ℓ) (g : Dev Cert.WholeIdeal.nD → PrngReg)
    (m' : (ℓ : Loc Cert.WholeReferenceIdeal.nD Cert.WholeReferenceIdeal.τ Cert.WholeReferenceIdeal.sig) → Buf (Elt Ideal) ℓ) (g' : Dev Cert.WholeReferenceIdeal.nD → PrngReg), Pre_WholeIdeal m →
    (∀ c : Dev Cert.WholeIdeal.nD,
      m' ((c.tc : Thread Cert.WholeReferenceIdeal.nD Cert.WholeReferenceIdeal.τ).loc Cert.WholeReferenceIdeal.main_arg0) = m ((c.tc : Thread Cert.WholeIdeal.nD Cert.WholeIdeal.τ).loc Cert.WholeIdeal.main_arg0)
      ∧ m' ((c.tc : Thread Cert.WholeReferenceIdeal.nD Cert.WholeReferenceIdeal.τ).loc Cert.WholeReferenceIdeal.main_arg1) = m ((c.tc : Thread Cert.WholeIdeal.nD Cert.WholeIdeal.τ).loc Cert.WholeIdeal.main_arg1)
      ∧ m' ((c.tc : Thread Cert.WholeReferenceIdeal.nD Cert.WholeReferenceIdeal.τ).loc Cert.WholeReferenceIdeal.main_arg2) = m ((c.tc : Thread Cert.WholeIdeal.nD Cert.WholeIdeal.τ).loc Cert.WholeIdeal.main_arg2)) →
    ∃ (v0 : (c : Dev Cert.WholeIdeal.nD) → Buf (Elt Ideal) ((c.tc : Thread Cert.WholeIdeal.nD Cert.WholeIdeal.τ).loc Cert.WholeIdeal.main_v18)),
      θ_run (Cert.WholeIdeal.defs (F := Ideal)) (Cert.WholeIdeal.threads (F := Ideal)) ⟨m, fun _ => 0, g⟩ (fun r => ∀ c : Dev Cert.WholeIdeal.nD,
          r.2.mem ((c.tc : Thread Cert.WholeIdeal.nD Cert.WholeIdeal.τ).loc Cert.WholeIdeal.main_v18) = v0 c
          ∧ r.2.mem ((c.tc : Thread Cert.WholeIdeal.nD Cert.WholeIdeal.τ).loc Cert.WholeIdeal.main_arg0) = m ((c.tc : Thread Cert.WholeIdeal.nD Cert.WholeIdeal.τ).loc Cert.WholeIdeal.main_arg0)
          ∧ r.2.mem ((c.tc : Thread Cert.WholeIdeal.nD Cert.WholeIdeal.τ).loc Cert.WholeIdeal.main_arg1) = m ((c.tc : Thread Cert.WholeIdeal.nD Cert.WholeIdeal.τ).loc Cert.WholeIdeal.main_arg1)
          ∧ r.2.mem ((c.tc : Thread Cert.WholeIdeal.nD Cert.WholeIdeal.τ).loc Cert.WholeIdeal.main_arg2) = m ((c.tc : Thread Cert.WholeIdeal.nD Cert.WholeIdeal.τ).loc Cert.WholeIdeal.main_arg2))
      ∧ θ_run (Cert.WholeReferenceIdeal.defs (F := Ideal)) (onTc (τ := Cert.WholeReferenceIdeal.τ) (Cert.WholeReferenceIdeal.main (F := Ideal))) ⟨m', fun _ => 0, g'⟩ (fun r => ∀ c : Dev Cert.WholeReferenceIdeal.nD,
          r.2.mem ((c.tc : Thread Cert.WholeReferenceIdeal.nD Cert.WholeReferenceIdeal.τ).loc Cert.WholeReferenceIdeal.main_v15) = v0 c
          ∧ r.2.mem ((c.tc : Thread Cert.WholeReferenceIdeal.nD Cert.WholeReferenceIdeal.τ).loc Cert.WholeReferenceIdeal.main_arg0) = m' ((c.tc : Thread Cert.WholeReferenceIdeal.nD Cert.WholeReferenceIdeal.τ).loc Cert.WholeReferenceIdeal.main_arg0)
          ∧ r.2.mem ((c.tc : Thread Cert.WholeReferenceIdeal.nD Cert.WholeReferenceIdeal.τ).loc Cert.WholeReferenceIdeal.main_arg1) = m' ((c.tc : Thread Cert.WholeReferenceIdeal.nD Cert.WholeReferenceIdeal.τ).loc Cert.WholeReferenceIdeal.main_arg1)
          ∧ r.2.mem ((c.tc : Thread Cert.WholeReferenceIdeal.nD Cert.WholeReferenceIdeal.τ).loc Cert.WholeReferenceIdeal.main_arg2) = m' ((c.tc : Thread Cert.WholeReferenceIdeal.nD Cert.WholeReferenceIdeal.τ).loc Cert.WholeReferenceIdeal.main_arg2))

def Claim : Prop :=
  ∃ (hKernel : Cert.Kernel.Facts) (hKernelIdeal : Cert.KernelIdeal.Facts) (hReferenceIdeal : Cert.ReferenceIdeal.Facts) (hCandidates : Cert.Candidates.Facts) (hCandidatesIdeal : Cert.CandidatesIdeal.Facts) (hCandidatesReferenceIdeal : Cert.CandidatesReferenceIdeal.Facts) (hCandidatesReference : Cert.CandidatesReference.Facts) (hWholeIdeal : Cert.WholeIdeal.Facts) (hWholeReferenceIdeal : Cert.WholeReferenceIdeal.Facts) (hPre_rows_in_range : Cert.Pre_rows_in_range.Facts) (hPre_candidates_in_table : Cert.Pre_candidates_in_table.Facts) (hPre_scores_distinct : Cert.Pre_scores_distinct.Facts),
    quiescent_Kernel (hKernel := hKernel) (hPre_rows_in_range := hPre_rows_in_range)
    ∧ quiescent_KernelIdeal (hKernelIdeal := hKernelIdeal) (hPre_rows_in_range := hPre_rows_in_range)
    ∧ quiescent_ReferenceIdeal (hReferenceIdeal := hReferenceIdeal) (hPre_rows_in_range := hPre_rows_in_range)
    ∧ quiescent_Candidates (hCandidates := hCandidates) (hPre_candidates_in_table := hPre_candidates_in_table)
    ∧ quiescent_CandidatesIdeal (hCandidatesIdeal := hCandidatesIdeal) (hPre_candidates_in_table := hPre_candidates_in_table)
    ∧ quiescent_CandidatesReferenceIdeal (hCandidatesReferenceIdeal := hCandidatesReferenceIdeal) (hPre_candidates_in_table := hPre_candidates_in_table)
    ∧ quiescent_CandidatesReference (hCandidatesReference := hCandidatesReference) (hPre_candidates_in_table := hPre_candidates_in_table)
    ∧ quiescent_WholeIdeal (hWholeIdeal := hWholeIdeal) (hPre_scores_distinct := hPre_scores_distinct)
    ∧ quiescent_WholeReferenceIdeal (hWholeReferenceIdeal := hWholeReferenceIdeal) (hPre_scores_distinct := hPre_scores_distinct)
    ∧ preserves_Kernel_KernelIdeal
    ∧ algebraic_KernelIdeal_ReferenceIdeal (hKernelIdeal := hKernelIdeal) (hReferenceIdeal := hReferenceIdeal) (hPre_rows_in_range := hPre_rows_in_range)
    ∧ preserves_Candidates_CandidatesIdeal
    ∧ algebraic_CandidatesIdeal_CandidatesReferenceIdeal (hCandidatesIdeal := hCandidatesIdeal) (hCandidatesReferenceIdeal := hCandidatesReferenceIdeal) (hPre_candidates_in_table := hPre_candidates_in_table)
    ∧ bitexact_Candidates_CandidatesReference (hCandidates := hCandidates) (hCandidatesReference := hCandidatesReference) (hPre_candidates_in_table := hPre_candidates_in_table)
    ∧ algebraic_WholeIdeal_WholeReferenceIdeal (hWholeIdeal := hWholeIdeal) (hWholeReferenceIdeal := hWholeReferenceIdeal) (hPre_scores_distinct := hPre_scores_distinct)
-- ==== Pre_candidates_in_table.lean ====
abbrev S4096x40 : Shape := ⟨2, ![4096, 40]⟩
abbrev S102400x128 : Shape := ⟨2, ![102400, 128]⟩
abbrev S_ : Shape := ⟨0, ![]⟩

class Facts : Prop where
  bcast_S_S4096x40 : S_.BroadcastsInDim S4096x40 (![] : Fin 0 → Fin S4096x40.rank)

variable [Facts]

def fn {F : FTy → Type} [FloatOps F] (main_arg0 : IVec S4096x40 32) (main_arg1 : FVec F S102400x128 .f32) : IVec S4096x40 1 :=
  let main_c : IVec S_ 32 := constantI S_ 32 0#32
  let main_v0 : IVec S4096x40 32 := broadcastInDim S4096x40 ![] bcast_S_S4096x40 main_c
  let main_v1 : IVec S4096x40 1 := cmpi .sge main_arg0 main_v0
  let main_c_0 : IVec S_ 32 := constantI S_ 32 102400#32
  let main_v2 : IVec S4096x40 32 := broadcastInDim S4096x40 ![] bcast_S_S4096x40 main_c_0
  let main_v3 : IVec S4096x40 1 := cmpi .slt main_arg0 main_v2
  let main_v4 : IVec S4096x40 1 := andi main_v1 main_v3
  main_v4
-- ==== Pre_rows_in_range.lean ====
abbrev S4096x5 : Shape := ⟨2, ![4096, 5]⟩
abbrev S100000x128 : Shape := ⟨2, ![100000, 128]⟩
abbrev S_ : Shape := ⟨0, ![]⟩

class Facts : Prop where
  bcast_S_S4096x5 : S_.BroadcastsInDim S4096x5 (![] : Fin 0 → Fin S4096x5.rank)

variable [Facts]

def fn {F : FTy → Type} [FloatOps F] (main_arg0 : IVec S4096x5 32) (main_arg1 : FVec F S100000x128 .f32) : IVec S4096x5 1 :=
  let main_c : IVec S_ 32 := constantI S_ 32 0#32
  let main_v0 : IVec S4096x5 32 := broadcastInDim S4096x5 ![] bcast_S_S4096x5 main_c
  let main_v1 : IVec S4096x5 1 := cmpi .sge main_arg0 main_v0
  let main_c_0 : IVec S_ 32 := constantI S_ 32 100000#32
  let main_v2 : IVec S4096x5 32 := broadcastInDim S4096x5 ![] bcast_S_S4096x5 main_c_0
  let main_v3 : IVec S4096x5 1 := cmpi .slt main_arg0 main_v2
  let main_v4 : IVec S4096x5 1 := andi main_v1 main_v3
  main_v4
-- ==== Pre_scores_distinct.lean ====
abbrev S4096x128 : Shape := ⟨2, ![4096, 128]⟩
abbrev S100000x128 : Shape := ⟨2, ![100000, 128]⟩
abbrev S_ : Shape := ⟨0, ![]⟩
abbrev S4096 : Shape := ⟨1, ![4096]⟩
abbrev S4096x1 : Shape := ⟨2, ![4096, 1]⟩
abbrev S100000 : Shape := ⟨1, ![100000]⟩
abbrev S100000x1 : Shape := ⟨2, ![100000, 1]⟩
abbrev S128x100000 : Shape := ⟨2, ![128, 100000]⟩
abbrev S4096x100000 : Shape := ⟨2, ![4096, 100000]⟩
abbrev S4096x99999 : Shape := ⟨2, ![4096, 99999]⟩

class Facts : Prop where
  reducesTo_S4096x128_S4096_d1 : S4096x128.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x128_0_1 : S4096x1.BroadcastsInDim S4096x128 (![0, 1] : Fin 2 → Fin S4096x128.rank)
  reducesTo_S100000x128_S100000_d1 : S100000x128.ReducesTo [1] S100000
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  transposes_S100000x128_S128x100000_1_0 : S100000x128.Transposes [1, 0] S128x100000
  slices_S4096x100000_S4096x99999_0_0 : S4096x100000.Slices ![0, 0] S4096x99999
  slices_S4096x100000_S4096x99999_0_1 : S4096x100000.Slices ![0, 1] S4096x99999
  dot_S4096x128_S128x100000_S4096x100000_1_0_0_1_n_n_wf : DotDims.WF S4096x128 S128x100000 S4096x100000 [1] [0] [0] [1] [] []

variable [Facts]

variable {F : FTy → Type} [FloatOps F]
def dot_S4096x128_S128x100000_S4096x100000_1_0_0_1_n_n : DotDims S4096x128 S128x100000 S4096x100000 where
  lhsContracting := [1]
  rhsContracting := [0]
  lhsNonContracting := [0]
  rhsNonContracting := [1]
  lhsBatch := []
  rhsBatch := []
  wf := dot_S4096x128_S128x100000_S4096x100000_1_0_0_1_n_n_wf
def comparator_f32_d1 : F .f32 → F .f32 → BitVec 1 :=
  fun l r =>
    let cst := FloatOps.ofBits .f32 0x00000000#32
    let v1 := FloatOps.cmpf .oeq l cst
    let cst_0 := FloatOps.ofBits .f32 0x00000000#32
    let v2 := Scalar.select v1 cst_0 l
    let v3 := FloatOps.cmpf .une l l
    let cst_1 := FloatOps.ofBits .f32 0x7FC00000#32
    let v4 := Scalar.select v3 cst_1 v2
    let cst_2 := FloatOps.ofBits .f32 0x00000000#32
    let v5 := FloatOps.cmpf .oeq r cst_2
    let cst_3 := FloatOps.ofBits .f32 0x00000000#32
    let v6 := Scalar.select v5 cst_3 r
    let v7 := FloatOps.cmpf .une r r
    let cst_4 := FloatOps.ofBits .f32 0x7FC00000#32
    let v8 := Scalar.select v7 cst_4 v6
    let v9 := FloatOps.cmpfTotal .lt v4 v8
    v9

def fn_norm {F : FTy → Type} [FloatOps F] (arg0 : FVec F S4096x128 .f32) : FVec F S4096x1 .f32 :=
  let v0 : FVec F S4096x128 .f32 := mulf arg0 arg0
  let cst : FVec F S_ .f32 := constant S_ .f32 0x00000000#32
  let v1 : FVec F S4096 .f32 := (fun x v => Host.reduceAdd x v reducesTo_S4096x128_S4096_d1 h_S_) v0 cst
  let v2 : FVec F S4096x1 .f32 := broadcastInDim S4096x1 ![0] bcast_S4096_S4096x1_0 v1
  let v3 : FVec F S4096x1 .f32 := Host.sqrt v2
  v3

def fn_norm_0 {F : FTy → Type} [FloatOps F] (arg0 : FVec F S100000x128 .f32) : FVec F S100000x1 .f32 :=
  let v0 : FVec F S100000x128 .f32 := mulf arg0 arg0
  let cst : FVec F S_ .f32 := constant S_ .f32 0x00000000#32
  let v1 : FVec F S100000 .f32 := (fun x v => Host.reduceAdd x v reducesTo_S100000x128_S100000_d1 h_S_) v0 cst
  let v2 : FVec F S100000x1 .f32 := broadcastInDim S100000x1 ![0] bcast_S100000_S100000x1_0 v1
  let v3 : FVec F S100000x1 .f32 := Host.sqrt v2
  v3

def fn_sort {F : FTy → Type} [FloatOps F] (arg0 : FVec F S4096x100000 .f32) : FVec F S4096x100000 .f32 :=
  let v0 : FVec F S4096x100000 .f32 := (fun x => Host.sort S4096x100000 1 comparator_f32_d1 x) arg0
  v0

def fn {F : FTy → Type} [FloatOps F] (main_arg0 : FVec F S4096x128 .f32) (main_arg1 : FVec F S100000x128 .f32) (main_arg2 : FVec F S100000x128 .f32) : IVec S4096x99999 1 :=
  let main_v0 : FVec F S4096x1 .f32 := fn_norm (F := F) main_arg0
  let main_cst : FVec F S_ .f32 := constant S_ .f32 0x322BCC77#32
  let main_v1 : FVec F S4096x1 .f32 := broadcastInDim S4096x1 ![] bcast_S_S4096x1 main_cst
  let main_v2 : FVec F S4096x1 .f32 := maximumf main_v0 main_v1
  let main_v3 : FVec F S4096x128 .f32 := broadcastInDim S4096x128 ![0, 1] bcast_S4096x1_S4096x128_0_1 main_v2
  let main_v4 : FVec F S4096x128 .f32 := Host.divf main_arg0 main_v3
  let main_v5 : FVec F S100000x1 .f32 := fn_norm_0 (F := F) main_arg1
  let main_cst_0 : FVec F S_ .f32 := constant S_ .f32 0x322BCC77#32
  let main_v6 : FVec F S100000x1 .f32 := broadcastInDim S100000x1 ![] bcast_S_S100000x1 main_cst_0
  let main_v7 : FVec F S100000x1 .f32 := maximumf main_v5 main_v6
  let main_v8 : FVec F S100000x128 .f32 := broadcastInDim S100000x128 ![0, 1] bcast_S100000x1_S100000x128_0_1 main_v7
  let main_v9 : FVec F S100000x128 .f32 := Host.divf main_arg1 main_v8
  let main_v10 : FVec F S128x100000 .f32 := (transpose S128x100000 [1, 0] · transposes_S100000x128_S128x100000_1_0) main_v9
  let main_v11 : FVec F S4096x100000 .f32 := (fun l r => Host.dotGeneral dot_S4096x128_S128x100000_S4096x100000_1_0_0_1_n_n none l r) main_v4 main_v10
  let main_v12 : FVec F S4096x100000 .f32 := fn_sort (F := F) main_v11
  let main_v13 : FVec F S4096x99999 .f32 := (extractStridedSlice S4096x99999 ![0, 0] · slices_S4096x100000_S4096x99999_0_0) main_v12
  let main_v14 : FVec F S4096x99999 .f32 := (extractStridedSlice S4096x99999 ![0, 1] · slices_S4096x100000_S4096x99999_0_1) main_v12
  let main_v15 : IVec S4096x99999 1 := cmpf .une main_v13 main_v14
  main_v15
-- ==== Kernel.lean ====
abbrev S4096x5 : Shape := ⟨2, ![4096, 5]⟩
abbrev S100000x128 : Shape := ⟨2, ![100000, 128]⟩
abbrev S20480 : Shape := ⟨1, ![20480]⟩
abbrev S4096x128 : Shape := ⟨2, ![4096, 128]⟩
abbrev S640 : Shape := ⟨1, ![640]⟩
abbrev S640x128 : Shape := ⟨2, ![640, 128]⟩
abbrev S128x128 : Shape := ⟨2, ![128, 128]⟩
abbrev S_ : Shape := ⟨0, ![]⟩
abbrev S1x16 : Shape := ⟨2, ![1, 16]⟩
abbrev S16 : Shape := ⟨1, ![16]⟩

abbrev nBuf : Table → Nat
  | .hbm => 4
  | .local .scVector .vmem => 3
  | _ => 0

abbrev bufTy : (tb : Table) → Fin (nBuf tb) → BufTy
  | .hbm, ⟨0, _⟩ => ⟨S4096x5, .i32⟩
  | .hbm, ⟨1, _⟩ => ⟨S100000x128, .f32⟩
  | .hbm, ⟨2, _⟩ => ⟨S20480, .i32⟩
  | .hbm, ⟨3, _⟩ => ⟨S4096x128, .f32⟩
  | .local .scVector .vmem, ⟨0, _⟩ => ⟨S640, .i32⟩
  | .local .scVector .vmem, ⟨1, _⟩ => ⟨S640x128, .f32⟩
  | .local .scVector .vmem, ⟨2, _⟩ => ⟨S128x128, .f32⟩
  | _, _ => ⟨S4096x5, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v0_scv : Ref sig .scVector := ⟨.hbm, 2, rfl⟩
abbrev main_arg1_scv : Ref sig .scVector := ⟨.hbm, 1, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  ![v2.toNat]
@[reducible] def k0_t1_loop : Scf.Loop 32 :=
  let c0_i32_4 : BitVec 32 := 0#32
  let c128_i32 : BitVec 32 := 128#32
  let v5 : BitVec 32 := Scalar.addi c0_i32_4 c128_i32
  let c1_i32 : BitVec 32 := 1#32
  ⟨c0_i32_4, v5, c1_i32⟩
def k0_off2 (k0_t1 : Fin k0_t1_loop.trips) (c0_i32_7 : BitVec 32) : Fin 2 → Nat :=
  let c0_i32_4 : BitVec 32 := 0#32
  let c1_i32 : BitVec 32 := 1#32
  let arg9 : BitVec 32 := Scf.iv c0_i32_4 c1_i32 k0_t1
  let c5_i32 : BitVec 32 := 5#32
  let v8 : BitVec 32 := Scalar.muli arg9 c5_i32
  let v9 : BitVec 32 := Scalar.addi v8 c0_i32_7
  let v10 : Index := Scalar.indexCast v9
  let c0 : Index := 0#32
  ![v10.toNat, 0]
def k0_off3 (k0_t1 : Fin k0_t1_loop.trips) : Fin 2 → Nat :=
  let c0_i32_4 : BitVec 32 := 0#32
  let c1_i32 : BitVec 32 := 1#32
  let arg9 : BitVec 32 := Scf.iv c0_i32_4 c1_i32 k0_t1
  let v39 : Index := Scalar.indexCast arg9
  let c0_18 : Index := 0#32
  ![v39.toNat, 0]
def k0_off4 (k0_t1 : Fin k0_t1_loop.trips) (c0_i32_20 : BitVec 32) : Fin 2 → Nat :=
  let c0_i32_4 : BitVec 32 := 0#32
  let c1_i32 : BitVec 32 := 1#32
  let arg9 : BitVec 32 := Scf.iv c0_i32_4 c1_i32 k0_t1
  let c5_i32_19 : BitVec 32 := 5#32
  let v43 : BitVec 32 := Scalar.muli arg9 c5_i32_19
  let v44 : BitVec 32 := Scalar.addi v43 c0_i32_20
  let v45 : Index := Scalar.indexCast v44
  let c16 : Index := 16#32
  ![v45.toNat, 16]
def k0_off5 (k0_t1 : Fin k0_t1_loop.trips) : Fin 2 → Nat :=
  let c0_i32_4 : BitVec 32 := 0#32
  let c1_i32 : BitVec 32 := 1#32
  let arg9 : BitVec 32 := Scf.iv c0_i32_4 c1_i32 k0_t1
  let v74 : Index := Scalar.indexCast arg9
  let c16_34 : Index := 16#32
  ![v74.toNat, 16]
def k0_off6 (k0_t1 : Fin k0_t1_loop.trips) (c0_i32_36 : BitVec 32) : Fin 2 → Nat :=
  let c0_i32_4 : BitVec 32 := 0#32
  let c1_i32 : BitVec 32 := 1#32
  let arg9 : BitVec 32 := Scf.iv c0_i32_4 c1_i32 k0_t1
  let c5_i32_35 : BitVec 32 := 5#32
  let v78 : BitVec 32 := Scalar.muli arg9 c5_i32_35
  let v79 : BitVec 32 := Scalar.addi v78 c0_i32_36
  let v80 : Index := Scalar.indexCast v79
  let c32 : Index := 32#32
  ![v80.toNat, 32]
def k0_off7 (k0_t1 : Fin k0_t1_loop.trips) : Fin 2 → Nat :=
  let c0_i32_4 : BitVec 32 := 0#32
  let c1_i32 : BitVec 32 := 1#32
  let arg9 : BitVec 32 := Scf.iv c0_i32_4 c1_i32 k0_t1
  let v109 : Index := Scalar.indexCast arg9
  let c32_50 : Index := 32#32
  ![v109.toNat, 32]
def k0_off8 (k0_t1 : Fin k0_t1_loop.trips) (c0_i32_52 : BitVec 32) : Fin 2 → Nat :=
  let c0_i32_4 : BitVec 32 := 0#32
  let c1_i32 : BitVec 32 := 1#32
  let arg9 : BitVec 32 := Scf.iv c0_i32_4 c1_i32 k0_t1
  let c5_i32_51 : BitVec 32 := 5#32
  let v113 : BitVec 32 := Scalar.muli arg9 c5_i32_51
  let v114 : BitVec 32 := Scalar.addi v113 c0_i32_52
  let v115 : Index := Scalar.indexCast v114
  let c48 : Index := 48#32
  ![v115.toNat, 48]
def k0_off9 (k0_t1 : Fin k0_t1_loop.trips) : Fin 2 → Nat :=
  let c0_i32_4 : BitVec 32 := 0#32
  let c1_i32 : BitVec 32 := 1#32
  let arg9 : BitVec 32 := Scf.iv c0_i32_4 c1_i32 k0_t1
  let v144 : Index := Scalar.indexCast arg9
  let c48_66 : Index := 48#32
  ![v144.toNat, 48]
def k0_off10 (k0_t1 : Fin k0_t1_loop.trips) (c0_i32_68 : BitVec 32) : Fin 2 → Nat :=
  let c0_i32_4 : BitVec 32 := 0#32
  let c1_i32 : BitVec 32 := 1#32
  let arg9 : BitVec 32 := Scf.iv c0_i32_4 c1_i32 k0_t1
  let c5_i32_67 : BitVec 32 := 5#32
  let v148 : BitVec 32 := Scalar.muli arg9 c5_i32_67
  let v149 : BitVec 32 := Scalar.addi v148 c0_i32_68
  let v150 : Index := Scalar.indexCast v149
  let c64 : Index := 64#32
  ![v150.toNat, 64]
def k0_off11 (k0_t1 : Fin k0_t1_loop.trips) : Fin 2 → Nat :=
  let c0_i32_4 : BitVec 32 := 0#32
  let c1_i32 : BitVec 32 := 1#32
  let arg9 : BitVec 32 := Scf.iv c0_i32_4 c1_i32 k0_t1
  let v179 : Index := Scalar.indexCast arg9
  let c64_82 : Index := 64#32
  ![v179.toNat, 64]
def k0_off12 (k0_t1 : Fin k0_t1_loop.trips) (c0_i32_84 : BitVec 32) : Fin 2 → Nat :=
  let c0_i32_4 : BitVec 32 := 0#32
  let c1_i32 : BitVec 32 := 1#32
  let arg9 : BitVec 32 := Scf.iv c0_i32_4 c1_i32 k0_t1
  let c5_i32_83 : BitVec 32 := 5#32
  let v183 : BitVec 32 := Scalar.muli arg9 c5_i32_83
  let v184 : BitVec 32 := Scalar.addi v183 c0_i32_84
  let v185 : Index := Scalar.indexCast v184
  let c80 : Index := 80#32
  ![v185.toNat, 80]
def k0_off13 (k0_t1 : Fin k0_t1_loop.trips) : Fin 2 → Nat :=
  let c0_i32_4 : BitVec 32 := 0#32
  let c1_i32 : BitVec 32 := 1#32
  let arg9 : BitVec 32 := Scf.iv c0_i32_4 c1_i32 k0_t1
  let v214 : Index := Scalar.indexCast arg9
  let c80_98 : Index := 80#32
  ![v214.toNat, 80]
def k0_off14 (k0_t1 : Fin k0_t1_loop.trips) (c0_i32_100 : BitVec 32) : Fin 2 → Nat :=
  let c0_i32_4 : BitVec 32 := 0#32
  let c1_i32 : BitVec 32 := 1#32
  let arg9 : BitVec 32 := Scf.iv c0_i32_4 c1_i32 k0_t1
  let c5_i32_99 : BitVec 32 := 5#32
  let v218 : BitVec 32 := Scalar.muli arg9 c5_i32_99
  let v219 : BitVec 32 := Scalar.addi v218 c0_i32_100
  let v220 : Index := Scalar.indexCast v219
  let c96 : Index := 96#32
  ![v220.toNat, 96]
def k0_off15 (k0_t1 : Fin k0_t1_loop.trips) : Fin 2 → Nat :=
  let c0_i32_4 : BitVec 32 := 0#32
  let c1_i32 : BitVec 32 := 1#32
  let arg9 : BitVec 32 := Scf.iv c0_i32_4 c1_i32 k0_t1
  let v249 : Index := Scalar.indexCast arg9
  let c96_114 : Index := 96#32
  ![v249.toNat, 96]
def k0_off16 (k0_t1 : Fin k0_t1_loop.trips) (c0_i32_116 : BitVec 32) : Fin 2 → Nat :=
  let c0_i32_4 : BitVec 32 := 0#32
  let c1_i32 : BitVec 32 := 1#32
  let arg9 : BitVec 32 := Scf.iv c0_i32_4 c1_i32 k0_t1
  let c5_i32_115 : BitVec 32 := 5#32
  let v253 : BitVec 32 := Scalar.muli arg9 c5_i32_115
  let v254 : BitVec 32 := Scalar.addi v253 c0_i32_116
  let v255 : Index := Scalar.indexCast v254
  let c112 : Index := 112#32
  ![v255.toNat, 112]
def k0_off17 (k0_t1 : Fin k0_t1_loop.trips) : Fin 2 → Nat :=
  let c0_i32_4 : BitVec 32 := 0#32
  let c1_i32 : BitVec 32 := 1#32
  let arg9 : BitVec 32 := Scf.iv c0_i32_4 c1_i32 k0_t1
  let v284 : Index := Scalar.indexCast arg9
  let c112_130 : Index := 112#32
  ![v284.toNat, 112]
def k0_off18 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_6 : BitVec 32 := 128#32
  let v7 : BitVec 32 := Scalar.muli v1 c128_i32_6
  let c0_i32_7_r1 : BitVec 32 := 0#32
  ![v7.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "fifth" => some ((1 / 5 : ℝ) : EReal)
  | _ => none
-- ==== ReferenceIdeal.lean ====
abbrev S4096x5 : Shape := ⟨2, ![4096, 5]⟩
abbrev S100000x128 : Shape := ⟨2, ![100000, 128]⟩
abbrev S_ : Shape := ⟨0, ![]⟩
abbrev S4096x5x1 : Shape := ⟨3, ![4096, 5, 1]⟩
abbrev S1 : Shape := ⟨1, ![1]⟩
abbrev S1x1x1 : Shape := ⟨3, ![1, 1, 1]⟩
abbrev S4096x5x128 : Shape := ⟨3, ![4096, 5, 128]⟩
abbrev S4096x128 : Shape := ⟨2, ![4096, 128]⟩

abbrev nBuf : Space → Nat
  | .hbm => 30
  | .vmem => 0
  | .smem => 0
  | _ => 0

abbrev bufTy : (tb : Table) → Fin (tcTables nBuf tb) → BufTy
  | .hbm, ⟨0, _⟩ => ⟨S4096x5, .i32⟩
  | .hbm, ⟨1, _⟩ => ⟨S100000x128, .f32⟩
  | .hbm, ⟨2, _⟩ => ⟨S_, .i32⟩
  | .hbm, ⟨3, _⟩ => ⟨S4096x5, .i32⟩
  | .hbm, ⟨4, _⟩ => ⟨S4096x5, .i1⟩
  | .hbm, ⟨5, _⟩ => ⟨S_, .i32⟩
  | .hbm, ⟨6, _⟩ => ⟨S4096x5, .i32⟩
  | .hbm, ⟨7, _⟩ => ⟨S4096x5, .i32⟩
  | .hbm, ⟨8, _⟩ => ⟨S4096x5, .i32⟩
  | .hbm, ⟨9, _⟩ => ⟨S4096x5x1, .i32⟩
  | .hbm, ⟨10, _⟩ => ⟨S1, .i32⟩
  | .hbm, ⟨11, _⟩ => ⟨S_, .i32⟩
  | .hbm, ⟨12, _⟩ => ⟨S4096x5x1, .i32⟩
  | .hbm, ⟨13, _⟩ => ⟨S4096x5x1, .i1⟩
  | .hbm, ⟨14, _⟩ => ⟨S1x1x1, .i32⟩
  | .hbm, ⟨15, _⟩ => ⟨S4096x5x1, .i32⟩
  | .hbm, ⟨16, _⟩ => ⟨S4096x5x1, .i1⟩
  | .hbm, ⟨17, _⟩ => ⟨S4096x5x1, .i1⟩
  | .hbm, ⟨18, _⟩ => ⟨S_, .i1⟩
  | .hbm, ⟨19, _⟩ => ⟨S4096x5, .i1⟩
  | .hbm, ⟨20, _⟩ => ⟨S4096x5x128, .f32⟩
  | .hbm, ⟨21, _⟩ => ⟨S4096x5x128, .i1⟩
  | .hbm, ⟨22, _⟩ => ⟨S_, .f32⟩
  | .hbm, ⟨23, _⟩ => ⟨S4096x5x128, .f32⟩
  | .hbm, ⟨24, _⟩ => ⟨S4096x5x128, .f32⟩
  | .hbm, ⟨25, _⟩ => ⟨S_, .f32⟩
  | .hbm, ⟨26, _⟩ => ⟨S4096x128, .f32⟩
  | .hbm, ⟨27, _⟩ => ⟨S_, .f32⟩
  | .hbm, ⟨28, _⟩ => ⟨S4096x128, .f32⟩
  | .hbm, ⟨29, _⟩ => ⟨S4096x128, .f32⟩
  | _, _ => ⟨S4096x5, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩
abbrev main_cst : Ref sig .tc := ⟨.hbm, 25, rfl⟩
abbrev main_v1 : Ref sig .tc := ⟨.hbm, 26, rfl⟩
abbrev main_cst_0 : Ref sig .tc := ⟨.hbm, 27, rfl⟩
abbrev main_v2 : Ref sig .tc := ⟨.hbm, 28, rfl⟩
abbrev main_v3 : Ref sig .tc := ⟨.hbm, 29, rfl⟩

abbrev nD : Nat := 1
abbrev τ : Topo := Topo.v7x

variable {F : FTy → Type} [FloatOps F]
-- ==== Candidates.lean ====
abbrev S4096x40 : Shape := ⟨2, ![4096, 40]⟩
abbrev S102400x128 : Shape := ⟨2, ![102400, 128]⟩
abbrev S163840 : Shape := ⟨1, ![163840]⟩
abbrev S163840x128 : Shape := ⟨2, ![163840, 128]⟩
abbrev S320 : Shape := ⟨1, ![320]⟩
abbrev S320x128 : Shape := ⟨2, ![320, 128]⟩
abbrev S_ : Shape := ⟨0, ![]⟩

abbrev nBuf : Table → Nat
  | .hbm => 4
  | .local .scVector .vmem => 4
  | _ => 0

abbrev bufTy : (tb : Table) → Fin (nBuf tb) → BufTy
  | .hbm, ⟨0, _⟩ => ⟨S4096x40, .i32⟩
  | .hbm, ⟨1, _⟩ => ⟨S102400x128, .f32⟩
  | .hbm, ⟨2, _⟩ => ⟨S163840, .i32⟩
  | .hbm, ⟨3, _⟩ => ⟨S163840x128, .f32⟩
  | .local .scVector .vmem, ⟨0, _⟩ => ⟨S320, .i32⟩
  | .local .scVector .vmem, ⟨1, _⟩ => ⟨S320, .i32⟩
  | .local .scVector .vmem, ⟨2, _⟩ => ⟨S320x128, .f32⟩
  | .local .scVector .vmem, ⟨3, _⟩ => ⟨S320x128, .f32⟩
  | _, _ => ⟨S4096x40, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 20 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | _ => false

abbrev sig : RefSig :=
  ofTables nBuf rfl bufTy 4 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v0_scv : Ref sig .scVector := ⟨.hbm, 2, rfl⟩
abbrev main_arg1_scv : Ref sig .scVector := ⟨.hbm, 1, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v3 : BitVec 32 := Scalar.addi v2 c0_i32
  let c40_i32 : BitVec 32 := 40#32
  let v4 : BitVec 32 := Scalar.muli v3 c40_i32
  ![v4.toNat]
def k0_off2 (i : grid0.Coords) (c0_i32_9 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_8 : BitVec 32 := 128#32
  let v11 : BitVec 32 := Scalar.muli v1 c128_i32_8
  let v12 : BitVec 32 := Scalar.addi v11 c0_i32_9
  let c40_i32_10 : BitVec 32 := 40#32
  let v13 : BitVec 32 := Scalar.muli v12 c40_i32_10
  let c0_i32_11 : BitVec 32 := 0#32
  ![v13.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== CandidatesReference.lean ====
abbrev S4096x40 : Shape := ⟨2, ![4096, 40]⟩
abbrev S102400x128 : Shape := ⟨2, ![102400, 128]⟩
abbrev S163840 : Shape := ⟨1, ![163840]⟩
abbrev S_ : Shape := ⟨0, ![]⟩
abbrev S163840x1 : Shape := ⟨2, ![163840, 1]⟩
abbrev S1 : Shape := ⟨1, ![1]⟩
abbrev S1x1 : Shape := ⟨2, ![1, 1]⟩
abbrev S163840x128 : Shape := ⟨2, ![163840, 128]⟩

abbrev nBuf : Space → Nat
  | .hbm => 26
  | .vmem => 0
  | .smem => 0
  | _ => 0

abbrev bufTy : (tb : Table) → Fin (tcTables nBuf tb) → BufTy
  | .hbm, ⟨0, _⟩ => ⟨S4096x40, .i32⟩
  | .hbm, ⟨1, _⟩ => ⟨S102400x128, .f32⟩
  | .hbm, ⟨2, _⟩ => ⟨S163840, .i32⟩
  | .hbm, ⟨3, _⟩ => ⟨S_, .i32⟩
  | .hbm, ⟨4, _⟩ => ⟨S163840, .i32⟩
  | .hbm, ⟨5, _⟩ => ⟨S163840, .i1⟩
  | .hbm, ⟨6, _⟩ => ⟨S_, .i32⟩
  | .hbm, ⟨7, _⟩ => ⟨S163840, .i32⟩
  | .hbm, ⟨8, _⟩ => ⟨S163840, .i32⟩
  | .hbm, ⟨9, _⟩ => ⟨S163840, .i32⟩
  | .hbm, ⟨10, _⟩ => ⟨S163840x1, .i32⟩
  | .hbm, ⟨11, _⟩ => ⟨S1, .i32⟩
  | .hbm, ⟨12, _⟩ => ⟨S_, .i32⟩
  | .hbm, ⟨13, _⟩ => ⟨S163840x1, .i32⟩
  | .hbm, ⟨14, _⟩ => ⟨S163840x1, .i1⟩
  | .hbm, ⟨15, _⟩ => ⟨S1x1, .i32⟩
  | .hbm, ⟨16, _⟩ => ⟨S163840x1, .i32⟩
  | .hbm, ⟨17, _⟩ => ⟨S163840x1, .i1⟩
  | .hbm, ⟨18, _⟩ => ⟨S163840x1, .i1⟩
  | .hbm, ⟨19, _⟩ => ⟨S_, .i1⟩
  | .hbm, ⟨20, _⟩ => ⟨S163840, .i1⟩
  | .hbm, ⟨21, _⟩ => ⟨S163840x128, .f32⟩
  | .hbm, ⟨22, _⟩ => ⟨S163840x128, .i1⟩
  | .hbm, ⟨23, _⟩ => ⟨S_, .f32⟩
  | .hbm, ⟨24, _⟩ => ⟨S163840x128, .f32⟩
  | .hbm, ⟨25, _⟩ => ⟨S163840x128, .f32⟩
  | _, _ => ⟨S4096x40, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩

abbrev nD : Nat := 1
abbrev τ : Topo := Topo.v7x

variable {F : FTy → Type} [FloatOps F]
-- ==== WholeIdeal.lean ====
abbrev S4096x128 : Shape := ⟨2, ![4096, 128]⟩
abbrev S100000x128 : Shape := ⟨2, ![100000, 128]⟩
abbrev S_ : Shape := ⟨0, ![]⟩
abbrev S4096 : Shape := ⟨1, ![4096]⟩
abbrev S4096x1 : Shape := ⟨2, ![4096, 1]⟩
abbrev S100000 : Shape := ⟨1, ![100000]⟩
abbrev S100000x1 : Shape := ⟨2, ![100000, 1]⟩
abbrev S102400x128 : Shape := ⟨2, ![102400, 128]⟩
abbrev S8x40x512 : Shape := ⟨3, ![8, 40, 512]⟩
abbrev S2048x128 : Shape := ⟨2, ![2048, 128]⟩
abbrev S512x128 : Shape := ⟨2, ![512, 128]⟩
abbrev S1x40x512 : Shape := ⟨3, ![1, 40, 512]⟩
abbrev S12800x512 : Shape := ⟨2, ![12800, 512]⟩
abbrev S2048x512 : Shape := ⟨2, ![2048, 512]⟩
abbrev S256x8x512 : Shape := ⟨3, ![256, 8, 512]⟩
abbrev S256x512 : Shape := ⟨2, ![256, 512]⟩
abbrev S512 : Shape := ⟨1, ![512]⟩
abbrev S1x1x512 : Shape := ⟨3, ![1, 1, 512]⟩
abbrev S1x512 : Shape := ⟨2, ![1, 512]⟩
abbrev S8x512x40 : Shape := ⟨3, ![8, 512, 40]⟩
abbrev S4096x40 : Shape := ⟨2, ![4096, 40]⟩
abbrev S163840 : Shape := ⟨1, ![163840]⟩
abbrev S163840x128 : Shape := ⟨2, ![163840, 128]⟩
abbrev S320 : Shape := ⟨1, ![320]⟩
abbrev S320x128 : Shape := ⟨2, ![320, 128]⟩
abbrev S4096x5 : Shape := ⟨2, ![4096, 5]⟩
abbrev S64x128 : Shape := ⟨2, ![64, 128]⟩
abbrev S2560x128 : Shape := ⟨2, ![2560, 128]⟩
abbrev S64x40 : Shape := ⟨2, ![64, 40]⟩
abbrev S64x5 : Shape := ⟨2, ![64, 5]⟩
abbrev S64x2560 : Shape := ⟨2, ![64, 2560]⟩
abbrev S64 : Shape := ⟨1, ![64]⟩
abbrev S64x1 : Shape := ⟨2, ![64, 1]⟩
abbrev S20480 : Shape := ⟨1, ![20480]⟩
abbrev S640 : Shape := ⟨1, ![640]⟩
abbrev S640x128 : Shape := ⟨2, ![640, 128]⟩
abbrev S128x128 : Shape := ⟨2, ![128, 128]⟩
abbrev S1x16 : Shape := ⟨2, ![1, 16]⟩
abbrev S16 : Shape := ⟨1, ![16]⟩

abbrev nBuf : Table → Nat
  | .hbm => 34
  | .local .tc .vmem => 15
  | .local .scVector .vmem => 7
  | _ => 0

abbrev bufTy : (tb : Table) → Fin (nBuf tb) → BufTy
  | .hbm, ⟨0, _⟩ => ⟨S4096x128, .f32⟩
  | .hbm, ⟨1, _⟩ => ⟨S100000x128, .f32⟩
  | .hbm, ⟨2, _⟩ => ⟨S100000x128, .f32⟩
  | .hbm, ⟨3, _⟩ => ⟨S4096x128, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x128, .f32⟩
  | .hbm, ⟨12, _⟩ => ⟨S4096x128, .f32⟩
  | .hbm, ⟨13, _⟩ => ⟨S100000x128, .f32⟩
  | .hbm, ⟨14, _⟩ => ⟨S_, .f32⟩
  | .hbm, ⟨15, _⟩ => ⟨S100000, .f32⟩
  | .hbm, ⟨16, _⟩ => ⟨S100000x1, .f32⟩
  | .hbm, ⟨17, _⟩ => ⟨S100000x1, .f32⟩
  | .hbm, ⟨18, _⟩ => ⟨S_, .f32⟩
  | .hbm, ⟨19, _⟩ => ⟨S100000x1, .f32⟩
  | .hbm, ⟨20, _⟩ => ⟨S100000x1, .f32⟩
  | .hbm, ⟨21, _⟩ => ⟨S100000x128, .f32⟩
  | .hbm, ⟨22, _⟩ => ⟨S100000x128, .f32⟩
  | .hbm, ⟨23, _⟩ => ⟨S_, .i32⟩
  | .hbm, ⟨24, _⟩ => ⟨S_, .f32⟩
  | .hbm, ⟨25, _⟩ => ⟨S102400x128, .f32⟩
  | .hbm, ⟨26, _⟩ => ⟨S8x40x512, .i32⟩
  | .hbm, ⟨27, _⟩ => ⟨S8x512x40, .i32⟩
  | .hbm, ⟨28, _⟩ => ⟨S4096x40, .i32⟩
  | .hbm, ⟨29, _⟩ => ⟨S163840, .i32⟩
  | .hbm, ⟨30, _⟩ => ⟨S163840x128, .f32⟩
  | .hbm, ⟨31, _⟩ => ⟨S4096x5, .i32⟩
  | .hbm, ⟨32, _⟩ => ⟨S20480, .i32⟩
  | .hbm, ⟨33, _⟩ => ⟨S4096x128, .f32⟩
  | .local .tc .vmem, ⟨0, _⟩ => ⟨S2048x128, .f32⟩
  | .local .tc .vmem, ⟨1, _⟩ => ⟨S2048x128, .f32⟩
  | .local .tc .vmem, ⟨2, _⟩ => ⟨S512x128, .f32⟩
  | .local .tc .vmem, ⟨3, _⟩ => ⟨S512x128, .f32⟩
  | .local .tc .vmem, ⟨4, _⟩ => ⟨S1x40x512, .i32⟩
  | .local .tc .vmem, ⟨5, _⟩ => ⟨S1x40x512, .i32⟩
  | .local .tc .vmem, ⟨6, _⟩ => ⟨S12800x512, .f32⟩
  | .local .tc .vmem, ⟨7, _⟩ => ⟨S64x128, .f32⟩
  | .local .tc .vmem, ⟨8, _⟩ => ⟨S64x128, .f32⟩
  | .local .tc .vmem, ⟨9, _⟩ => ⟨S2560x128, .f32⟩
  | .local .tc .vmem, ⟨10, _⟩ => ⟨S2560x128, .f32⟩
  | .local .tc .vmem, ⟨11, _⟩ => ⟨S64x40, .i32⟩
  | .local .tc .vmem, ⟨12, _⟩ => ⟨S64x40, .i32⟩
  | .local .tc .vmem, ⟨13, _⟩ => ⟨S64x5, .i32⟩
  | .local .tc .vmem, ⟨14, _⟩ => ⟨S64x5, .i32⟩
  | .local .scVector .vmem, ⟨0, _⟩ => ⟨S320, .i32⟩
  | .local .scVector .vmem, ⟨1, _⟩ => ⟨S320, .i32⟩
  | .local .scVector .vmem, ⟨2, _⟩ => ⟨S320x128, .f32⟩
  | .local .scVector .vmem, ⟨3, _⟩ => ⟨S320x128, .f32⟩
  | .local .scVector .vmem, ⟨4, _⟩ => ⟨S640, .i32⟩
  | .local .scVector .vmem, ⟨5, _⟩ => ⟨S640x128, .f32⟩
  | .local .scVector .vmem, ⟨6, _⟩ => ⟨S128x128, .f32⟩
  | _, _ => ⟨S4096x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => false
  | ⟨35, _⟩ => false
  | ⟨36, _⟩ => false
  | _ => false

abbrev sig : RefSig :=
  ofTables nBuf rfl bufTy 4 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call1_v0 : Ref sig .tc := ⟨.hbm, 13, rfl⟩
abbrev main_call1_cst : Ref sig .tc := ⟨.hbm, 14, rfl⟩
abbrev main_call1_v1 : Ref sig .tc := ⟨.hbm, 15, rfl⟩
abbrev main_call1_v2 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c : Ref sig .tc := ⟨.hbm, 23, rfl⟩
abbrev main_call2_v0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v14_scv : Ref sig .scVector := ⟨.hbm, 29, rfl⟩
abbrev main_v10_scv : Ref sig .scVector := ⟨.hbm, 25, rfl⟩
abbrev main_v15_scv : Ref sig .scVector := ⟨.hbm, 30, rfl⟩
abbrev main_v17_scv : Ref sig .scVector := ⟨.hbm, 32, rfl⟩
abbrev main_arg2_scv : Ref sig .scVector := ⟨.hbm, 2, rfl⟩
abbrev main_v18_scv : Ref sig .scVector := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc2_stg0_0 : Ref sig .tc := ⟨.vmem, 7, rfl⟩
abbrev cc2_stg0_1 : Ref sig .tc := ⟨.vmem, 8, rfl⟩
abbrev cc2_stg1_0 : Ref sig .tc := ⟨.vmem, 9, rfl⟩
abbrev cc2_stg1_1 : Ref sig .tc := ⟨.vmem, 10, rfl⟩
abbrev cc2_stg2_0 : Ref sig .tc := ⟨.vmem, 11, rfl⟩
abbrev cc2_stg2_1 : Ref sig .tc := ⟨.vmem, 12, rfl⟩
abbrev cc2_stg3_0 : Ref sig .tc := ⟨.vmem, 13, rfl⟩
abbrev cc2_stg3_1 : Ref sig .tc := ⟨.vmem, 14, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc3_scratch0 : Ref sig .scVector := ⟨.vmem, 4, rfl⟩
abbrev cc3_scratch1 : Ref sig .scVector := ⟨.vmem, 5, rfl⟩
abbrev cc3_scratch2 : Ref sig .scVector := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem2_1 : DmaSem sig := 31
abbrev cc2_sem3_0 : DmaSem sig := 32
abbrev cc2_sem3_1 : DmaSem sig := 33
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F] [Named F]

def κ : String → Option EReal := fun
  | "fifth" => some ((1 / 5 : ℝ) : EReal)
  | _ => none

abbrev grid0 : Pipeline.Grid := ⟨2, ![8, 50], ![false, false]⟩

def k0_off1 (i : grid0.Coords) : Fin 2 → Nat :=
  let arg1 : BitVec 32 := BitVec.ofNat 32 (i 1).val
  let c256_i32_5 : BitVec 32 := 256#32
  let v15 : BitVec 32 := Scalar.muli arg1 c256_i32_5
  let v16 : Index := Scalar.indexCast v15
  let c0_6 : Index := 0#32
  ![v16.toNat, 0]
def k0_cond1 (i : grid0.Coords) : BitVec 1 :=
  let arg1 : BitVec 32 := BitVec.ofNat 32 (i 1).val
  let c49_i32 : BitVec 32 := 49#32
  let v20 : BitVec 1 := Scalar.cmpi .eq arg1 c49_i32
  let v21 : BitVec 32 := Scalar.extui v20
  let c0_i32 : BitVec 32 := 0#32
  let v22 : BitVec 1 := Scalar.cmpi .ne v21 c0_i32
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x40x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![2, 16], ![false, false]⟩

def k1_off1 (i : grid1.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v3 : BitVec 32 := Scalar.addi v2 c0_i32
  let c40_i32 : BitVec 32 := 40#32
  let v4 : BitVec 32 := Scalar.muli v3 c40_i32
  ![v4.toNat]
def k1_off2 (i : grid1.Coords) (c0_i32_9 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_8 : BitVec 32 := 128#32
  let v11 : BitVec 32 := Scalar.muli v1 c128_i32_8
  let v12 : BitVec 32 := Scalar.addi v11 c0_i32_9
  let c40_i32_10 : BitVec 32 := 40#32
  let v13 : BitVec 32 := Scalar.muli v12 c40_i32_10
  let c0_i32_11 : BitVec 32 := 0#32
  ![v13.toNat, 0]
abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S64x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2560x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S64x40 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S64x5 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![2, 16], ![false, false]⟩

def k3_off1 (i : grid3.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  ![v2.toNat]
@[reducible] def k3_t1_loop : Scf.Loop 32 :=
  let c0_i32_4 : BitVec 32 := 0#32
  let c128_i32 : BitVec 32 := 128#32
  let v5 : BitVec 32 := Scalar.addi c0_i32_4 c128_i32
  let c1_i32 : BitVec 32 := 1#32
  ⟨c0_i32_4, v5, c1_i32⟩
def k3_off2 (k3_t1 : Fin k3_t1_loop.trips) (c0_i32_7 : BitVec 32) : Fin 2 → Nat :=
  let c0_i32_4 : BitVec 32 := 0#32
  let c1_i32 : BitVec 32 := 1#32
  let arg9 : BitVec 32 := Scf.iv c0_i32_4 c1_i32 k3_t1
  let c5_i32 : BitVec 32 := 5#32
  let v8 : BitVec 32 := Scalar.muli arg9 c5_i32
  let v9 : BitVec 32 := Scalar.addi v8 c0_i32_7
  let v10 : Index := Scalar.indexCast v9
  let c0 : Index := 0#32
  ![v10.toNat, 0]
def k3_off3 (k3_t1 : Fin k3_t1_loop.trips) : Fin 2 → Nat :=
  let c0_i32_4 : BitVec 32 := 0#32
  let c1_i32 : BitVec 32 := 1#32
  let arg9 : BitVec 32 := Scf.iv c0_i32_4 c1_i32 k3_t1
  let v39 : Index := Scalar.indexCast arg9
  let c0_18 : Index := 0#32
  ![v39.toNat, 0]
def k3_off4 (k3_t1 : Fin k3_t1_loop.trips) (c0_i32_20 : BitVec 32) : Fin 2 → Nat :=
  let c0_i32_4 : BitVec 32 := 0#32
  let c1_i32 : BitVec 32 := 1#32
  let arg9 : BitVec 32 := Scf.iv c0_i32_4 c1_i32 k3_t1
  let c5_i32_19 : BitVec 32 := 5#32
  let v43 : BitVec 32 := Scalar.muli arg9 c5_i32_19
  let v44 : BitVec 32 := Scalar.addi v43 c0_i32_20
  let v45 : Index := Scalar.indexCast v44
  let c16 : Index := 16#32
  ![v45.toNat, 16]
def k3_off5 (k3_t1 : Fin k3_t1_loop.trips) : Fin 2 → Nat :=
  let c0_i32_4 : BitVec 32 := 0#32
  let c1_i32 : BitVec 32 := 1#32
  let arg9 : BitVec 32 := Scf.iv c0_i32_4 c1_i32 k3_t1
  let v74 : Index := Scalar.indexCast arg9
  let c16_34 : Index := 16#32
  ![v74.toNat, 16]
def k3_off6 (k3_t1 : Fin k3_t1_loop.trips) (c0_i32_36 : BitVec 32) : Fin 2 → Nat :=
  let c0_i32_4 : BitVec 32 := 0#32
  let c1_i32 : BitVec 32 := 1#32
  let arg9 : BitVec 32 := Scf.iv c0_i32_4 c1_i32 k3_t1
  let c5_i32_35 : BitVec 32 := 5#32
  let v78 : BitVec 32 := Scalar.muli arg9 c5_i32_35
  let v79 : BitVec 32 := Scalar.addi v78 c0_i32_36
  let v80 : Index := Scalar.indexCast v79
  let c32 : Index := 32#32
  ![v80.toNat, 32]
def k3_off7 (k3_t1 : Fin k3_t1_loop.trips) : Fin 2 → Nat :=
  let c0_i32_4 : BitVec 32 := 0#32
  let c1_i32 : BitVec 32 := 1#32
  let arg9 : BitVec 32 := Scf.iv c0_i32_4 c1_i32 k3_t1
  let v109 : Index := Scalar.indexCast arg9
  let c32_50 : Index := 32#32
  ![v109.toNat, 32]
def k3_off8 (k3_t1 : Fin k3_t1_loop.trips) (c0_i32_52 : BitVec 32) : Fin 2 → Nat :=
  let c0_i32_4 : BitVec 32 := 0#32
  let c1_i32 : BitVec 32 := 1#32
  let arg9 : BitVec 32 := Scf.iv c0_i32_4 c1_i32 k3_t1
  let c5_i32_51 : BitVec 32 := 5#32
  let v113 : BitVec 32 := Scalar.muli arg9 c5_i32_51
  let v114 : BitVec 32 := Scalar.addi v113 c0_i32_52
  let v115 : Index := Scalar.indexCast v114
  let c48 : Index := 48#32
  ![v115.toNat, 48]
def k3_off9 (k3_t1 : Fin k3_t1_loop.trips) : Fin 2 → Nat :=
  let c0_i32_4 : BitVec 32 := 0#32
  let c1_i32 : BitVec 32 := 1#32
  let arg9 : BitVec 32 := Scf.iv c0_i32_4 c1_i32 k3_t1
  let v144 : Index := Scalar.indexCast arg9
  let c48_66 : Index := 48#32
  ![v144.toNat, 48]
def k3_off10 (k3_t1 : Fin k3_t1_loop.trips) (c0_i32_68 : BitVec 32) : Fin 2 → Nat :=
  let c0_i32_4 : BitVec 32 := 0#32
  let c1_i32 : BitVec 32 := 1#32
  let arg9 : BitVec 32 := Scf.iv c0_i32_4 c1_i32 k3_t1
  let c5_i32_67 : BitVec 32 := 5#32
  let v148 : BitVec 32 := Scalar.muli arg9 c5_i32_67
  let v149 : BitVec 32 := Scalar.addi v148 c0_i32_68
  let v150 : Index := Scalar.indexCast v149
  let c64 : Index := 64#32
  ![v150.toNat, 64]
def k3_off11 (k3_t1 : Fin k3_t1_loop.trips) : Fin 2 → Nat :=
  let c0_i32_4 : BitVec 32 := 0#32
  let c1_i32 : BitVec 32 := 1#32
  let arg9 : BitVec 32 := Scf.iv c0_i32_4 c1_i32 k3_t1
  let v179 : Index := Scalar.indexCast arg9
  let c64_82 : Index := 64#32
  ![v179.toNat, 64]
def k3_off12 (k3_t1 : Fin k3_t1_loop.trips) (c0_i32_84 : BitVec 32) : Fin 2 → Nat :=
  let c0_i32_4 : BitVec 32 := 0#32
  let c1_i32 : BitVec 32 := 1#32
  let arg9 : BitVec 32 := Scf.iv c0_i32_4 c1_i32 k3_t1
  let c5_i32_83 : BitVec 32 := 5#32
  let v183 : BitVec 32 := Scalar.muli arg9 c5_i32_83
  let v184 : BitVec 32 := Scalar.addi v183 c0_i32_84
  let v185 : Index := Scalar.indexCast v184
  let c80 : Index := 80#32
  ![v185.toNat, 80]
def k3_off13 (k3_t1 : Fin k3_t1_loop.trips) : Fin 2 → Nat :=
  let c0_i32_4 : BitVec 32 := 0#32
  let c1_i32 : BitVec 32 := 1#32
  let arg9 : BitVec 32 := Scf.iv c0_i32_4 c1_i32 k3_t1
  let v214 : Index := Scalar.indexCast arg9
  let c80_98 : Index := 80#32
  ![v214.toNat, 80]
def k3_off14 (k3_t1 : Fin k3_t1_loop.trips) (c0_i32_100 : BitVec 32) : Fin 2 → Nat :=
  let c0_i32_4 : BitVec 32 := 0#32
  let c1_i32 : BitVec 32 := 1#32
  let arg9 : BitVec 32 := Scf.iv c0_i32_4 c1_i32 k3_t1
  let c5_i32_99 : BitVec 32 := 5#32
  let v218 : BitVec 32 := Scalar.muli arg9 c5_i32_99
  let v219 : BitVec 32 := Scalar.addi v218 c0_i32_100
  let v220 : Index := Scalar.indexCast v219
  let c96 : Index := 96#32
  ![v220.toNat, 96]
def k3_off15 (k3_t1 : Fin k3_t1_loop.trips) : Fin 2 → Nat :=
  let c0_i32_4 : BitVec 32 := 0#32
  let c1_i32 : BitVec 32 := 1#32
  let arg9 : BitVec 32 := Scf.iv c0_i32_4 c1_i32 k3_t1
  let v249 : Index := Scalar.indexCast arg9
  let c96_114 : Index := 96#32
  ![v249.toNat, 96]
def k3_off16 (k3_t1 : Fin k3_t1_loop.trips) (c0_i32_116 : BitVec 32) : Fin 2 → Nat :=
  let c0_i32_4 : BitVec 32 := 0#32
  let c1_i32 : BitVec 32 := 1#32
  let arg9 : BitVec 32 := Scf.iv c0_i32_4 c1_i32 k3_t1
  let c5_i32_115 : BitVec 32 := 5#32
  let v253 : BitVec 32 := Scalar.muli arg9 c5_i32_115
  let v254 : BitVec 32 := Scalar.addi v253 c0_i32_116
  let v255 : Index := Scalar.indexCast v254
  let c112 : Index := 112#32
  ![v255.toNat, 112]
def k3_off17 (k3_t1 : Fin k3_t1_loop.trips) : Fin 2 → Nat :=
  let c0_i32_4 : BitVec 32 := 0#32
  let c1_i32 : BitVec 32 := 1#32
  let arg9 : BitVec 32 := Scf.iv c0_i32_4 c1_i32 k3_t1
  let v284 : Index := Scalar.indexCast arg9
  let c112_130 : Index := 112#32
  ![v284.toNat, 112]
def k3_off18 (i : grid3.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_6 : BitVec 32 := 128#32
  let v7 : BitVec 32 := Scalar.muli v1 c128_i32_6
  let c0_i32_7_r1 : BitVec 32 := 0#32
  ![v7.toNat, 0]
abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== WholeReferenceIdeal.lean ====
abbrev S4096x128 : Shape := ⟨2, ![4096, 128]⟩
abbrev S100000x128 : Shape := ⟨2, ![100000, 128]⟩
abbrev S_ : Shape := ⟨0, ![]⟩
abbrev S4096 : Shape := ⟨1, ![4096]⟩
abbrev S4096x1 : Shape := ⟨2, ![4096, 1]⟩
abbrev S100000 : Shape := ⟨1, ![100000]⟩
abbrev S100000x1 : Shape := ⟨2, ![100000, 1]⟩
abbrev S128x100000 : Shape := ⟨2, ![128, 100000]⟩
abbrev S4096x100000 : Shape := ⟨2, ![4096, 100000]⟩
abbrev S4096x5 : Shape := ⟨2, ![4096, 5]⟩
abbrev S4096x5x1 : Shape := ⟨3, ![4096, 5, 1]⟩
abbrev S1 : Shape := ⟨1, ![1]⟩
abbrev S1x1x1 : Shape := ⟨3, ![1, 1, 1]⟩
abbrev S4096x5x128 : Shape := ⟨3, ![4096, 5, 128]⟩

abbrev nBuf : Space → Nat
  | .hbm => 55
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S100000x128, .f32⟩
  | .hbm, ⟨2, _⟩ => ⟨S100000x128, .f32⟩
  | .hbm, ⟨3, _⟩ => ⟨S4096x128, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S100000x128, .f32⟩
  | .hbm, ⟨12, _⟩ => ⟨S_, .f32⟩
  | .hbm, ⟨13, _⟩ => ⟨S100000, .f32⟩
  | .hbm, ⟨14, _⟩ => ⟨S100000x1, .f32⟩
  | .hbm, ⟨15, _⟩ => ⟨S100000x1, .f32⟩
  | .hbm, ⟨16, _⟩ => ⟨S_, .f32⟩
  | .hbm, ⟨17, _⟩ => ⟨S100000x1, .f32⟩
  | .hbm, ⟨18, _⟩ => ⟨S100000x1, .f32⟩
  | .hbm, ⟨19, _⟩ => ⟨S4096x128, .f32⟩
  | .hbm, ⟨20, _⟩ => ⟨S4096x128, .f32⟩
  | .hbm, ⟨21, _⟩ => ⟨S100000x128, .f32⟩
  | .hbm, ⟨22, _⟩ => ⟨S100000x128, .f32⟩
  | .hbm, ⟨23, _⟩ => ⟨S128x100000, .f32⟩
  | .hbm, ⟨24, _⟩ => ⟨S4096x100000, .f32⟩
  | .hbm, ⟨25, _⟩ => ⟨S4096x5, .f32⟩
  | .hbm, ⟨26, _⟩ => ⟨S4096x5, .i32⟩
  | .hbm, ⟨27, _⟩ => ⟨S_, .i32⟩
  | .hbm, ⟨28, _⟩ => ⟨S4096x5, .i32⟩
  | .hbm, ⟨29, _⟩ => ⟨S4096x5, .i1⟩
  | .hbm, ⟨30, _⟩ => ⟨S_, .i32⟩
  | .hbm, ⟨31, _⟩ => ⟨S4096x5, .i32⟩
  | .hbm, ⟨32, _⟩ => ⟨S4096x5, .i32⟩
  | .hbm, ⟨33, _⟩ => ⟨S4096x5, .i32⟩
  | .hbm, ⟨34, _⟩ => ⟨S4096x5x1, .i32⟩
  | .hbm, ⟨35, _⟩ => ⟨S1, .i32⟩
  | .hbm, ⟨36, _⟩ => ⟨S_, .i32⟩
  | .hbm, ⟨37, _⟩ => ⟨S4096x5x1, .i32⟩
  | .hbm, ⟨38, _⟩ => ⟨S4096x5x1, .i1⟩
  | .hbm, ⟨39, _⟩ => ⟨S1x1x1, .i32⟩
  | .hbm, ⟨40, _⟩ => ⟨S4096x5x1, .i32⟩
  | .hbm, ⟨41, _⟩ => ⟨S4096x5x1, .i1⟩
  | .hbm, ⟨42, _⟩ => ⟨S4096x5x1, .i1⟩
  | .hbm, ⟨43, _⟩ => ⟨S_, .i1⟩
  | .hbm, ⟨44, _⟩ => ⟨S4096x5, .i1⟩
  | .hbm, ⟨45, _⟩ => ⟨S4096x5x128, .f32⟩
  | .hbm, ⟨46, _⟩ => ⟨S4096x5x128, .i1⟩
  | .hbm, ⟨47, _⟩ => ⟨S_, .f32⟩
  | .hbm, ⟨48, _⟩ => ⟨S4096x5x128, .f32⟩
  | .hbm, ⟨49, _⟩ => ⟨S4096x5x128, .f32⟩
  | .hbm, ⟨50, _⟩ => ⟨S_, .f32⟩
  | .hbm, ⟨51, _⟩ => ⟨S4096x128, .f32⟩
  | .hbm, ⟨52, _⟩ => ⟨S_, .f32⟩
  | .hbm, ⟨53, _⟩ => ⟨S4096x128, .f32⟩
  | .hbm, ⟨54, _⟩ => ⟨S4096x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_call1_v0 : Ref sig .tc := ⟨.hbm, 11, rfl⟩
abbrev main_call1_cst : Ref sig .tc := ⟨.hbm, 12, rfl⟩
abbrev main_call1_v1 : Ref sig .tc := ⟨.hbm, 13, rfl⟩
abbrev main_call1_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_values : Ref sig .tc := ⟨.hbm, 25, rfl⟩
abbrev main_indices : Ref sig .tc := ⟨.hbm, 26, rfl⟩
abbrev main_call2_c : Ref sig .tc := ⟨.hbm, 27, rfl⟩
abbrev main_call2_v0 : Ref sig .tc := ⟨.hbm, 28, rfl⟩
abbrev main_call2_v1 : Ref sig .tc := ⟨.hbm, 29, rfl⟩
abbrev main_call2_c_0 : Ref sig .tc := ⟨.hbm, 30, rfl⟩
abbrev main_call2_v2 : Ref sig .tc := ⟨.hbm, 31, rfl⟩
abbrev main_call2_v3 : Ref sig .tc := ⟨.hbm, 32, rfl⟩
abbrev main_call2_v4 : Ref sig .tc := ⟨.hbm, 33, rfl⟩
abbrev main_call2_v5 : Ref sig .tc := ⟨.hbm, 34, rfl⟩
abbrev main_call2_c_1 : Ref sig .tc := ⟨.hbm, 35, rfl⟩
abbrev main_call2_c_2 : Ref sig .tc := ⟨.hbm, 36, rfl⟩
abbrev main_call2_v6 : Ref sig .tc := ⟨.hbm, 37, rfl⟩
abbrev main_call2_v7 : Ref sig .tc := ⟨.hbm, 38, rfl⟩
abbrev main_call2_v8 : Ref sig .tc := ⟨.hbm, 39, rfl⟩
abbrev main_call2_v9 : Ref sig .tc := ⟨.hbm, 40, rfl⟩
abbrev main_call2_v10 : Ref sig .tc := ⟨.hbm, 41, rfl⟩
abbrev main_call2_v11 : Ref sig .tc := ⟨.hbm, 42, rfl⟩
abbrev main_call2_c_3 : Ref sig .tc := ⟨.hbm, 43, rfl⟩
abbrev main_call2_v12 : Ref sig .tc := ⟨.hbm, 44, rfl⟩
abbrev main_call2_v13 : Ref sig .tc := ⟨.hbm, 45, rfl⟩
abbrev main_call2_v14 : Ref sig .tc := ⟨.hbm, 46, rfl⟩
abbrev main_call2_cst : Ref sig .tc := ⟨.hbm, 47, rfl⟩
abbrev main_call2_v15 : Ref sig .tc := ⟨.hbm, 48, rfl⟩
abbrev main_v12 : Ref sig .tc := ⟨.hbm, 49, rfl⟩
abbrev main_cst_1 : Ref sig .tc := ⟨.hbm, 50, rfl⟩
abbrev main_v13 : Ref sig .tc := ⟨.hbm, 51, rfl⟩
abbrev main_cst_2 : Ref sig .tc := ⟨.hbm, 52, rfl⟩
abbrev main_v14 : Ref sig .tc := ⟨.hbm, 53, rfl⟩
abbrev main_v15 : Ref sig .tc := ⟨.hbm, 54, rfl⟩

abbrev nD : Nat := 1
abbrev τ : Topo := Topo.v7x

variable {F : FTy → Type} [FloatOps F]
-- ==== Proof.FuseIdeal.Base.lean ====
/-
  The SparseCore call that gathers five value rows for each query and writes their mean: the program as the launch theorem
  sees it, the arrays, and what the call computes. `outVal` is the result as a function of the list of row numbers and of
  the table: at query `q` and lane `l`, the five numbers that the list's entries `5q … 5q+4` name in column `l`, added from
  the left and multiplied by the kernel's constant. Stated at any float instance.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.Writes
public import Idealize.ShloMosaic.Lib.ValueLayout
public import proofs.«01_k».proof.Proof.Gen.KernelIdeal
public import proofs.«01_k».proof.Proof.Gen.KernelIdeal.Skeleton

@[expose] public section

noncomputable section

namespace Cert.Proof.FuseIdeal

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the transfers' counters -/

abbrev UH : Type := URounds (GSem nD τ sig) ℕ
abbrev UU : Type := UH × Counters
abbrev MM (F : FTy → Type) := MT nD τ sig (HIx 1) (Elt F) ℕ UU ℕ
abbrev EH : Emb UH (MT nD τ sig (HIx 1) (Elt F) ℕ UU ℕ) := embL

/-! ## The arrays -/

/-- The row numbers as they are given, the table, the row numbers flattened, the result. -/
abbrev aLoc (d : Dev nD) : Loc nD τ sig := (SparseCore.T d).loc main_arg0
abbrev xLoc (d : Dev nD) : Loc nD τ sig := (SparseCore.T d).loc main_arg1
abbrev iLoc (d : Dev nD) : Loc nD τ sig := (SparseCore.T d).loc main_v0
abbrev oLoc (d : Dev nD) : Loc nD τ sig := (SparseCore.T d).loc main_v1

/-! ## What the call computes -/

section Value
variable [FloatOps F] [Named F]

/-- The kernel's constant. -/
def fifth : F .f32 := Named.named κ "fifth" 0x3E4CCCCD#32

/-- The row of the table that a list entry names. -/
def rowOf (v : BitVec 32) : Fin 100000 := ⟨v.toNat % 100000, Nat.mod_lt _ (by decide)⟩

/-- Entry `(n, l)` of the gathered rows: column `l` of the row that entry `n` of the list names. -/
def fetched (fi : S20480.Idx → BitVec 32) (fx : S100000x128.Idx → F .f32) (n : ℕ) (hn : n < 20480) (l : Fin 128) : F .f32 :=
  fx (ix2 (rowOf (fi (ix1 (⟨n, hn⟩ : Fin 20480)))) l)

/-- Five numbers added from the left and multiplied by the constant. -/
def mean5 (a b c e g : F .f32) : F .f32 :=
  FloatOps.mulf (FloatOps.addf (FloatOps.addf (FloatOps.addf (FloatOps.addf a b) c) e) g) fifth

/-- The result of the call. -/
def outVal (fi : S20480.Idx → BitVec 32) (fx : S100000x128.Idx → F .f32) : S4096x128.Idx → F .f32 := fun j =>
  mean5 (fetched fi fx (5 * (j 0).val) (by have := (j 0).isLt; simp only [S4096x128] at this; change (j 0).val < 4096 at this; omega) (j 1))
    (fetched fi fx (5 * (j 0).val + 1) (by have := (j 0).isLt; change (j 0).val < 4096 at this; omega) (j 1))
    (fetched fi fx (5 * (j 0).val + 2) (by have := (j 0).isLt; change (j 0).val < 4096 at this; omega) (j 1))
    (fetched fi fx (5 * (j 0).val + 3) (by have := (j 0).isLt; change (j 0).val < 4096 at this; omega) (j 1))
    (fetched fi fx (5 * (j 0).val + 4) (by have := (j 0).isLt; change (j 0).val < 4096 at this; omega) (j 1))

/-- Block of 128 rows that a task computes from its 640 gathered rows. -/
def blk (g : S640x128.Idx → F .f32) : S128x128.Idx → F .f32 := fun y =>
  mean5 (g (ix2 (⟨5 * (y 0).val, by have := (y 0).isLt; change (y 0).val < 128 at this; omega⟩ : Fin 640) (y 1)))
    (g (ix2 (⟨5 * (y 0).val + 1, by have := (y 0).isLt; change (y 0).val < 128 at this; omega⟩ : Fin 640) (y 1)))
    (g (ix2 (⟨5 * (y 0).val + 2, by have := (y 0).isLt; change (y 0).val < 128 at this; omega⟩ : Fin 640) (y 1)))
    (g (ix2 (⟨5 * (y 0).val + 3, by have := (y 0).isLt; change (y 0).val < 128 at this; omega⟩ : Fin 640) (y 1)))
    (g (ix2 (⟨5 * (y 0).val + 4, by have := (y 0).isLt; change (y 0).val < 128 at this; omega⟩ : Fin 640) (y 1)))

/-- Task `w`'s 640 gathered rows: those that its part of the list names. -/
def scr (fi : S20480.Idx → BitVec 32) (fx : S100000x128.Idx → F .f32) (w : Fin 32) : S640x128.Idx → F .f32 := fun x =>
  fetched fi fx (640 * w.val + (x 0).val) (by have := (x 0).isLt; change (x 0).val < 640 at this; omega) (x 1)

/-- Row `128 w + y` of the result is row `y` of task `w`'s block. -/
theorem outVal_row (fi : S20480.Idx → BitVec 32) (fx : S100000x128.Idx → F .f32) (w : Fin 32) (y : S128x128.Idx) (j : S4096x128.Idx)
    (h0 : (j 0).val = 128 * w.val + (y 0).val) (h1 : (j 1).val = (y 1).val) : outVal fi fx j = blk (scr fi fx w) y := by
  have e1 : j 1 = y 1 := Fin.ext h1
  have key : ∀ n m (hn : n < 20480) (hm : m < 20480), n = m → fetched fi fx n hn (j 1) = fetched fi fx m hm (y 1) := by
    intro n m hn hm e; subst e; rw [e1]
  unfold outVal blk scr
  congr 1 <;> exact key _ _ _ _ (by rw [h0]; show _ = _ + (_ : ℕ); first | (simp only [ix2]; omega) | omega)

end Value

end Cert.Proof.FuseIdeal

end
-- ==== Proof.FuseIdeal.Tile.lean ====
/-
  One task of the SparseCore call, on vector subcore `s` of SparseCore `c`: it fetches its 640 entries of the list of row
  numbers, transfers the rows of the table that they name by the indirect gather, adds them five by five in a loop of 128
  trips and writes its block of 128 rows of the result. `tile_body` carries the values: the block ends at `outVal`.
-/
module

public import proofs.«01_k».proof.Proof.FuseIdeal.Base

@[expose] public section

noncomputable section

namespace Cert.Proof.FuseIdeal

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.KernelIdeal.main_v0_scv : Memref Cert.KernelIdeal.sig Kind.scVector Space.hbm Cert.KernelIdeal.S20480 EltTy.i32)
local notation "xV" => (Memref.whole Cert.KernelIdeal.main_arg1_scv : Memref Cert.KernelIdeal.sig Kind.scVector Space.hbm Cert.KernelIdeal.S100000x128 EltTy.f32)
local notation "oV" => (Memref.whole Cert.KernelIdeal.main_v1_scv : Memref Cert.KernelIdeal.sig Kind.scVector Space.hbm Cert.KernelIdeal.S4096x128 EltTy.f32)
local notation "sV" => (Memref.whole Cert.KernelIdeal.cc0_scratch0 : Memref Cert.KernelIdeal.sig Kind.scVector Space.vmem Cert.KernelIdeal.S640 EltTy.i32)
local notation "rV" => (Memref.whole Cert.KernelIdeal.cc0_scratch1 : Memref Cert.KernelIdeal.sig Kind.scVector Space.vmem Cert.KernelIdeal.S640x128 EltTy.f32)
local notation "bV" => (Memref.whole Cert.KernelIdeal.cc0_scratch2 : Memref Cert.KernelIdeal.sig Kind.scVector Space.vmem Cert.KernelIdeal.S128x128 EltTy.f32)

theorem odiv : 32 ∣ S4096x128.size 0 := ⟨128, rfl⟩
abbrev orow (w : Fin 32) : Rect S4096x128 := Rect.part (s := S4096x128) (a₀ := 0) odiv w
abbrev oRowSet (w : Fin 32) : Finset S4096x128.Idx := ((oV).view.slice (orow w)).set

/-- A share of the flattened row numbers, a share of the table, one task's block of the result. -/
abbrev iPts (d : Dev nD) (q : PosShare TreeShare) (f : Buf (Elt F) (iLoc d)) : sProp 𝕄 := iLoc d ↦{q} f
abbrev xPts (d : Dev nD) (q : PosShare TreeShare) (f : Buf (Elt F) (xLoc d)) : sProp 𝕄 := xLoc d ↦{q} f
abbrev oRowPts (d : Dev nD) (w : Fin 32) (f : Buf (Elt F) (oLoc d)) : sProp 𝕄 := oLoc d ↦[oRowSet w]{fullShare} f

/-! ## The task's coordinates and its views -/

section Tile

variable (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
/-- The task's number: twice its subcore plus its SparseCore. -/
def wid (c : Fin 2) (s : Fin 16) : Fin 32 := ⟨2 * s.val + c.val, by omega⟩
abbrev wL (L : grid0.Coords) : Fin 32 := wid (Fin.cast bound_zero (L 0)) (Fin.cast bound_one (L 1))

abbrev irowK (L : grid0.Coords) : Rect S20480 := Rect.unit (s := S20480) (k0_off1 L) S640.size (k0_off1_inb L)
abbrev orowK (L : grid0.Coords) : Rect S4096x128 := Rect.unit (s := S4096x128) (k0_off18 L) S128x128.size (k0_off18_inb L)
abbrev iRowK (L : grid0.Coords) : Memref sig .scVector .hbm S640 .i32 := (iV).slice (irowK L) (fun _ => rfl)
abbrev oRowK (L : grid0.Coords) : Memref sig .scVector .hbm S128x128 .f32 := (oV).slice (orowK L) (fun _ => rfl)
abbrev xAllK : Memref sig .scVector .hbm S100000x128 .f32 := (xV).slice (Rect.unit (s := S100000x128) ![0, 0] S100000x128.size inb_S100000x128_S100000x128_0_0) (fun _ => rfl)

theorem off1_val : k0_off1 L 0 = 640 * (wL L).val := by
  rw [k0_off1_eq]; show 1280 * (L 1).val + 640 * (L 0).val = 640 * (2 * (L 1).val + (L 0).val); omega
theorem off18_val0 : k0_off18 L 0 = 128 * (wL L).val := by
  rw [k0_off18_eq]; show 256 * (L 1).val + 128 * (L 0).val = 128 * (2 * (L 1).val + (L 0).val); omega
theorem off18_val1 : k0_off18 L 1 = 0 := by
  rw [k0_off18_eq]; simp

theorem orowK_eq : orowK L = orow (wL L) := by
  unfold orowK orow Rect.part Rect.block
  congr 1 <;> funext a
  · match a with
    | 0 => show k0_off18 L 0 = _; rw [off18_val0]; simp [Shape.partIx, Shape.partSize]; try omega
    | 1 => show k0_off18 L 1 = _; rw [off18_val1]; simp [Shape.partIx, Shape.partSize]
  · match a with
    | 0 => simp [Shape.partSize]
    | 1 => simp [Shape.partSize]

theorem set_oRowK : (oRowK L).view.set = oRowSet (wL L) := by
  show ((oV).view.slice (orowK L)).set = ((oV).view.slice (orow (wL L))).set
  exact orowK_eq L ▸ rfl

theorem pts_oRowK (f : Buf (Elt F) (oLoc d)) :
    ((oRowK L).view.loc (V d (cV L) (jV L)) ↦[(oRowK L).view.set]{fullShare} f : sProp 𝕄) = oLoc d ↦[oRowSet (wL L)]{fullShare} f := by
  rw [set_oRowK]
theorem pts_iV (q : PosShare TreeShare) (f : Buf (Elt F) (iLoc d)) :
    ((iV).view.loc (V d (cV L) (jV L)) ↦{q} f : sProp 𝕄) = iLoc d ↦{q} f := rfl
theorem pts_xV (q : PosShare TreeShare) (f : Buf (Elt F) (xLoc d)) :
    ((xV).view.loc (V d (cV L) (jV L)) ↦{q} f : sProp 𝕄) = xLoc d ↦{q} f := rfl
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl
theorem pts_bV (f : Buf (Elt F) ((V d (cV L) (jV L)).loc cc0_scratch2)) :
    ((bV).view.loc (V d (cV L) (jV L)) ↦{fullShare} f : sProp 𝕄) = (V d (cV L) (jV L)).loc cc0_scratch2 ↦{fullShare} f := rfl

/-! ## The task's semaphores and scratch buffers -/

abbrev cGcell (d : Dev nD) (c : Fin τ.nSC) (i : Fin τ.nSub) : GSem nD τ sig := (V d c i, .dma cc0_scratch3.sem)
abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scoped1.sem)

theorem ownSems0_V :
    (ownSems0 (V d (cV L) (jV L)) : sProp 𝕄)
      = iprop(semVal (cGcell d (cV L) (jV L)) 0 ∗ semVal (cAcell d (cV L) (jV L)) 0 ∗ semVal (cBcell d (cV L) (jV L)) 0
          ∗ bigSep ((((ownCells (V d (cV L) (jV L))).erase (cGcell d (cV L) (jV L))).erase (cAcell d (cV L) (jV L))).erase (cBcell d (cV L) (jV L))) fun g => semVal g 0) := by
  unfold SparseCore.Cfg.ownSems0
  rw [SparseCore.bigSep_erase' ((mem_ownCells (g := cGcell d (cV L) (jV L))).mpr ⟨rfl, by
      show (SemLoc.dma cc0_scratch3.sem : SemLoc sig).isScoped .scVector = true; decide⟩),
    SparseCore.bigSep_erase' (Finset.mem_erase.mpr ⟨by simp [cGcell, cAcell]; decide, (mem_ownCells (g := cAcell d (cV L) (jV L))).mpr ⟨rfl, by
      show (SemLoc.dma cc0_scoped0.sem : SemLoc sig).isScoped .scVector = true; decide⟩⟩),
    SparseCore.bigSep_erase' (Finset.mem_erase.mpr ⟨by simp [cAcell, cBcell]; decide, Finset.mem_erase.mpr ⟨by simp [cGcell, cBcell]; decide,
      (mem_ownCells (g := cBcell d (cV L) (jV L))).mpr ⟨rfl, by show (SemLoc.dma cc0_scoped1.sem : SemLoc sig).isScoped .scVector = true; decide⟩⟩⟩)]

/-- The three scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  have m0 := SparseCore.Cfg.mem_ownRefs_of_owner (p := Proc.scVector (cV L) (jV L)) (b := (Proc.scVector (cV L) (jV L)).devRef cc0_scratch0) rfl
  have m1 := SparseCore.Cfg.mem_ownRefs_of_owner (p := Proc.scVector (cV L) (jV L)) (b := (Proc.scVector (cV L) (jV L)).devRef cc0_scratch1) rfl
  have m2 := SparseCore.Cfg.mem_ownRefs_of_owner (p := Proc.scVector (cV L) (jV L)) (b := (Proc.scVector (cV L) (jV L)).devRef cc0_scratch2) rfl
  have n10 : (Proc.scVector (cV L) (jV L)).devRef cc0_scratch1 ≠ (Proc.scVector (cV L) (jV L)).devRef cc0_scratch0 :=
    fun e => absurd (Proc.devRef_injective _ e) (show (cc0_scratch1 : Ref sig .scVector) ≠ cc0_scratch0 by decide)
  have n20 : (Proc.scVector (cV L) (jV L)).devRef cc0_scratch2 ≠ (Proc.scVector (cV L) (jV L)).devRef cc0_scratch0 :=
    fun e => absurd (Proc.devRef_injective _ e) (show (cc0_scratch2 : Ref sig .scVector) ≠ cc0_scratch0 by decide)
  have n21 : (Proc.scVector (cV L) (jV L)).devRef cc0_scratch2 ≠ (Proc.scVector (cV L) (jV L)).devRef cc0_scratch1 :=
    fun e => absurd (Proc.devRef_injective _ e) (show (cc0_scratch2 : Ref sig .scVector) ≠ cc0_scratch1 by decide)
  refine (SparseCore.bigSep_erase' m0).trans ?_
  rw [SparseCore.bigSep_erase' (Finset.mem_erase.mpr ⟨n10, m1⟩), SparseCore.bigSep_erase' (Finset.mem_erase.mpr ⟨n21, Finset.mem_erase.mpr ⟨n20, m2⟩⟩)]

/-! ## What the fetches leave -/

/-- Entry `x` of the task's part of the list is entry `640 w + x` of the list. -/
theorem read_iRowK (fi : Buf (Elt F) (iLoc d)) (x : S640.Idx) :
    (iRowK L).view.read (Elt F) fi x
      = fi (ix1 (⟨640 * (wL L).val + (x 0).val, by have := (x 0).isLt; change (x 0).val < 640 at this; have := (wL L).isLt; omega⟩ : Fin 20480)) := by
  refine ((View.read_apply _ _).trans (cast_eq _ _)).trans (congrArg fi ?_)
  funext a
  match a with
  | 0 =>
    refine Fin.ext ?_
    show k0_off1 L 0 + 1 * (x 0).val = 640 * (wL L).val + (x 0).val
    rw [off1_val, Nat.one_mul]

theorem read_xAllK (fx : Buf (Elt F) (xLoc d)) : (xAllK).view.read (Elt F) fx = fx := by
  funext x
  refine ((View.read_apply _ _).trans (cast_eq _ _)).trans (congrArg fx ?_)
  funext a
  refine Fin.ext ?_
  match a with
  | 0 => show 0 + 1 * (x 0).val = (x 0).val; omega
  | 1 => show 0 + 1 * (x 1).val = (x 1).val; omega

/-- The offsets that the stream reads are in range: what the list's fetch landed is the task's part of it, each word below
    the table's number of rows. -/
theorem inb_of_pre (fi : Buf (Elt F) (iLoc d)) (hpre : ∀ j, (fi j).toNat < 100000) (fs : Buf (Elt F) ((V d (cV L) (jV L)).loc cc0_scratch0)) (pay : S640.Idx → Elt F .i32)
    (hpay : pay = (iRowK L).view.read (Elt F) fi) :
    ∀ x, ((sV).view.read (Elt F) (View.write (Elt F) (sV).view fs pay Finset.univ) x).toNat < S100000x128.size gathers_S100000x128_S640x128.axis := by
  subst hpay; intro x
  rw [View.write_whole_univ]
  simp only [Memref.view_whole, View.read_whole]
  rw [read_iRowK]
  exact hpre _

/-- The row buffer written whole holds what was written. -/
theorem pts_gathered (fr g g' : Buf (Elt F) ((V d (cV L) (jV L)).loc cc0_scratch1)) (h : g = g') :
    ((rV).view.loc (V d (cV L) (jV L)) ↦[(rV).view.set]{fullShare} View.write (Elt F) (rV).view fr g Finset.univ : sProp 𝕄)
      = (rV).view.loc (V d (cV L) (jV L)) ↦{fullShare} g' := by
  rw [h, View.write_whole_univ, show (rV).view.set = Finset.univ from View.set_whole _]

variable [FloatOps F] [Named F]

/-- The gathered rows are `scr`: row `n` of the row buffer is the row of the table that entry `640 w + n` of the list names. -/
theorem gathered_eq (fi : Buf (Elt F) (iLoc d)) (fx : Buf (Elt F) (xLoc d)) (hpre : ∀ j, (fi j).toNat < 100000)
    (lst : S640.Idx → Elt F .i32) (hl : ∀ x, lst x = (iRowK L).view.read (Elt F) fi x)
    (hn : S640.numel = S640x128.size gathers_S100000x128_S640x128.axis') (hin : ∀ x, (lst x).toNat < S100000x128.size gathers_S100000x128_S640x128.axis) :
    SparseCore.gatherPayload (F := F) (e := .f32) gathers_S100000x128_S640x128 ((xAllK).view.read (Elt F) fx) (SparseCore.rows lst hn hin) = scr fi fx (wL L) := by
  funext x
  unfold SparseCore.gatherPayload scr fetched
  rw [read_xAllK d]
  refine congrArg fx ?_
  funext a
  match a with
  | 0 =>
    refine (Shape.Gathers.idx_axis _ _ _).trans (Fin.ext ?_)
    show (lst _).toNat = (fi _).toNat % 100000
    rw [hl, read_iRowK, Nat.mod_eq_of_lt (hpre _)]
    congr 2
    funext b
    match b with
    | 0 =>
      refine Fin.ext ?_
      show 640 * (wL L).val + _ = 640 * (wL L).val + _
      congr 1
      exact ((Shape.rowMajor_val_one (S640.rowMajor.symm _)).symm.trans (congrArg Fin.val (Equiv.apply_symm_apply _ _)))
  | 1 =>
    refine Fin.ext ?_
    exact Shape.Gathers.idx_of_ne gathers_S100000x128_S640x128 _ x (1 : Fin 2) (by decide)

/-! ## One row of the block -/

/-- Sixteen lanes that a load takes from the row buffer. -/
theorem read_lane (off : Fin 2 → ℕ) (h : ∀ a, off a + S1x16.size a ≤ S640x128.size a) (g : Buf (Elt F) ((V d (cV L) (jV L)).loc cc0_scratch1)) (x : S1x16.Idx) :
    View.readAt (Elt F) (rV).view (Rect.unit (s := S640x128) off S1x16.size h).toLoadRect g x = g ((Rect.unit (s := S640x128) off S1x16.size h).emb x) := rfl

theorem pay2_apply (a b c e q : Vec F S1x16 .f32) (x : S1x16.Idx) : k0_pay2 a b c e q x = mean5 (a x) (b x) (c x) (e x) (q x) := by
  obtain ⟨u, i, rfl⟩ : ∃ (u : Fin 1) (i : Fin 16), x = ix2 u i := ⟨x 0, x 1, eq_ix2 x⟩
  rw [Fin.fin_one_eq_zero u]
  unfold k0_pay2
  refine (shapeCast_a_1a_apply _ _ _ _).trans ?_
  show mean5 (shapeCast S16 a _ (ix1 i)) (shapeCast S16 b _ (ix1 i)) (shapeCast S16 c _ (ix1 i)) (shapeCast S16 e _ (ix1 i)) (shapeCast S16 q _ (ix1 i)) = _
  simp only [shapeCast_1a_a_apply]

theorem pay3_apply (a b c e q : Vec F S1x16 .f32) (x : S1x16.Idx) : k0_pay3 a b c e q x = mean5 (a x) (b x) (c x) (e x) (q x) := by
  obtain ⟨u, i, rfl⟩ : ∃ (u : Fin 1) (i : Fin 16), x = ix2 u i := ⟨x 0, x 1, eq_ix2 x⟩
  rw [Fin.fin_one_eq_zero u]
  unfold k0_pay3
  refine (shapeCast_a_1a_apply _ _ _ _).trans ?_
  show mean5 (shapeCast S16 a _ (ix1 i)) (shapeCast S16 b _ (ix1 i)) (shapeCast S16 c _ (ix1 i)) (shapeCast S16 e _ (ix1 i)) (shapeCast S16 q _ (ix1 i)) = _
  simp only [shapeCast_1a_a_apply]

theorem pay5_apply (a b c e q : Vec F S1x16 .f32) (x : S1x16.Idx) : k0_pay5 (k0_pay4 a) b c e q x = mean5 (a x) (b x) (c x) (e x) (q x) := by
  obtain ⟨u, i, rfl⟩ : ∃ (u : Fin 1) (i : Fin 16), x = ix2 u i := ⟨x 0, x 1, eq_ix2 x⟩
  rw [Fin.fin_one_eq_zero u]
  unfold k0_pay5 k0_pay4
  refine (shapeCast_a_1a_apply _ _ _ _).trans ?_
  show mean5 (shapeCast S16 a _ (ix1 i)) (shapeCast S16 b _ (ix1 i)) (shapeCast S16 c _ (ix1 i)) (shapeCast S16 e _ (ix1 i)) (shapeCast S16 q _ (ix1 i)) = _
  simp only [shapeCast_1a_a_apply]

theorem pay7_apply (a b c e q : Vec F S1x16 .f32) (x : S1x16.Idx) : k0_pay7 (k0_pay6 a b) c e q x = mean5 (a x) (b x) (c x) (e x) (q x) := by
  obtain ⟨u, i, rfl⟩ : ∃ (u : Fin 1) (i : Fin 16), x = ix2 u i := ⟨x 0, x 1, eq_ix2 x⟩
  rw [Fin.fin_one_eq_zero u]
  unfold k0_pay7 k0_pay6
  refine (shapeCast_a_1a_apply _ _ _ _).trans ?_
  show mean5 (shapeCast S16 a _ (ix1 i)) (shapeCast S16 b _ (ix1 i)) (shapeCast S16 c _ (ix1 i)) (shapeCast S16 e _ (ix1 i)) (shapeCast S16 q _ (ix1 i)) = _
  simp only [shapeCast_1a_a_apply]

theorem pay9_apply (a b c e q : Vec F S1x16 .f32) (x : S1x16.Idx) : k0_pay9 (k0_pay8 a b c) e q x = mean5 (a x) (b x) (c x) (e x) (q x) := by
  obtain ⟨u, i, rfl⟩ : ∃ (u : Fin 1) (i : Fin 16), x = ix2 u i := ⟨x 0, x 1, eq_ix2 x⟩
  rw [Fin.fin_one_eq_zero u]
  unfold k0_pay9 k0_pay8
  refine (shapeCast_a_1a_apply _ _ _ _).trans ?_
  show mean5 (shapeCast S16 a _ (ix1 i)) (shapeCast S16 b _ (ix1 i)) (shapeCast S16 c _ (ix1 i)) (shapeCast S16 e _ (ix1 i)) (shapeCast S16 q _ (ix1 i)) = _
  simp only [shapeCast_1a_a_apply]

theorem pay12_apply (a b c e q : Vec F S1x16 .f32) (x : S1x16.Idx) : k0_pay12 (k0_pay10 a b c) (k0_pay11 e) q x = mean5 (a x) (b x) (c x) (e x) (q x) := by
  obtain ⟨u, i, rfl⟩ : ∃ (u : Fin 1) (i : Fin 16), x = ix2 u i := ⟨x 0, x 1, eq_ix2 x⟩
  rw [Fin.fin_one_eq_zero u]
  unfold k0_pay12 k0_pay10 k0_pay11
  refine (shapeCast_a_1a_apply _ _ _ _).trans ?_
  show mean5 (shapeCast S16 a _ (ix1 i)) (shapeCast S16 b _ (ix1 i)) (shapeCast S16 c _ (ix1 i)) (shapeCast S16 e _ (ix1 i)) (shapeCast S16 q _ (ix1 i)) = _
  simp only [shapeCast_1a_a_apply]

theorem pay14_apply (a b c e q : Vec F S1x16 .f32) (x : S1x16.Idx) : k0_pay14 (k0_pay13 a b c e) q x = mean5 (a x) (b x) (c x) (e x) (q x) := by
  obtain ⟨u, i, rfl⟩ : ∃ (u : Fin 1) (i : Fin 16), x = ix2 u i := ⟨x 0, x 1, eq_ix2 x⟩
  rw [Fin.fin_one_eq_zero u]
  unfold k0_pay14 k0_pay13
  refine (shapeCast_a_1a_apply _ _ _ _).trans ?_
  show mean5 (shapeCast S16 a _ (ix1 i)) (shapeCast S16 b _ (ix1 i)) (shapeCast S16 c _ (ix1 i)) (shapeCast S16 e _ (ix1 i)) (shapeCast S16 q _ (ix1 i)) = _
  simp only [shapeCast_1a_a_apply]

theorem pay1_apply (a b c e q : Vec F S1x16 .f32) (x : S1x16.Idx) : k0_pay1 (k0_pay15 a b c e q) x = mean5 (a x) (b x) (c x) (e x) (q x) := by
  obtain ⟨u, i, rfl⟩ : ∃ (u : Fin 1) (i : Fin 16), x = ix2 u i := ⟨x 0, x 1, eq_ix2 x⟩
  rw [Fin.fin_one_eq_zero u]
  unfold k0_pay1 k0_pay15
  refine (shapeCast_a_1a_apply _ _ _ _).trans ?_
  show mean5 (shapeCast S16 a _ (ix1 i)) (shapeCast S16 b _ (ix1 i)) (shapeCast S16 c _ (ix1 i)) (shapeCast S16 e _ (ix1 i)) (shapeCast S16 q _ (ix1 i)) = _
  simp only [shapeCast_1a_a_apply]

/-- Sixteen lanes of row `k` from the same lanes of rows `5k … 5k+4` of the row buffer. -/
theorem piece_eq (k c : ℕ) (g : Buf (Elt F) ((V d (cV L) (jV L)).loc cc0_scratch1)) (off o0 o1 o2 o3 o4 : Fin 2 → ℕ)
    (h : ∀ a, off a + S1x16.size a ≤ S128x128.size a)
    (h0 : ∀ a, o0 a + S1x16.size a ≤ S640x128.size a) (h1 : ∀ a, o1 a + S1x16.size a ≤ S640x128.size a) (h2 : ∀ a, o2 a + S1x16.size a ≤ S640x128.size a)
    (h3 : ∀ a, o3 a + S1x16.size a ≤ S640x128.size a) (h4 : ∀ a, o4 a + S1x16.size a ≤ S640x128.size a)
    (e : off = ![k, c]) (e0 : o0 = ![5 * k + 0, c]) (e1 : o1 = ![5 * k + 1, c]) (e2 : o2 = ![5 * k + 2, c]) (e3 : o3 = ![5 * k + 3, c]) (e4 : o4 = ![5 * k + 4, c])
    (x : S1x16.Idx) :
    mean5 (View.readAt (Elt F) (rV).view (Rect.unit (s := S640x128) o0 S1x16.size h0).toLoadRect g x)
        (View.readAt (Elt F) (rV).view (Rect.unit (s := S640x128) o1 S1x16.size h1).toLoadRect g x)
        (View.readAt (Elt F) (rV).view (Rect.unit (s := S640x128) o2 S1x16.size h2).toLoadRect g x)
        (View.readAt (Elt F) (rV).view (Rect.unit (s := S640x128) o3 S1x16.size h3).toLoadRect g x)
        (View.readAt (Elt F) (rV).view (Rect.unit (s := S640x128) o4 S1x16.size h4).toLoadRect g x)
      = blk g ((Rect.unit (s := S128x128) off S1x16.size h).emb x) := by
  subst e e0 e1 e2 e3 e4
  have hx : (x 0).val = 0 := Nat.lt_one_iff.mp (x 0).isLt
  have key : ∀ (r : ℕ) (hr : ∀ a, (![5 * k + r, c] : Fin 2 → ℕ) a + S1x16.size a ≤ S640x128.size a) (hb : 5 * (k + 1 * (x 0).val) + r < 640),
      g ((Rect.unit (s := S640x128) ![5 * k + r, c] S1x16.size hr).emb x)
        = g (ix2 (⟨5 * (k + 1 * (x 0).val) + r, hb⟩ : Fin 640) ((Rect.unit (s := S128x128) ![k, c] S1x16.size h).emb x 1)) := by
    intro r hr hb
    refine congrArg g (funext fun a => Fin.ext ?_)
    match a with
    | 0 => show 5 * k + r + 1 * (x 0).val = 5 * (k + 1 * (x 0).val) + r; omega
    | 1 => rfl
  unfold blk
  simp only [read_lane]
  congr 1 <;> exact key _ _ _

/-- A place of the block that is not in row `k` lies outside every piece of row `k`. -/
theorem not_row (k c : ℕ) (off : Fin 2 → ℕ) (h : ∀ a, off a + S1x16.size a ≤ S128x128.size a) (e : off = ![k, c]) (y : S128x128.Idx) (hy : (y 0).val < k) :
    y ∉ (Rect.unit (s := S128x128) off S1x16.size h).set := by
  subst e
  exact Rect.not_mem_set_of_axis _ y 0 k 1 rfl rfl rfl (.inl hy)

/-- A place of row `k` lies in the piece of its sixteen lanes. -/
theorem in_row (k c : ℕ) (off : Fin 2 → ℕ) (h : ∀ a, off a + S1x16.size a ≤ S128x128.size a) (e : off = ![k, c]) (y : S128x128.Idx) (hy : (y 0).val = k)
    (hc : c ≤ (y 1).val) (hc' : (y 1).val < c + 16) : y ∈ (Rect.unit (s := S128x128) off S1x16.size h).set := by
  subst e
  refine (Rect.unit (s := S128x128) ![k, c] S1x16.size h).mem_set.mpr fun a => ?_
  match a with
  | 0 => exact ⟨0, Nat.one_pos, by show (y 0).val = k + 1 * 0; omega⟩
  | 1 => exact ⟨(y 1).val - c, by show _ < 16; omega, by show (y 1).val = c + 1 * _; omega⟩

/-- The block after the writes of row `k`, each of them a piece of row `k`: the rows before `k` stand as they were. -/
theorem after_row (k : ℕ) (g : Buf (Elt F) ((V d (cV L) (jV L)).loc cc0_scratch1)) (f : Buf (Elt F) ((V d (cV L) (jV L)).loc cc0_scratch2))
    (Ls : List (View.Piece (Elt F) S128x128 .f32)) (hf : ∀ y : S128x128.Idx, (y 0).val < k → f y = blk g y)
    (h1 : ∀ y : S128x128.Idx, (y 0).val < k → ∀ p ∈ Ls, y ∉ p.1.set) (h2 : ∀ p ∈ Ls, ∀ x, p.2 x = blk g (p.1.emb x))
    (h3 : ∀ y : S128x128.Idx, (y 0).val = k → ∃ p ∈ Ls, y ∈ p.1.set) (y : S128x128.Idx) (hy : (y 0).val < k + 1) :
    (bV).view.writes (Elt F) f Ls y = blk g y := by
  rcases Nat.lt_or_ge (y 0).val k with hlt | hge
  · exact (View.read_writes_apply_of_forall_not_mem (Val := Elt F) (bV).view f y Ls (h1 y hlt)).trans (hf y hlt)
  · exact View.read_writes_apply_of_pieces (Val := Elt F) (bV).view f (blk g) Ls h2 y (h3 y (by omega))

/-! ## The task -/

/-- What the loop holds before trip `k`: the gathered rows, the block computed up to row `k`, the rest of the task's state as it
    was. -/
def inv (g : Buf (Elt F) ((V d (cV L) (jV L)).loc cc0_scratch1)) (k : ℕ) (_ : BitVec 32) : sProp 𝕄 :=
  iprop(((rV).view.loc (V d (cV L) (jV L)) ↦{fullShare} g : sProp 𝕄)
    ∗ (∃ f : Buf (Elt F) ((V d (cV L) (jV L)).loc cc0_scratch2), ⌜∀ y : S128x128.Idx, (y 0).val < k → f y = blk g y⌝ ∗ ((bV).view.loc (V d (cV L) (jV L)) ↦{fullShare} f : sProp 𝕄)))

set_option maxHeartbeats 4000000 in
/-- One trip of the loop: row `k` of the block from rows `5k … 5k+4` of the row buffer, sixteen lanes at a time. -/
theorem trip (g : Buf (Elt F) ((V d (cV L) (jV L)).loc cc0_scratch1)) (k : Fin k0_t1_loop.trips) (acc : BitVec 32) :
    inv d L g k.val acc ⊢ wp frame (wpE (defs₀ (F := F)) 𝒱₀ (V d (cV L) (jV L)) none) Set.univ
      (k0_t1_body L iV (Memref.isWhole_whole _) xV (Memref.isWhole_whole _) oV (Memref.isWhole_whole _)
        sV (Memref.isWhole_whole _) rV (Memref.isWhole_whole _) bV (Memref.isWhole_whole _) cc0_scratch3 cc0_scoped0 cc0_scoped1 k acc)
      fun acc' => inv d L g (k.val + 1) acc' := by
  unfold inv
  iintro ⟨Hr, ⟨%f, %hf, Hb⟩⟩
  unfold k0_t1_body
  simp -proj only [k0_part1_eq_skeleton, k0_part2_eq_skeleton, k0_part3_eq_skeleton, k0_part4_eq_skeleton, k0_part5_eq_skeleton, k0_part6_eq_skeleton, k0_part7_eq_skeleton]
  unfold k0_part1_skel k0_part2_skel k0_part3_skel k0_part4_skel k0_part5_skel k0_part6_skel k0_part7_skel
  sl_exec
  sl_step
  isplitl [Hr]; · iexact Hr
  iexists _; isplitr
  swap; · iexact Hb
  ipureintro
  refine after_row d L k.val g f _ hf ?_ ?_ ?_
  · intro y hlt
    simp only [List.forall_mem_cons, List.not_mem_nil, false_implies, implies_true, and_true]
    exact ⟨not_row _ _ _ _ (k0_off17_eq k) y hlt, not_row _ _ _ _ (k0_off15_eq k) y hlt, not_row _ _ _ _ (k0_off13_eq k) y hlt, not_row _ _ _ _ (k0_off11_eq k) y hlt,
      not_row _ _ _ _ (k0_off9_eq k) y hlt, not_row _ _ _ _ (k0_off7_eq k) y hlt, not_row _ _ _ _ (k0_off5_eq k) y hlt, not_row _ _ _ _ (k0_off3_eq k) y hlt⟩
  · simp only [List.forall_mem_cons, List.not_mem_nil, false_implies, implies_true, and_true]
    refine ⟨?_, ?_, ?_, ?_, ?_, ?_, ?_, ?_⟩
    · exact fun x => (pay1_apply _ _ _ _ _ x).trans (piece_eq d L k 112 g _ _ _ _ _ _ _ _ _ _ _ _ (k0_off17_eq k) (k0_off16_eq k 0) (k0_off16_eq k 1) (k0_off16_eq k 2) (k0_off16_eq k 3) (k0_off16_eq k 4) x)
    · exact fun x => (pay14_apply _ _ _ _ _ x).trans (piece_eq d L k 96 g _ _ _ _ _ _ _ _ _ _ _ _ (k0_off15_eq k) (k0_off14_eq k 0) (k0_off14_eq k 1) (k0_off14_eq k 2) (k0_off14_eq k 3) (k0_off14_eq k 4) x)
    · exact fun x => (pay12_apply _ _ _ _ _ x).trans (piece_eq d L k 80 g _ _ _ _ _ _ _ _ _ _ _ _ (k0_off13_eq k) (k0_off12_eq k 0) (k0_off12_eq k 1) (k0_off12_eq k 2) (k0_off12_eq k 3) (k0_off12_eq k 4) x)
    · exact fun x => (pay9_apply _ _ _ _ _ x).trans (piece_eq d L k 64 g _ _ _ _ _ _ _ _ _ _ _ _ (k0_off11_eq k) (k0_off10_eq k 0) (k0_off10_eq k 1) (k0_off10_eq k 2) (k0_off10_eq k 3) (k0_off10_eq k 4) x)
    · exact fun x => (pay7_apply _ _ _ _ _ x).trans (piece_eq d L k 48 g _ _ _ _ _ _ _ _ _ _ _ _ (k0_off9_eq k) (k0_off8_eq k 0) (k0_off8_eq k 1) (k0_off8_eq k 2) (k0_off8_eq k 3) (k0_off8_eq k 4) x)
    · exact fun x => (pay5_apply _ _ _ _ _ x).trans (piece_eq d L k 32 g _ _ _ _ _ _ _ _ _ _ _ _ (k0_off7_eq k) (k0_off6_eq k 0) (k0_off6_eq k 1) (k0_off6_eq k 2) (k0_off6_eq k 3) (k0_off6_eq k 4) x)
    · exact fun x => (pay3_apply _ _ _ _ _ x).trans (piece_eq d L k 16 g _ _ _ _ _ _ _ _ _ _ _ _ (k0_off5_eq k) (k0_off4_eq k 0) (k0_off4_eq k 1) (k0_off4_eq k 2) (k0_off4_eq k 3) (k0_off4_eq k 4) x)
    · exact fun x => (pay2_apply _ _ _ _ _ x).trans (piece_eq d L k 0 g _ _ _ _ _ _ _ _ _ _ _ _ (k0_off3_eq k) (k0_off2_eq k 0) (k0_off2_eq k 1) (k0_off2_eq k 2) (k0_off2_eq k 3) (k0_off2_eq k 4) x)
  · intro y hk
    have hy1 : (y 1).val < 128 := (y 1).isLt
    simp only [List.exists_mem_cons_iff, List.not_mem_nil, false_and, exists_false, or_false]
    rcases Nat.lt_or_ge (y 1).val 64 with h | h
    · rcases Nat.lt_or_ge (y 1).val 32 with h' | h'
      · rcases Nat.lt_or_ge (y 1).val 16 with h'' | h''
        · exact .inr (.inr (.inr (.inr (.inr (.inr (.inr (in_row _ _ _ _ (k0_off3_eq k) y hk (by omega) (by omega))))))))
        · exact .inr (.inr (.inr (.inr (.inr (.inr (.inl (in_row _ _ _ _ (k0_off5_eq k) y hk (by omega) (by omega))))))))
      · rcases Nat.lt_or_ge (y 1).val 48 with h'' | h''
        · exact .inr (.inr (.inr (.inr (.inr (.inl (in_row _ _ _ _ (k0_off7_eq k) y hk (by omega) (by omega)))))))
        · exact .inr (.inr (.inr (.inr (.inl (in_row _ _ _ _ (k0_off9_eq k) y hk (by omega) (by omega))))))
    · rcases Nat.lt_or_ge (y 1).val 96 with h' | h'
      · rcases Nat.lt_or_ge (y 1).val 80 with h'' | h''
        · exact .inr (.inr (.inr (.inl (in_row _ _ _ _ (k0_off11_eq k) y hk (by omega) (by omega)))))
        · exact .inr (.inr (.inl (in_row _ _ _ _ (k0_off13_eq k) y hk (by omega) (by omega))))
      · rcases Nat.lt_or_ge (y 1).val 112 with h'' | h''
        · exact .inr (.inl (in_row _ _ _ _ (k0_off15_eq k) y hk (by omega) (by omega)))
        · exact .inl (in_row _ _ _ _ (k0_off17_eq k) y hk (by omega) (by omega))

/-- The task's rows of the result, written with its block. -/
theorem oRow_written (fi : Buf (Elt F) (iLoc d)) (fx : Buf (Elt F) (xLoc d)) (fo : Buf (Elt F) (oLoc d)) (f : Buf (Elt F) ((V d (cV L) (jV L)).loc cc0_scratch2))
    (hf : ∀ y : S128x128.Idx, (y 0).val < k0_t1_loop.trips → f y = blk (scr fi fx (wL L)) y) :
    ((oRowK L).view.loc (V d (cV L) (jV L)) ↦[(oRowK L).view.set]{fullShare} (oRowK L).view.writes (Elt F) fo [⟨Rect.whole S128x128, (bV).view.read (Elt F) f⟩] : sProp 𝕄)
      = oRowPts d (wL L) (outVal fi fx) := by
  refine Eq.trans (pointsTo_congr fun j hj => ?_) (pts_oRowK d L _)
  obtain ⟨y, -, rfl⟩ := Finset.mem_map.mp hj
  have h1 := View.read_writes_cons_emb (Val := Elt F) (oRowK L).view fo (Rect.whole S128x128) ((bV).view.read (Elt F) f) [] y
  have e : (Rect.whole S128x128).emb y = y := by
    funext a; refine Fin.ext ?_
    show 0 + 1 * (y a).val = (y a).val; omega
  rw [e] at h1
  refine (((View.read_apply _ _).trans (cast_eq _ _)).symm.trans h1).trans ((hf y (y 0).isLt).trans (outVal_row fi fx (wL L) y _ ?_ ?_).symm)
  · show k0_off18 L 0 + 1 * (y 0).val = _
    rw [off18_val0]; omega
  · show k0_off18 L 1 + 1 * (y 1).val = _
    rw [off18_val1]; omega

set_option maxHeartbeats 4000000 in
theorem tile_body (hF : (K (F := F)).Facts) (qi qx : PosShare TreeShare) (fi : Buf (Elt F) (iLoc d)) (fx : Buf (Elt F) (xLoc d)) (fo : Buf (Elt F) (oLoc d))
    (hpre : ∀ j, (fi j).toNat < 100000) (O : CellTallies nD τ sig (HIx 1)) (W : Waits sig (HIx 1)) (hO : ∀ g, O g none = 0) :
    iprop(levAts (K (F := F)).L (K (F := F)).lev ∗ emp
        ∗ (iPts d qi fi ∗ xPts d qx fx ∗ oRowPts d (wL L) fo)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_sc2 L iV (Memref.isWhole_whole _) xV (Memref.isWhole_whole _) oV (Memref.isWhole_whole _)
            sV (Memref.isWhole_whole _) rV (Memref.isWhole_whole _) bV (Memref.isWhole_whole _) cc0_scratch3 cc0_scoped0 cc0_scoped1)
          fun _ => iprop((iPts d qi fi ∗ xPts d qx fx ∗ oRowPts d (wL L) (outVal fi fx))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_sc2_eq_skeleton]; unfold cc0_sc2_skel
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fr, Hr⟩, ⟨%fb, Hb⟩, Hbufs⟩, ⟨HsemG, HsemA, HsemB, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iV (F := F) d L _ _).symm) $$ Hi
  ihave Ho' := (Entails.of_eq (pts_oRowK (F := F) d L _).symm) $$ Ho
  ihave Hx' := (Entails.of_eq (pts_xV (F := F) d L _ _).symm) $$ Hx
  ihave Hs' := (Entails.of_eq (pts_sV (F := F) d L _).symm) $$ Hs
  ihave Hr' := (Entails.of_eq (pts_rV (F := F) d L _).symm) $$ Hr
  ihave Hb' := (Entails.of_eq (pts_bV (F := F) d L _).symm) $$ Hb
  sl_exec
  -- the indirect gather: a share of the table, the row buffer, the list's buffer and the cell at zero go in; the `Flight` comes back
  ihave Hxs := (pointsTo_split_subset (q := qx) (f := fx) (S := Finset.univ) (Finset.subset_univ (xAllK).view.set)).1 $$ Hx'
  icases Hxs with ⟨Hxs, Hxr⟩
  have hrs : (rV).view.set = Finset.univ := View.set_whole _
  have hss : (sV).view.set = Finset.univ := View.set_whole _
  ihave Hr'' := (Entails.of_eq (show ((rV).view.loc (V d (cV L) (jV L)) ↦{fullShare} fr : sProp 𝕄)
      = (rV).view.loc (V d (cV L) (jV L)) ↦[(rV).view.set]{fullShare} fr by rw [hrs])) $$ Hr'
  ihave Hs'' := (Entails.of_eq (show ((sV).view.loc (V d (cV L) (jV L)) ↦{fullShare} View.write (Elt F) (sV).view fs (tile_body.sl.dma0 d L fi) Finset.univ : sProp 𝕄)
      = (sV).view.loc (V d (cV L) (jV L)) ↦[(sV).view.set]{fullShare} View.write (Elt F) (sV).view fs (tile_body.sl.dma0 d L fi) Finset.univ
      by rw [hss])) $$ Hs'
  iapply (SparseCore.wp_indirectGatherLocal countersEmb 𝒱₀ (V d (cV L) (jV L)) none (hg := gathers_S100000x128_S640x128) (default : HIx 1)
      (rV).view.dmaCredit (SparseCore.sum_rowCredit_eq_dmaCredit _ _ (fun _ => rfl)) (by decide) (inb_of_pre d L fi hpre fs _ rfl)) $$ [Hxs Hr'' Hs'' HsemG]
  · isplitl [Hxs]; · iexact Hxs
    isplitl [Hr'']; · iexact Hr''
    isplitl [Hs'']; · iexact Hs''
    iexact HsemG
  iintro Hfl
  sl_exec
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc0_scratch3.sem)) $$ Hmw
  iintro ⟨⟨Hr', Hxs, Hs'⟩, HsemG, HO⟩
  ihave Hx' := (pointsTo_split_subset (q := qx) (f := fx) (S := Finset.univ) (Finset.subset_univ (xAllK).view.set)).2 $$ [Hxs Hxr]; · isplitl [Hxs] <;> iassumption
  ihave Hr3 := (Entails.of_eq (pts_gathered (F := F) d L fr _ _ (gathered_eq d L fi fx hpre
    ((sV).view.read (Elt F) (View.write (Elt F) (sV).view fs ((iRowK L).view.read (Elt F) fi) Finset.univ)) (fun x => by
    rw [View.write_whole_univ]; rfl) rfl (inb_of_pre d L fi hpre fs _ rfl)))) $$ Hr'
  ihave Hs3 := (Entails.of_eq (show ((sV).view.loc (V d (cV L) (jV L)) ↦[(sV).view.set]{fullShare} _ : sProp 𝕄)
      = (sV).view.loc (V d (cV L) (jV L)) ↦{fullShare} _ by rw [hss])) $$ Hs'
  sl_exec
  sl_for (inv d L (scr fi fx (wL L))) $$ [Hr3 Hb']
  case region =>
    intro k _
    exact trip d L _ k _
  · unfold inv
    isplitl [Hr3]; · iexact Hr3
    iexists fb; isplitr
    swap; · iexact Hb'
    ipureintro
    intro y hy; exact absurd hy (Nat.not_lt_zero _)
  iintro %acc HI
  unfold inv
  icases HI with ⟨Hr3, ⟨%f, %hf, Hb'⟩⟩
  sl_exec
  sl_step
  isplitl [Hi' Hx' Ho']
  · isplitl [Hi']; · iapply (Entails.of_eq (pts_iV (F := F) d L _ _)); iexact Hi'
    isplitl [Hx']; · iexact Hx'
    iapply (Entails.of_eq (oRow_written d L fi fx fo f hf)); iexact Ho'
  isplitl [Hs3 Hr3 Hb' Hbufs]
  · isplitl [Hs3]; · iexists _; iexact Hs3
    isplitl [Hr3]; · iexists _; iexact Hr3
    isplitl [Hb']; · iexists _; iexact Hb'
    iexact Hbufs
  isplitl [HsemA HsemB HsemG Hsems]
  · isplitl [HsemG]; · iexact HsemG
    isplitl [HsemA]; · iexact HsemA
    isplitl [HsemB]; · iexact HsemB
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

end Cert.Proof.FuseIdeal

end
-- ==== Proof.FuseIdeal.Launch.lean ====
/-
  The launch of the call: each of the 32 tasks takes a share of the flattened row numbers, a share of the table and its
  block of 128 rows of the result, and brings them back with the block computed. @main flattens the row numbers and runs
  the call; at the end the result holds `outVal`, the arguments are as they were and every semaphore counter is zero.
-/
module

public import proofs.«01_k».proof.Proof.FuseIdeal.Tile

@[expose] public section

noncomputable section

namespace Cert.Proof.FuseIdeal

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)

variable {F : FTy → Type}

local notation "𝕄" => MT nD τ sig (HIx 1) (Elt F) ℕ UU ℕ

local notation "iV" => (Memref.whole Cert.KernelIdeal.main_v0_scv : Memref Cert.KernelIdeal.sig Kind.scVector Space.hbm Cert.KernelIdeal.S20480 EltTy.i32)
local notation "xV" => (Memref.whole Cert.KernelIdeal.main_arg1_scv : Memref Cert.KernelIdeal.sig Kind.scVector Space.hbm Cert.KernelIdeal.S100000x128 EltTy.f32)
local notation "oV" => (Memref.whole Cert.KernelIdeal.main_v1_scv : Memref Cert.KernelIdeal.sig Kind.scVector Space.hbm Cert.KernelIdeal.S4096x128 EltTy.f32)
local notation "sV" => (Memref.whole Cert.KernelIdeal.cc0_scratch0 : Memref Cert.KernelIdeal.sig Kind.scVector Space.vmem Cert.KernelIdeal.S640 EltTy.i32)
local notation "rV" => (Memref.whole Cert.KernelIdeal.cc0_scratch1 : Memref Cert.KernelIdeal.sig Kind.scVector Space.vmem Cert.KernelIdeal.S640x128 EltTy.f32)
local notation "bV" => (Memref.whole Cert.KernelIdeal.cc0_scratch2 : Memref Cert.KernelIdeal.sig Kind.scVector Space.vmem Cert.KernelIdeal.S128x128 EltTy.f32)

variable [FloatOps F] [Named F] (m : (ℓ : Loc nD τ sig) → Buf (Elt F) ℓ) (ρ : Dev nD → PrngReg)

/-! ## Shares and blocks -/

/-- Task `(c, i)`'s share of an array that every task reads. -/
def shr (c : Fin 2) (i : Fin 16) : PosShare TreeShare := pieceOf (pieceOf fullShare 2 (by decide) c) 16 (by decide) i

theorem pts_shares {ℓ : Loc nD τ sig} (f : Buf (Elt F) ℓ) :
    (ℓ ↦{fullShare} f : sProp 𝕄) = bigSep Finset.univ fun c : Fin 2 => bigSep Finset.univ fun i : Fin 16 => ℓ ↦{shr c i} f := by
  rw [pointsTo_piecesOf (o := 2) Finset.univ f (by decide) fullShare]
  exact bigSep_congr fun c _ => pointsTo_piecesOf (o := 16) Finset.univ f (by decide) _

theorem oRowSet_eq (w : Fin 32) : oRowSet w = (orow w).set := by
  show ((View.whole (main_v1_scv : Ref sig .scVector)).slice (orow w)).set = _
  rw [View.set_slice]; exact Finset.map_refl

theorem wid_inj (p p' : Fin 2 × Fin 16) (h : wid p.1 p.2 = wid p'.1 p'.2) : p = p' := by
  have := congrArg Fin.val h
  simp only [wid] at this
  exact Prod.ext (Fin.ext (by omega)) (Fin.ext (by omega))

theorem orows_disjoint : ∀ p ∈ (Finset.univ : Finset (Fin 2 × Fin 16)), ∀ p' ∈ (Finset.univ : Finset (Fin 2 × Fin 16)), p ≠ p' →
    Disjoint (oRowSet (wid p.1 p.2)) (oRowSet (wid p'.1 p'.2)) :=
  fun p _ p' _ h => by rw [oRowSet_eq, oRowSet_eq]; exact Rect.part_disjoint odiv fun e => h (wid_inj p p' e)

theorem orows_cover : (Finset.univ : Finset (Fin 2 × Fin 16)).biUnion (fun p => oRowSet (wid p.1 p.2)) = Finset.univ := by
  refine Finset.eq_univ_iff_forall.mpr fun j => ?_
  have hj : j ∈ (Finset.univ : Finset (Fin 32)).biUnion fun w => (orow w).set := by rw [Rect.biUnion_part odiv]; exact Finset.mem_univ _
  obtain ⟨w, -, hw⟩ := Finset.mem_biUnion.mp hj
  refine Finset.mem_biUnion.mpr ⟨(⟨w.val % 2, Nat.mod_lt _ (by decide)⟩, ⟨w.val / 2, by omega⟩), Finset.mem_univ _, ?_⟩
  rw [oRowSet_eq]
  have e : wid ⟨w.val % 2, Nat.mod_lt _ (by decide)⟩ ⟨w.val / 2, by omega⟩ = w := Fin.ext (by show 2 * (w.val / 2) + w.val % 2 = w.val; omega)
  rw [e]; exact hw

theorem oPts_rows (d : Dev nD) (f : Buf (Elt F) (oLoc d)) :
    (oLoc d ↦{fullShare} f : sProp 𝕄) = bigSep Finset.univ fun c : Fin 2 => bigSep Finset.univ fun i : Fin 16 => oRowPts d (wid c i) f := by
  rw [← bigSep_univ_prod (fun p : Fin 2 × Fin 16 => oRowPts d (wid p.1 p.2) f),
    ← pointsTo_biUnion Finset.univ (ℓ := oLoc d) (fun p : Fin 2 × Fin 16 => oRowSet (wid p.1 p.2)) orows_disjoint, orows_cover]; try rfl

/-! ## What the call hands over -/

/-- The row numbers, flattened. -/
def flat (d : Dev nD) : Buf (Elt F) (iLoc d) := shapeCast S20480 (m (aLoc d)) shapeCasts_S4096x5_S20480

/-- The result. -/
def res (d : Dev nD) : Buf (Elt F) (oLoc d) := outVal (flat m d) (m (xLoc d))

/-- What task `(c, i)` holds: its shares, and its block of the result at `f`. -/
abbrev tPts (d : Dev nD) (c : Fin 2) (i : Fin 16) (f : Buf (Elt F) (oLoc d)) : sProp 𝕄 :=
  iprop(iPts d (shr c i) (flat m d) ∗ xPts d (shr c i) (m (xLoc d)) ∗ oRowPts d (wid c i) f)
/-- What SparseCore `c`'s tasks hold together. -/
abbrev cPts (d : Dev nD) (c : Fin 2) (f : Buf (Elt F) (oLoc d)) : sProp 𝕄 := bigSep Finset.univ fun i : Fin 16 => tPts m d c i f

def P : (K (F := F)).Pay (nD := nD) (Val := Elt F) (Name := ℕ) (U := UU) where
  st := fun q d c => match q with | 0 => cPts m d (Fin.cast nCore_zero c) (m (oLoc d))
  dn := fun q d c => match q with | 0 => cPts m d (Fin.cast nCore_zero c) (res m d)
  go := fun q d c i => match q with | 0 => tPts m d (Fin.cast nCore_zero c) (Fin.cast nSub_zero i) (m (oLoc d))
  td := fun q d c i => match q with | 0 => tPts m d (Fin.cast nCore_zero c) (Fin.cast nSub_zero i) (res m d)
  x := fun _ _ => iprop(emp)

instance P_storable : (P (F := F) m).IsStorable where
  st q d c := match q with
    | 0 => (inferInstance : BI.Storable (upEmb : UEmb _ 𝕄) (cPts m d (Fin.cast nCore_zero c) (m (oLoc d))))
  dn q d c := match q with
    | 0 => (inferInstance : BI.Storable (upEmb : UEmb _ 𝕄) (cPts m d (Fin.cast nCore_zero c) (res m d)))
  go q d c i := match q with
    | 0 => (inferInstance : BI.Storable (upEmb : UEmb _ 𝕄) (tPts m d (Fin.cast nCore_zero c) (Fin.cast nSub_zero i) (m (oLoc d))))
  td q d c i := match q with
    | 0 => (inferInstance : BI.Storable (upEmb : UEmb _ 𝕄) (tPts m d (Fin.cast nCore_zero c) (Fin.cast nSub_zero i) (res m d)))

/-- What the proof asks of the launch memory: every row number is one of the table's rows. -/
def PreOK : Prop := ∀ (d : Dev nD) (j : S4096x5.Idx), (m (aLoc d) j).toNat < 100000

theorem flat_lt (hpre : PreOK m) (d : Dev nD) (j : S20480.Idx) : (flat m d j).toNat < 100000 := hpre d _

/-! ## The obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_sc2 (coordsV c s)
          iV (Memref.isWhole_whole _) xV (Memref.isWhole_whole _) oV (Memref.isWhole_whole _)
          sV (Memref.isWhole_whole _) rV (Memref.isWhole_whole _) bV (Memref.isWhole_whole _) cc0_scratch3 cc0_scoped0 cc0_scoped1) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) hF _ _ (flat m d) (m (xLoc d)) (m (oLoc d)) (flat_lt m hpre d) O W hO).trans (wp_mono frame _ _ fun _ => obl_post)

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P m) 0 := by
  intro d c
  show cPts m d (Fin.cast nCore_zero c) (m (oLoc d)) ⊢ |={Set.univ}=> iprop(
      (bigSep Finset.univ fun i : Fin ((K (F := F)).nSub 0) => tPts m d (Fin.cast nCore_zero c) (Fin.cast nSub_zero i) (m (oLoc d)))
      ∗ ((bigSep Finset.univ fun i : Fin ((K (F := F)).nSub 0) => tPts m d (Fin.cast nCore_zero c) (Fin.cast nSub_zero i) (res m d))
          -∗ cPts m d (Fin.cast nCore_zero c) (res m d)))
  rw [bigSep_tasks (F := F) (fun i => tPts m d (Fin.cast nCore_zero c) i (m (oLoc d))),
    bigSep_tasks (F := F) (fun i => tPts m d (Fin.cast nCore_zero c) i (res m d))]
  iintro H; imodintro
  isplitl [H]; · iexact H
  iintro H; iexact H

/-! ## The launch element of the certificate's ghost state -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

/-- The operation that flattens the row numbers. -/
abbrev opFlat : HloOp τ sig (Elt F) := StableHlo.reshape main_arg0 main_v0 (rfl : (.i32 : EltTy) = .i32) shapeCasts_S4096x5_S20480

abbrev a' : DevRef τ sig := Proc.devRef .tc main_arg0
abbrev i' : DevRef τ sig := Proc.devRef .tc main_v0

theorem held_two (d : Dev nD) (V : Valuation τ sig (Elt F)) :
    (held (SparseCore.T d) ({a', i'} : Finset (DevRef τ sig)) V : sProp 𝕄) = iprop((aLoc d ↦{fullShare} V a') ∗ iLoc d ↦{fullShare} V i') := by
  unfold held
  rw [SparseCore.bigSep_insert' (by decide), bigSep_singleton]

theorem held_flat (d : Dev nD) :
    (held (SparseCore.T d) ({a', i'} : Finset (DevRef τ sig)) ((opFlat (F := F)).result fun b => m (d, b)) : sProp 𝕄)
      = iprop((aLoc d ↦{fullShare} m (aLoc d)) ∗ iLoc d ↦{fullShare} flat m d) := by
  rw [held_two, (opFlat (F := F)).result_of_not_mem _ (b := a') (show a' ∉ ({i'} : Finset (DevRef τ sig)) by decide),
    show (opFlat (F := F)).result (fun b => m (d, b)) i' = flat m d from StableHlo.reshape_result _ _ _ _ _ _ _]

theorem unscopedBufs_eq (d : Dev nD) (W : (b : Ref sig .tc) → Buf (Elt F) ((d.tc : Thread nD τ).loc b)) :
    (unscopedBufs d W : sProp 𝕄) = iprop((aLoc d ↦{fullShare} W main_arg0) ∗ (xLoc d ↦{fullShare} W main_arg1) ∗ (iLoc d ↦{fullShare} W main_v0) ∗ oLoc d ↦{fullShare} W main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

theorem cores_eq (d : Dev nD) (f : Buf (Elt F) (oLoc d)) :
    (bigSep Finset.univ fun c : Fin 2 => cPts m d c f)
      = (iprop((iLoc d ↦{fullShare} flat m d) ∗ (xLoc d ↦{fullShare} m (xLoc d)) ∗ oLoc d ↦{fullShare} f) : sProp 𝕄) := by
  rw [pts_shares (flat m d), pts_shares (m (xLoc d)), oPts_rows]
  unfold cPts tPts
  simp only [bigSep_sep']

theorem st0_eq (d : Dev nD) : (bigSep Finset.univ fun c : Fin ((K (F := F)).nCore 0) => (P m).st 0 d c)
    = iprop((iLoc d ↦{fullShare} flat m d) ∗ (xLoc d ↦{fullShare} m (xLoc d)) ∗ oLoc d ↦{fullShare} m (oLoc d)) :=
  (bigSep_cores (F := F) fun c => cPts m d c (m (oLoc d))).trans (cores_eq m d _)
theorem dn0_eq (d : Dev nD) : (bigSep Finset.univ fun c : Fin ((K (F := F)).nCore 0) => (P m).dn 0 d c)
    = iprop((iLoc d ↦{fullShare} flat m d) ∗ (xLoc d ↦{fullShare} m (xLoc d)) ∗ oLoc d ↦{fullShare} res m d) :=
  (bigSep_cores (F := F) fun c => cPts m d c (res m d)).trans (cores_eq m d _)

/-- What @main leaves: the arguments as they were, the result computed. -/
abbrev FIN (d : Dev nD) : sProp 𝕄 := iprop((aLoc d ↦{fullShare} m (aLoc d)) ∗ (xLoc d ↦{fullShare} m (xLoc d)) ∗ oLoc d ↦{fullShare} res m d)

/-- @main on device `d`'s TensorCore: the row numbers flattened, then the call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Ha, Hx, Hi, Ho⟩, Hts, -⟩, -⟩
  iapply (wp_hlo_within 𝒱 (SparseCore.T d) none Set.univ (op := opFlat) (S := {a', i'}) (show ({a', i'} : Finset (DevRef τ sig)) ⊆ {a', i'} from subset_rfl)
    (V := fun b => m (d, b))) $$ [Hb Ha Hi]
  · isplitl [Hb]; · iexact Hb
    rw [held_two]
    isplitl [Ha]; · iexact Ha
    iexact Hi
  iintro ⟨Hb, Hheld⟩
  rw [wp_ret]; imodintro
  ihave Hh := (Entails.of_eq (held_flat (F := F) m d)) $$ Hheld
  icases Hh with ⟨Ha, Hi⟩
  iapply ((K (F := F)).wp_run (D (F := F)) 𝒱 (EH := EH) (P := P m) κ d 0) $$ [Hst Ha Hi Hx Ho Hb Hts]
  isplitr; · iexact Hctx
  isplitl [Hst]; · iexact Hst
  isplitl [Hi Hx Ho]
  · rw [st0_eq]
    isplitl [Hi]; · iexact Hi
    isplitl [Hx]; · iexact Hx
    iexact Ho
  iintro ⟨Hst, Hdn⟩
  ihave Hdn' := (Entails.of_eq (dn0_eq m d)) $$ Hdn
  icases Hdn' with ⟨-, Hx, Ho⟩
  imodintro
  isplitl [Hst]; · iexact Hst
  isplitr [Hb Hts]
  · isplitl [Ha]; · iexact Ha
    isplitl [Hx]; · iexact Hx
    iexact Ho
  isplitl [Hb] <;> iassumption

/-- What the claims read of device `d`'s final state. -/
def fq (d : Dev nD) (s' : Phys nD τ sig (Elt F)) : Prop :=
  s'.mem.mem (oLoc d) = res m d ∧ s'.mem.mem (aLoc d) = m (aLoc d) ∧ s'.mem.mem (xLoc d) = m (xLoc d)

set_option maxRecDepth 16384 in
theorem hfin (d : Dev nD) (s' : Phys nD τ sig (Elt F)) : iprop(FIN m d ∗ SI s') ⊢ (⌜fq m d s'⌝ : sProp 𝕄) := by
  iintro ⟨⟨Ha, Hx, Ho⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%h2, HSI, -⟩
  ihave H := (SI_pointsTo_agree (st := s') (ℓ := oLoc d) (I := Finset.univ) (q := fullShare) (f := res m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

def QC : PUnit × MemSt nD τ sig (Elt F) → Prop := fun r =>
  (∀ c : Dev nD, r.2.mem (oLoc c) = res m c ∧ r.2.mem (aLoc c) = m (aLoc c) ∧ r.2.mem (xLoc c) = m (xLoc c)) ∧ r.2.sem = fun _ => 0

/-- Every execution ends, nothing faulting, with the result at `res`, the arguments as they were and every counter at zero. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.FuseIdeal

end
-- ==== Proof.Mean.Take.lean ====
/-
  `jnp.take(x, idx, axis=0)` of a table `x : [N, L]` at an array `idx : [R, C]` of row numbers, as the host computes it: a
  gather of one whole row for each number, after negative numbers are wrapped and with the rows out of range masked. At
  numbers from 0 to N − 1 nothing is wrapped and nothing masked: entry `(q, k, l)` is `x[idx[q, k], l]`.
-/
module

public import Idealize.ShloMosaic.Lib.ValueIdx
public import Idealize.ShloMosaic.Lib.ValueLayout
public import Idealize.ShloMosaic.PureOps.Reduce

@[expose] public section

noncomputable section

namespace Cert.Proof.Mean

open Idealize.ShloMosaic Idealize.ShloMosaic.ValueIdx

variable {α : Type}

/-- The gather's dimension numbers. -/
abbrev takeDims3 (N L R C : Nat)
    (wf : GatherDims.WF ⟨2, ![N, L]⟩ ⟨3, ![R, C, 1]⟩ ⟨3, ![R, C, L]⟩ [2] [0] [] [0] [] 2 ![1, L]) :
    GatherDims ⟨2, ![N, L]⟩ ⟨3, ![R, C, 1]⟩ ⟨3, ![R, C, L]⟩ where
  offsetDims := [2]
  collapsedSliceDims := [0]
  operandBatchingDims := []
  startIndicesBatchingDims := []
  startIndexMap := [0]
  indexVectorDim := 2
  sliceSizes := ![1, L]
  wf := wf

/-- The gather at `(q, k, l)`: column `l` of the row that `idx[q, k, 0]` names, clamped into the table. -/
theorem gather_take3 {N L R C w : Nat} (hN : 0 < N)
    (wf : GatherDims.WF ⟨2, ![N, L]⟩ ⟨3, ![R, C, 1]⟩ ⟨3, ![R, C, L]⟩ [2] [0] [] [0] [] 2 ![1, L])
    (x : (⟨2, ![N, L]⟩ : Shape).Idx → α) (idx : IVec ⟨3, ![R, C, 1]⟩ w) (q : Fin R) (k : Fin C) (l : Fin L) :
    Host.gather (takeDims3 N L R C wf) x idx (ix3 q k l)
      = x (ix2 ⟨min (idx (ix3 q k (0 : Fin 1))).toInt.toNat (N - 1), by omega⟩ l) := by
  unfold Host.gather
  congr 1
  funext a
  refine Fin.ext ?_
  show (takeDims3 N L R C wf).start (ix3 q k l) idx a + (takeDims3 N L R C wf).batchCoord (ix3 q k l) a
      + (takeDims3 N L R C wf).offCoord (ix3 q k l) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (takeDims3 N L R C wf).startIndexMap from List.mem_singleton.mpr rfl)]
    have hsi : (takeDims3 N L R C wf).siIdx (ix3 q k l) ⟨List.idxOf (0 : Fin 2) (takeDims3 N L R C wf).startIndexMap,
        List.idxOf_lt_length_iff.2 (List.mem_singleton.mpr rfl)⟩ = ix3 q k (0 : Fin 1) := by
      funext b; refine Fin.ext ?_
      match b with
      | ⟨0, _⟩ => rfl
      | ⟨1, _⟩ => rfl
      | ⟨2, _⟩ => rfl
    rw [hsi]
    rfl
  · have hs : (takeDims3 N L R C wf).start (ix3 q k l) idx 1 = 0 := by
      unfold GatherDims.start
      rw [dif_neg (fun h => by simp at h)]
    rw [hs]
    simp only [Nat.zero_add]
    unfold GatherDims.offCoord
    rw [dif_pos ((GatherDims.mem_sKept _ _).mpr ⟨fun h => by simp at h, List.not_mem_nil⟩)]
    rfl

/-- `and` over any axes of an array of ones, from one, is one. -/
theorem reduce_andi_ones {s t u : Shape} {axes : List (Fin s.rank)} (x : IVec s 1) (init : IVec u 1) (h : s.ReducesTo axes t)
    (hu : 0 < u.numel) (j : t.Idx) (hx : ∀ i, x i = 1#1) (hi : ∀ i, init i = 1#1) : Host.reduce IntOp.andi x init h hu j = 1#1 := by
  rw [Host.reduce_eq_foldl, hi]
  generalize (((List.finRange s.numel).map s.rowMajor.symm).filter fun i => h.drop i = j) = l
  induction l with
  | nil => rfl
  | cons a l ih =>
    rw [List.foldl_cons, hx]
    exact ih

/-- A row number below the table's height as a signed word: it is not negative, and is its own value. -/
theorem word_facts {N : ℕ} (hN : N ≤ 2 ^ 31) (v : BitVec 32) (h : v.toNat < N) :
    IntOp.cmpi .slt v 0#32 = 0#1 ∧ IntOp.cmpi .sge v 0#32 = 1#1 ∧ IntOp.cmpi .sle v (BitVec.ofNat 32 (N - 1)) = 1#1
      ∧ v.toInt.toNat = v.toNat := by
  have hv : v.toNat < 2 ^ 31 := lt_of_lt_of_le h hN
  have hi : v.toInt = v.toNat := by
    rw [BitVec.toInt_eq_toNat_cond]
    rw [if_pos (by omega)]
  have hn : (BitVec.ofNat 32 (N - 1)).toInt = ((N - 1 : ℕ) : ℤ) := by
    rw [BitVec.toInt_eq_toNat_cond, BitVec.toNat_ofNat, Nat.mod_eq_of_lt (by omega), if_pos (by omega)]
  have h0 : (0#32).toInt = 0 := by decide
  refine ⟨?_, ?_, ?_, ?_⟩
  · simp only [IntOp.cmpi, BitVec.slt_eq_decide, hi, h0]
    rw [decide_eq_false (by omega)]; rfl
  · simp only [IntOp.cmpi, BitVec.sle_eq_decide, hi, h0]
    rw [decide_eq_true (by omega)]; rfl
  · simp only [IntOp.cmpi, BitVec.sle_eq_decide, hi, hn]
    rw [decide_eq_true (by omega)]; rfl
  · rw [hi]; rfl

end Cert.Proof.Mean

end
-- ==== Proof.Mean.Consts.lean ====
/-
  The float constants of the reference, as the extended reals that they denote at `Ideal`.
-/
module

public import Idealize.ShloMosaic.PureOps.Ideal

@[expose] public section

noncomputable section

namespace Cert.Proof.Mean

open Idealize.ShloMosaic

/-- `0.0`, where the host's sum starts. -/
theorem ofBits_0 : Ideal.ofBits .f32 0x00000000#32 = (0 : EReal) := by
  simp [Ideal.ofBits, Ideal.ieee]

/-- `5.0`, the number of rows in the mean. -/
theorem ofBits_5 : Ideal.ofBits .f32 0x40A00000#32 = ((5 : ℝ) : EReal) := by
  simp [Ideal.ofBits, Ideal.ieee, -EReal.coe_mul]; norm_num

end Cert.Proof.Mean

end
-- ==== Proof.Mean.RefValue.lean ====
/-
  The reference's result at `Ideal`, for row numbers that lie in the table: the five rows' mean as the host computes it (the
  sum from zero, divided by five) is the kernel's function of the flattened row numbers and the table (the sum from the left,
  multiplied by one fifth).
-/
module

public import proofs.«01_k».proof.Proof.Fuse.Launch
public import proofs.«01_k».proof.Proof.Gen.ReferenceIdeal.Run
public import proofs.«01_k».proof.Proof.Mean.Take
public import proofs.«01_k».proof.Proof.Mean.Consts
public import Idealize.ShloMosaic.Lib.Pointwise

@[expose] public section

noncomputable section

namespace Cert.Proof.Mean

open Cert.ReferenceIdeal Cert.ReferenceIdeal.Gen Idealize.ShloMosaic.ValueIdx
open Idealize.ShloMosaic hiding ix1 ix2 ix3 eq_ix1 eq_ix2 eq_ix3

/-- The row numbers as the host uses them: a negative one is wrapped; each is its own row of width one. -/
def wrapped (a : IVec S4096x5 32) : IVec S4096x5x1 32 :=
  broadcastInDim S4096x5x1 ![0, 1] bcast_S4096x5_S4096x5x1_0_1 (select (cmpi .slt a (broadcastInDim S4096x5 ![] bcast_S_S4096x5 (constantI S_ 32 0#32))) (addi a (broadcastInDim S4096x5 ![] bcast_S_S4096x5 (constantI S_ 32 100000#32))) a)

/-- Which row numbers lie in the table. -/
def inside (a : IVec S4096x5 32) : IVec S4096x5x1 1 :=
  andi (cmpi .sge (wrapped a) (broadcastInDim S4096x5x1 ![] bcast_S_S4096x5x1 (constantI S_ 32 0#32))) (cmpi .sle (wrapped a) (broadcastInDim S4096x5x1 ![0, 1, 2] bcast_S1x1x1_S4096x5x1_0_1_2 (broadcastInDim S1x1x1 ![2] bcast_S1_S1x1x1_2 (constantI S1 32 99999#32))))

/-- The rows that the host takes. -/
def taken {F : FTy → Type} [FloatOps F] (a : IVec S4096x5 32) (x : FVec F S100000x128 .f32) : FVec F S4096x5x128 .f32 :=
  select (broadcastInDim S4096x5x128 ![0, 1] bcast_S4096x5_S4096x5x128_0_1 (Host.reduce IntOp.andi (inside a) (constantI S_ 1 1#1) reducesTo_S4096x5x1_S4096x5_d2 h_S_)) (Host.gather gather_S100000x128_S4096x5x1_S4096x5x128_2_0_n_n_0_2_1128 x (wrapped a)) (broadcastInDim S4096x5x128 ![] bcast_S_S4096x5x128 (constant S_ .f32 0x7FC00000#32))

/-- The host's mean of them. -/
def mean {F : FTy → Type} [FloatOps F] (a : IVec S4096x5 32) (x : FVec F S100000x128 .f32) : FVec F S4096x128 .f32 :=
  Host.divf (Host.reduceAdd (taken a x) (constant S_ .f32 0x00000000#32) reducesTo_S4096x5x128_S4096x128_d1 h_S_) (broadcastInDim S4096x128 ![] bcast_S_S4096x128 (constant S_ .f32 0x40A00000#32))

theorem wrapped_ap (a : IVec S4096x5 32) (ha : ∀ j, (a j).toNat < 100000) (j : S4096x5x1.Idx) :
    wrapped a j = a (ix2 (j 0) (j 1)) := by
  have hi : wrapped a j = Scalar.select (IntOp.cmpi .slt (a (ix2 (j 0) (j 1))) 0#32) (IntOp.addi (a (ix2 (j 0) (j 1))) 100000#32) (a (ix2 (j 0) (j 1))) := by
    unfold wrapped
    unfold broadcastInDim
    refine congrArg (fun i => Scalar.select (IntOp.cmpi .slt (a i) 0#32) (IntOp.addi (a i) 100000#32) (a i)) (eq_ix2 _)
  rw [hi, (word_facts (N := 100000) (by norm_num) _ (ha _)).1]
  rfl

theorem inside_ap (a : IVec S4096x5 32) (ha : ∀ j, (a j).toNat < 100000) (j : S4096x5x1.Idx) : inside a j = 1#1 := by
  have e := word_facts (N := 100000) (by norm_num) _ (ha (ix2 (j 0) (j 1)))
  have hi : inside a j = IntOp.andi (IntOp.cmpi .sge (wrapped a j) 0#32) (IntOp.cmpi .sle (wrapped a j) 99999#32) := rfl
  rw [hi, wrapped_ap a ha, e.2.1]
  rw [show (99999#32) = BitVec.ofNat 32 (100000 - 1) from rfl, e.2.2.1]
  rfl

/-- Entry `(q, k, l)` of the rows taken: column `l` of the row that `a[q, k]` names. -/
theorem taken_ap (a : IVec S4096x5 32) (ha : ∀ j, (a j).toNat < 100000) {F : FTy → Type} [FloatOps F] (x : FVec F S100000x128 .f32)
    (q : Fin 4096) (k : Fin 5) (l : Fin 128) : taken a x (ix3 q k l) = x (ix2 (FuseIdeal.rowOf (a (ix2 q k))) l) := by
  have hi : taken a x (ix3 q k l) = Scalar.select
      (broadcastInDim S4096x5x128 ![0, 1] bcast_S4096x5_S4096x5x128_0_1 (Host.reduce IntOp.andi (inside a) (constantI S_ 1 1#1) reducesTo_S4096x5x1_S4096x5_d2 h_S_) (ix3 q k l))
      (Host.gather gather_S100000x128_S4096x5x1_S4096x5x128_2_0_n_n_0_2_1128 x (wrapped a) (ix3 q k l))
      (broadcastInDim S4096x5x128 ![] bcast_S_S4096x5x128 (constant S_ .f32 0x7FC00000#32) (ix3 q k l)) := rfl
  have hm : broadcastInDim S4096x5x128 ![0, 1] bcast_S4096x5_S4096x5x128_0_1 (Host.reduce IntOp.andi (inside a) (constantI S_ 1 1#1) reducesTo_S4096x5x1_S4096x5_d2 h_S_) (ix3 q k l) = 1#1 :=
    reduce_andi_ones _ _ _ _ _ (inside_ap a ha) (fun _ => rfl)
  rw [hi, hm]
  refine Eq.trans (gather_take3 (by norm_num) gather_S100000x128_S4096x5x1_S4096x5x128_2_0_n_n_0_2_1128.wf x (wrapped a) q k l) ?_
  refine congrArg x (congrArg (fun r => ix2 r l) (Fin.ext ?_))
  have e := word_facts (N := 100000) (by norm_num) _ (ha (ix2 q k))
  have hb := ha (ix2 q k)
  have hw : wrapped a (ix3 q k (0 : Fin 1)) = a (ix2 q k) := wrapped_ap a ha _
  show min (wrapped a (ix3 q k (0 : Fin 1))).toInt.toNat (100000 - 1) = (a (ix2 q k)).toNat % 100000
  rw [hw, e.2.2.2, Nat.mod_eq_of_lt hb]
  omega

/-- The kernel's constant is one fifth. -/
theorem fifth_eq : FuseIdeal.fifth (F := Ideal) = ((1 / 5 : ℝ) : EReal) :=
  IdealRules.named_const.ideal_named_scalar _ _ _ _ rfl

/-- Entry `5 q + k` of the flattened row numbers is `a[q, k]`. -/
theorem flat_ap (a : IVec S4096x5 32) (h : S4096x5.ShapeCasts Cert.KernelIdeal.S20480) (q : Fin 4096) (k : Fin 5) (n : ℕ) (hn : n < 20480) (e : n = 5 * q.val + k.val) :
    shapeCast Cert.KernelIdeal.S20480 a h (ix1 (⟨n, hn⟩ : Fin 20480)) = a (ix2 q k) := by
  subst e
  refine shapeCast_apply _ h _ (ix2 q k) ?_
  rw [Shape.rowMajor_val_two, Shape.rowMajor_val_one]
  show q.val * 5 + k.val = 5 * q.val + k.val
  omega

/-- The reference's mean is the kernel's result. -/
theorem mean_eq (a : IVec S4096x5 32) (ha : ∀ j, (a j).toNat < 100000) (h : S4096x5.ShapeCasts Cert.KernelIdeal.S20480) (x : FVec Ideal S100000x128 .f32) :
    mean a x = FuseIdeal.outVal (F := Ideal) (shapeCast Cert.KernelIdeal.S20480 a h) x := by
  funext j
  have hs : mean a x j = Ideal.div (Ideal.hostReduceAdd reducesTo_S4096x5x128_S4096x128_d1 (taken a x) (Ideal.ofBits .f32 0x00000000#32) j) (Ideal.ofBits .f32 0x40A00000#32) := rfl
  rw [hs, ofBits_5, ofBits_0, Ideal.div_coe (by norm_num)]
  have hr := Ideal.hostReduceAdd_r3_a1 (n0 := 4096) (n1 := 5) (n2 := 128) reducesTo_S4096x5x128_S4096x128_d1 (taken a x) 0 j
  have ht : ∀ k : Fin 5, taken a x (ix3 (j 0) k (j 1)) = x (ix2 (FuseIdeal.rowOf (a (ix2 (j 0) k))) (j 1)) := fun k => taken_ap a ha x (j 0) k (j 1)
  have hk : Ideal.hostReduceAdd reducesTo_S4096x5x128_S4096x128_d1 (taken a x) 0 j = 0 + ∑ k : Fin 5, x (ix2 (FuseIdeal.rowOf (a (ix2 (j 0) k))) (j 1)) := by
    refine hr.trans ?_
    exact congrArg (0 + ·) (Finset.sum_congr rfl fun k _ => ht k)
  rw [hk, zero_add, Fin.sum_univ_five, ← fifth_eq]
  have hf : ∀ (k : Fin 5) n hn, n = 5 * (j 0).val + k.val → FuseIdeal.fetched (F := Ideal) (shapeCast Cert.KernelIdeal.S20480 a h) x n hn (j 1) = x (ix2 (FuseIdeal.rowOf (a (ix2 (j 0) k))) (j 1)) := by
    intro k n hn e
    unfold FuseIdeal.fetched
    rw [flat_ap a h (j 0) k n hn e]
  unfold FuseIdeal.outVal
  rw [hf 0 (5 * (j 0).val) _ rfl, hf 1 (5 * (j 0).val + 1) _ rfl, hf 2 (5 * (j 0).val + 2) _ rfl, hf 3 (5 * (j 0).val + 3) _ rfl, hf 4 (5 * (j 0).val + 4) _ rfl]
  rfl

end Cert.Proof.Mean

end
-- ==== Proof.Mean.Claims.lean ====
/-
  The claims: each program's frame, the kernel's constant, and the kernel's result against the reference's.
-/
module

public import proofs.«01_k».proof.Proof.Mean.RefValue
public import proofs.«01_k».proof.Proof.Gen.Pre_rows_in_range
public import Idealize.ShloMosaic.Lib.Quiescent
public import Idealize.ShloMosaic.Adequacy
public import Idealize.ShloMosaic.Init

@[expose] public section

noncomputable section

namespace Cert.Proof.Mean

open Idealize.ShloMosaic Idealize.SL.Sem

/-- The precondition at every entry of an array of row numbers gives numbers below the table's height. -/
theorem below_of_pre {α : Type} (a : α → BitVec 32)
    (e : ∀ j, IntOp.andi (IntOp.cmpi .sge (a j) 0#32) (IntOp.cmpi .slt (a j) 100000#32) = 1#1) (j : α) : (a j).toNat < 100000 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have h := e j
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at h
  omega

theorem ok_kernel (m : (ℓ : Loc Cert.Kernel.nD Cert.Kernel.τ Cert.Kernel.sig) → Buf (Elt Bits) ℓ) (h : Cert.Pre_Kernel m) :
    Fuse.PreOK (F := Bits) m := by
  intro d j
  refine below_of_pre (fun j => m (Fuse.aLoc d) j) (fun j => ?_) j
  have e := congrFun (h d) j
  simp only [Cert.Pre_rows_in_range.fn, andi, cmpi, broadcastInDim, constantI] at e
  exact e

theorem ok_ideal (m : (ℓ : Loc Cert.KernelIdeal.nD Cert.KernelIdeal.τ Cert.KernelIdeal.sig) → Buf (Elt Ideal) ℓ) (h : Cert.Pre_KernelIdeal m) :
    FuseIdeal.PreOK (F := Ideal) m := by
  intro d j
  refine below_of_pre (fun j => m (FuseIdeal.aLoc d) j) (fun j => ?_) j
  have e := congrFun (h d) j
  simp only [Cert.Pre_rows_in_range.fn, andi, cmpi, broadcastInDim, constantI] at e
  exact e

/-- The kernel's frame at the machine's floats. -/
theorem frame_p : Cert.quiescent_Kernel := fun m ρ hpre =>
  (θ_run Cert.Kernel.defs _ _).mono (fun _ h => ⟨fun c => (h.1 c).2, h.2⟩) (Fuse.run_main (F := Bits) m ρ (ok_kernel m hpre))

/-- The idealized kernel's frame. -/
theorem frame_pi : Cert.quiescent_KernelIdeal := fun m ρ hpre =>
  (θ_run Cert.KernelIdeal.defs _ _).mono (fun _ h => ⟨fun c => (h.1 c).2, h.2⟩) (FuseIdeal.run_main (F := Ideal) m ρ (ok_ideal m hpre))

/-- The reference's frame; it declares no semaphore. -/
theorem frame_ri : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The named constant is the real one fifth. -/
theorem preserves : Cert.preserves_Kernel_KernelIdeal :=
  IdealRules.named_const.statement Cert.KernelIdeal.κ "fifth" .f32 0x3E4CCCCD#32 ((1 / 5 : ℝ) : EReal) rfl

/-- From arguments that agree, the kernel's result and the reference's are one array. -/
theorem algebraic : Cert.algebraic_KernelIdeal_ReferenceIdeal := by
  intro m ρ m' ρ' hpre hagree
  have hok := ok_ideal m hpre
  refine ⟨fun c => FuseIdeal.res m c, (θ_run Cert.KernelIdeal.defs _ _).mono (fun _ h c => h.1 c) (FuseIdeal.run_main (F := Ideal) m ρ hok), ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact mean_eq (m (FuseIdeal.aLoc c)) (hok c) _ (m (FuseIdeal.xLoc c))

end Cert.Proof.Mean

end
-- ==== Proof.GatherIdeal.Base.lean ====
/-
  The SparseCore call that gathers the candidates' rows: the program as the launch theorem sees it, the arrays, and what
  the call computes. `outVal` is the result as a function of the list of row numbers and of the table: row `n` of the
  result is the row of the table that entry `n` of the list names. Stated at any float instance.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.Writes
public import Idealize.ShloMosaic.Lib.ValueLayout
public import proofs.«01_k».proof.Proof.Gen.CandidatesIdeal
public import proofs.«01_k».proof.Proof.Gen.CandidatesIdeal.Skeleton

@[expose] public section

noncomputable section

namespace Cert.Proof.GatherIdeal

open Cert.CandidatesIdeal Cert.CandidatesIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the transfers' counters -/

abbrev UH : Type := URounds (GSem nD τ sig) ℕ
abbrev UU : Type := UH × Counters
abbrev MM (F : FTy → Type) := MT nD τ sig (HIx 1) (Elt F) ℕ UU ℕ
abbrev EH : Emb UH (MT nD τ sig (HIx 1) (Elt F) ℕ UU ℕ) := embL

/-! ## The arrays -/

/-- The row numbers as they are given, the table, the row numbers flattened, the result. -/
abbrev aLoc (d : Dev nD) : Loc nD τ sig := (SparseCore.T d).loc main_arg0
abbrev xLoc (d : Dev nD) : Loc nD τ sig := (SparseCore.T d).loc main_arg1
abbrev iLoc (d : Dev nD) : Loc nD τ sig := (SparseCore.T d).loc main_v0
abbrev oLoc (d : Dev nD) : Loc nD τ sig := (SparseCore.T d).loc main_v1

/-! ## What the call computes -/

section Value

/-- The row of the table that a list entry names. -/
def rowOf (v : BitVec 32) : Fin 102400 := ⟨v.toNat % 102400, Nat.mod_lt _ (by decide)⟩

/-- Entry `(n, l)` of the gathered rows: column `l` of the row that entry `n` of the list names. -/
def fetched (fi : S163840.Idx → BitVec 32) (fx : S102400x128.Idx → F .f32) (n : Fin 163840) (l : Fin 128) : F .f32 :=
  fx (ix2 (rowOf (fi (ix1 n))) l)

/-- The result of the call. -/
def outVal (fi : S163840.Idx → BitVec 32) (fx : S102400x128.Idx → F .f32) : S163840x128.Idx → F .f32 := fun j =>
  fetched fi fx (j 0) (j 1)

end Value

end Cert.Proof.GatherIdeal

end
-- ==== Proof.GatherIdeal.Steps.lean ====
/-
  A task's program in steps. Sixteen batches of 320 rows pass through two banks of buffers by turns: a bank has a buffer for
  320 entries of the list, a buffer for the 320 rows that they name, a semaphore for the gather and one for the write. A
  batch is fetched (its part of the list copied in, the gather of its rows begun), put out (the gather awaited, the write of
  its rows begun) and, before its bank serves again, its write is awaited. `body_eq` says that the kernel's straight line of
  operations is this sequence of steps.
-/
module

public import proofs.«01_k».proof.Proof.GatherIdeal.Base

@[expose] public section

noncomputable section

namespace Cert.Proof.GatherIdeal

open Cert.CandidatesIdeal Cert.CandidatesIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.CandidatesIdeal.main_v0_scv : Memref Cert.CandidatesIdeal.sig Kind.scVector Space.hbm Cert.CandidatesIdeal.S163840 EltTy.i32)
local notation "xV" => (Memref.whole Cert.CandidatesIdeal.main_arg1_scv : Memref Cert.CandidatesIdeal.sig Kind.scVector Space.hbm Cert.CandidatesIdeal.S102400x128 EltTy.f32)
local notation "oV" => (Memref.whole Cert.CandidatesIdeal.main_v1_scv : Memref Cert.CandidatesIdeal.sig Kind.scVector Space.hbm Cert.CandidatesIdeal.S163840x128 EltTy.f32)

/-! ## The two banks -/

/-- A bank's buffer for list entries. -/
abbrev iRef : Bool → Ref sig .scVector | false => cc0_scratch0 | true => cc0_scratch1
/-- A bank's buffer for rows. -/
abbrev rRef : Bool → Ref sig .scVector | false => cc0_scratch2 | true => cc0_scratch3

def iM : Bool → Memref sig .scVector .vmem S320 .i32 | false => Memref.whole cc0_scratch0 | true => Memref.whole cc0_scratch1
def rM : Bool → Memref sig .scVector .vmem S320x128 .f32 | false => Memref.whole cc0_scratch2 | true => Memref.whole cc0_scratch3
theorem iM_whole : ∀ u, (iM u).IsWhole | false => Memref.isWhole_whole _ | true => Memref.isWhole_whole _
theorem rM_whole : ∀ u, (rM u).IsWhole | false => Memref.isWhole_whole _ | true => Memref.isWhole_whole _

/-- A bank's semaphore for the gather and its semaphore for the write. -/
def gS : Bool → DmaSem sig | false => cc0_scratch4.sem | true => cc0_scratch5.sem
def wS : Bool → DmaSem sig | false => cc0_scratch6.sem | true => cc0_scratch7.sem
/-- A batch's semaphore for the copy of its part of the list. -/
def lS (b : Fin 16) : DmaSem sig := (SemArray.consecutive (4 + b.val) S_ (show 4 + b.val + S_.numel ≤ 20 by have := b.isLt; rw [show S_.numel = 1 by decide]; omega) : DmaSems sig S_).sem

/-! ## The steps -/

abbrev Pr (F : FTy → Type) (L : grid0.Coords) : Type 1 := Prog (TpuEff nD τ sig (Elt F) Λ₀ (.scVector ((L 0).castLE hcore0) ((L 1).castLE hsub0))) PUnit

/-- A batch's part of the list, its rows of the result, and the whole table. -/
abbrev iSl (L : grid0.Coords) (b : Fin 16) : Memref sig .scVector .hbm S320 .i32 :=
  (iV).slice (Rect.unit (s := S163840) (k0_off1 L (BitVec.ofNat 32 (8 * b.val))) S320.size (k0_off1_inb L b)) (fun _ => rfl)
abbrev oSl (L : grid0.Coords) (b : Fin 16) : Memref sig .scVector .hbm S320x128 .f32 :=
  (oV).slice (Rect.unit (s := S163840x128) (k0_off2 L (BitVec.ofNat 32 (8 * b.val))) S320x128.size (k0_off2_inb L b)) (fun _ => rfl)
abbrev xAll : Memref sig .scVector .hbm S102400x128 .f32 :=
  (xV).slice (Rect.unit (s := S102400x128) ![0, 0] S102400x128.size inb_S102400x128_S102400x128_0_0) (fun _ => rfl)

section Steps
variable [FloatOps F] (L : grid0.Coords)

/-- Batch `b` is fetched into bank `u`. -/
def fetch (u : Bool) (b : Fin 16) (k : Pr F L) : Pr F L :=
  .op (.enqueueDma (iSl L b) (.here (iM u)) (.dma (lS b)) (View.wordExact_bits rfl) (iM_whole u).wordExact ⟨Or.inl rfl, trivial⟩) fun _ =>
  .op (.waitDma2 (lS b) (iSl L b) (iM u) (View.wordExact_bits rfl) (iM_whole u).wordExact) fun _ =>
  SparseCore.enqueueIndirectGather rfl xAll (rM u) gathers_S102400x128_S320x128 (iM u) rfl (gS u) (View.wordExact_bits rfl) rfl (Or.inl rfl) >>= fun _ => k

/-- Batch `b` is put out of bank `u`. -/
def putOut (u : Bool) (b : Fin 16) (k : Pr F L) : Pr F L :=
  .op (.waitDma2 (gS u) xAll (rM u) (View.wordExact_bits rfl) (rM_whole u).wordExact) fun _ =>
  .op (.enqueueDma (rM u) (.here (oSl L b)) (.dma (wS u)) (rM_whole u).wordExact (View.wordExact_bits rfl) ⟨Or.inl rfl, trivial⟩) fun _ => k

/-- The write of batch `b` out of bank `u` is awaited. -/
def await (u : Bool) (b : Fin 16) (k : Pr F L) : Pr F L :=
  .op (.waitDma2 (wS u) (rM u) (oSl L b) (rM_whole u).wordExact (View.wordExact_bits rfl)) fun _ => k

/-- Batch number `n`. -/
def bt (n : ℕ) : Fin 16 := ⟨n % 16, Nat.mod_lt _ (by decide)⟩

/-- The last `n` batches, the next of them going to bank `u`, and the end of the program. -/
def pipe : ℕ → Bool → Pr F L
  | 0, u => putOut L (!u) (bt 15) (await L u (bt 14) (await L (!u) (bt 15) (pure ⟨⟩)))
  | n + 1, u => await L u (bt (13 - n)) (fetch L u (bt (15 - n)) (putOut L (!u) (bt (14 - n)) (pipe n (!u))))

/-- The task's program. -/
def task : Pr F L := fetch L false (bt 0) (fetch L true (bt 1) (putOut L false (bt 0) (pipe L 14 false)))

set_option maxRecDepth 65536 in
set_option maxHeartbeats 4000000 in
theorem body_eq :
    cc0_sc1 (F := F) L iV (Memref.isWhole_whole _) xV (Memref.isWhole_whole _) oV (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      cc0_scratch4 cc0_scratch5 cc0_scratch6 cc0_scratch7 cc0_scoped0 cc0_scoped1 cc0_scoped2 cc0_scoped3 cc0_scoped4 cc0_scoped5 cc0_scoped6 cc0_scoped7
      cc0_scoped8 cc0_scoped9 cc0_scoped10 cc0_scoped11 cc0_scoped12 cc0_scoped13 cc0_scoped14 cc0_scoped15 = task L := by
  rw [cc0_sc1_eq_skeleton]
  rfl

end Steps

end Cert.Proof.GatherIdeal

end
-- ==== Proof.GatherIdeal.Batch.lean ====
/-
  One task of the SparseCore call, on vector subcore `s` of SparseCore `c`: what each step of its program does, and the task
  as a whole. While a batch's gather is under way its flight holds the bank's two buffers and a share of the table, and
  delivers the rows that the batch's part of the list names; while its write is under way its flight holds the bank's row
  buffer and the batch's rows of the result, and delivers those rows at `outVal`.
-/
module

public import proofs.«01_k».proof.Proof.GatherIdeal.Steps

@[expose] public section

noncomputable section

namespace Cert.Proof.GatherIdeal

open Cert.CandidatesIdeal Cert.CandidatesIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.CandidatesIdeal.main_v0_scv : Memref Cert.CandidatesIdeal.sig Kind.scVector Space.hbm Cert.CandidatesIdeal.S163840 EltTy.i32)
local notation "xV" => (Memref.whole Cert.CandidatesIdeal.main_arg1_scv : Memref Cert.CandidatesIdeal.sig Kind.scVector Space.hbm Cert.CandidatesIdeal.S102400x128 EltTy.f32)
local notation "oV" => (Memref.whole Cert.CandidatesIdeal.main_v1_scv : Memref Cert.CandidatesIdeal.sig Kind.scVector Space.hbm Cert.CandidatesIdeal.S163840x128 EltTy.f32)

/-- A batch's place among the 512 blocks of 320 rows of the result. -/
def sl (w : Fin 32) (b : Fin 16) : Fin 512 := ⟨16 * w.val + b.val, by omega⟩
theorem odiv : 512 ∣ S163840x128.size 0 := ⟨320, rfl⟩
abbrev orow (n : Fin 512) : Rect S163840x128 := Rect.part (s := S163840x128) (a₀ := 0) odiv n
abbrev oRowSet (n : Fin 512) : Finset S163840x128.Idx := ((oV).view.slice (orow n)).set

/-- A share of the flattened row numbers, a share of the table, one batch's block of the result. -/
abbrev iPts (d : Dev nD) (q : PosShare TreeShare) (f : Buf (Elt F) (iLoc d)) : sProp 𝕄 := iLoc d ↦{q} f
abbrev xPts (d : Dev nD) (q : PosShare TreeShare) (f : Buf (Elt F) (xLoc d)) : sProp 𝕄 := xLoc d ↦{q} f
abbrev oRowPts (d : Dev nD) (n : Fin 512) (f : Buf (Elt F) (oLoc d)) : sProp 𝕄 := oLoc d ↦[oRowSet n]{fullShare} f

/-! ## The task's coordinates and its views -/

section Tile

variable (d : Dev nD) (L : grid0.Coords)

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)
theorem bound_zero : grid0.bound 0 = 2 := rfl
theorem bound_one : grid0.bound 1 = 16 := rfl
/-- The task's number: twice its subcore plus its SparseCore. -/
def wid (c : Fin 2) (s : Fin 16) : Fin 32 := ⟨2 * s.val + c.val, by omega⟩
abbrev wL (L : grid0.Coords) : Fin 32 := wid (Fin.cast bound_zero (L 0)) (Fin.cast bound_one (L 1))

theorem off1_val (b : Fin 16) : k0_off1 L (BitVec.ofNat 32 (8 * b.val)) 0 = 320 * (sl (wL L) b).val := by
  rw [k0_off1_eq]; show 10240 * (L 1).val + 5120 * (L 0).val + 320 * b.val = 320 * (16 * (2 * (L 1).val + (L 0).val) + b.val); omega
theorem off2_val0 (b : Fin 16) : k0_off2 L (BitVec.ofNat 32 (8 * b.val)) 0 = 320 * (sl (wL L) b).val := by
  rw [k0_off2_eq]; show 10240 * (L 1).val + 5120 * (L 0).val + 320 * b.val = 320 * (16 * (2 * (L 1).val + (L 0).val) + b.val); omega
theorem off2_val1 (b : Fin 16) : k0_off2 L (BitVec.ofNat 32 (8 * b.val)) 1 = 0 := by
  rw [k0_off2_eq]; simp

abbrev orowK (b : Fin 16) : Rect S163840x128 :=
  Rect.unit (s := S163840x128) (k0_off2 L (BitVec.ofNat 32 (8 * b.val))) S320x128.size (k0_off2_inb L b)

theorem orow_eq (b : Fin 16) : orowK L b = orow (sl (wL L) b) := by
  unfold orowK orow Rect.part Rect.block
  congr 1 <;> funext a
  · match a with
    | 0 => show k0_off2 L (BitVec.ofNat 32 (8 * b.val)) 0 = _; rw [off2_val0]; simp [Shape.partIx, Shape.partSize]; try omega
    | 1 => show k0_off2 L (BitVec.ofNat 32 (8 * b.val)) 1 = _; rw [off2_val1]; simp [Shape.partIx, Shape.partSize]
  · match a with
    | 0 => simp [Shape.partSize]
    | 1 => simp [Shape.partSize]

theorem set_oSl (b : Fin 16) : (oSl L b).view.set = oRowSet (sl (wL L) b) := by
  show ((oV).view.slice (orowK L b)).set = ((oV).view.slice (orow (sl (wL L) b))).set
  exact orow_eq L b ▸ rfl

theorem pts_oSl (b : Fin 16) (f : Buf (Elt F) (oLoc d)) :
    ((oSl L b).view.loc (thr d L) ↦[(oSl L b).view.set]{fullShare} f : sProp 𝕄) = oRowPts d (sl (wL L) b) f := by
  rw [set_oSl]

theorem set_xAll : (xAll).view.set = Finset.univ := by
  refine Finset.eq_univ_iff_forall.mpr fun j => Finset.mem_map.mpr ⟨j, Finset.mem_univ _, ?_⟩
  funext a
  refine Fin.ext ?_
  match a with
  | 0 => show 0 + 1 * (j 0).val = (j 0).val; omega
  | 1 => show 0 + 1 * (j 1).val = (j 1).val; omega

theorem pts_xAll (q : PosShare TreeShare) (f : Buf (Elt F) (xLoc d)) :
    ((xAll).view.loc (thr d L) ↦[(xAll).view.set]{q} f : sProp 𝕄) = xPts d q f := by
  rw [set_xAll]

/-! ## Values -/

/-- Entry `x` of a batch's part of the list is entry `320 n + x` of the list. -/
theorem read_iSl (b : Fin 16) (fi : Buf (Elt F) (iLoc d)) (x : S320.Idx) :
    (iSl L b).view.read (Elt F) fi x
      = fi (ix1 (⟨320 * (sl (wL L) b).val + (x 0).val, by have := (x 0).isLt; change (x 0).val < 320 at this; have := (sl (wL L) b).isLt; omega⟩ : Fin 163840)) := by
  refine ((View.read_apply _ _).trans (cast_eq _ _)).trans (congrArg fi ?_)
  funext a
  match a with
  | 0 =>
    refine Fin.ext ?_
    show k0_off1 L (BitVec.ofNat 32 (8 * b.val)) 0 + 1 * (x 0).val = 320 * (sl (wL L) b).val + (x 0).val
    rw [off1_val, Nat.one_mul]

theorem read_xAll (fx : Buf (Elt F) (xLoc d)) : (xAll).view.read (Elt F) fx = fx := by
  funext x
  refine ((View.read_apply _ _).trans (cast_eq _ _)).trans (congrArg fx ?_)
  funext a
  refine Fin.ext ?_
  match a with
  | 0 => show 0 + 1 * (x 0).val = (x 0).val; omega
  | 1 => show 0 + 1 * (x 1).val = (x 1).val; omega

/-- The 320 rows of block `n`: those that its part of the list names. -/
def rows (fi : S163840.Idx → BitVec 32) (fx : S102400x128.Idx → F .f32) (n : Fin 512) : S320x128.Idx → F .f32 := fun x =>
  fetched fi fx ⟨320 * n.val + (x 0).val, by have := (x 0).isLt; change (x 0).val < 320 at this; omega⟩ (x 1)

/-- What the gather brings is the batch's rows. -/
theorem gathered_eq (b : Fin 16) (fi : Buf (Elt F) (iLoc d)) (fx : Buf (Elt F) (xLoc d)) (hpre : ∀ j, (fi j).toNat < 102400)
    (lst : S320.Idx → Elt F .i32) (hl : ∀ x, lst x = (iSl L b).view.read (Elt F) fi x)
    (hn : S320.numel = S320x128.size gathers_S102400x128_S320x128.axis') (hin : ∀ x, (lst x).toNat < S102400x128.size gathers_S102400x128_S320x128.axis) :
    SparseCore.gatherPayload (F := F) (e := .f32) gathers_S102400x128_S320x128 ((xAll).view.read (Elt F) fx) (SparseCore.rows lst hn hin)
      = rows fi fx (sl (wL L) b) := by
  funext x
  unfold SparseCore.gatherPayload rows fetched
  rw [read_xAll d]
  refine congrArg fx ?_
  funext a
  match a with
  | 0 =>
    refine (Shape.Gathers.idx_axis _ _ _).trans (Fin.ext ?_)
    show (lst _).toNat = (fi _).toNat % 102400
    rw [hl, read_iSl, Nat.mod_eq_of_lt (hpre _)]
    congr 2
    funext c
    match c with
    | 0 =>
      refine Fin.ext ?_
      show 320 * (sl (wL L) b).val + _ = 320 * (sl (wL L) b).val + _
      congr 1
      exact ((Shape.rowMajor_val_one (S320.rowMajor.symm _)).symm.trans (congrArg Fin.val (Equiv.apply_symm_apply _ _)))
  | 1 =>
    refine Fin.ext ?_
    exact Shape.Gathers.idx_of_ne gathers_S102400x128_S320x128 _ x (1 : Fin 2) (by decide)

/-- A batch's rows of the result, written with them. -/
theorem oRow_written (b : Fin 16) (fi : Buf (Elt F) (iLoc d)) (fx : Buf (Elt F) (xLoc d)) (fo : Buf (Elt F) (oLoc d)) :
    ((oSl L b).view.loc (thr d L) ↦[(oSl L b).view.set]{fullShare} (oSl L b).view.write (Elt F) fo (rows fi fx (sl (wL L) b)) Finset.univ : sProp 𝕄)
      = oRowPts d (sl (wL L) b) (outVal fi fx) := by
  refine Eq.trans (pointsTo_congr fun j hj => ?_) (pts_oSl d L b _)
  obtain ⟨y, -, rfl⟩ := Finset.mem_map.mp hj
  refine ((View.write_emb_of_mem _ _ (Finset.mem_univ y)).trans (cast_eq _ _)).trans ?_
  unfold rows outVal
  congr 1
  · refine Fin.ext ?_
    show 320 * (sl (wL L) b).val + (y 0).val = k0_off2 L (BitVec.ofNat 32 (8 * b.val)) 0 + 1 * (y 0).val
    rw [off2_val0]; omega
  · refine Fin.ext ?_
    show (y 1).val = k0_off2 L (BitVec.ofNat 32 (8 * b.val)) 1 + 1 * (y 1).val
    rw [off2_val1]; omega

/-! ## What a bank holds -/

/-- A bank's list buffer, at some contents. -/
def iBuf (u : Bool) : sProp 𝕄 := iprop(∃ f : Buf (Elt F) ((iM u).view.loc (thr d L)), (iM u).view.loc (thr d L) ↦[(iM u).view.set]{fullShare} f)
/-- A bank's row buffer, at some contents. -/
def rBuf (u : Bool) : sProp 𝕄 := iprop(∃ f : Buf (Elt F) ((rM u).view.loc (thr d L)), (rM u).view.loc (thr d L) ↦[(rM u).view.set]{fullShare} f)
/-- A bank's row buffer holding `v`. -/
def rHas (u : Bool) (v : S320x128.Idx → F .f32) : sProp 𝕄 :=
  iprop(∃ f : Buf (Elt F) ((rM u).view.loc (thr d L)), ⌜(rM u).view.read (Elt F) f = v⌝ ∗ (rM u).view.loc (thr d L) ↦[(rM u).view.set]{fullShare} f)

/-- The gather of batch `b` into bank `u` is under way. -/
def gathering (q : PosShare TreeShare) (fi : Buf (Elt F) (iLoc d)) (fx : Buf (Elt F) (xLoc d)) (u : Bool) (b : Fin 16) : sProp 𝕄 :=
  Transfers.Flight countersEmb (thr d L) (.dma (gS u)) (default : HIx 1) (rM u).view.dmaCredit
    iprop(rHas d L u (rows fi fx (sl (wL L) b)) ∗ xPts d q fx ∗ iBuf d L u)

/-- The write of batch `b` out of bank `u` is under way. -/
def writing (fi : Buf (Elt F) (iLoc d)) (fx : Buf (Elt F) (xLoc d)) (u : Bool) (b : Fin 16) : sProp 𝕄 :=
  Transfers.Flight countersEmb (thr d L) (.dma (wS u)) (default : HIx 1) (oSl L b).view.dmaCredit
    iprop(oRowPts d (sl (wL L) b) (outVal fi fx) ∗ rBuf d L u)

/-- What the task owes, the waits that it has made on its own transfers recorded. -/
def owing (O : CellTallies nD τ sig (HIx 1)) (W : Waits sig (HIx 1)) : sProp 𝕄 :=
  iprop(∃ W', ⌜∀ p ∈ W', p ∈ W ∨ p.2 = none⌝ ∗ owes (thr d L) O W')

/-! ## The steps -/

variable [FloatOps F]

/-- The levels that a wait reads. -/
abbrev levels : sProp 𝕄 := levAts (K (F := F)).L (K (F := F)).lev

/-- A wait for one of the task's own transfers: what it delivers, and its semaphore at zero. -/
theorem wp_own {sp sp' : Space} {s s' : Shape} {e e' : EltTy} {sem : DmaSem sig}
    {srcw : Memref sig (thr d L).2.kind sp' s' e'} {dstw : Memref sig (thr d L).2.kind sp s e} {hsrc : srcw.view.WordExact} {hdst : dstw.view.WordExact}
    {k : PUnit → Pr F L} {N : ℕ} (hN : dstw.view.dmaCredit = N) {D : sProp 𝕄} {O : CellTallies nD τ sig (HIx 1)} {W : Waits sig (HIx 1)}
    (hO : ∀ g, O g none = 0) {Q : PUnit → sProp 𝕄} :
    iprop(levels ∗ Transfers.Flight countersEmb (thr d L) (.dma sem) (default : HIx 1) N D ∗ owing d L O W)
      ⊢ iprop((iprop(D ∗ semVal (thr d L, SemLoc.dma sem) 0 ∗ owing d L O W)
            -∗ wp frame (wpE (defs₀ (F := F)) 𝒱₀ (thr d L) none) Set.univ (k ⟨⟩) Q)
          -∗ wp frame (wpE (defs₀ (F := F)) 𝒱₀ (thr d L) none) Set.univ (.op (.waitDma2 sem srcw dstw hsrc hdst) k) Q) := by
  unfold owing
  iintro ⟨#Hlv, Hfl, %W', %hW', HO⟩ Hk
  ihave Hmw := (show levAts (K (F := F)).L (K (F := F)).lev ⊢ Transfers.MayWaits (thr d L) (default : HIx 1) O from
    (K (F := F)).mayWaits_none (thr := thr d L) hO) $$ Hlv
  iapply (Transfers.wp_waitLocalO countersEmb 𝒱₀ (thr d L) none (default : HIx 1) hN) $$ [Hfl HO Hmw]
  · isplitl [Hfl]; · iexact Hfl
    isplitl [HO]; · iexact HO
    iapply (Transfers.MayWaits.elim (SemLoc.dma sem)) $$ Hmw
  iintro ⟨HD, Hs, HO⟩
  iapply Hk
  isplitl [HD]; · iexact HD
  isplitl [Hs]; · iexact Hs
  iexists _; isplitr
  swap; · iexact HO
  ipureintro; intro p hp
  rcases Finset.mem_insert.mp hp with hp | hp; · exact .inr (hp ▸ rfl)
  exact hW' p hp

/-- Batch `b` is fetched into bank `u`. -/
theorem wp_fetch (u : Bool) (b : Fin 16) (qi q : PosShare TreeShare) (fi : Buf (Elt F) (iLoc d)) (fx : Buf (Elt F) (xLoc d)) (hpre : ∀ j, (fi j).toNat < 102400)
    {O : CellTallies nD τ sig (HIx 1)} {W : Waits sig (HIx 1)} (hO : ∀ g, O g none = 0) {k : Pr F L} {Q : PUnit → sProp 𝕄} :
    iprop(levels ∗ iPts d qi fi ∗ xPts d q fx ∗ iBuf d L u ∗ rBuf d L u ∗ semVal (thr d L, SemLoc.dma (lS b)) 0 ∗ semVal (thr d L, SemLoc.dma (gS u)) 0 ∗ owing d L O W)
      ⊢ iprop((iprop(iPts d qi fi ∗ gathering d L q fi fx u b ∗ semVal (thr d L, SemLoc.dma (lS b)) 0 ∗ owing d L O W)
            -∗ wp frame (wpE (defs₀ (F := F)) 𝒱₀ (thr d L) none) Set.univ k Q)
          -∗ wp frame (wpE (defs₀ (F := F)) 𝒱₀ (thr d L) none) Set.univ (fetch L u b k) Q) := by
  unfold fetch iBuf rBuf
  iintro ⟨#Hlv, Hi, Hx, ⟨%fs, Hs⟩, ⟨%fr, Hr⟩, Hl, Hg, HO⟩ Hk
  ihave Hi2 := (pointsTo_split_subset (q := qi) (f := fi) (S := Finset.univ) (Finset.subset_univ (iSl L b).view.set)).1 $$ Hi
  icases Hi2 with ⟨Hib, Hir⟩
  iapply (Transfers.wp_dmaLocal countersEmb 𝒱₀ (thr d L) none (default : HIx 1) (iM u).view.dmaCredit rfl
    (View.dmaCredit_pos _ (by decide)) subset_rfl) $$ [Hib Hs Hl]
  · isplitl [Hib]; · iexact Hib
    isplitl [Hs]; · iexact Hs
    iexact Hl
  iintro Hfl
  iapply (wp_own d L rfl hO) $$ [Hfl HO]
  · isplitr; · iexact Hlv
    isplitl [Hfl]; · iexact Hfl
    iexact HO
  iintro ⟨⟨Hs, Hib⟩, Hl, HO⟩
  have hin : ∀ x, ((iM u).view.read (Elt F) ((iM u).view.write (Elt F) fs ((iSl L b).view.read (Elt F) fi) Finset.univ) x).toNat
      < S102400x128.size gathers_S102400x128_S320x128.axis := by
    intro x; rw [View.read_write_univ, read_iSl]; exact hpre _
  ihave Hx' := (Entails.of_eq (pts_xAll (F := F) d L _ _).symm) $$ Hx
  iapply (SparseCore.wp_indirectGatherLocal countersEmb 𝒱₀ (thr d L) none (hg := gathers_S102400x128_S320x128) (default : HIx 1)
      (rM u).view.dmaCredit (SparseCore.sum_rowCredit_eq_dmaCredit _ _ (fun _ => rfl)) (by decide) hin) $$ [Hx' Hr Hs Hg]
  · isplitl [Hx']; · iexact Hx'
    isplitl [Hr]; · iexact Hr
    isplitl [Hs]; · iexact Hs
    iexact Hg
  iintro Hfl
  iapply Hk
  isplitl [Hib Hir]
  · iapply (pointsTo_split_subset (q := qi) (f := fi) (S := Finset.univ) (Finset.subset_univ (iSl L b).view.set)).2
    isplitl [Hib] <;> iassumption
  isplitl [Hfl]
  · unfold gathering
    iapply (Transfers.Flight_mono countersEmb (thr d L) ?_) $$ Hfl
    iintro ⟨Hr, Hx, Hs⟩
    isplitl [Hr]
    · unfold rHas
      iexists _; isplitr
      swap; · iexact Hr
      ipureintro
      rw [View.read_write_univ]
      exact gathered_eq d L b fi fx hpre _ (fun x => by rw [View.read_write_univ]) rfl hin
    isplitl [Hx]; · iapply (Entails.of_eq (pts_xAll (F := F) d L _ _)); iexact Hx
    unfold iBuf
    iexists _; iexact Hs
  isplitl [Hl]; · iexact Hl
  iexact HO

/-- Batch `b` is put out of bank `u`. -/
theorem wp_putOut (u : Bool) (b : Fin 16) (q : PosShare TreeShare) (fi : Buf (Elt F) (iLoc d)) (fx : Buf (Elt F) (xLoc d)) (fo : Buf (Elt F) (oLoc d))
    {O : CellTallies nD τ sig (HIx 1)} {W : Waits sig (HIx 1)} (hO : ∀ g, O g none = 0) {k : Pr F L} {Q : PUnit → sProp 𝕄} :
    iprop(levels ∗ gathering d L q fi fx u b ∗ oRowPts d (sl (wL L) b) fo ∗ semVal (thr d L, SemLoc.dma (wS u)) 0 ∗ owing d L O W)
      ⊢ iprop((iprop(writing d L fi fx u b ∗ xPts d q fx ∗ iBuf d L u ∗ semVal (thr d L, SemLoc.dma (gS u)) 0 ∗ owing d L O W)
            -∗ wp frame (wpE (defs₀ (F := F)) 𝒱₀ (thr d L) none) Set.univ k Q)
          -∗ wp frame (wpE (defs₀ (F := F)) 𝒱₀ (thr d L) none) Set.univ (putOut L u b k) Q) := by
  unfold putOut gathering
  iintro ⟨#Hlv, Hfl, Ho, Hw, HO⟩ Hk
  iapply (wp_own d L rfl hO) $$ [Hfl HO]
  · isplitr; · iexact Hlv
    isplitl [Hfl]; · iexact Hfl
    iexact HO
  unfold rHas
  iintro ⟨⟨⟨%fr, %hfr, Hr⟩, Hx, Hs⟩, Hg, HO⟩
  ihave Ho' := (Entails.of_eq (pts_oSl (F := F) d L b _).symm) $$ Ho
  iapply (Transfers.wp_dmaLocal countersEmb 𝒱₀ (thr d L) none (default : HIx 1) (oSl L b).view.dmaCredit rfl
    (View.dmaCredit_pos _ (by decide)) subset_rfl) $$ [Hr Ho' Hw]
  · isplitl [Hr]; · iexact Hr
    isplitl [Ho']; · iexact Ho'
    iexact Hw
  iintro Hfl
  iapply Hk
  isplitl [Hfl]
  · unfold writing
    iapply (Transfers.Flight_mono countersEmb (thr d L) ?_) $$ Hfl
    iintro ⟨Ho, Hr⟩
    isplitl [Ho]
    · iapply (Entails.of_eq ((congrArg (fun v => ((oSl L b).view.loc (thr d L) ↦[(oSl L b).view.set]{fullShare}
        (oSl L b).view.write (Elt F) fo v Finset.univ : sProp 𝕄)) hfr).trans (oRow_written (F := F) d L b fi fx fo)))
      iexact Ho
    unfold rBuf
    iexists _; iexact Hr
  isplitl [Hx]; · iexact Hx
  isplitl [Hs]; · iexact Hs
  isplitl [Hg]; · iexact Hg
  iexact HO

/-- The write of batch `b` out of bank `u` is awaited. -/
theorem wp_await (u : Bool) (b : Fin 16) (fi : Buf (Elt F) (iLoc d)) (fx : Buf (Elt F) (xLoc d))
    {O : CellTallies nD τ sig (HIx 1)} {W : Waits sig (HIx 1)} (hO : ∀ g, O g none = 0) {k : Pr F L} {Q : PUnit → sProp 𝕄} :
    iprop(levels ∗ writing d L fi fx u b ∗ owing d L O W)
      ⊢ iprop((iprop(oRowPts d (sl (wL L) b) (outVal fi fx) ∗ rBuf d L u ∗ semVal (thr d L, SemLoc.dma (wS u)) 0 ∗ owing d L O W)
            -∗ wp frame (wpE (defs₀ (F := F)) 𝒱₀ (thr d L) none) Set.univ k Q)
          -∗ wp frame (wpE (defs₀ (F := F)) 𝒱₀ (thr d L) none) Set.univ (await L u b k) Q) := by
  unfold await writing
  iintro ⟨#Hlv, Hfl, HO⟩ Hk
  iapply (wp_own d L rfl hO) $$ [Hfl HO]
  · isplitr; · iexact Hlv
    isplitl [Hfl]; · iexact Hfl
    iexact HO
  iintro ⟨⟨Ho, Hr⟩, Hw, HO⟩
  iapply Hk
  isplitl [Ho]; · iexact Ho
  isplitl [Hr]; · iexact Hr
  isplitl [Hw]; · iexact Hw
  iexact HO

end Tile

end Cert.Proof.GatherIdeal

end
-- ==== Proof.GatherIdeal.Tile.lean ====
/-
  The whole task of the SparseCore call on one vector subcore, by induction on the number of batches left to put out: the
  16 blocks of the result end at `outVal`, and the shares, the buffers and the semaphores at zero come back.
-/
module

public import proofs.«01_k».proof.Proof.GatherIdeal.Batch

@[expose] public section

noncomputable section

namespace Cert.Proof.GatherIdeal

open Cert.CandidatesIdeal Cert.CandidatesIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.CandidatesIdeal.main_v0_scv : Memref Cert.CandidatesIdeal.sig Kind.scVector Space.hbm Cert.CandidatesIdeal.S163840 EltTy.i32)
local notation "xV" => (Memref.whole Cert.CandidatesIdeal.main_arg1_scv : Memref Cert.CandidatesIdeal.sig Kind.scVector Space.hbm Cert.CandidatesIdeal.S102400x128 EltTy.f32)
local notation "oV" => (Memref.whole Cert.CandidatesIdeal.main_v1_scv : Memref Cert.CandidatesIdeal.sig Kind.scVector Space.hbm Cert.CandidatesIdeal.S163840x128 EltTy.f32)

variable (d : Dev nD) (L : grid0.Coords)

/-! ## Families over the banks and over the batches -/

/-- Something of each bank. -/
abbrev both (Φ : Bool → sProp 𝕄) : sProp 𝕄 := iprop(Φ false ∗ Φ true)

theorem both_of (Φ : Bool → sProp 𝕄) (u : Bool) : iprop(Φ u ∗ Φ (!u)) ⊢ both Φ := by
  cases u
  · exact Entails.refl _
  · iintro ⟨H1, H0⟩
    isplitl [H0]; · iapply (Entails.of_eq (congrArg Φ Bool.not_true)); iexact H0
    iexact H1

theorem both_of' (Φ : Bool → sProp 𝕄) (u : Bool) : iprop(Φ (!u) ∗ Φ u) ⊢ both Φ := by
  have h := both_of Φ (!u)
  rwa [Bool.not_not] at h

theorem bigSep_bool (Φ : Bool → sProp 𝕄) : bigSep Finset.univ Φ = both Φ := by
  rw [show (Finset.univ : Finset Bool) = {false, true} by decide, SparseCore.bigSep_insert' (by decide), bigSep_singleton]

/-- A family over the members that `f` names, and over the rest. -/
theorem bigSep_named {I J : Type} [DecidableEq I] [DecidableEq J] [Fintype J] {s : Finset I} {f : J → I} (hf : Function.Injective f) (hs : ∀ x, f x ∈ s)
    (Φ : I → sProp 𝕄) : bigSep s Φ = iprop(bigSep Finset.univ (fun x => Φ (f x)) ∗ bigSep (s \ Finset.univ.image f) Φ) := by
  refine (bigSep_sdiff_split (t := Finset.univ.image f) (fun y hy => ?_)).trans ?_
  · obtain ⟨x, -, rfl⟩ := Finset.mem_image.mp hy; exact hs x
  · rw [SparseCore.bigSep_image_of_injOn hf.injOn]; rfl

/-- The batches before batch `m`, and those from batch `m` on. -/
def before (m : ℕ) : Finset (Fin 16) := Finset.univ.filter fun b => b.val < m
def since (m : ℕ) : Finset (Fin 16) := Finset.univ.filter fun b => m ≤ b.val

theorem bt_val {m : ℕ} (hm : m < 16) : (bt m).val = m := Nat.mod_eq_of_lt hm

theorem before_succ (Φ : Fin 16 → sProp 𝕄) {m : ℕ} (hm : m < 16) : bigSep (before (m + 1)) Φ = iprop(Φ (bt m) ∗ bigSep (before m) Φ) := by
  rw [show before (m + 1) = insert (bt m) (before m) by
    ext b; simp only [before, Finset.mem_filter, Finset.mem_univ, true_and, Finset.mem_insert, Fin.ext_iff, bt_val hm]; omega]
  exact SparseCore.bigSep_insert' (by simp only [before, Finset.mem_filter, Finset.mem_univ, true_and, bt_val hm]; omega)

theorem since_succ (Φ : Fin 16 → sProp 𝕄) {m : ℕ} (hm : m < 16) : bigSep (since m) Φ = iprop(Φ (bt m) ∗ bigSep (since (m + 1)) Φ) := by
  rw [show since m = insert (bt m) (since (m + 1)) by
    ext b; simp only [since, Finset.mem_filter, Finset.mem_univ, true_and, Finset.mem_insert, Fin.ext_iff, bt_val hm]; omega]
  exact SparseCore.bigSep_insert' (by simp only [since, Finset.mem_filter, Finset.mem_univ, true_and, bt_val hm]; omega)

theorem before_zero : before 0 = ∅ := by decide
theorem before_all : before 16 = Finset.univ := by decide
theorem since_zero : since 0 = Finset.univ := by decide

/-! ## What the task holds -/

/-- The semaphores of the lists' copies, at zero. -/
def lists : sProp 𝕄 := bigSep Finset.univ fun b : Fin 16 => semVal (thr d L, SemLoc.dma (lS b)) 0

theorem lists_take (b : Fin 16) : (lists (F := F) d L) = iprop(semVal (thr d L, SemLoc.dma (lS b)) 0
    ∗ bigSep (Finset.univ.erase b) fun b : Fin 16 => semVal (thr d L, SemLoc.dma (lS b)) 0) :=
  SparseCore.bigSep_erase' (Finset.mem_univ b)

/-- The task's blocks of the result, at `f`. -/
abbrev blocks (f : Buf (Elt F) (oLoc d)) (s : Finset (Fin 16)) : sProp 𝕄 := bigSep s fun b => oRowPts d (sl (wL L) b) f

theorem blocks_before (f : Buf (Elt F) (oLoc d)) {m : ℕ} (hm : m < 16) :
    blocks d L f (before (m + 1)) = iprop(oRowPts d (sl (wL L) (bt m)) f ∗ blocks d L f (before m)) := before_succ _ hm
theorem blocks_since (f : Buf (Elt F) (oLoc d)) {m : ℕ} (hm : m < 16) :
    blocks d L f (since m) = iprop(oRowPts d (sl (wL L) (bt m)) f ∗ blocks d L f (since (m + 1))) := since_succ _ hm

section Task
variable (qi : PosShare TreeShare) (qx : Bool → PosShare TreeShare) (fi : Buf (Elt F) (iLoc d)) (fx : Buf (Elt F) (xLoc d)) (fo : Buf (Elt F) (oLoc d))
  (O : CellTallies nD τ sig (HIx 1)) (W : Waits sig (HIx 1))

/-- With `n` batches left to fetch, the next of them into bank `u`: that bank's write is under way and so is the other bank's gather. -/
def mid (n : ℕ) (u : Bool) : sProp 𝕄 :=
  iprop(iPts d qi fi ∗ gathering d L (qx (!u)) fi fx (!u) (bt (15 - n)) ∗ writing d L fi fx u (bt (14 - n))
    ∗ xPts d (qx u) fx ∗ iBuf d L u ∗ semVal (thr d L, SemLoc.dma (gS u)) 0 ∗ semVal (thr d L, SemLoc.dma (wS (!u))) 0
    ∗ lists d L ∗ blocks d L (outVal fi fx) (before (14 - n)) ∗ blocks d L fo (since (15 - n)) ∗ owing d L O W)

/-- At the start, the blocks being at `fo`, and at the end, when they are at `outVal`. -/
def holds (f : Buf (Elt F) (oLoc d)) : sProp 𝕄 :=
  iprop(iPts d qi fi ∗ both (fun u => xPts d (qx u) fx) ∗ both (iBuf d L) ∗ both (rBuf d L)
      ∗ both (fun u => semVal (thr d L, SemLoc.dma (gS u)) 0) ∗ both (fun u => semVal (thr d L, SemLoc.dma (wS u)) 0)
      ∗ lists d L ∗ blocks d L f Finset.univ ∗ owing d L O W)

variable [FloatOps F]

/-- The rest of the task, with `n` batches left to fetch. -/
theorem wp_pipe (hpre : ∀ j, (fi j).toNat < 102400) (hO : ∀ g, O g none = 0) : ∀ (n : ℕ), n ≤ 14 → ∀ u : Bool,
    iprop(levels ∗ mid d L qi qx fi fx fo O W n u)
      ⊢ wp frame (wpE (defs₀ (F := F)) 𝒱₀ (thr d L) none) Set.univ (pipe L n u) fun _ => holds d L qi qx fi fx O W (outVal fi fx)
  | 0, _, u => by
    unfold mid pipe holds
    rw [blocks_since d L _ (show 15 - 0 < 16 by omega)]
    iintro ⟨#Hlv, Hi, Hga, Hwr, Hx, Hib, Hg, Hw, Hl, Hd, ⟨Ho, -⟩, HO⟩
    iapply (wp_putOut d L (!u) (bt 15) (qx (!u)) fi fx fo hO) $$ [Hga Ho Hw HO]
    · isplitr; · iexact Hlv
      isplitl [Hga]; · iexact Hga
      isplitl [Ho]; · iexact Ho
      isplitl [Hw]; · iexact Hw
      iexact HO
    iintro ⟨Hwr', Hx', Hib', Hg', HO⟩
    iapply (wp_await d L u (bt 14) fi fx hO) $$ [Hwr HO]
    · isplitr; · iexact Hlv
      isplitl [Hwr]; · iexact Hwr
      iexact HO
    iintro ⟨Ho, Hrb, Hw, HO⟩
    iapply (wp_await d L (!u) (bt 15) fi fx hO) $$ [Hwr' HO]
    · isplitr; · iexact Hlv
      isplitl [Hwr']; · iexact Hwr'
      iexact HO
    iintro ⟨Ho', Hrb', Hw', HO⟩
    rw [wp_pure]; imodintro
    isplitl [Hi]; · iexact Hi
    isplitl [Hx Hx']; · iapply (both_of (fun u => xPts d (qx u) fx) u); isplitl [Hx] <;> iassumption
    isplitl [Hib Hib']; · iapply (both_of (iBuf d L) u); isplitl [Hib] <;> iassumption
    isplitl [Hrb Hrb']; · iapply (both_of (rBuf d L) u); isplitl [Hrb] <;> iassumption
    isplitl [Hg Hg']; · iapply (both_of (fun u => semVal (thr d L, SemLoc.dma (gS u)) 0) u); isplitl [Hg] <;> iassumption
    isplitl [Hw Hw']; · iapply (both_of (fun u => semVal (thr d L, SemLoc.dma (wS u)) 0) u); isplitl [Hw] <;> iassumption
    isplitl [Hl]; · iexact Hl
    isplitl [Hd Ho Ho']
    · rw [← before_all, blocks_before d L _ (show 15 < 16 by omega), blocks_before d L _ (show 14 < 16 by omega)]
      isplitl [Ho']; · iexact Ho'
      isplitl [Ho]; · iexact Ho
      iexact Hd
    iexact HO
  | n + 1, hn, u => by
    unfold pipe
    unfold mid
    rw [show 15 - (n + 1) = 14 - n by omega, show 14 - (n + 1) = 13 - n by omega, blocks_since d L _ (show 14 - n < 16 by omega),
      show 14 - n + 1 = 15 - n by omega, lists_take d L (bt (15 - n))]
    iintro ⟨#Hlv, Hi, Hga, Hwr, Hx, Hib, Hg, Hw, ⟨Hl, Hls⟩, Hd, ⟨Ho, Hos⟩, HO⟩
    iapply (wp_await d L u (bt (13 - n)) fi fx hO) $$ [Hwr HO]
    · isplitr; · iexact Hlv
      isplitl [Hwr]; · iexact Hwr
      iexact HO
    iintro ⟨Hod, Hrb, Hwu, HO⟩
    iapply (wp_fetch d L u (bt (15 - n)) qi (qx u) fi fx hpre hO) $$ [Hi Hx Hib Hrb Hl Hg HO]
    · isplitr; · iexact Hlv
      isplitl [Hi]; · iexact Hi
      isplitl [Hx]; · iexact Hx
      isplitl [Hib]; · iexact Hib
      isplitl [Hrb]; · iexact Hrb
      isplitl [Hl]; · iexact Hl
      isplitl [Hg]; · iexact Hg
      iexact HO
    iintro ⟨Hi, Hga', Hl, HO⟩
    iapply (wp_putOut d L (!u) (bt (14 - n)) (qx (!u)) fi fx fo hO) $$ [Hga Ho Hw HO]
    · isplitr; · iexact Hlv
      isplitl [Hga]; · iexact Hga
      isplitl [Ho]; · iexact Ho
      isplitl [Hw]; · iexact Hw
      iexact HO
    iintro ⟨Hwr, Hx, Hib, Hg, HO⟩
    iapply (wp_pipe hpre hO n (by omega) (!u))
    isplitr; · iexact Hlv
    unfold mid
    rw [Bool.not_not, show 14 - n = 13 - n + 1 by omega, blocks_before d L _ (show 13 - n < 16 by omega), show 13 - n + 1 = 14 - n by omega,
      lists_take d L (bt (15 - n))]
    isplitl [Hi]; · iexact Hi
    isplitl [Hga']; · iexact Hga'
    isplitl [Hwr]; · iexact Hwr
    isplitl [Hx]; · iexact Hx
    isplitl [Hib]; · iexact Hib
    isplitl [Hg]; · iexact Hg
    isplitl [Hwu]; · iexact Hwu
    isplitl [Hl Hls]
    · isplitl [Hl]; · iexact Hl
      iexact Hls
    isplitl [Hod Hd]
    · isplitl [Hod]; · iexact Hod
      iexact Hd
    isplitl [Hos]; · iexact Hos
    iexact HO

attribute [local irreducible] pipe in
/-- The whole task. -/
theorem wp_task (hpre : ∀ j, (fi j).toNat < 102400) (hO : ∀ g, O g none = 0) :
    iprop(levels ∗ holds d L qi qx fi fx O W fo)
      ⊢ wp frame (wpE (defs₀ (F := F)) 𝒱₀ (thr d L) none) Set.univ (task L) fun _ => holds d L qi qx fi fx O W (outVal fi fx) := by
  unfold task holds
  rw [← since_zero, blocks_since d L _ (show 0 < 16 by omega)]
  iintro ⟨#Hlv, Hi, ⟨Hx0, Hx1⟩, ⟨Hib0, Hib1⟩, ⟨Hrb0, Hrb1⟩, ⟨Hg0, Hg1⟩, ⟨Hw0, Hw1⟩, Hl, ⟨Ho, Hos⟩, HO⟩
  ihave Hl' := (Entails.of_eq (lists_take d L (bt 0))) $$ Hl
  icases Hl' with ⟨Hl, Hls⟩
  iapply (wp_fetch d L false (bt 0) qi (qx false) fi fx hpre hO) $$ [Hi Hx0 Hib0 Hrb0 Hl Hg0 HO]
  · isplitr; · iexact Hlv
    isplitl [Hi]; · iexact Hi
    isplitl [Hx0]; · iexact Hx0
    isplitl [Hib0]; · iexact Hib0
    isplitl [Hrb0]; · iexact Hrb0
    isplitl [Hl]; · iexact Hl
    isplitl [Hg0]; · iexact Hg0
    iexact HO
  iintro ⟨Hi, Hga0, Hl, HO⟩
  ihave Hl' := (Entails.of_eq (lists_take d L (bt 0)).symm) $$ [Hl Hls]; · isplitl [Hl] <;> iassumption
  ihave Hl'' := (Entails.of_eq (lists_take d L (bt 1))) $$ Hl'
  icases Hl'' with ⟨Hl, Hls⟩
  iapply (wp_fetch d L true (bt 1) qi (qx true) fi fx hpre hO) $$ [Hi Hx1 Hib1 Hrb1 Hl Hg1 HO]
  · isplitr; · iexact Hlv
    isplitl [Hi]; · iexact Hi
    isplitl [Hx1]; · iexact Hx1
    isplitl [Hib1]; · iexact Hib1
    isplitl [Hrb1]; · iexact Hrb1
    isplitl [Hl]; · iexact Hl
    isplitl [Hg1]; · iexact Hg1
    iexact HO
  iintro ⟨Hi, Hga1, Hl, HO⟩
  ihave Hl' := (Entails.of_eq (lists_take d L (bt 1)).symm) $$ [Hl Hls]; · isplitl [Hl] <;> iassumption
  iapply (wp_putOut d L false (bt 0) (qx false) fi fx fo hO) $$ [Hga0 Ho Hw0 HO]
  · isplitr; · iexact Hlv
    isplitl [Hga0]; · iexact Hga0
    isplitl [Ho]; · iexact Ho
    isplitl [Hw0]; · iexact Hw0
    iexact HO
  iintro ⟨Hwr, Hx0, Hib0, Hg0, HO⟩
  iapply (wp_pipe d L qi qx fi fx fo O W hpre hO 14 (le_refl _) false)
  isplitr; · iexact Hlv
  unfold mid
  isplitl [Hi]; · iexact Hi
  isplitl [Hga1]; · iexact Hga1
  isplitl [Hwr]; · iexact Hwr
  isplitl [Hx0]; · iexact Hx0
  isplitl [Hib0]; · iexact Hib0
  isplitl [Hg0]; · iexact Hg0
  isplitl [Hw1]; · iexact Hw1
  isplitl [Hl']; · iexact Hl'
  isplitr; · unfold blocks; rw [before_zero, bigSep_empty]; iempintro
  isplitl [Hos]; · iexact Hos
  iexact HO

end Task

/-! ## The subcore's own semaphores and buffers -/

/-- The task's semaphores. -/
def semOf : Bool ⊕ (Bool ⊕ Fin 16) → DmaSem sig | .inl u => gS u | .inr (.inl u) => wS u | .inr (.inr b) => lS b
theorem semOf_inj : Function.Injective semOf := by decide
theorem semOf_scoped : ∀ x, (SemLoc.dma (semOf x) : SemLoc sig).isScoped .scVector = true := by decide
abbrev cellOf (x : Bool ⊕ (Bool ⊕ Fin 16)) : GSem nD τ sig := (thr d L, SemLoc.dma (semOf x))

/-- The subcore's other semaphores, at zero. -/
def restSems : sProp 𝕄 := bigSep (ownCells (thr d L) \ Finset.univ.image (cellOf d L)) fun g => semVal g 0

theorem ownSems0_V : (ownSems0 (thr d L) : sProp 𝕄)
    = iprop((both (fun u => semVal (thr d L, SemLoc.dma (gS u)) 0) ∗ both (fun u => semVal (thr d L, SemLoc.dma (wS u)) 0) ∗ lists d L) ∗ restSems d L) := by
  unfold SparseCore.Cfg.ownSems0 restSems lists
  rw [bigSep_named (s := ownCells (thr d L)) (f := cellOf d L)
    (fun x y e => semOf_inj (SemLoc.dma.inj (Prod.mk.inj e).2)) (fun x => mem_ownCells.mpr ⟨rfl, semOf_scoped x⟩),
    bigSep_univ_sum, bigSep_univ_sum, bigSep_bool, bigSep_bool]
  rfl

/-- The task's buffers. -/
def refOf : Bool ⊕ Bool → Ref sig .scVector | .inl u => iRef u | .inr u => rRef u
theorem refOf_inj : Function.Injective refOf := by decide
abbrev bufOf (x : Bool ⊕ Bool) : DevRef τ sig := (Proc.scVector (cV L) (jV L)).devRef (refOf x)
theorem bufOf_mem (x : Bool ⊕ Bool) : bufOf L x ∈ ownRefs (τ := τ) (sig := sig) (.scVector (cV L) (jV L)) := by
  rcases x with u | u <;> cases u <;> exact SparseCore.Cfg.mem_ownRefs_of_owner rfl

/-- The subcore's other buffers. -/
def restBufs : sProp 𝕄 := bigSep (ownRefs (τ := τ) (sig := sig) (.scVector (cV L) (jV L)) \ Finset.univ.image (bufOf L)) fun b =>
  iprop(∃ f, ((d, b) : Loc nD τ sig) ↦{fullShare} f)

theorem iBuf_eq (u : Bool) : (iBuf (F := F) d L u) = iprop(∃ f, ((d, bufOf L (.inl u)) : Loc nD τ sig) ↦{fullShare} f) := by
  unfold iBuf
  cases u
  · rw [show (iM false).view.set = Finset.univ from View.set_whole _]; rfl
  · rw [show (iM true).view.set = Finset.univ from View.set_whole _]; rfl
theorem rBuf_eq (u : Bool) : (rBuf (F := F) d L u) = iprop(∃ f, ((d, bufOf L (.inr u)) : Loc nD τ sig) ↦{fullShare} f) := by
  unfold rBuf
  cases u
  · rw [show (rM false).view.set = Finset.univ from View.set_whole _]; rfl
  · rw [show (rM true).view.set = Finset.univ from View.set_whole _]; rfl

theorem ownBufs_V : (ownBufs (thr d L) : sProp 𝕄) = iprop((both (iBuf d L) ∗ both (rBuf d L)) ∗ restBufs d L) := by
  unfold SparseCore.Cfg.ownBufs restBufs
  rw [bigSep_named (s := ownRefs (τ := τ) (sig := sig) (thr d L).2) (f := bufOf L)
    (fun x y e => refOf_inj (Proc.devRef_injective _ e)) (bufOf_mem L), bigSep_univ_sum, bigSep_bool, bigSep_bool,
    show iBuf (F := F) d L = _ from funext (iBuf_eq d L), show rBuf (F := F) d L = _ from funext (rBuf_eq d L)]
  rfl

/-! ## The body -/

variable [FloatOps F]

/-- A share of the table, halved between the banks. -/
def halves (q : PosShare TreeShare) (u : Bool) : PosShare TreeShare := pieceOf q 2 (by decide) (if u then 1 else 0)

theorem xPts_halves (q : PosShare TreeShare) (f : Buf (Elt F) (xLoc d)) : (xPts d q f : sProp 𝕄) = both fun u => xPts d (halves q u) f := by
  refine (pointsTo_piecesOf (o := 2) Finset.univ f (by decide) q).trans ?_
  rw [show (Finset.univ : Finset (Fin 2)) = {0, 1} by decide, SparseCore.bigSep_insert' (by decide), bigSep_singleton]
  rfl

theorem tile_body (hF : (K (F := F)).Facts) (qi qx : PosShare TreeShare) (fi : Buf (Elt F) (iLoc d)) (fx : Buf (Elt F) (xLoc d)) (fo : Buf (Elt F) (oLoc d))
    (hpre : ∀ j, (fi j).toNat < 102400) (O : CellTallies nD τ sig (HIx 1)) (W : Waits sig (HIx 1)) (hO : ∀ g, O g none = 0) :
    iprop(levAts (K (F := F)).L (K (F := F)).lev ∗ emp
        ∗ (iPts d qi fi ∗ xPts d qx fx ∗ blocks d L fo Finset.univ)
        ∗ scopedBufs (thr d L) ∗ scopedSems0 (thr d L) ∗ owes (thr d L) O W)
      ⊢ wp frame (wpE (defs₀ (F := F)) 𝒱₀ (thr d L) none) Set.univ (task L)
          fun _ => iprop((iPts d qi fi ∗ xPts d qx fx ∗ blocks d L (outVal fi fx) Finset.univ)
            ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V, ownBufs_V, xPts_halves]
  refine BI.Entails.trans ?_ (BI.Entails.trans (BI.sep_mono (wp_task d L qi (halves qx) fi fx fo O W hpre hO) (BI.Entails.refl iprop(restBufs d L ∗ restSems d L)))
    (BI.Entails.trans (wp_frame_r (Fr := frame) (wpE := wpE (defs₀ (F := F)) 𝒱₀ (thr d L) none) (E := Set.univ) (p := task L) (R := iprop(restBufs d L ∗ restSems d L))) (wp_mono frame _ _ fun _ => ?_)))
  · show _ ⊢ iprop((levels ∗ holds d L qi (halves qx) fi fx O W fo) ∗ restBufs d L ∗ restSems d L)
    unfold holds owing
    iintro ⟨#Hlv, -, ⟨Hi, Hx, Ho⟩, ⟨⟨Hib, Hrb⟩, Hbs⟩, ⟨⟨Hg, Hw, Hl⟩, Hss⟩, HO⟩
    isplitr [Hbs Hss]
    · isplitr; · iexact Hlv
      isplitl [Hi]; · iexact Hi
      isplitl [Hx]; · iexact Hx
      isplitl [Hib]; · iexact Hib
      isplitl [Hrb]; · iexact Hrb
      isplitl [Hg]; · iexact Hg
      isplitl [Hw]; · iexact Hw
      isplitl [Hl]; · iexact Hl
      isplitl [Ho]; · iexact Ho
      iexists W; isplitr
      · ipureintro; exact fun p hp => .inl hp
      iexact HO
    isplitl [Hbs] <;> iassumption
  · show iprop(holds d L qi (halves qx) fi fx O W (outVal fi fx) ∗ restBufs d L ∗ restSems d L) ⊢ _
    unfold holds owing
    iintro ⟨⟨Hi, Hx, Hib, Hrb, Hg, Hw, Hl, Ho, HO⟩, Hbs, Hss⟩
    isplitl [Hi Hx Ho]
    · isplitl [Hi]; · iexact Hi
      isplitl [Hx]; · iexact Hx
      iexact Ho
    isplitl [Hib Hrb Hbs]
    · isplitl [Hib Hrb]
      · isplitl [Hib] <;> iassumption
      iexact Hbs
    isplitl [Hg Hw Hl Hss]
    · isplitl [Hg Hw Hl]
      · isplitl [Hg]; · iexact Hg
        isplitl [Hw]; · iexact Hw
        iexact Hl
      iexact Hss
    iexact HO

end Cert.Proof.GatherIdeal

end
-- ==== Proof.GatherIdeal.Launch.lean ====
/-
  The launch of the call: each of the 32 tasks takes a share of the flattened row numbers, a share of the table and its
  sixteen blocks of 320 rows of the result, and brings them back with the blocks computed. @main flattens the row numbers and runs
  the call; at the end the result holds `outVal`, the arguments are as they were and every semaphore counter is zero.
-/
module

public import proofs.«01_k».proof.Proof.GatherIdeal.Tile

@[expose] public section

noncomputable section

namespace Cert.Proof.GatherIdeal

open Cert.CandidatesIdeal Cert.CandidatesIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)

variable {F : FTy → Type}

local notation "𝕄" => MT nD τ sig (HIx 1) (Elt F) ℕ UU ℕ

local notation "iV" => (Memref.whole Cert.CandidatesIdeal.main_v0_scv : Memref Cert.CandidatesIdeal.sig Kind.scVector Space.hbm Cert.CandidatesIdeal.S163840 EltTy.i32)
local notation "xV" => (Memref.whole Cert.CandidatesIdeal.main_arg1_scv : Memref Cert.CandidatesIdeal.sig Kind.scVector Space.hbm Cert.CandidatesIdeal.S102400x128 EltTy.f32)
local notation "oV" => (Memref.whole Cert.CandidatesIdeal.main_v1_scv : Memref Cert.CandidatesIdeal.sig Kind.scVector Space.hbm Cert.CandidatesIdeal.S163840x128 EltTy.f32)

variable [FloatOps F] (m : (ℓ : Loc nD τ sig) → Buf (Elt F) ℓ) (ρ : Dev nD → PrngReg)

/-! ## Shares and blocks -/

/-- Task `(c, i)`'s share of an array that every task reads. -/
def shr (c : Fin 2) (i : Fin 16) : PosShare TreeShare := pieceOf (pieceOf fullShare 2 (by decide) c) 16 (by decide) i

theorem pts_shares {ℓ : Loc nD τ sig} (f : Buf (Elt F) ℓ) :
    (ℓ ↦{fullShare} f : sProp 𝕄) = bigSep Finset.univ fun c : Fin 2 => bigSep Finset.univ fun i : Fin 16 => ℓ ↦{shr c i} f := by
  rw [pointsTo_piecesOf (o := 2) Finset.univ f (by decide) fullShare]
  exact bigSep_congr fun c _ => pointsTo_piecesOf (o := 16) Finset.univ f (by decide) _

theorem oRowSet_eq (n : Fin 512) : oRowSet n = (orow n).set := by
  show ((View.whole (main_v1_scv : Ref sig .scVector)).slice (orow n)).set = _
  rw [View.set_slice]; exact Finset.map_refl

/-- The block that batch `b` of task `(c, i)` writes. -/
abbrev blk (p : Fin 2 × Fin 16 × Fin 16) : Fin 512 := sl (wid p.1 p.2.1) p.2.2

theorem blk_inj (p p' : Fin 2 × Fin 16 × Fin 16) (h : blk p = blk p') : p = p' := by
  obtain ⟨c, i, b⟩ := p
  obtain ⟨c', i', b'⟩ := p'
  have := congrArg Fin.val h
  simp only [sl, wid] at this
  exact Prod.ext (Fin.ext (by show c.val = c'.val; omega))
    (Prod.ext (Fin.ext (by show i.val = i'.val; omega)) (Fin.ext (by show b.val = b'.val; omega)))

theorem orows_disjoint : ∀ p ∈ (Finset.univ : Finset (Fin 2 × Fin 16 × Fin 16)), ∀ p' ∈ (Finset.univ : Finset (Fin 2 × Fin 16 × Fin 16)), p ≠ p' →
    Disjoint (oRowSet (blk p)) (oRowSet (blk p')) :=
  fun p _ p' _ h => by rw [oRowSet_eq, oRowSet_eq]; exact Rect.part_disjoint odiv fun e => h (blk_inj p p' e)

theorem orows_cover : (Finset.univ : Finset (Fin 2 × Fin 16 × Fin 16)).biUnion (fun p => oRowSet (blk p)) = Finset.univ := by
  refine Finset.eq_univ_iff_forall.mpr fun j => ?_
  have hj : j ∈ (Finset.univ : Finset (Fin 512)).biUnion fun n => (orow n).set := by rw [Rect.biUnion_part odiv]; exact Finset.mem_univ _
  obtain ⟨n, -, hn⟩ := Finset.mem_biUnion.mp hj
  refine Finset.mem_biUnion.mpr ⟨(⟨n.val / 16 % 2, Nat.mod_lt _ (by decide)⟩, ⟨n.val / 32, by omega⟩, ⟨n.val % 16, Nat.mod_lt _ (by decide)⟩), Finset.mem_univ _, ?_⟩
  rw [oRowSet_eq]
  have e : blk (⟨n.val / 16 % 2, Nat.mod_lt _ (by decide)⟩, ⟨n.val / 32, by omega⟩, ⟨n.val % 16, Nat.mod_lt _ (by decide)⟩) = n :=
    Fin.ext (by show 16 * (2 * (n.val / 32) + n.val / 16 % 2) + n.val % 16 = n.val; omega)
  rw [e]; exact hn

/-- The blocks of task `(c, i)`, at `f`. -/
abbrev tBlocks (d : Dev nD) (c : Fin 2) (i : Fin 16) (f : Buf (Elt F) (oLoc d)) : sProp 𝕄 :=
  bigSep Finset.univ fun b : Fin 16 => oRowPts d (sl (wid c i) b) f

theorem oPts_rows (d : Dev nD) (f : Buf (Elt F) (oLoc d)) :
    (oLoc d ↦{fullShare} f : sProp 𝕄) = bigSep Finset.univ fun c : Fin 2 => bigSep Finset.univ fun i : Fin 16 => tBlocks d c i f := by
  have h1 : (bigSep Finset.univ fun c : Fin 2 => bigSep Finset.univ fun i : Fin 16 => tBlocks d c i f)
      = bigSep Finset.univ fun p : Fin 2 × Fin 16 × Fin 16 => oRowPts d (blk p) f :=
    (bigSep_congr fun c _ => (bigSep_univ_prod fun q : Fin 16 × Fin 16 => oRowPts d (blk (c, q)) f).symm).trans
      (bigSep_univ_prod fun p : Fin 2 × Fin 16 × Fin 16 => oRowPts d (blk p) f).symm
  rw [h1, ← pointsTo_biUnion Finset.univ (ℓ := oLoc d) (fun p : Fin 2 × Fin 16 × Fin 16 => oRowSet (blk p)) orows_disjoint, orows_cover]; try rfl

/-! ## What the call hands over -/

/-- The row numbers, flattened. -/
def flat (d : Dev nD) : Buf (Elt F) (iLoc d) := shapeCast S163840 (m (aLoc d)) shapeCasts_S4096x40_S163840

/-- The result. -/
def res (d : Dev nD) : Buf (Elt F) (oLoc d) := outVal (flat m d) (m (xLoc d))

/-- What task `(c, i)` holds: its shares, and its blocks of the result at `f`. -/
abbrev tPts (d : Dev nD) (c : Fin 2) (i : Fin 16) (f : Buf (Elt F) (oLoc d)) : sProp 𝕄 :=
  iprop(iPts d (shr c i) (flat m d) ∗ xPts d (shr c i) (m (xLoc d)) ∗ tBlocks d c i f)
/-- What SparseCore `c`'s tasks hold together. -/
abbrev cPts (d : Dev nD) (c : Fin 2) (f : Buf (Elt F) (oLoc d)) : sProp 𝕄 := bigSep Finset.univ fun i : Fin 16 => tPts m d c i f

def P : (K (F := F)).Pay (nD := nD) (Val := Elt F) (Name := ℕ) (U := UU) where
  st := fun q d c => match q with | 0 => cPts m d (Fin.cast nCore_zero c) (m (oLoc d))
  dn := fun q d c => match q with | 0 => cPts m d (Fin.cast nCore_zero c) (res m d)
  go := fun q d c i => match q with | 0 => tPts m d (Fin.cast nCore_zero c) (Fin.cast nSub_zero i) (m (oLoc d))
  td := fun q d c i => match q with | 0 => tPts m d (Fin.cast nCore_zero c) (Fin.cast nSub_zero i) (res m d)
  x := fun _ _ => iprop(emp)

instance P_storable : (P (F := F) m).IsStorable where
  st q d c := match q with
    | 0 => (inferInstance : BI.Storable (upEmb : UEmb _ 𝕄) (cPts m d (Fin.cast nCore_zero c) (m (oLoc d))))
  dn q d c := match q with
    | 0 => (inferInstance : BI.Storable (upEmb : UEmb _ 𝕄) (cPts m d (Fin.cast nCore_zero c) (res m d)))
  go q d c i := match q with
    | 0 => (inferInstance : BI.Storable (upEmb : UEmb _ 𝕄) (tPts m d (Fin.cast nCore_zero c) (Fin.cast nSub_zero i) (m (oLoc d))))
  td q d c i := match q with
    | 0 => (inferInstance : BI.Storable (upEmb : UEmb _ 𝕄) (tPts m d (Fin.cast nCore_zero c) (Fin.cast nSub_zero i) (res m d)))

/-- What the proof asks of the launch memory: every row number is one of the table's rows. -/
def PreOK : Prop := ∀ (d : Dev nD) (j : S4096x40.Idx), (m (aLoc d) j).toNat < 102400

theorem flat_lt (hpre : PreOK m) (d : Dev nD) (j : S163840.Idx) : (flat m d j).toNat < 102400 := hpre d _

/-! ## The obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 () = SparseCore.onTile hcore0 hsub0 (fun c s => task (coordsV c s)) ⟨⟩ c s := by
  simp only [← body_eq]; rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) hF _ _ (flat m d) (m (xLoc d)) (m (oLoc d)) (flat_lt m hpre d) O W hO).trans (wp_mono frame _ _ fun _ => obl_post)

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P m) 0 := by
  intro d c
  show cPts m d (Fin.cast nCore_zero c) (m (oLoc d)) ⊢ |={Set.univ}=> iprop(
      (bigSep Finset.univ fun i : Fin ((K (F := F)).nSub 0) => tPts m d (Fin.cast nCore_zero c) (Fin.cast nSub_zero i) (m (oLoc d)))
      ∗ ((bigSep Finset.univ fun i : Fin ((K (F := F)).nSub 0) => tPts m d (Fin.cast nCore_zero c) (Fin.cast nSub_zero i) (res m d))
          -∗ cPts m d (Fin.cast nCore_zero c) (res m d)))
  rw [bigSep_tasks (F := F) (fun i => tPts m d (Fin.cast nCore_zero c) i (m (oLoc d))),
    bigSep_tasks (F := F) (fun i => tPts m d (Fin.cast nCore_zero c) i (res m d))]
  iintro H; imodintro
  isplitl [H]; · iexact H
  iintro H; iexact H

/-! ## The launch element of the certificate's ghost state -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

/-- The operation that flattens the row numbers. -/
abbrev opFlat : HloOp τ sig (Elt F) := StableHlo.reshape main_arg0 main_v0 (rfl : (.i32 : EltTy) = .i32) shapeCasts_S4096x40_S163840

abbrev a' : DevRef τ sig := Proc.devRef .tc main_arg0
abbrev i' : DevRef τ sig := Proc.devRef .tc main_v0

theorem held_two (d : Dev nD) (V : Valuation τ sig (Elt F)) :
    (held (SparseCore.T d) ({a', i'} : Finset (DevRef τ sig)) V : sProp 𝕄) = iprop((aLoc d ↦{fullShare} V a') ∗ iLoc d ↦{fullShare} V i') := by
  unfold held
  rw [SparseCore.bigSep_insert' (by decide), bigSep_singleton]

theorem held_flat (d : Dev nD) :
    (held (SparseCore.T d) ({a', i'} : Finset (DevRef τ sig)) ((opFlat (F := F)).result fun b => m (d, b)) : sProp 𝕄)
      = iprop((aLoc d ↦{fullShare} m (aLoc d)) ∗ iLoc d ↦{fullShare} flat m d) := by
  rw [held_two, (opFlat (F := F)).result_of_not_mem _ (b := a') (show a' ∉ ({i'} : Finset (DevRef τ sig)) by decide),
    show (opFlat (F := F)).result (fun b => m (d, b)) i' = flat m d from StableHlo.reshape_result _ _ _ _ _ _ _]

theorem unscopedBufs_eq (d : Dev nD) (W : (b : Ref sig .tc) → Buf (Elt F) ((d.tc : Thread nD τ).loc b)) :
    (unscopedBufs d W : sProp 𝕄) = iprop((aLoc d ↦{fullShare} W main_arg0) ∗ (xLoc d ↦{fullShare} W main_arg1) ∗ (iLoc d ↦{fullShare} W main_v0) ∗ oLoc d ↦{fullShare} W main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

theorem cores_eq (d : Dev nD) (f : Buf (Elt F) (oLoc d)) :
    (bigSep Finset.univ fun c : Fin 2 => cPts m d c f)
      = (iprop((iLoc d ↦{fullShare} flat m d) ∗ (xLoc d ↦{fullShare} m (xLoc d)) ∗ oLoc d ↦{fullShare} f) : sProp 𝕄) := by
  rw [pts_shares (flat m d), pts_shares (m (xLoc d)), oPts_rows]
  unfold cPts tPts
  simp only [bigSep_sep']

theorem st0_eq (d : Dev nD) : (bigSep Finset.univ fun c : Fin ((K (F := F)).nCore 0) => (P m).st 0 d c)
    = iprop((iLoc d ↦{fullShare} flat m d) ∗ (xLoc d ↦{fullShare} m (xLoc d)) ∗ oLoc d ↦{fullShare} m (oLoc d)) :=
  (bigSep_cores (F := F) fun c => cPts m d c (m (oLoc d))).trans (cores_eq m d _)
theorem dn0_eq (d : Dev nD) : (bigSep Finset.univ fun c : Fin ((K (F := F)).nCore 0) => (P m).dn 0 d c)
    = iprop((iLoc d ↦{fullShare} flat m d) ∗ (xLoc d ↦{fullShare} m (xLoc d)) ∗ oLoc d ↦{fullShare} res m d) :=
  (bigSep_cores (F := F) fun c => cPts m d c (res m d)).trans (cores_eq m d _)

/-- What @main leaves: the arguments as they were, the result computed. -/
abbrev FIN (d : Dev nD) : sProp 𝕄 := iprop((aLoc d ↦{fullShare} m (aLoc d)) ∗ (xLoc d ↦{fullShare} m (xLoc d)) ∗ oLoc d ↦{fullShare} res m d)

/-- @main on device `d`'s TensorCore: the row numbers flattened, then the call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Ha, Hx, Hi, Ho⟩, Hts, -⟩, -⟩
  iapply (wp_hlo_within 𝒱 (SparseCore.T d) none Set.univ (op := opFlat) (S := {a', i'}) (show ({a', i'} : Finset (DevRef τ sig)) ⊆ {a', i'} from subset_rfl)
    (V := fun b => m (d, b))) $$ [Hb Ha Hi]
  · isplitl [Hb]; · iexact Hb
    rw [held_two]
    isplitl [Ha]; · iexact Ha
    iexact Hi
  iintro ⟨Hb, Hheld⟩
  rw [wp_ret]; imodintro
  ihave Hh := (Entails.of_eq (held_flat (F := F) m d)) $$ Hheld
  icases Hh with ⟨Ha, Hi⟩
  iapply ((K (F := F)).wp_run (D (F := F)) 𝒱 (EH := EH) (P := P m) κ d 0) $$ [Hst Ha Hi Hx Ho Hb Hts]
  isplitr; · iexact Hctx
  isplitl [Hst]; · iexact Hst
  isplitl [Hi Hx Ho]
  · rw [st0_eq]
    isplitl [Hi]; · iexact Hi
    isplitl [Hx]; · iexact Hx
    iexact Ho
  iintro ⟨Hst, Hdn⟩
  ihave Hdn' := (Entails.of_eq (dn0_eq m d)) $$ Hdn
  icases Hdn' with ⟨-, Hx, Ho⟩
  imodintro
  isplitl [Hst]; · iexact Hst
  isplitr [Hb Hts]
  · isplitl [Ha]; · iexact Ha
    isplitl [Hx]; · iexact Hx
    iexact Ho
  isplitl [Hb] <;> iassumption

/-- What the claims read of device `d`'s final state. -/
def fq (d : Dev nD) (s' : Phys nD τ sig (Elt F)) : Prop :=
  s'.mem.mem (oLoc d) = res m d ∧ s'.mem.mem (aLoc d) = m (aLoc d) ∧ s'.mem.mem (xLoc d) = m (xLoc d)

set_option maxRecDepth 16384 in
theorem hfin (d : Dev nD) (s' : Phys nD τ sig (Elt F)) : iprop(FIN m d ∗ SI s') ⊢ (⌜fq m d s'⌝ : sProp 𝕄) := by
  iintro ⟨⟨Ha, Hx, Ho⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%h2, HSI, -⟩
  ihave H := (SI_pointsTo_agree (st := s') (ℓ := oLoc d) (I := Finset.univ) (q := fullShare) (f := res m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

def QC : PUnit × MemSt nD τ sig (Elt F) → Prop := fun r =>
  (∀ c : Dev nD, r.2.mem (oLoc c) = res m c ∧ r.2.mem (aLoc c) = m (aLoc c) ∧ r.2.mem (xLoc c) = m (xLoc c)) ∧ r.2.sem = fun _ => 0

/-- Every execution ends, nothing faulting, with the result at `res`, the arguments as they were and every counter at zero. -/
theorem run_main [∀ e, Nonempty (Elt F e)] (hpre : PreOK m) :
    θ_run (Cert.CandidatesIdeal.defs (F := F)) (Cert.CandidatesIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.GatherIdeal

end
-- ==== Proof.Rows.RefValue.lean ====
/-
  The reference's result, for row numbers that lie in the table and at any float instance: `jnp.take` of the table at the
  flattened row numbers, as the host computes it (one whole row for each number, after negative numbers are wrapped and with
  the rows out of range masked), is the kernel's function of the flattened row numbers and the table.
-/
module

public import proofs.«01_k».proof.Proof.Gather.Launch
public import proofs.«01_k».proof.Proof.Gen.CandidatesReference.Run
public import proofs.«01_k».proof.Proof.Gen.CandidatesReferenceIdeal.Run
public import proofs.«01_k».proof.Proof.Mean.Take

@[expose] public section

noncomputable section

namespace Cert.Proof.Rows

open Cert.CandidatesReferenceIdeal Cert.CandidatesReferenceIdeal.Gen
open Idealize.ShloMosaic Idealize.ShloMosaic.ValueIdx
open Cert.Proof.Mean (reduce_andi_ones word_facts)

/-- The gather's dimension numbers. -/
abbrev takeDims2 (N L R : Nat) (wf : GatherDims.WF ⟨2, ![N, L]⟩ ⟨2, ![R, 1]⟩ ⟨2, ![R, L]⟩ [1] [0] [] [0] [] 1 ![1, L]) :
    GatherDims ⟨2, ![N, L]⟩ ⟨2, ![R, 1]⟩ ⟨2, ![R, L]⟩ where
  offsetDims := [1]
  collapsedSliceDims := [0]
  operandBatchingDims := []
  startIndicesBatchingDims := []
  startIndexMap := [0]
  indexVectorDim := 1
  sliceSizes := ![1, L]
  wf := wf

/-- The gather at `(q, l)`: column `l` of the row that `idx[q, 0]` names, clamped into the table. -/
theorem gather_take2 {α : Type} {N L R w : Nat} (hN : 0 < N)
    (wf : GatherDims.WF ⟨2, ![N, L]⟩ ⟨2, ![R, 1]⟩ ⟨2, ![R, L]⟩ [1] [0] [] [0] [] 1 ![1, L])
    (x : (⟨2, ![N, L]⟩ : Shape).Idx → α) (idx : IVec ⟨2, ![R, 1]⟩ w) (q : Fin R) (l : Fin L) :
    Host.gather (takeDims2 N L R wf) x idx (ix2 q l)
      = x (ix2 ⟨min (idx (ix2 q (0 : Fin 1))).toInt.toNat (N - 1), by omega⟩ l) := by
  unfold Host.gather
  congr 1
  funext a
  refine Fin.ext ?_
  show (takeDims2 N L R wf).start (ix2 q l) idx a + (takeDims2 N L R wf).batchCoord (ix2 q l) a
      + (takeDims2 N L R wf).offCoord (ix2 q l) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (takeDims2 N L R wf).startIndexMap from List.mem_singleton.mpr rfl)]
    have hsi : (takeDims2 N L R wf).siIdx (ix2 q l) ⟨List.idxOf (0 : Fin 2) (takeDims2 N L R wf).startIndexMap,
        List.idxOf_lt_length_iff.2 (List.mem_singleton.mpr rfl)⟩ = ix2 q (0 : Fin 1) := by
      funext b; refine Fin.ext ?_
      match b with
      | ⟨0, _⟩ => rfl
      | ⟨1, _⟩ => rfl
    rw [hsi]
    rfl
  · have hs : (takeDims2 N L R wf).start (ix2 q l) idx 1 = 0 := by
      unfold GatherDims.start
      rw [dif_neg (fun h => by simp at h)]
    rw [hs]
    simp only [Nat.zero_add]
    unfold GatherDims.offCoord
    rw [dif_pos ((GatherDims.mem_sKept _ _).mpr ⟨fun h => by simp at h, List.not_mem_nil⟩)]
    rfl

/-- The row numbers as the host uses them: a negative one is wrapped; each is its own row of width one. -/
def wrapped (a : IVec S163840 32) : IVec S163840x1 32 :=
  broadcastInDim S163840x1 ![0] bcast_S163840_S163840x1_0 (select (cmpi .slt a (broadcastInDim S163840 ![] bcast_S_S163840 (constantI S_ 32 0#32))) (addi a (broadcastInDim S163840 ![] bcast_S_S163840 (constantI S_ 32 102400#32))) a)

/-- Which row numbers lie in the table. -/
def inside (a : IVec S163840 32) : IVec S163840x1 1 :=
  andi (cmpi .sge (wrapped a) (broadcastInDim S163840x1 ![] bcast_S_S163840x1 (constantI S_ 32 0#32))) (cmpi .sle (wrapped a) (broadcastInDim S163840x1 ![0, 1] bcast_S1x1_S163840x1_0_1 (broadcastInDim S1x1 ![1] bcast_S1_S1x1_1 (constantI S1 32 102399#32))))

/-- The rows that the host takes. -/
def taken {F : FTy → Type} [FloatOps F] (a : IVec S163840 32) (x : FVec F S102400x128 .f32) : FVec F S163840x128 .f32 :=
  select (broadcastInDim S163840x128 ![0] bcast_S163840_S163840x128_0 (Host.reduce IntOp.andi (inside a) (constantI S_ 1 1#1) reducesTo_S163840x1_S163840_d1 h_S_)) (Host.gather gather_S102400x128_S163840x1_S163840x128_1_0_n_n_0_1_1128 x (wrapped a)) (broadcastInDim S163840x128 ![] bcast_S_S163840x128 (constant S_ .f32 0x7FC00000#32))

theorem wrapped_ap (a : IVec S163840 32) (ha : ∀ j, (a j).toNat < 102400) (j : S163840x1.Idx) : wrapped a j = a (ix1 (j 0)) := by
  have hi : wrapped a j = Scalar.select (IntOp.cmpi .slt (a (ix1 (j 0))) 0#32) (IntOp.addi (a (ix1 (j 0))) 102400#32) (a (ix1 (j 0))) := by
    unfold wrapped
    unfold broadcastInDim
    refine congrArg (fun i => Scalar.select (IntOp.cmpi .slt (a i) 0#32) (IntOp.addi (a i) 102400#32) (a i)) (eq_ix1 _)
  rw [hi, (word_facts (N := 102400) (by norm_num) _ (ha _)).1]
  rfl

theorem inside_ap (a : IVec S163840 32) (ha : ∀ j, (a j).toNat < 102400) (j : S163840x1.Idx) : inside a j = 1#1 := by
  have e := word_facts (N := 102400) (by norm_num) _ (ha (ix1 (j 0)))
  have hi : inside a j = IntOp.andi (IntOp.cmpi .sge (wrapped a j) 0#32) (IntOp.cmpi .sle (wrapped a j) 102399#32) := rfl
  rw [hi, wrapped_ap a ha, e.2.1]
  rw [show (102399#32) = BitVec.ofNat 32 (102400 - 1) from rfl, e.2.2.1]
  rfl

/-- Entry `(q, l)` of the rows taken: column `l` of the row that `a[q]` names. -/
theorem taken_ap (a : IVec S163840 32) (ha : ∀ j, (a j).toNat < 102400) {F : FTy → Type} [FloatOps F] (x : FVec F S102400x128 .f32)
    (q : Fin 163840) (l : Fin 128) : taken a x (ix2 q l) = x (ix2 (GatherIdeal.rowOf (a (ix1 q))) l) := by
  have hi : taken a x (ix2 q l) = Scalar.select
      (broadcastInDim S163840x128 ![0] bcast_S163840_S163840x128_0 (Host.reduce IntOp.andi (inside a) (constantI S_ 1 1#1) reducesTo_S163840x1_S163840_d1 h_S_) (ix2 q l))
      (Host.gather gather_S102400x128_S163840x1_S163840x128_1_0_n_n_0_1_1128 x (wrapped a) (ix2 q l))
      (broadcastInDim S163840x128 ![] bcast_S_S163840x128 (constant S_ .f32 0x7FC00000#32) (ix2 q l)) := rfl
  have hm : broadcastInDim S163840x128 ![0] bcast_S163840_S163840x128_0 (Host.reduce IntOp.andi (inside a) (constantI S_ 1 1#1) reducesTo_S163840x1_S163840_d1 h_S_) (ix2 q l) = 1#1 :=
    reduce_andi_ones _ _ _ _ _ (inside_ap a ha) (fun _ => rfl)
  rw [hi, hm]
  refine Eq.trans (gather_take2 (by norm_num) gather_S102400x128_S163840x1_S163840x128_1_0_n_n_0_1_1128.wf x (wrapped a) q l) ?_
  refine congrArg x (congrArg (fun r => ix2 r l) (Fin.ext ?_))
  have e := word_facts (N := 102400) (by norm_num) _ (ha (ix1 q))
  have hb := ha (ix1 q)
  have hw : wrapped a (ix2 q (0 : Fin 1)) = a (ix1 q) := wrapped_ap a ha _
  show min (wrapped a (ix2 q (0 : Fin 1))).toInt.toNat (102400 - 1) = (a (ix1 q)).toNat % 102400
  rw [hw, e.2.2.2, Nat.mod_eq_of_lt hb]
  omega

/-- The rows that the host takes are the kernel's result. -/
theorem taken_eq (a : IVec S163840 32) (ha : ∀ j, (a j).toNat < 102400) {F : FTy → Type} [FloatOps F] (x : FVec F S102400x128 .f32) :
    taken a x = GatherIdeal.outVal a x := by
  funext j
  exact (congrArg (taken a x) (eq_ix2 j)).trans (taken_ap a ha x (j 0) (j 1))

/-- So from the row numbers as they are given. -/
theorem taken_flat (a : IVec S4096x40 32) (ha : ∀ j, (a j).toNat < 102400) (h : S4096x40.ShapeCasts S163840) {F : FTy → Type} [FloatOps F]
    (x : FVec F S102400x128 .f32) : taken (shapeCast S163840 a h) x = GatherIdeal.outVal (shapeCast S163840 a h) x :=
  taken_eq _ (fun _ => ha _) x

end Cert.Proof.Rows

end
-- ==== Proof.Rows.Claims.lean ====
/-
  The claims about the candidates' rows: each program's frame, and the kernel's result against the reference's, over the
  extended reals and bit for bit.
-/
module

public import proofs.«01_k».proof.Proof.Rows.RefValue
public import proofs.«01_k».proof.Proof.Gen.Pre_candidates_in_table
public import Idealize.ShloMosaic.Lib.Quiescent
public import Idealize.ShloMosaic.Adequacy
public import Idealize.ShloMosaic.Init

@[expose] public section

noncomputable section

namespace Cert.Proof.Rows

open Idealize.ShloMosaic Idealize.SL.Sem

/-- The precondition at every entry of an array of row numbers gives numbers below the table's height. -/
theorem below_of_pre {α : Type} (a : α → BitVec 32)
    (e : ∀ j, IntOp.andi (IntOp.cmpi .sge (a j) 0#32) (IntOp.cmpi .slt (a j) 102400#32) = 1#1) (j : α) : (a j).toNat < 102400 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have h := e j
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at h
  omega

theorem ok_kernel (m : (ℓ : Loc Cert.Candidates.nD Cert.Candidates.τ Cert.Candidates.sig) → Buf (Elt Bits) ℓ) (h : Cert.Pre_Candidates m) :
    Gather.PreOK (F := Bits) m := by
  intro d j
  refine below_of_pre (fun j => m (Gather.aLoc d) j) (fun j => ?_) j
  have e := congrFun (h d) j
  simp only [Cert.Pre_candidates_in_table.fn, andi, cmpi, broadcastInDim, constantI] at e
  exact e

theorem ok_ideal (m : (ℓ : Loc Cert.CandidatesIdeal.nD Cert.CandidatesIdeal.τ Cert.CandidatesIdeal.sig) → Buf (Elt Ideal) ℓ) (h : Cert.Pre_CandidatesIdeal m) :
    GatherIdeal.PreOK (F := Ideal) m := by
  intro d j
  refine below_of_pre (fun j => m (GatherIdeal.aLoc d) j) (fun j => ?_) j
  have e := congrFun (h d) j
  simp only [Cert.Pre_candidates_in_table.fn, andi, cmpi, broadcastInDim, constantI] at e
  exact e

/-- The kernel's frame at the machine's floats. -/
theorem frame_p : Cert.quiescent_Candidates := fun m ρ hpre =>
  (θ_run Cert.Candidates.defs _ _).mono (fun _ h => ⟨fun c => (h.1 c).2, h.2⟩) (Gather.run_main (F := Bits) m ρ (ok_kernel m hpre))

/-- The idealized kernel's frame. -/
theorem frame_pi : Cert.quiescent_CandidatesIdeal := fun m ρ hpre =>
  (θ_run Cert.CandidatesIdeal.defs _ _).mono (fun _ h => ⟨fun c => (h.1 c).2, h.2⟩) (GatherIdeal.run_main (F := Ideal) m ρ (ok_ideal m hpre))

/-- The idealized reference's frame; it declares no semaphore. -/
theorem frame_ri : Cert.quiescent_CandidatesReferenceIdeal := fun m ρ _ =>
  (θ_run Cert.CandidatesReferenceIdeal.defs _ _).mono (fun r h => ⟨fun c => (h c).2, Idealize.ShloMosaic.sem_eq_zero_of_no_sems (by decide) r.2⟩)
    (Cert.CandidatesReferenceIdeal.Value.run (F := Ideal) m ρ)

/-- The reference's frame at the machine's floats. -/
theorem frame_r : Cert.quiescent_CandidatesReference := fun m ρ _ =>
  (θ_run Cert.CandidatesReference.defs _ _).mono (fun r h => ⟨fun c => (h c).2, Idealize.ShloMosaic.sem_eq_zero_of_no_sems (by decide) r.2⟩)
    (Cert.CandidatesReference.Value.run (F := Bits) m ρ)

/-- Nothing was replaced: the call only moves rows. -/
theorem preserves : Cert.preserves_Candidates_CandidatesIdeal := trivial

/-- From arguments that agree, the kernel's result and the reference's are one array of extended reals. -/
theorem algebraic : Cert.algebraic_CandidatesIdeal_CandidatesReferenceIdeal := by
  intro m ρ m' ρ' hpre hagree
  have hok := ok_ideal m hpre
  refine ⟨fun c => GatherIdeal.res m c, (θ_run Cert.CandidatesIdeal.defs _ _).mono (fun _ h c => h.1 c) (GatherIdeal.run_main (F := Ideal) m ρ hok), ?_⟩
  refine (θ_run Cert.CandidatesReferenceIdeal.defs _ _).mono (fun _ h c => ⟨(h c).1.trans ?_, (h c).2⟩)
    (Cert.CandidatesReferenceIdeal.Value.run (F := Ideal) m' ρ')
  rw [(hagree c).1, (hagree c).2]
  have e := taken_flat (F := Ideal) (m (GatherIdeal.aLoc c)) (hok c) Cert.CandidatesReferenceIdeal.Gen.facts.shapeCasts_S4096x40_S163840 (m (GatherIdeal.xLoc c))
  refine Eq.trans ?_ (e.trans ?_)
  · rfl
  · rfl

/-- From arguments that agree, the kernel's result and the reference's are one array of machine floats, bit for bit. -/
theorem bitexact : Cert.bitexact_Candidates_CandidatesReference := by
  intro m ρ m' ρ' hpre hagree
  have hok := ok_kernel m hpre
  refine ⟨fun c => Gather.res m c, (θ_run Cert.Candidates.defs _ _).mono (fun _ h c => h.1 c) (Gather.run_main (F := Bits) m ρ hok), ?_⟩
  refine (θ_run Cert.CandidatesReference.defs _ _).mono (fun _ h c => ⟨(h c).1.trans ?_, (h c).2⟩)
    (Cert.CandidatesReference.Value.run (F := Bits) m' ρ')
  rw [(hagree c).1, (hagree c).2]
  have e := taken_flat (F := Bits) (m (Gather.aLoc c)) (hok c) Cert.CandidatesReferenceIdeal.Gen.facts.shapeCasts_S4096x40_S163840 (m (Gather.xLoc c))
  refine Eq.trans ?_ (e.trans ?_)
  · rfl
  · rfl

end Cert.Proof.Rows

end
-- ==== Proof.Whole.Base.lean ====
/-
  The whole kernel as the launch theorem sees it: the two SparseCore calls, the two TensorCore calls as pipelines, and the
  resource algebra of the proof, which has the handshakes of the SparseCore calls, the pipelines' rounds and the transfers'
  counters side by side.
-/
module

public import proofs.«01_k».proof.Defs
public import Idealize.ShloMosaic.Lib.SparseCore.Quiescent
public import Idealize.ShloMosaic.Lib.SparseCore.Threads
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Tactic
public import Idealize.ShloMosaic.Lib.Writes
public import Idealize.ShloMosaic.Lib.ValueLayout
public import proofs.«01_k».proof.Proof.Gen.WholeIdeal
public import proofs.«01_k».proof.Proof.Gen.WholeIdeal.Skeleton
public import proofs.«01_k».proof.Proof.Gen.WholeIdeal.Launch
public import proofs.«01_k».proof.Proof.Gen.WholeIdeal.Points

@[expose] public section

noncomputable section

namespace Cert.Proof.Whole

open Cert.WholeIdeal Cert.WholeIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 2) fun p => (pcfgs (F := F) p).Adm
abbrev K : SparseCore.Cfg τ sig (ΛP (F := F)) 2 := sc (F := F)
theorem nSub_0 : (K (F := F)).nSub 0 = 16 := rfl
theorem nCore_0 : (K (F := F)).nCore 0 = 2 := rfl
theorem nSub_1 : (K (F := F)).nSub 1 = 16 := rfl
theorem nCore_1 : (K (F := F)).nCore 1 = 2 := rfl
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)
abbrev MM (F : FTy → Type) := MT nD τ sig (HIx 2) (Elt F) ℕ UU ℕ
abbrev EH : Emb UH (MT nD τ sig (HIx 2) (Elt F) ℕ UU ℕ) := embL
/-- The pipelines' rounds in the algebra. -/
def EP : Emb UP (MT nD τ sig (HIx 2) (Elt F) ℕ UU ℕ) := (Emb.inl : Emb UP (UP × Counters)).trans embR
instance EP_landsIn : (EP (F := F)).LandsIn (upEmb : UEmb _ (MT nD τ sig (HIx 2) (Elt F) ℕ UU ℕ)) := by unfold EP; infer_instance

end Cert.Proof.Whole

end
-- ==== Proof.Whole.SelectRun.lean ====
/-
  The second TensorCore call's body, run once.
-/
module

public import proofs.«01_k».proof.Proof.Whole.Base

@[expose] public section

noncomputable section

namespace Cert.Proof.Whole

open Cert.WholeIdeal Cert.WholeIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MM F

/-! ## What the body computes -/

/-- The scores of a block of 64 queries against their 40 candidates each, as the body adds them up from the product of the block's
    queries with all its candidates. -/
def scores (X0 : S64x128.Idx → F .f32) (X1 : S2560x128.Idx → F .f32) : FVec F S64x40 .f32 :=
  have p := k2_pay5 X0 X1
  have u : IVec S64x40 32 := iota .tc S64x40 32 [0] iota_S64x40_d0_w32
  k2_pay30 p u (k2_pay28 p u (k2_pay24 p u (k2_pay22 p u (k2_pay18 p u (k2_pay16 p u (k2_pay12 p u (k2_pay10 p u (k2_pay6 X0 X1)
    (k2_pay7 X0 X1) k2_pay8 k2_pay9) (k2_pay11 p) 13#32) (k2_pay13 p) (k2_pay14 u) k2_pay15) (k2_pay17 p) 28#32) (k2_pay19 p) (k2_pay20 u) k2_pay21)
    (k2_pay23 p) 43#32) (k2_pay25 p) (k2_pay26 u) k2_pay27) (k2_pay29 p) 58#32

/-- The candidates whose score is the row's largest; the largest 32-bit number elsewhere. -/
def maskOf (s : FVec F S64x40 .f32) (cand : IVec S64x40 32) : IVec S64x40 32 :=
  select (cmpf .oeq s (broadcastTo S64x40 (shapeCast S64x1
    (multiReduction .maximumf [1] S64 s 0xFF800000#32 reduces_S64x40_S64 (.inl rfl) rfl) shapeCasts_S64_S64x1) broadcasts_S64x1_S64x40))
    cand (broadcast S64x40 2147483647#32)

/-- Each row's choice: the least candidate among those. -/
def pickOf (s : FVec F S64x40 .f32) (cand : IVec S64x40 32) : IVec S64 32 :=
  multiReductionI .minsi [1] S64 (maskOf s cand) 2147483647#32 reduces_S64x40_S64 rfl

/-- The scores with the chosen candidate's lowered to the bottom. -/
def nextOf (s : FVec F S64x40 .f32) (cand : IVec S64x40 32) : FVec F S64x40 .f32 :=
  select (cmpi .eq (maskOf s cand) (broadcastTo S64x40 (shapeCast S64x1 (pickOf s cand) shapeCasts_S64_S64x1) broadcasts_S64x1_S64x40))
    (broadcast S64x40 (Scalar.ofBits .f32 0xFF800000#32)) s

/-- The scores after `t` choices. -/
def scoresAt (s : FVec F S64x40 .f32) (cand : IVec S64x40 32) : ℕ → FVec F S64x40 .f32
  | 0 => s
  | t + 1 => nextOf (scoresAt s cand t) cand

/-- The five choices of each of the 64 rows. -/
def picks (X0 : S64x128.Idx → F .f32) (X1 : S2560x128.Idx → F .f32) (X2 : S64x40.Idx → BitVec 32) : S64x5.Idx → BitVec 32 := fun j =>
  shapeCast S64x1 (pickOf (scoresAt (scores X0 X1) (k2_pay31 (F := F) X2) (j 1).val) (k2_pay31 (F := F) X2)) shapeCasts_S64_S64x1
    (ix2 (j 0) (0 : Fin 1))

/-- A column of the choices. -/
theorem picks_col (X0 : S64x128.Idx → F .f32) (X1 : S2560x128.Idx → F .f32) (X2 : S64x40.Idx → BitVec 32) (t : ℕ) (y : S64x5.Idx) (x : S64x1.Idx)
    (h0 : (y 0).val = (x 0).val) (h1 : (y 1).val = t) :
    picks X0 X1 X2 y = shapeCast S64x1 (pickOf (scoresAt (scores X0 X1) (k2_pay31 (F := F) X2) t) (k2_pay31 (F := F) X2)) shapeCasts_S64_S64x1 x := by
  unfold picks
  rw [h1]
  congr 1
  funext a
  match a with
  | ⟨0, _⟩ => exact Fin.ext h0
  | ⟨1, _⟩ => exact Subsingleton.elim (α := Fin 1) _ _

/-- Reading a whole rectangle at offset zero is reading the view. -/
theorem readAt_whole0 {sp : Space} {S : Shape} {e : EltTy} (M : Memref sig .tc sp S e) (off : Fin S.rank → ℕ) (h0 : ∀ a, off a = 0)
    (inb : ∀ a, off a + S.size a ≤ S.size a) (f : M.view.ty.Contents (Elt F)) :
    View.readAt (Elt F) M.view (Rect.unit off S.size inb).toLoadRect f = M.view.read (Elt F) f := by
  funext x
  rw [View.readAt_apply]
  congr 1
  funext a
  apply Fin.ext
  show off a + 1 * (x a).val = (x a).val
  rw [h0]; omega

set_option maxHeartbeats 1000000 in
/-- The body of one point: it leaves the three inputs' buffers as they are and the five choices in the fourth. -/
theorem select_run (c : Dev nD) (i : grid2.Coords) (M0 : Memref sig .tc .vmem S64x128 .f32) (h0 : M0.IsWhole)
    (M1 : Memref sig .tc .vmem S2560x128 .f32) (h1 : M1.IsWhole) (M2 : Memref sig .tc .vmem S64x40 .i32) (h2 : M2.IsWhole)
    (M3 : Memref sig .tc .vmem S64x5 .i32) (h3 : M3.IsWhole)
    (X0 : S64x128.Idx → F .f32) (X1 : S2560x128.Idx → F .f32) (X2 : S64x40.Idx → BitVec 32) (X3 : S64x5.Idx → BitVec 32)
    (E : Set ℕ) (Q : PUnit → sProp 𝕄) :
    iprop(owns (Val := Elt F) (c : Thread nD τ) M0 fullShare X0 ∗ owns (Val := Elt F) (c : Thread nD τ) M1 fullShare X1
        ∗ owns (Val := Elt F) (c : Thread nD τ) M2 fullShare X2 ∗ owns (Val := Elt F) (c : Thread nD τ) M3 fullShare X3
        ∗ (owns (Val := Elt F) (c : Thread nD τ) M0 fullShare X0 ∗ owns (Val := Elt F) (c : Thread nD τ) M1 fullShare X1
        ∗ owns (Val := Elt F) (c : Thread nD τ) M2 fullShare X2 ∗ owns (Val := Elt F) (c : Thread nD τ) M3 fullShare (picks X0 X1 X2) -∗ Q ⟨⟩))
      ⊢ wp frame (wpE (defs₀ (F := F)) Variants.none (c : Thread nD τ) none) E (cc2__pb2_body i M0 h0 M1 h1 M2 h2 M3 h3) Q := by
  rw [cc2__pb2_body_eq_skeleton]
  unfold cc2__pb2_body_skel
  rw [k2_part1_eq_skeleton, k2_part2_eq_skeleton, k2_part3_eq_skeleton, k2_part4_eq_skeleton, k2_part5_eq_skeleton, k2_part6_eq_skeleton,
    k2_part7_eq_skeleton, k2_part8_eq_skeleton, k2_part9_eq_skeleton, k2_part10_eq_skeleton]
  unfold k2_part1_skel k2_part2_skel k2_part3_skel k2_part4_skel k2_part5_skel k2_part6_skel k2_part7_skel k2_part8_skel k2_part9_skel k2_part10_skel
  unfold owns
  iintro ⟨⟨%f0, %e0, H0⟩, ⟨%f1, %e1, H1⟩, ⟨%f2, %e2, H2⟩, ⟨%f3, -, H3⟩, Hk⟩
  sl_exec
  sl_step
  iapply Hk
  isplitl [H0]; · iexists _; isplitr; swap; (· iexact H0); ipureintro; exact e0
  isplitl [H1]; · iexists _; isplitr; swap; (· iexact H1); ipureintro; exact e1
  isplitl [H2]; · iexists _; isplitr; swap; (· iexact H2); ipureintro; exact e2
  iexists _; isplitr; swap; (· iexact H3)
  ipureintro
  have l0 := readAt_whole0 (F := F) M0 ![0, 0] (by intro a; fin_cases a <;> rfl) inb_S64x128_S64x128_0_0 f0
  have l1 := readAt_whole0 (F := F) M1 ![0, 0] (by intro a; fin_cases a <;> rfl) inb_S2560x128_S2560x128_0_0 f1
  have l2 := readAt_whole0 (F := F) M2 ![0, 0] (by intro a; fin_cases a <;> rfl) inb_S64x40_S64x40_0_0 f2
  rw [e0] at l0; rw [e1] at l1; rw [e2] at l2
  rw [l0, l1, l2]
  funext y
  refine View.read_writes_apply_of_pieces M3.view f3 (picks X0 X1 X2) _ ?_ y ?_
  · intro p hp x
    simp only [List.mem_cons, List.not_mem_nil, or_false] at hp
    rcases hp with rfl | rfl | rfl | rfl | rfl
    · exact (picks_col X0 X1 X2 4 _ x (by show 0 + 1 * (x 0).val = _; omega) (by show 4 + 1 * (x 1).val = 4; have : (x 1).val < 1 := (x 1).isLt; omega)).symm
    · exact (picks_col X0 X1 X2 3 _ x (by show 0 + 1 * (x 0).val = _; omega) (by show 3 + 1 * (x 1).val = 3; have : (x 1).val < 1 := (x 1).isLt; omega)).symm
    · exact (picks_col X0 X1 X2 2 _ x (by show 0 + 1 * (x 0).val = _; omega) (by show 2 + 1 * (x 1).val = 2; have : (x 1).val < 1 := (x 1).isLt; omega)).symm
    · exact (picks_col X0 X1 X2 1 _ x (by show 0 + 1 * (x 0).val = _; omega) (by show 1 + 1 * (x 1).val = 1; have : (x 1).val < 1 := (x 1).isLt; omega)).symm
    · exact (picks_col X0 X1 X2 0 _ x (by show 0 + 1 * (x 0).val = _; omega) (by show 0 + 1 * (x 1).val = 0; have : (x 1).val < 1 := (x 1).isLt; omega)).symm
  · exact View.cover_of_tiled (Val := Elt F) (s := S64x5) (e := .i32) _ ![64, 1] rfl y

end Cert.Proof.Whole

end
-- ==== Proof.Whole.Select.lean ====
/-
  The second TensorCore call as a region of the main thread: entered with every buffer of the thread at a valuation, left with its
  result's buffer at the choices of each block and every other buffer as it was.
-/
module

public import proofs.«01_k».proof.Proof.Whole.SelectRun
public import Idealize.ShloMosaic.Lib.Pipeline.ValueKit.Geometry
public import Idealize.ShloMosaic.Lib.Pipeline.RegionsLoop

@[expose] public section

noncomputable section

namespace Cert.Proof.Whole

open Cert.WholeIdeal Cert.WholeIdeal.Gen

open Idealize.ShloMosaic Idealize.ShloMosaic.ValueIdx
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F] [Named F]

local notation "𝕄" => MM F

/-! ## What both regions share -/

/-- What the main thread owes before SparseCore call `n`, with its recorded waits bounded. -/
def owesTc (c : Dev nD) (n : ℕ) : sProp 𝕄 :=
  iprop(∃ W, ⌜(K (F := F)).WBelow (T c) W (8 * n)⌝ ∗ owes (T c) ((K (F := F)).Otc c n) W)

/-- The waits that may be recorded before SparseCore call `n`. -/
def recs (c : Dev nD) (n : ℕ) : Set (SemLoc sig × HIx 2) := {p | (K (F := F)).lev (T c, p.1) p.2 ≤ 8 * n}

theorem Otc_none (c : Dev nD) (n : ℕ) (g : GSem nD τ sig) : (K (F := F)).Otc c n g none = 0 := by
  by_contra h
  have := (K (F := F)).lev_of_Otc_pos (Nat.pos_of_ne_zero h)
  rw [(K (F := F)).lev_none] at this
  omega

/-- The pipelines take no tables. -/
abbrev adm : (p : Fin 2) → (pcfgs (F := F) p).Adm := fun p => (cfgs p).toPCfg_adm

/-- A proof data for the pipeline that a region does not run. -/
def junkDat {cfg : Cfg sig Λ₀} (c : Dev nD) : Dat τ (Elt F) (HIx 2) ℕ UU ℕ cfg c where
  A _ := fun _ => Classical.arbitrary _
  after _ _ := fun _ => Classical.arbitrary _
  Φ _ := BI.emp
  q _ := fullShare
  owed _ := 0

/-- The main thread's buffers that no region scopes. -/
def ucRefs : Finset (DevRef τ sig) := (StableHlo.tcRefs τ sig).filter fun b => ¬ b.isScoped

theorem unscopedBufs_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

/-! ## The second call's proof data -/

section Select
variable (V : (c : Dev nD) → (b : Ref sig .tc) → Buf (Elt F) ((c : Thread nD τ).loc b))

/-- The block of the queries, of the candidates' rows and of the candidates' numbers at a point. -/
abbrev selIn0 (c : Dev nD) (t : Fin cfg2.N) : S64x128.Idx → F .f32 := ((cfg2.win 0).blk t).view.read (Elt F) (V c main_v4)
abbrev selIn1 (c : Dev nD) (t : Fin cfg2.N) : S2560x128.Idx → F .f32 := ((cfg2.win 1).blk t).view.read (Elt F) (V c main_v15)
abbrev selIn2 (c : Dev nD) (t : Fin cfg2.N) : S64x40.Idx → BitVec 32 := ((cfg2.win 2).blk t).view.read (Elt F) (V c main_v13)

/-- What the region keeps between its points: the other call's buffers, at anything. -/
abbrev selΦ (c : Dev nD) : sProp 𝕄 := Pipeline.scopedRest (Ix := HIx 2) (Name := ℕ) (U := UU) (Lvl := ℕ) (Val := Elt F) spec2 c

def selDat (c : Dev nD) : Dat τ (Elt F) (HIx 2) ℕ UU ℕ cfg2 c where
  A w := V c (Pipeline.arrRef spec2 w)
  after w t := match w with
    | ⟨0, _⟩ => selIn0 V c t
    | ⟨1, _⟩ => selIn1 V c t
    | ⟨2, _⟩ => selIn2 V c t
    | ⟨3, _⟩ => picks (selIn0 V c t) (selIn1 V c t) (selIn2 V c t)
  Φ _ := selΦ c
  q _ := fullShare
  owed _ := (K (F := F)).Otc c 1
  recorded _ := recs (F := F) c 1

def selDats : (p : Fin 2) → (c : Dev nD) → Dat τ (Elt F) (HIx 2) ℕ UU ℕ (Pipeline.pin (pcfgs (F := F)) adm p) c
  | ⟨0, _⟩ => fun c => junkDat c
  | ⟨1, _⟩ => fun c => selDat V c

theorem sel_before0 (c : Dev nD) (t : Fin cfg2.N) (d) : (selDat V c).before 0 t d = selIn0 V c t := by
  unfold Dat.before; rw [if_pos (fetch2_0 t)]; rfl
theorem sel_before1 (c : Dev nD) (t : Fin cfg2.N) (d) : (selDat V c).before 1 t d = selIn1 V c t := by
  unfold Dat.before; rw [if_pos (fetch2_1 t)]; rfl
theorem sel_before2 (c : Dev nD) (t : Fin cfg2.N) (d) : (selDat V c).before 2 t d = selIn2 V c t := by
  unfold Dat.before; rw [if_pos (fetch2_2 t)]; rfl

theorem sel_body (c : Dev nD) : BodyObligation (selDat V c) (defs₀ (F := F)) 𝒱₀ none Set.univ := fun t => by
  rw [bigSep_W2, bigSep_W2]
  simp only [sel_before0, sel_before1, sel_before2]
  rw [show (selDat V c).Φ t.castSucc = selΦ c from rfl, show (selDat V c).Φ t.succ = selΦ c from rfl,
    show (selDat V c).owesAt none t.succ = (selDat V c).owesAt none t.castSucc from rfl]
  iintro ⟨HΦ, Howes, ⟨%d0, H0⟩, ⟨%d1, H1⟩, ⟨%d2, H2⟩, ⟨%d3, H3⟩⟩
  iapply (select_run (F := F) c (grid2.coords t) (st2_0 t) _ (st2_1 t) _ (st2_2 t) _ (st2_3 t) _ (selIn0 V c t) (selIn1 V c t) (selIn2 V c t) _ Set.univ _)
  isplitl [H0]; · iexact H0
  isplitl [H1]; · iexact H1
  isplitl [H2]; · iexact H2
  isplitl [H3]; · iexact H3
  iintro ⟨H0, H1, H2, H3⟩
  isplitl [HΦ]; · iexact HΦ
  isplitl [Howes]; · iexact Howes
  isplitl [H0]; · iexact H0
  isplitl [H1]; · iexact H1
  isplitl [H2]; · iexact H2
  iexact H3

/-- The result's buffer after the region. -/
def selOut (c : Dev nD) : Buf (Elt F) ((c : Thread nD τ).loc main_v16) := (selDat V c).arrAt 3 cfg2.N

variable (Vp : (c : Dev nD) → (b : Ref sig .tc) → Buf (Elt F) ((c : Thread nD τ).loc b))

set_option backward.isDefEq.respectTransparency.types false in
/-- The region. -/
def selReg (hVp_out : ∀ c, Vp c main_v16 = selOut V c) (hVp_ne : ∀ c (b : Ref sig .tc), b ≠ main_v16 → Vp c b = V c b) :
    Pipeline.RegionSeg (pcfgs (F := F)) adm (selDats V) none defs₀ 𝒱₀ (K (F := F)).L (K (F := F)).lev 1 where
  win := (launch2).win.to₀
  block_pos := (launch2).block_pos
  stage_whole := (launch2).stage_whole
  K := PEmpty
  osem k := k.elim
  ho := Pipeline.OwnSemFacts.none _
  hbody c := (sel_body V c).loose
  hwaits c := Pipeline.cellsWaits_intro _ _ none 1 c fun w s t => (K (F := F)).mayWait_none _ (Otc_none c 1)
  pre c := iprop(unscopedBufs c (V c) ∗ owesTc c 1)
  post c := iprop(unscopedBufs c (Vp c) ∗ owesTc c 1)
  X _ := BI.emp
  Y _ := BI.emp
  Z c := Pipeline.unscopedRest (Ix := HIx 2) (Name := ℕ) (U := UU) (Lvl := ℕ) spec2 c (V c)
  hentry c := by
    rw [Pipeline.ownSems0_none]
    have hsplit := Pipeline.arrays_of_unscopedBufs (p := 1) (pcfgs (F := F)) adm (selDats V) (launch2).win (launch2).arr_whole c
      ((selDats V 1 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin owesTc
      icases HO with ⟨%W, %hW, HO⟩; iexists W; isplitr; · ipureintro; exact fun p hp => Or.inl (hW p hp)
      iexact HO
    isplitr; · iempintro
    iexact Hrest
  hin c := by
    rw [show (selDats V 1 c).Φ 0 = selΦ c from rfl]
    iintro ⟨-, -, Hr⟩; iexact Hr
  hout c := by
    rw [Pipeline.ownSems0_none, show (selDats V 1 c).Φ (Fin.last _) = selΦ c from rfl]
    iintro Hr
    isplitr; · iempintro
    isplitr; · iempintro
    iexact Hr
  hexit c := by
    have hjoin := Pipeline.unscopedBufs_of_arrays (p := 1) (pcfgs (F := F)) adm (Ix := HIx 2) (Name := ℕ) (U := UU) (Lvl := ℕ) (launch2).win (launch2).arr_whole c
      (selDats V) ((selDats V 1 c).share_full fun _ => rfl) (V c) (Vp c) ((selDats V 1 c).arrAt · cfg2.N)
      (fun w => by
        fin_cases w
        · exact ((selDats V 1 c).arrAt_in 0 rfl _).trans (hVp_ne c main_v4 (by decide)).symm
        · exact ((selDats V 1 c).arrAt_in 1 rfl _).trans (hVp_ne c main_v15 (by decide)).symm
        · exact ((selDats V 1 c).arrAt_in 2 rfl _).trans (hVp_ne c main_v13 (by decide)).symm
        · exact (hVp_out c).symm)
      (fun b hb => hVp_ne c b fun h => hb (h ▸ Finset.mem_image.mpr ⟨3, Finset.mem_univ _, rfl⟩))
    iintro ⟨Ha, HO, -, Hrest⟩
    imodintro
    isplitl [Ha Hrest]
    · iapply hjoin; isplitl [Ha] <;> iassumption
    unfold Pipeline.Dat.owesAt Pipeline.owesWithin owesTc
    icases HO with ⟨%W, %hW, HO⟩; iexists W
    isplitr
    · ipureintro
      intro p hp
      rcases hW hp with h | h
      · exact h
      · obtain ⟨w, s, rfl⟩ := h
        exact Nat.zero_le _
    iexact HO

/-! ## The result in closed form -/

theorem idx2_0 : ∀ t : Fin grid2.N, win2_0.index t = ![t.val, 0] := by decide +kernel
theorem idx2_1 : ∀ t : Fin grid2.N, win2_1.index t = ![t.val, 0] := by decide +kernel
theorem idx2_2 : ∀ t : Fin grid2.N, win2_2.index t = ![t.val, 0] := by decide +kernel
theorem idx2_3 : ∀ t : Fin grid2.N, win2_3.index t = ![t.val, 0] := by decide +kernel

/-- Block `b` of 64 queries, of their 2560 candidates' rows, and of their candidates' numbers. -/
def blkQ (a : S4096x128.Idx → F .f32) (b : Fin 64) : S64x128.Idx → F .f32 :=
  fun x => a (ix2 (⟨b.val * 64 + (x 0).val, by have := b.isLt; have : (x 0).val < 64 := (x 0).isLt; omega⟩ : Fin 4096) (x 1))
def blkR (a : S163840x128.Idx → F .f32) (b : Fin 64) : S2560x128.Idx → F .f32 :=
  fun x => a (ix2 (⟨b.val * 2560 + (x 0).val, by have := b.isLt; have : (x 0).val < 2560 := (x 0).isLt; omega⟩ : Fin 163840) (x 1))
def blkN (a : S4096x40.Idx → BitVec 32) (b : Fin 64) : S64x40.Idx → BitVec 32 :=
  fun x => a (ix2 (⟨b.val * 64 + (x 0).val, by have := b.isLt; have : (x 0).val < 64 := (x 0).isLt; omega⟩ : Fin 4096) (x 1))

/-- The choices of all queries: each block's by itself. -/
def sel (q : S4096x128.Idx → F .f32) (r : S163840x128.Idx → F .f32) (n : S4096x40.Idx → BitVec 32) : S4096x5.Idx → BitVec 32 := fun y =>
  have hy : (y 0).val < 4096 := (y 0).isLt
  picks (blkQ q ⟨(y 0).val / 64, by omega⟩) (blkR r ⟨(y 0).val / 64, by omega⟩) (blkN n ⟨(y 0).val / 64, by omega⟩)
    (ix2 (⟨(y 0).val % 64, by omega⟩ : Fin 64) (y 1))

theorem selOut_eq (c : Dev nD) : selOut V c = sel (V c main_v4) (V c main_v15) (V c main_v13) := by
  refine (selDat V c).arrAt_eq_of_covers 3 _ (by decide +kernel) fun t hf y => ?_
  have ht : t.val < 64 := t.isLt
  have hy0 : (y 0).val < 64 := (y 0).isLt
  have h0 : selIn0 V c t = blkQ (V c main_v4) ⟨t.val, ht⟩ := by
    funext x
    show V c main_v4 _ = V c main_v4 _
    congr 1
    funext a; apply Fin.ext
    fin_cases a
    · blk_simp [idx2_0]; rfl
    · blk_simp [idx2_0]; simp [ix2]
  have h1 : selIn1 V c t = blkR (V c main_v15) ⟨t.val, ht⟩ := by
    funext x
    show V c main_v15 _ = V c main_v15 _
    congr 1
    funext a; apply Fin.ext
    fin_cases a
    · blk_simp [idx2_1]; rfl
    · blk_simp [idx2_1]; simp [ix2]
  have h2 : selIn2 V c t = blkN (V c main_v13) ⟨t.val, ht⟩ := by
    funext x
    show V c main_v13 _ = V c main_v13 _
    congr 1
    funext a; apply Fin.ext
    fin_cases a
    · blk_simp [idx2_2]; rfl
    · blk_simp [idx2_2]; simp [ix2]
  show picks (selIn0 V c t) (selIn1 V c t) (selIn2 V c t) _ = _
  have e0 : ((((cfg2.win 3).blk t).view.emb y) 0).val = t.val * 64 + (y 0).val := by blk_simp [idx2_3]
  have e1 : ((((cfg2.win 3).blk t).view.emb y) 1).val = (y 1).val := by blk_simp [idx2_3]
  rw [h0, h1, h2]
  unfold sel
  have hd : ((((cfg2.win 3).blk t).view.emb y) 0).val / 64 = t.val := by omega
  have hm : ((((cfg2.win 3).blk t).view.emb y) 0).val % 64 = (y 0).val := by omega
  have hb : (⟨((((cfg2.win 3).blk t).view.emb y) 0).val / 64, by omega⟩ : Fin 64) = ⟨t.val, ht⟩ := Fin.ext hd
  dsimp only
  rw [hb]
  congr 1
  funext a; apply Fin.ext
  fin_cases a
  · exact hm.symm
  · exact e1.symm

end Select

end Cert.Proof.Whole

end
-- ==== Proof.Whole.PhaseRun.lean ====
/-
  The body of the first TensorCore call, run once. Each point puts the chunk maxima of one block of keys into its 256 rows of the
  table of maxima; the last point of a row of the grid then takes, five times over, the first row with the largest maximum in
  each column, writes that chunk's eight keys out as candidates, and puts minus infinity in its place.
-/
module

public import proofs.«01_k».proof.Proof.Whole.SelectRun
public import Idealize.ShloMosaic.Lib.Tactic.RunNames
public import Idealize.ShloMosaic.Lib.VecWindow

@[expose] public section

noncomputable section

namespace Cert.Proof.Whole

open Cert.WholeIdeal Cert.WholeIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MM F

/-- A load of the whole table after a store of the whole table. -/
theorem readCov_whole {sp : Space} (v : View sig .tc sp S12800x512 .f32) (inb inb' : ∀ a : Fin 2, (![0, 0] : Fin 2 → ℕ) a + (![12800, 512] : Fin 2 → ℕ) a ≤ S12800x512.size a)
    (w : S12800x512.Idx → Elt F .f32) (L : List (View.Piece (Elt F) S12800x512 .f32)) :
    v.readCov (Val := Elt F) (⟨Rect.unit (s := S12800x512) ![0, 0] ![12800, 512] inb', w⟩ :: L) (Rect.unit (s := S12800x512) ![0, 0] ![12800, 512] inb).toLoadRect = w :=
  View.readCov_full (Val := Elt F) v (off := ![0, 0]) (off' := ![0, 0]) inb inb' w L

/-- The table after point `i` has put its 256 rows. -/
def put (i : grid0.Coords) (S : S12800x512.Idx → F .f32) (w : S256x512.Idx → F .f32) : S12800x512.Idx → F .f32 := fun y =>
  if h : 256 * (i 1).val ≤ (y 0).val ∧ (y 0).val < 256 * (i 1).val + 256 then
    w (ix2 (⟨(y 0).val - 256 * (i 1).val, by omega⟩ : Fin 256) (y 1))
  else S y

/-- The row of the first largest entry of each column. -/
abbrev argOf (S : S12800x512.Idx → F .f32) : S512.Idx → BitVec 32 := k0_pay6 S

/-- The table with that entry lowered to minus infinity. -/
def lowerOf (S : S12800x512.Idx → F .f32) : S12800x512.Idx → F .f32 :=
  k0_pay16 (iota Kind.tc S12800x512 32 [0] iota_S12800x512_d0_w32) S (argOf S)

/-- The table before round `t`. -/
def tab (S : S12800x512.Idx → F .f32) : ℕ → S12800x512.Idx → F .f32
  | 0 => S
  | t + 1 => lowerOf (tab S t)

/-- The numbers of key `j` of the chosen chunks. -/
def row (w : S512.Idx → BitVec 32) (n : BitVec 32) : S1x1x512.Idx → BitVec 32 :=
  shapeCast S1x1x512 (addi (muli w (broadcast S512 8#32)) (broadcast S512 n)) shapeCasts_S512_S1x1x512

/-- The 40 candidates of each column: in row `8 t + j`, key `j` of the chunk of round `t`. -/
def cands (S : S12800x512.Idx → F .f32) : S1x40x512.Idx → BitVec 32 := fun y =>
  row (argOf (tab S ((y 1).val / 8))) (BitVec.ofNat 32 ((y 1).val % 8)) (ix3 (0 : Fin 1) (0 : Fin 1) (y 2))

theorem cands_row (S : S12800x512.Idx → F .f32) (t j : ℕ) (hj : j < 8) (y : S1x40x512.Idx) (x : S1x1x512.Idx) (h1 : (y 1).val = 8 * t + j)
    (h2 : (y 2).val = (x 2).val) : cands S y = row (argOf (tab S t)) (BitVec.ofNat 32 j) x := by
  unfold cands
  have e1 : (y 1).val / 8 = t := by omega
  have e2 : (y 1).val % 8 = j := by omega
  rw [e1, e2]
  congr 1
  funext a
  match a with
  | ⟨0, _⟩ => apply Fin.ext; have : (x 0).val < 1 := (x 0).isLt; show 0 = (x 0).val; omega
  | ⟨1, _⟩ => apply Fin.ext; have : (x 1).val < 1 := (x 1).isLt; show 0 = (x 1).val; omega
  | ⟨2, _⟩ => apply Fin.ext; exact h2

theorem read_put (i : grid0.Coords) {sp : Space} (M : Memref sig .tc sp S12800x512 .f32) (f : M.view.ty.Contents (Elt F)) (S : S12800x512.Idx → F .f32)
    (hf : M.view.read (Elt F) f = S) (inb : ∀ a, k0_off1 i a + S256x512.size a ≤ S12800x512.size a) (w : S256x512.Idx → F .f32) :
    M.view.read (Elt F) (M.view.writes (Elt F) f [⟨Rect.unit (s := S12800x512) (k0_off1 i) S256x512.size inb, w⟩]) = put i S w := by
  funext y
  have o0 : k0_off1 i 0 = 256 * (i 1).val := by rw [k0_off1_eq]; rfl
  have o1 : k0_off1 i 1 = 0 := by rw [k0_off1_eq]; rfl
  unfold put
  split
  case isTrue h =>
    refine View.read_writes_cons_hit_of_coords M.view f (Rect.unit (s := S12800x512) (k0_off1 i) S256x512.size inb) w []
      (ix2 (⟨(y 0).val - 256 * (i 1).val, by omega⟩ : Fin 256) (y 1)) y (fun a => ?_)
    match a with
    | ⟨0, _⟩ => show (y 0).val = k0_off1 i 0 + 1 * ((y 0).val - 256 * (i 1).val); omega
    | ⟨1, _⟩ => show (y 1).val = k0_off1 i 1 + 1 * (y 1).val; omega
  case isFalse h =>
    rw [View.read_writes_cons_miss_of_axis M.view f ⟨Rect.unit (s := S12800x512) (k0_off1 i) S256x512.size inb, w⟩ [] y (0 : Fin 2)
      (256 * (i 1).val) 256 o0 rfl rfl (by omega), View.writes_nil, hf]

/-- A point that is not the last of its row: it puts its rows into the table and leaves the rest. -/
theorem phase_run_mid (c : Dev nD) (i : grid0.Coords) (M0 : Memref sig .tc .vmem S2048x128 .f32) (h0 : M0.IsWhole)
    (M1 : Memref sig .tc .vmem S512x128 .f32) (h1 : M1.IsWhole) (M2 : Memref sig .tc .vmem S1x40x512 .i32) (h2 : M2.IsWhole)
    (M3 : Memref sig .tc .vmem S12800x512 .f32) (h3 : M3.IsWhole) (hi : ¬ k0_cond1 i = 1#1)
    (X0 : S2048x128.Idx → F .f32) (X1 : S512x128.Idx → F .f32) (X2 : S1x40x512.Idx → BitVec 32) (X3 : S12800x512.Idx → F .f32)
    (E : Set ℕ) (Q : PUnit → sProp 𝕄) :
    iprop(owns (Val := Elt F) (c : Thread nD τ) M0 fullShare X0 ∗ owns (Val := Elt F) (c : Thread nD τ) M1 fullShare X1
        ∗ owns (Val := Elt F) (c : Thread nD τ) M2 fullShare X2 ∗ owns (Val := Elt F) (c : Thread nD τ) M3 fullShare X3
        ∗ (owns (Val := Elt F) (c : Thread nD τ) M0 fullShare X0 ∗ owns (Val := Elt F) (c : Thread nD τ) M1 fullShare X1
        ∗ owns (Val := Elt F) (c : Thread nD τ) M2 fullShare X2 ∗ owns (Val := Elt F) (c : Thread nD τ) M3 fullShare (put i X3 (k0_pay1 i X0 X1)) -∗ Q ⟨⟩))
      ⊢ wp frame (wpE (defs₀ (F := F)) Variants.none (c : Thread nD τ) none) E (cc0__phaseAB_body i M0 h0 M1 h1 M2 h2 M3 h3) Q := by
  rw [cc0__phaseAB_body_eq_skeleton]
  unfold cc0__phaseAB_body_skel
  unfold owns
  iintro ⟨⟨%f0, %e0, H0⟩, ⟨%f1, %e1, H1⟩, ⟨%f2, %e2, H2⟩, ⟨%f3, %e3, H3⟩, Hk⟩
  have l0 := readAt_whole0 (F := F) M0 ![0, 0] (by intro a; fin_cases a <;> rfl) inb_S2048x128_S2048x128_0_0 f0
  have l1 := readAt_whole0 (F := F) M1 ![0, 0] (by intro a; fin_cases a <;> rfl) inb_S512x128_S512x128_0_0 f1
  rw [e0] at l0; rw [e1] at l1
  have l3 := read_put (F := F) i M3 f3 X3 e3 (k0_off1_inb i) (k0_pay1 i X0 X1)
  sl_exec
  sl_unfold_run_names
  sl_step
  iapply Hk
  isplitl [H0]; · iexists _; isplitr; swap; (· iexact H0); ipureintro; exact e0
  isplitl [H1]; · iexists _; isplitr; swap; (· iexact H1); ipureintro; exact e1
  isplitl [H2]; · iexists _; isplitr; swap; (· iexact H2); ipureintro; exact e2
  iexists _; isplitr; swap; (· iexact H3)
  ipureintro
  exact l3

set_option maxHeartbeats 4000000 in
/-- The last point of a row: it puts its rows into the table and writes the candidates of the whole table. -/
theorem phase_run_last (c : Dev nD) (i : grid0.Coords) (M0 : Memref sig .tc .vmem S2048x128 .f32) (h0 : M0.IsWhole)
    (M1 : Memref sig .tc .vmem S512x128 .f32) (h1 : M1.IsWhole) (M2 : Memref sig .tc .vmem S1x40x512 .i32) (h2 : M2.IsWhole)
    (M3 : Memref sig .tc .vmem S12800x512 .f32) (h3 : M3.IsWhole) (hi : k0_cond1 i = 1#1)
    (X0 : S2048x128.Idx → F .f32) (X1 : S512x128.Idx → F .f32) (X2 : S1x40x512.Idx → BitVec 32) (X3 : S12800x512.Idx → F .f32)
    (E : Set ℕ) (Q : PUnit → sProp 𝕄) :
    iprop(owns (Val := Elt F) (c : Thread nD τ) M0 fullShare X0 ∗ owns (Val := Elt F) (c : Thread nD τ) M1 fullShare X1
        ∗ owns (Val := Elt F) (c : Thread nD τ) M2 fullShare X2 ∗ owns (Val := Elt F) (c : Thread nD τ) M3 fullShare X3
        ∗ (owns (Val := Elt F) (c : Thread nD τ) M0 fullShare X0 ∗ owns (Val := Elt F) (c : Thread nD τ) M1 fullShare X1
        ∗ owns (Val := Elt F) (c : Thread nD τ) M2 fullShare (cands (put i X3 (k0_pay1 i X0 X1))) ∗ (∃ S', owns (Val := Elt F) (c : Thread nD τ) M3 fullShare S') -∗ Q ⟨⟩))
      ⊢ wp frame (wpE (defs₀ (F := F)) Variants.none (c : Thread nD τ) none) E (cc0__phaseAB_body i M0 h0 M1 h1 M2 h2 M3 h3) Q := by
  rw [cc0__phaseAB_body_eq_skeleton]
  unfold cc0__phaseAB_body_skel
  rw [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton]
  unfold k0_part1_skel k0_part2_skel k0_part3_skel k0_part4_skel k0_part5_skel k0_part6_skel k0_part7_skel k0_part8_skel k0_part9_skel
  unfold owns
  iintro ⟨⟨%f0, %e0, H0⟩, ⟨%f1, %e1, H1⟩, ⟨%f2, %e2, H2⟩, ⟨%f3, %e3, H3⟩, Hk⟩
  have l0 := readAt_whole0 (F := F) M0 ![0, 0] (by intro a; fin_cases a <;> rfl) inb_S2048x128_S2048x128_0_0 f0
  have l1 := readAt_whole0 (F := F) M1 ![0, 0] (by intro a; fin_cases a <;> rfl) inb_S512x128_S512x128_0_0 f1
  rw [e0] at l0; rw [e1] at l1
  have l3 := read_put (F := F) i M3 f3 X3 e3 (k0_off1_inb i) (k0_pay1 i X0 X1)
  have l4 := readAt_whole0 (F := F) M3 ![0, 0] (by intro a; fin_cases a <;> rfl) inb_S12800x512_S12800x512_0_0
    (M3.view.writes (Elt F) f3 [⟨Rect.unit (s := S12800x512) (k0_off1 i) S256x512.size (k0_off1_inb i), k0_pay1 i X0 X1⟩])
  rw [l3] at l4
  generalize put i X3 (k0_pay1 i X0 X1) = S at *
  sl_exec
  sl_unfold_run_names
  sl_step
  iapply Hk
  isplitl [H0]; · iexists _; isplitr; swap; (· iexact H0); ipureintro; exact e0
  isplitl [H1]; · iexists _; isplitr; swap; (· iexact H1); ipureintro; exact e1
  isplitl [H2]
  swap
  · iexists _, _; isplitr; swap; (· iexact H3); ipureintro; rfl
  iexists _; isplitr; swap; (· iexact H2)
  ipureintro
  simp only [readCov_whole]
  funext y
  refine View.read_writes_apply_of_pieces M2.view f2 (cands S) _ ?_ y ?_
  · intro p hp x
    simp only [List.mem_cons, List.not_mem_nil, or_false] at hp
    rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
    · exact (cands_row S 4 7 (by decide) _ x (by show 39 + 1 * (x 1).val = 8 * 4 + 7; have : (x 1).val < 1 := (x 1).isLt; omega) (by show 0 + 1 * (x 2).val = _; omega)).symm
    · exact (cands_row S 4 6 (by decide) _ x (by show 38 + 1 * (x 1).val = 8 * 4 + 6; have : (x 1).val < 1 := (x 1).isLt; omega) (by show 0 + 1 * (x 2).val = _; omega)).symm
    · exact (cands_row S 4 5 (by decide) _ x (by show 37 + 1 * (x 1).val = 8 * 4 + 5; have : (x 1).val < 1 := (x 1).isLt; omega) (by show 0 + 1 * (x 2).val = _; omega)).symm
    · exact (cands_row S 4 4 (by decide) _ x (by show 36 + 1 * (x 1).val = 8 * 4 + 4; have : (x 1).val < 1 := (x 1).isLt; omega) (by show 0 + 1 * (x 2).val = _; omega)).symm
    · exact (cands_row S 4 3 (by decide) _ x (by show 35 + 1 * (x 1).val = 8 * 4 + 3; have : (x 1).val < 1 := (x 1).isLt; omega) (by show 0 + 1 * (x 2).val = _; omega)).symm
    · exact (cands_row S 4 2 (by decide) _ x (by show 34 + 1 * (x 1).val = 8 * 4 + 2; have : (x 1).val < 1 := (x 1).isLt; omega) (by show 0 + 1 * (x 2).val = _; omega)).symm
    · exact (cands_row S 4 1 (by decide) _ x (by show 33 + 1 * (x 1).val = 8 * 4 + 1; have : (x 1).val < 1 := (x 1).isLt; omega) (by show 0 + 1 * (x 2).val = _; omega)).symm
    · exact (cands_row S 4 0 (by decide) _ x (by show 32 + 1 * (x 1).val = 8 * 4 + 0; have : (x 1).val < 1 := (x 1).isLt; omega) (by show 0 + 1 * (x 2).val = _; omega)).symm
    · exact (cands_row S 3 7 (by decide) _ x (by show 31 + 1 * (x 1).val = 8 * 3 + 7; have : (x 1).val < 1 := (x 1).isLt; omega) (by show 0 + 1 * (x 2).val = _; omega)).symm
    · exact (cands_row S 3 6 (by decide) _ x (by show 30 + 1 * (x 1).val = 8 * 3 + 6; have : (x 1).val < 1 := (x 1).isLt; omega) (by show 0 + 1 * (x 2).val = _; omega)).symm
    · exact (cands_row S 3 5 (by decide) _ x (by show 29 + 1 * (x 1).val = 8 * 3 + 5; have : (x 1).val < 1 := (x 1).isLt; omega) (by show 0 + 1 * (x 2).val = _; omega)).symm
    · exact (cands_row S 3 4 (by decide) _ x (by show 28 + 1 * (x 1).val = 8 * 3 + 4; have : (x 1).val < 1 := (x 1).isLt; omega) (by show 0 + 1 * (x 2).val = _; omega)).symm
    · exact (cands_row S 3 3 (by decide) _ x (by show 27 + 1 * (x 1).val = 8 * 3 + 3; have : (x 1).val < 1 := (x 1).isLt; omega) (by show 0 + 1 * (x 2).val = _; omega)).symm
    · exact (cands_row S 3 2 (by decide) _ x (by show 26 + 1 * (x 1).val = 8 * 3 + 2; have : (x 1).val < 1 := (x 1).isLt; omega) (by show 0 + 1 * (x 2).val = _; omega)).symm
    · exact (cands_row S 3 1 (by decide) _ x (by show 25 + 1 * (x 1).val = 8 * 3 + 1; have : (x 1).val < 1 := (x 1).isLt; omega) (by show 0 + 1 * (x 2).val = _; omega)).symm
    · exact (cands_row S 3 0 (by decide) _ x (by show 24 + 1 * (x 1).val = 8 * 3 + 0; have : (x 1).val < 1 := (x 1).isLt; omega) (by show 0 + 1 * (x 2).val = _; omega)).symm
    · exact (cands_row S 2 7 (by decide) _ x (by show 23 + 1 * (x 1).val = 8 * 2 + 7; have : (x 1).val < 1 := (x 1).isLt; omega) (by show 0 + 1 * (x 2).val = _; omega)).symm
    · exact (cands_row S 2 6 (by decide) _ x (by show 22 + 1 * (x 1).val = 8 * 2 + 6; have : (x 1).val < 1 := (x 1).isLt; omega) (by show 0 + 1 * (x 2).val = _; omega)).symm
    · exact (cands_row S 2 5 (by decide) _ x (by show 21 + 1 * (x 1).val = 8 * 2 + 5; have : (x 1).val < 1 := (x 1).isLt; omega) (by show 0 + 1 * (x 2).val = _; omega)).symm
    · exact (cands_row S 2 4 (by decide) _ x (by show 20 + 1 * (x 1).val = 8 * 2 + 4; have : (x 1).val < 1 := (x 1).isLt; omega) (by show 0 + 1 * (x 2).val = _; omega)).symm
    · exact (cands_row S 2 3 (by decide) _ x (by show 19 + 1 * (x 1).val = 8 * 2 + 3; have : (x 1).val < 1 := (x 1).isLt; omega) (by show 0 + 1 * (x 2).val = _; omega)).symm
    · exact (cands_row S 2 2 (by decide) _ x (by show 18 + 1 * (x 1).val = 8 * 2 + 2; have : (x 1).val < 1 := (x 1).isLt; omega) (by show 0 + 1 * (x 2).val = _; omega)).symm
    · exact (cands_row S 2 1 (by decide) _ x (by show 17 + 1 * (x 1).val = 8 * 2 + 1; have : (x 1).val < 1 := (x 1).isLt; omega) (by show 0 + 1 * (x 2).val = _; omega)).symm
    · exact (cands_row S 2 0 (by decide) _ x (by show 16 + 1 * (x 1).val = 8 * 2 + 0; have : (x 1).val < 1 := (x 1).isLt; omega) (by show 0 + 1 * (x 2).val = _; omega)).symm
    · exact (cands_row S 1 7 (by decide) _ x (by show 15 + 1 * (x 1).val = 8 * 1 + 7; have : (x 1).val < 1 := (x 1).isLt; omega) (by show 0 + 1 * (x 2).val = _; omega)).symm
    · exact (cands_row S 1 6 (by decide) _ x (by show 14 + 1 * (x 1).val = 8 * 1 + 6; have : (x 1).val < 1 := (x 1).isLt; omega) (by show 0 + 1 * (x 2).val = _; omega)).symm
    · exact (cands_row S 1 5 (by decide) _ x (by show 13 + 1 * (x 1).val = 8 * 1 + 5; have : (x 1).val < 1 := (x 1).isLt; omega) (by show 0 + 1 * (x 2).val = _; omega)).symm
    · exact (cands_row S 1 4 (by decide) _ x (by show 12 + 1 * (x 1).val = 8 * 1 + 4; have : (x 1).val < 1 := (x 1).isLt; omega) (by show 0 + 1 * (x 2).val = _; omega)).symm
    · exact (cands_row S 1 3 (by decide) _ x (by show 11 + 1 * (x 1).val = 8 * 1 + 3; have : (x 1).val < 1 := (x 1).isLt; omega) (by show 0 + 1 * (x 2).val = _; omega)).symm
    · exact (cands_row S 1 2 (by decide) _ x (by show 10 + 1 * (x 1).val = 8 * 1 + 2; have : (x 1).val < 1 := (x 1).isLt; omega) (by show 0 + 1 * (x 2).val = _; omega)).symm
    · exact (cands_row S 1 1 (by decide) _ x (by show 9 + 1 * (x 1).val = 8 * 1 + 1; have : (x 1).val < 1 := (x 1).isLt; omega) (by show 0 + 1 * (x 2).val = _; omega)).symm
    · exact (cands_row S 1 0 (by decide) _ x (by show 8 + 1 * (x 1).val = 8 * 1 + 0; have : (x 1).val < 1 := (x 1).isLt; omega) (by show 0 + 1 * (x 2).val = _; omega)).symm
    · exact (cands_row S 0 7 (by decide) _ x (by show 7 + 1 * (x 1).val = 8 * 0 + 7; have : (x 1).val < 1 := (x 1).isLt; omega) (by show 0 + 1 * (x 2).val = _; omega)).symm
    · exact (cands_row S 0 6 (by decide) _ x (by show 6 + 1 * (x 1).val = 8 * 0 + 6; have : (x 1).val < 1 := (x 1).isLt; omega) (by show 0 + 1 * (x 2).val = _; omega)).symm
    · exact (cands_row S 0 5 (by decide) _ x (by show 5 + 1 * (x 1).val = 8 * 0 + 5; have : (x 1).val < 1 := (x 1).isLt; omega) (by show 0 + 1 * (x 2).val = _; omega)).symm
    · exact (cands_row S 0 4 (by decide) _ x (by show 4 + 1 * (x 1).val = 8 * 0 + 4; have : (x 1).val < 1 := (x 1).isLt; omega) (by show 0 + 1 * (x 2).val = _; omega)).symm
    · exact (cands_row S 0 3 (by decide) _ x (by show 3 + 1 * (x 1).val = 8 * 0 + 3; have : (x 1).val < 1 := (x 1).isLt; omega) (by show 0 + 1 * (x 2).val = _; omega)).symm
    · exact (cands_row S 0 2 (by decide) _ x (by show 2 + 1 * (x 1).val = 8 * 0 + 2; have : (x 1).val < 1 := (x 1).isLt; omega) (by show 0 + 1 * (x 2).val = _; omega)).symm
    · exact (cands_row S 0 1 (by decide) _ x (by show 1 + 1 * (x 1).val = 8 * 0 + 1; have : (x 1).val < 1 := (x 1).isLt; omega) (by show 0 + 1 * (x 2).val = _; omega)).symm
    · exact (cands_row S 0 0 (by decide) _ x (by show 0 + 1 * (x 1).val = 8 * 0 + 0; have : (x 1).val < 1 := (x 1).isLt; omega) (by show 0 + 1 * (x 2).val = _; omega)).symm
  · exact View.cover_of_tiled (Val := Elt F) (s := S1x40x512) (e := .i32) _ ![1, 1, 512] rfl y

end Cert.Proof.Whole

end
-- ==== Proof.Whole.Phase.lean ====
/-
  The first TensorCore call as a region of the main thread. Its 400 points are 8 blocks of 512 queries by 50 blocks of 2048 keys;
  each point puts 256 rows of the block's table of chunk maxima, and the last point of a block writes the block's candidates from
  the full table.
-/
module

public import proofs.«01_k».proof.Proof.Whole.PhaseRun
public import proofs.«01_k».proof.Proof.Whole.Select

@[expose] public section

noncomputable section

namespace Cert.Proof.Whole

open Cert.WholeIdeal Cert.WholeIdeal.Gen

open Idealize.ShloMosaic Idealize.ShloMosaic.ValueIdx
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F] [Named F]

local notation "𝕄" => MM F

/-! ## What the call computes -/

/-- Block `k` of 2048 keys. -/
def blkK (a : S102400x128.Idx → F .f32) (k : Fin 50) : S2048x128.Idx → F .f32 :=
  fun x => a (ix2 (⟨k.val * 2048 + (x 0).val, by have := k.isLt; have : (x 0).val < 2048 := (x 0).isLt; omega⟩ : Fin 102400) (x 1))
/-- Block `b` of 512 queries. -/
def blkP (a : S4096x128.Idx → F .f32) (b : Fin 8) : S512x128.Idx → F .f32 :=
  fun x => a (ix2 (⟨b.val * 512 + (x 0).val, by have := b.isLt; have : (x 0).val < 512 := (x 0).isLt; omega⟩ : Fin 4096) (x 1))

/-- The point of block `b` of the queries and block `k` of the keys. -/
def ptOf (b : Fin 8) (k : Fin 50) : Fin grid0.N := ⟨50 * b.val + k.val, by rw [N_0]; omega⟩

/-- The table of block `b`: row `256 k + r` is row `r` of what point `(b, k)` puts. -/
def table (a10 : S102400x128.Idx → F .f32) (a4 : S4096x128.Idx → F .f32) (b : Fin 8) : S12800x512.Idx → F .f32 := fun y =>
  have hy : (y 0).val < 12800 := (y 0).isLt
  k0_pay1 (grid0.coords (ptOf b ⟨(y 0).val / 256, by omega⟩)) (blkK a10 ⟨(y 0).val / 256, by omega⟩) (blkP a4 b)
    (ix2 (⟨(y 0).val % 256, by omega⟩ : Fin 256) (y 1))

/-- The call's result: the candidates of every block of queries. -/
def phase (a10 : S102400x128.Idx → F .f32) (a4 : S4096x128.Idx → F .f32) : S8x40x512.Idx → BitVec 32 := fun y =>
  cands (table a10 a4 (y 0)) (ix3 (0 : Fin 1) (y 1) (y 2))

theorem table_hit (a10 : S102400x128.Idx → F .f32) (a4 : S4096x128.Idx → F .f32) (b : Fin 8) (k : Fin 50) (t : Fin grid0.N) (ht : t = ptOf b k)
    (y : S12800x512.Idx) (r : Fin 256) (hr : (y 0).val = 256 * k.val + r.val) :
    table a10 a4 b y = k0_pay1 (grid0.coords t) (blkK a10 k) (blkP a4 b) (ix2 r (y 1)) := by
  subst ht
  have hy : (y 0).val < 12800 := (y 0).isLt
  have hk : (⟨(y 0).val / 256, by omega⟩ : Fin 50) = k := Fin.ext (by show (y 0).val / 256 = _; omega)
  have hm : (⟨(y 0).val % 256, by omega⟩ : Fin 256) = r := Fin.ext (by show (y 0).val % 256 = _; omega)
  unfold table
  dsimp only
  rw [hk, hm]

theorem coords0_1 : ∀ t : Fin grid0.N, (grid0.coords t 1).val = t.val % 50 := by decide +kernel
theorem cond0 : ∀ t : Fin grid0.N, (k0_cond1 (grid0.coords t) == 1#1) = decide (t.val % 50 = 49) := by decide +kernel
theorem idx0_0 : ∀ t : Fin grid0.N, win0_0.index t = ![t.val % 50, 0] := by decide +kernel
theorem idx0_1 : ∀ t : Fin grid0.N, win0_1.index t = ![t.val / 50, 0] := by decide +kernel
theorem idx0_2 : ∀ t : Fin grid0.N, win0_2.index t = ![t.val / 50, 0, 0] := by decide +kernel

/-! ## The proof data -/

section Phase
variable (V : (c : Dev nD) → (b : Ref sig .tc) → Buf (Elt F) ((c : Thread nD τ).loc b))

/-- The block of the keys and of the queries at a point. -/
abbrev phIn0 (c : Dev nD) (t : Fin cfg0.N) : S2048x128.Idx → F .f32 := ((cfg0.win 0).blk t).view.read (Elt F) (V c main_v10)
abbrev phIn1 (c : Dev nD) (t : Fin cfg0.N) : S512x128.Idx → F .f32 := ((cfg0.win 1).blk t).view.read (Elt F) (V c main_v4)

theorem lt400 (t : Fin cfg0.N) : t.val < 400 := lt_of_lt_of_eq t.isLt N_0

theorem phIn0_eq (c : Dev nD) (t : Fin cfg0.N) : phIn0 V c t = blkK (V c main_v10) ⟨t.val % 50, by omega⟩ := by
  funext x
  show V c main_v10 _ = V c main_v10 _
  congr 1
  funext a; apply Fin.ext
  fin_cases a
  · blk_simp [idx0_0]; rfl
  · blk_simp [idx0_0]; simp [ix2]

theorem phIn1_eq (c : Dev nD) (t : Fin cfg0.N) (h : t.val / 50 < 8) : phIn1 V c t = blkP (V c main_v4) ⟨t.val / 50, h⟩ := by
  funext x
  show V c main_v4 _ = V c main_v4 _
  congr 1
  funext a; apply Fin.ext
  fin_cases a
  · blk_simp [idx0_1]; rfl
  · blk_simp [idx0_1]; simp [ix2]

/-- The block of queries a point (or the end) is in. -/
def bOf (t : ℕ) : Fin 8 := ⟨t / 50 % 8, Nat.mod_lt _ (by decide)⟩

/-- The rows that the points before `t` of its block have put. -/
def Filled (c : Dev nD) (t : ℕ) (f : S12800x512.Idx → F .f32) : Prop :=
  ∀ y : S12800x512.Idx, (y 0).val < 256 * (t % 50) → f y = table (V c main_v10) (V c main_v4) (bOf t) y

/-- A buffer at anything. -/
def anyBuf (c : Dev nD) (b : Ref sig .tc) : sProp 𝕄 := iprop(∃ f : Buf (Elt F) ((c : Thread nD τ).loc b), ((c : Thread nD τ).loc b) ↦{fullShare} f)

/-- The buffers of the other call. -/
def phRest (c : Dev nD) : sProp 𝕄 := iprop(anyBuf (F := F) c cc2_stg0_0 ∗ anyBuf (F := F) c cc2_stg0_1 ∗ anyBuf (F := F) c cc2_stg1_0 ∗ anyBuf (F := F) c cc2_stg1_1 ∗ anyBuf (F := F) c cc2_stg2_0 ∗ anyBuf (F := F) c cc2_stg2_1 ∗ anyBuf (F := F) c cc2_stg3_0 ∗ anyBuf (F := F) c cc2_stg3_1)

/-- The table, filled up to the point, and the buffers of the other call. -/
def phΦ (c : Dev nD) (t : ℕ) : sProp 𝕄 :=
  iprop((∃ f : S12800x512.Idx → F .f32, ⌜Filled V c t f⌝ ∗ owns (Val := Elt F) (c : Thread nD τ) (Memref.whole cc0_scratch0) fullShare f) ∗ phRest c)

theorem scopedRest0_any (c : Dev nD) : (Pipeline.scopedRest (Ix := HIx 2) (Name := ℕ) (U := UU) (Lvl := ℕ) (Val := Elt F) spec0 c : sProp 𝕄)
    = iprop(anyBuf c cc0_scratch0 ∗ phRest c) := by rw [scopedRest0_eq]; rfl
theorem scopedRest0_to (c : Dev nD) : (Pipeline.scopedRest (Ix := HIx 2) (Name := ℕ) (U := UU) (Lvl := ℕ) (Val := Elt F) spec0 c : sProp 𝕄)
    ⊢ iprop(anyBuf c cc0_scratch0 ∗ phRest c) := by rw [scopedRest0_any]
theorem scopedRest0_from (c : Dev nD) : iprop(anyBuf (F := F) c cc0_scratch0 ∗ phRest c)
    ⊢ (Pipeline.scopedRest (Ix := HIx 2) (Name := ℕ) (U := UU) (Lvl := ℕ) (Val := Elt F) spec0 c : sProp 𝕄) := by rw [scopedRest0_any]

def phDat (c : Dev nD) : Dat τ (Elt F) (HIx 2) ℕ UU ℕ cfg0 c where
  A w := V c (Pipeline.arrRef spec0 w)
  after w t := match w with
    | ⟨0, _⟩ => phIn0 V c t
    | ⟨1, _⟩ => phIn1 V c t
    | ⟨2, _⟩ => cands (table (V c main_v10) (V c main_v4) (bOf t.val))
  Φ t := phΦ V c t.val
  q _ := fullShare
  owed _ := (K (F := F)).Otc c 0
  recorded _ := recs (F := F) c 0

def phDats : (p : Fin 2) → (c : Dev nD) → Dat τ (Elt F) (HIx 2) ℕ UU ℕ (Pipeline.pin (pcfgs (F := F)) adm p) c
  | ⟨0, _⟩ => fun c => phDat V c
  | ⟨1, _⟩ => fun c => junkDat c

theorem ph_before0 (c : Dev nD) (t : Fin cfg0.N) (d) : (phDat V c).before 0 t d = phIn0 V c t := by
  unfold Dat.before; rw [if_pos (fetch0_0 t)]; rfl
theorem ph_before1 (c : Dev nD) (t : Fin cfg0.N) (d) : (phDat V c).before 1 t d = phIn1 V c t :=
  ((phDat V c).before_in_eq_fetched 1 rfl (fun _ => rfl) (fun _ _ _ => rfl) (fun _ => rfl) t d).trans rfl

/-- A point's rows put on top of a table filled up to it. -/
theorem filled_put (c : Dev nD) (t : Fin cfg0.N) (f : S12800x512.Idx → F .f32) (hf : Filled V c t.val f) (y : S12800x512.Idx)
    (hy : (y 0).val < 256 * (t.val % 50 + 1)) :
    put (grid0.coords t) f (k0_pay1 (grid0.coords t) (phIn0 V c t) (phIn1 V c t)) y = table (V c main_v10) (V c main_v4) (bOf t.val) y := by
  have ht := lt400 t
  have hb : t.val / 50 < 8 := by omega
  have hc := coords0_1 t
  unfold put
  split
  case isTrue h =>
    rw [phIn0_eq, phIn1_eq V c t hb]
    have hbo : bOf t.val = ⟨t.val / 50, hb⟩ := Fin.ext (Nat.mod_eq_of_lt hb)
    rw [hbo]
    refine (table_hit _ _ _ ⟨t.val % 50, by omega⟩ t (Fin.ext ?_) y _ ?_).symm
    · show t.val = 50 * (t.val / 50) + t.val % 50; omega
    · show (y 0).val = 256 * (t.val % 50) + ((y 0).val - 256 * (grid0.coords t 1).val); omega
  case isFalse h => exact hf y (by omega)

theorem ph_body (c : Dev nD) : BodyObligation (phDat V c) (defs₀ (F := F)) 𝒱₀ none Set.univ := fun t => by
  have ht := lt400 t
  have hc := cond0 t
  rw [bigSep_W0, bigSep_W0]
  simp only [ph_before0, ph_before1]
  rw [show (phDat V c).Φ t.castSucc = phΦ V c t.val from rfl, show (phDat V c).Φ t.succ = phΦ V c (t.val + 1) from rfl,
    show (phDat V c).owesAt none t.succ = (phDat V c).owesAt none t.castSucc from rfl]
  unfold phΦ
  by_cases h49 : t.val % 50 = 49
  · have hcond : k0_cond1 (grid0.coords t) = 1#1 := by simpa [h49] using hc
    have hidle : idle0 2 (grid0.coords t) = false := by show (!(k0_cond1 (grid0.coords t) == 1#1)) = false; rw [hc]; simp [h49]
    iintro ⟨⟨⟨%f, %hf, HS⟩, HR⟩, Howes, ⟨%d0, H0⟩, ⟨%d1, H1⟩, ⟨%d2, H2⟩⟩
    iapply (phase_run_last (F := F) c (grid0.coords t) (st0_0 t) _ (st0_1 t) _ (st0_2 t) _ (Memref.whole cc0_scratch0) _ hcond (phIn0 V c t) (phIn1 V c t) _ f Set.univ _)
    isplitl [H0]; · iexact H0
    isplitl [H1]; · iexact H1
    isplitl [H2]; · iexact H2
    isplitl [HS]; · iexact HS
    iintro ⟨H0, H1, H2, ⟨%S', HS⟩⟩
    have hfull : put (grid0.coords t) f (k0_pay1 (grid0.coords t) (phIn0 V c t) (phIn1 V c t)) = table (V c main_v10) (V c main_v4) (bOf t.val) := by
      funext y
      have hy : (y 0).val < 12800 := (y 0).isLt
      exact filled_put V c t f hf y (by omega)
    rw [hfull]
    isplitl [HS HR]
    · isplitl [HS]
      · iexists S'
        isplitr; swap; (· iexact HS)
        ipureintro
        intro y hy
        have : (t.val + 1) % 50 = 0 := by omega
        rw [this] at hy
        omega
      iexact HR
    isplitl [Howes]; · iexact Howes
    isplitl [H0]; · iexact H0
    isplitl [H1]; · iexact H1
    rw [hidle]
    iexact H2
  · have hcond : ¬ k0_cond1 (grid0.coords t) = 1#1 := by simpa [h49] using hc
    have hidle : idle0 2 (grid0.coords t) = true := by show (!(k0_cond1 (grid0.coords t) == 1#1)) = true; rw [hc]; simp [h49]
    have hflush : (cfg0.win 2).flush t = false := by
      rw [← Bool.not_eq_true]; exact fun h => h49 ((flush0_2 t).mp h)
    rw [hflush]
    iintro ⟨⟨⟨%f, %hf, HS⟩, HR⟩, Howes, ⟨%d0, H0⟩, ⟨%d1, H1⟩, ⟨%d2, H2⟩⟩
    iapply (phase_run_mid (F := F) c (grid0.coords t) (st0_0 t) _ (st0_1 t) _ (st0_2 t) _ (Memref.whole cc0_scratch0) _ hcond (phIn0 V c t) (phIn1 V c t) _ f Set.univ _)
    isplitl [H0]; · iexact H0
    isplitl [H1]; · iexact H1
    isplitl [H2]; · iexact H2
    isplitl [HS]; · iexact HS
    iintro ⟨H0, H1, H2, HS⟩
    isplitl [HS HR]
    · isplitl [HS]
      · iexists _
        isplitr; swap; (· iexact HS)
        ipureintro
        intro y hy
        have hs : (t.val + 1) % 50 = t.val % 50 + 1 := by omega
        have hb : bOf (t.val + 1) = bOf t.val := Fin.ext (by show (t.val + 1) / 50 % 8 = t.val / 50 % 8; omega)
        rw [hs] at hy
        rw [hb]
        exact filled_put V c t f hf y hy
      iexact HR
    isplitl [Howes]; · iexact Howes
    isplitl [H0]; · iexact H0
    isplitl [H1]; · iexact H1
    rw [hidle]
    iexists d2
    iexact H2

/-- The result's buffer after the region. -/
def phOut (c : Dev nD) : Buf (Elt F) ((c : Thread nD τ).loc main_v11) := (phDat V c).arrAt 2 cfg0.N

theorem phOut_eq (c : Dev nD) : phOut V c = phase (V c main_v10) (V c main_v4) := by
  refine (phDat V c).arrAt_eq_of_covers 2 _ (by decide +kernel) fun t hf y => ?_
  have ht := lt400 t
  have hb : t.val / 50 < 8 := by omega
  have e0 : ((((cfg0.win 2).blk t).view.emb y) 0).val = t.val / 50 := by
    have : (y 0).val < 1 := (y 0).isLt
    blk_simp [idx0_2]; try omega
  have e1 : ((((cfg0.win 2).blk t).view.emb y) 1).val = (y 1).val := by blk_simp [idx0_2]
  have e2 : ((((cfg0.win 2).blk t).view.emb y) 2).val = (y 2).val := by blk_simp [idx0_2]
  show cands (table (V c main_v10) (V c main_v4) (bOf t.val)) _ = _
  unfold phase
  have hbo : bOf t.val = (((cfg0.win 2).blk t).view.emb y) 0 := Fin.ext ((Nat.mod_eq_of_lt hb).trans e0.symm)
  rw [hbo]
  congr 1
  funext a; apply Fin.ext
  fin_cases a
  · have : (y 0).val < 1 := (y 0).isLt
    show (y 0).val = 0; omega
  · exact e1.symm
  · exact e2.symm

variable (Vp : (c : Dev nD) → (b : Ref sig .tc) → Buf (Elt F) ((c : Thread nD τ).loc b))

set_option backward.isDefEq.respectTransparency.types false in
/-- The region. -/
def phReg (hVp_out : ∀ c, Vp c main_v11 = phOut V c) (hVp_ne : ∀ c (b : Ref sig .tc), b ≠ main_v11 → Vp c b = V c b) :
    Pipeline.RegionSeg (pcfgs (F := F)) adm (phDats V) none defs₀ 𝒱₀ (K (F := F)).L (K (F := F)).lev 0 where
  win := (launch0).win.to₀
  block_pos := (launch0).block_pos
  stage_whole := (launch0).stage_whole
  K := PEmpty
  osem k := k.elim
  ho := Pipeline.OwnSemFacts.none _
  hbody c := (ph_body V c).loose
  hwaits c := Pipeline.cellsWaits_intro _ _ none 0 c fun w s t => (K (F := F)).mayWait_none _ (Otc_none c 0)
  pre c := iprop(unscopedBufs c (V c) ∗ owesTc c 0)
  post c := iprop(unscopedBufs c (Vp c) ∗ owesTc c 0)
  X _ := BI.emp
  Y _ := BI.emp
  Z c := Pipeline.unscopedRest (Ix := HIx 2) (Name := ℕ) (U := UU) (Lvl := ℕ) spec0 c (V c)
  hentry c := by
    rw [Pipeline.ownSems0_none]
    have hsplit := Pipeline.arrays_of_unscopedBufs (p := 0) (pcfgs (F := F)) adm (phDats V) (launch0).win (launch0).arr_whole c
      ((phDats V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin owesTc
      icases HO with ⟨%W, %hW, HO⟩; iexists W; isplitr; · ipureintro; exact fun p hp => Or.inl (hW p hp)
      iexact HO
    isplitr; · iempintro
    iexact Hrest
  hin c := by
    rw [show (phDats V 0 c).Φ 0 = phΦ V c 0 from rfl]
    refine (sep_elim_right.trans sep_elim_right).trans ?_
    refine (scopedRest0_to c).trans ?_
    unfold phΦ anyBuf
    simp only [owns_whole]
    iintro ⟨⟨%f, HS⟩, HR⟩
    isplitl [HS]
    · iexists f
      isplitr; swap; (· iexact HS)
      ipureintro
      exact fun y hy => absurd hy (Nat.not_lt_zero _)
    iexact HR
  hout c := by
    rw [Pipeline.ownSems0_none, show (phDats V 0 c).Φ (Fin.last _) = phΦ V c 400 from rfl]
    unfold phΦ
    simp only [owns_whole]
    iintro ⟨⟨%f, -, HS⟩, HR⟩
    isplitr; · iempintro
    isplitr; · iempintro
    iapply (scopedRest0_from (F := F) c)
    unfold anyBuf
    isplitl [HS]
    · iexists f; iexact HS
    iexact HR
  hexit c := by
    have hjoin := Pipeline.unscopedBufs_of_arrays (p := 0) (pcfgs (F := F)) adm (Ix := HIx 2) (Name := ℕ) (U := UU) (Lvl := ℕ) (launch0).win (launch0).arr_whole c
      (phDats V) ((phDats V 0 c).share_full fun _ => rfl) (V c) (Vp c) ((phDats V 0 c).arrAt · cfg0.N)
      (fun w => by
        fin_cases w
        · exact ((phDats V 0 c).arrAt_in 0 rfl _).trans (hVp_ne c main_v10 (by decide)).symm
        · exact ((phDats V 0 c).arrAt_in 1 rfl _).trans (hVp_ne c main_v4 (by decide)).symm
        · exact (hVp_out c).symm)
      (fun b hb => hVp_ne c b fun h => hb (h ▸ Finset.mem_image.mpr ⟨2, Finset.mem_univ _, rfl⟩))
    iintro ⟨Ha, HO, -, Hrest⟩
    imodintro
    isplitl [Ha Hrest]
    · iapply hjoin; isplitl [Ha] <;> iassumption
    unfold Pipeline.Dat.owesAt Pipeline.owesWithin owesTc
    icases HO with ⟨%W, %hW, HO⟩; iexists W
    isplitr
    · ipureintro
      intro p hp
      rcases hW hp with h | h
      · exact h
      · obtain ⟨w, s, rfl⟩ := h
        exact Nat.zero_le _
    iexact HO

end Phase

end Cert.Proof.Whole

end
-- ==== Proof.WholeGather.Base.lean ====
/-
  The SparseCore call that gathers the candidates' rows: the program as the launch theorem sees it, the arrays, and what
  the call computes. `outVal` is the result as a function of the list of row numbers and of the table: row `n` of the
  result is the row of the table that entry `n` of the list names. Stated at any float instance.
-/
module

public import proofs.«01_k».proof.Proof.Whole.Base

@[expose] public section

noncomputable section

namespace Cert.Proof.WholeGather

open Cert.WholeIdeal Cert.WholeIdeal.Gen
open Cert.Proof.Whole

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The arrays -/

/-- The row numbers as they are given, the table, the row numbers flattened, the result. -/
abbrev aLoc (d : Dev nD) : Loc nD τ sig := (SparseCore.T d).loc main_v13
abbrev xLoc (d : Dev nD) : Loc nD τ sig := (SparseCore.T d).loc main_v10
abbrev iLoc (d : Dev nD) : Loc nD τ sig := (SparseCore.T d).loc main_v14
abbrev oLoc (d : Dev nD) : Loc nD τ sig := (SparseCore.T d).loc main_v15

/-! ## What the call computes -/

section Value

/-- The row of the table that a list entry names. -/
def rowOf (v : BitVec 32) : Fin 102400 := ⟨v.toNat % 102400, Nat.mod_lt _ (by decide)⟩

/-- Entry `(n, l)` of the gathered rows: column `l` of the row that entry `n` of the list names. -/
def fetched (fi : S163840.Idx → BitVec 32) (fx : S102400x128.Idx → F .f32) (n : Fin 163840) (l : Fin 128) : F .f32 :=
  fx (ix2 (rowOf (fi (ix1 n))) l)

/-- The result of the call. -/
def outVal (fi : S163840.Idx → BitVec 32) (fx : S102400x128.Idx → F .f32) : S163840x128.Idx → F .f32 := fun j =>
  fetched fi fx (j 0) (j 1)

end Value

end Cert.Proof.WholeGather

end
-- ==== Proof.WholeGather.Steps.lean ====
/-
  A task's program in steps. Sixteen batches of 320 rows pass through two banks of buffers by turns: a bank has a buffer for
  320 entries of the list, a buffer for the 320 rows that they name, a semaphore for the gather and one for the write. A
  batch is fetched (its part of the list copied in, the gather of its rows begun), put out (the gather awaited, the write of
  its rows begun) and, before its bank serves again, its write is awaited. `body_eq` says that the kernel's straight line of
  operations is this sequence of steps.
-/
module

public import proofs.«01_k».proof.Proof.WholeGather.Base

@[expose] public section

noncomputable section

namespace Cert.Proof.WholeGather

open Cert.WholeIdeal Cert.WholeIdeal.Gen
open Cert.Proof.Whole

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "iV" => (Memref.whole Cert.WholeIdeal.main_v14_scv : Memref Cert.WholeIdeal.sig Kind.scVector Space.hbm Cert.WholeIdeal.S163840 EltTy.i32)
local notation "xV" => (Memref.whole Cert.WholeIdeal.main_v10_scv : Memref Cert.WholeIdeal.sig Kind.scVector Space.hbm Cert.WholeIdeal.S102400x128 EltTy.f32)
local notation "oV" => (Memref.whole Cert.WholeIdeal.main_v15_scv : Memref Cert.WholeIdeal.sig Kind.scVector Space.hbm Cert.WholeIdeal.S163840x128 EltTy.f32)

/-! ## The two banks -/

/-- A bank's buffer for list entries. -/
abbrev iRef : Bool → Ref sig .scVector | false => cc1_scratch0 | true => cc1_scratch1
/-- A bank's buffer for rows. -/
abbrev rRef : Bool → Ref sig .scVector | false => cc1_scratch2 | true => cc1_scratch3

def iM : Bool → Memref sig .scVector .vmem S320 .i32 | false => Memref.whole cc1_scratch0 | true => Memref.whole cc1_scratch1
def rM : Bool → Memref sig .scVector .vmem S320x128 .f32 | false => Memref.whole cc1_scratch2 | true => Memref.whole cc1_scratch3
theorem iM_whole : ∀ u, (iM u).IsWhole | false => Memref.isWhole_whole _ | true => Memref.isWhole_whole _
theorem rM_whole : ∀ u, (rM u).IsWhole | false => Memref.isWhole_whole _ | true => Memref.isWhole_whole _

/-- A bank's semaphore for the gather and its semaphore for the write. -/
def gS : Bool → DmaSem sig | false => cc1_scratch4.sem | true => cc1_scratch5.sem
def wS : Bool → DmaSem sig | false => cc1_scratch6.sem | true => cc1_scratch7.sem
/-- A batch's semaphore for the copy of its part of the list. -/
def lS (b : Fin 16) : DmaSem sig := (SemArray.consecutive (10 + b.val) S_ (show 10 + b.val + S_.numel ≤ 37 by have := b.isLt; rw [show S_.numel = 1 by decide]; omega) : DmaSems sig S_).sem

/-! ## The steps -/

abbrev Pr (F : FTy → Type) (L : grid1.Coords) : Type 1 := Prog (TpuEff nD τ sig (Elt F) Λ₀ (.scVector ((L 0).castLE hcore1) ((L 1).castLE hsub1))) PUnit

/-- A batch's part of the list, its rows of the result, and the whole table. -/
abbrev iSl (L : grid1.Coords) (b : Fin 16) : Memref sig .scVector .hbm S320 .i32 :=
  (iV).slice (Rect.unit (s := S163840) (k1_off1 L (BitVec.ofNat 32 (8 * b.val))) S320.size (k1_off1_inb L b)) (fun _ => rfl)
abbrev oSl (L : grid1.Coords) (b : Fin 16) : Memref sig .scVector .hbm S320x128 .f32 :=
  (oV).slice (Rect.unit (s := S163840x128) (k1_off2 L (BitVec.ofNat 32 (8 * b.val))) S320x128.size (k1_off2_inb L b)) (fun _ => rfl)
abbrev xAll : Memref sig .scVector .hbm S102400x128 .f32 :=
  (xV).slice (Rect.unit (s := S102400x128) ![0, 0] S102400x128.size inb_S102400x128_S102400x128_0_0) (fun _ => rfl)

section Steps
variable [FloatOps F] [Named F] (L : grid1.Coords)

/-- Batch `b` is fetched into bank `u`. -/
def fetch (u : Bool) (b : Fin 16) (k : Pr F L) : Pr F L :=
  .op (.enqueueDma (iSl L b) (.here (iM u)) (.dma (lS b)) (View.wordExact_bits rfl) (iM_whole u).wordExact ⟨Or.inl rfl, trivial⟩) fun _ =>
  .op (.waitDma2 (lS b) (iSl L b) (iM u) (View.wordExact_bits rfl) (iM_whole u).wordExact) fun _ =>
  SparseCore.enqueueIndirectGather rfl xAll (rM u) gathers_S102400x128_S320x128 (iM u) rfl (gS u) (View.wordExact_bits rfl) rfl (Or.inl rfl) >>= fun _ => k

/-- Batch `b` is put out of bank `u`. -/
def putOut (u : Bool) (b : Fin 16) (k : Pr F L) : Pr F L :=
  .op (.waitDma2 (gS u) xAll (rM u) (View.wordExact_bits rfl) (rM_whole u).wordExact) fun _ =>
  .op (.enqueueDma (rM u) (.here (oSl L b)) (.dma (wS u)) (rM_whole u).wordExact (View.wordExact_bits rfl) ⟨Or.inl rfl, trivial⟩) fun _ => k

/-- The write of batch `b` out of bank `u` is awaited. -/
def await (u : Bool) (b : Fin 16) (k : Pr F L) : Pr F L :=
  .op (.waitDma2 (wS u) (rM u) (oSl L b) (rM_whole u).wordExact (View.wordExact_bits rfl)) fun _ => k

/-- Batch number `n`. -/
def bt (n : ℕ) : Fin 16 := ⟨n % 16, Nat.mod_lt _ (by decide)⟩

/-- The last `n` batches, the next of them going to bank `u`, and the end of the program. -/
def pipe : ℕ → Bool → Pr F L
  | 0, u => putOut L (!u) (bt 15) (await L u (bt 14) (await L (!u) (bt 15) (pure ⟨⟩)))
  | n + 1, u => await L u (bt (13 - n)) (fetch L u (bt (15 - n)) (putOut L (!u) (bt (14 - n)) (pipe n (!u))))

/-- The task's program. -/
def task : Pr F L := fetch L false (bt 0) (fetch L true (bt 1) (putOut L false (bt 0) (pipe L 14 false)))

set_option maxRecDepth 65536 in
set_option maxHeartbeats 4000000 in
theorem body_eq :
    cc1_sc1 (F := F) L iV (Memref.isWhole_whole _) xV (Memref.isWhole_whole _) oV (Memref.isWhole_whole _)
      (Memref.whole cc1_scratch0) (Memref.isWhole_whole _) (Memref.whole cc1_scratch1) (Memref.isWhole_whole _)
      (Memref.whole cc1_scratch2) (Memref.isWhole_whole _) (Memref.whole cc1_scratch3) (Memref.isWhole_whole _)
      cc1_scratch4 cc1_scratch5 cc1_scratch6 cc1_scratch7 cc1_scoped0 cc1_scoped1 cc1_scoped2 cc1_scoped3 cc1_scoped4 cc1_scoped5 cc1_scoped6 cc1_scoped7
      cc1_scoped8 cc1_scoped9 cc1_scoped10 cc1_scoped11 cc1_scoped12 cc1_scoped13 cc1_scoped14 cc1_scoped15 = task L := by
  rw [cc1_sc1_eq_skeleton]
  rfl

end Steps

end Cert.Proof.WholeGather

end
-- ==== Proof.WholeGather.Batch.lean ====
/-
  One task of the SparseCore call, on vector subcore `s` of SparseCore `c`: what each step of its program does, and the task
  as a whole. While a batch's gather is under way its flight holds the bank's two buffers and a share of the table, and
  delivers the rows that the batch's part of the list names; while its write is under way its flight holds the bank's row
  buffer and the batch's rows of the result, and delivers those rows at `outVal`.
-/
module

public import proofs.«01_k».proof.Proof.WholeGather.Steps

@[expose] public section

noncomputable section

namespace Cert.Proof.WholeGather

open Cert.WholeIdeal Cert.WholeIdeal.Gen
open Cert.Proof.Whole

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "iV" => (Memref.whole Cert.WholeIdeal.main_v14_scv : Memref Cert.WholeIdeal.sig Kind.scVector Space.hbm Cert.WholeIdeal.S163840 EltTy.i32)
local notation "xV" => (Memref.whole Cert.WholeIdeal.main_v10_scv : Memref Cert.WholeIdeal.sig Kind.scVector Space.hbm Cert.WholeIdeal.S102400x128 EltTy.f32)
local notation "oV" => (Memref.whole Cert.WholeIdeal.main_v15_scv : Memref Cert.WholeIdeal.sig Kind.scVector Space.hbm Cert.WholeIdeal.S163840x128 EltTy.f32)

/-- A batch's place among the 512 blocks of 320 rows of the result. -/
def sl (w : Fin 32) (b : Fin 16) : Fin 512 := ⟨16 * w.val + b.val, by omega⟩
theorem odiv : 512 ∣ S163840x128.size 0 := ⟨320, rfl⟩
abbrev orow (n : Fin 512) : Rect S163840x128 := Rect.part (s := S163840x128) (a₀ := 0) odiv n
abbrev oRowSet (n : Fin 512) : Finset S163840x128.Idx := ((oV).view.slice (orow n)).set

/-- A share of the flattened row numbers, a share of the table, one batch's block of the result. -/
abbrev iPts (d : Dev nD) (q : PosShare TreeShare) (f : Buf (Elt F) (iLoc d)) : sProp 𝕄 := iLoc d ↦{q} f
abbrev xPts (d : Dev nD) (q : PosShare TreeShare) (f : Buf (Elt F) (xLoc d)) : sProp 𝕄 := xLoc d ↦{q} f
abbrev oRowPts (d : Dev nD) (n : Fin 512) (f : Buf (Elt F) (oLoc d)) : sProp 𝕄 := oLoc d ↦[oRowSet n]{fullShare} f

/-! ## The task's coordinates and its views -/

section Tile

variable (d : Dev nD) (L : grid1.Coords)

abbrev cV (L : grid1.Coords) : Fin τ.nSC := (L 0).castLE hcore1
abbrev jV (L : grid1.Coords) : Fin τ.nSub := (L 1).castLE hsub1
abbrev thr (d : Dev nD) (L : grid1.Coords) : Thread nD τ := V d (cV L) (jV L)
theorem bound_zero : grid1.bound 0 = 2 := rfl
theorem bound_one : grid1.bound 1 = 16 := rfl
/-- The task's number: twice its subcore plus its SparseCore. -/
def wid (c : Fin 2) (s : Fin 16) : Fin 32 := ⟨2 * s.val + c.val, by omega⟩
abbrev wL (L : grid1.Coords) : Fin 32 := wid (Fin.cast bound_zero (L 0)) (Fin.cast bound_one (L 1))

theorem off1_val (b : Fin 16) : k1_off1 L (BitVec.ofNat 32 (8 * b.val)) 0 = 320 * (sl (wL L) b).val := by
  rw [k1_off1_eq]; show 10240 * (L 1).val + 5120 * (L 0).val + 320 * b.val = 320 * (16 * (2 * (L 1).val + (L 0).val) + b.val); omega
theorem off2_val0 (b : Fin 16) : k1_off2 L (BitVec.ofNat 32 (8 * b.val)) 0 = 320 * (sl (wL L) b).val := by
  rw [k1_off2_eq]; show 10240 * (L 1).val + 5120 * (L 0).val + 320 * b.val = 320 * (16 * (2 * (L 1).val + (L 0).val) + b.val); omega
theorem off2_val1 (b : Fin 16) : k1_off2 L (BitVec.ofNat 32 (8 * b.val)) 1 = 0 := by
  rw [k1_off2_eq]; simp

abbrev orowK (b : Fin 16) : Rect S163840x128 :=
  Rect.unit (s := S163840x128) (k1_off2 L (BitVec.ofNat 32 (8 * b.val))) S320x128.size (k1_off2_inb L b)

theorem orow_eq (b : Fin 16) : orowK L b = orow (sl (wL L) b) := by
  unfold orowK orow Rect.part Rect.block
  congr 1 <;> funext a
  · match a with
    | 0 => show k1_off2 L (BitVec.ofNat 32 (8 * b.val)) 0 = _; rw [off2_val0]; simp [Shape.partIx, Shape.partSize]; try omega
    | 1 => show k1_off2 L (BitVec.ofNat 32 (8 * b.val)) 1 = _; rw [off2_val1]; simp [Shape.partIx, Shape.partSize]
  · match a with
    | 0 => simp [Shape.partSize]
    | 1 => simp [Shape.partSize]

theorem set_oSl (b : Fin 16) : (oSl L b).view.set = oRowSet (sl (wL L) b) := by
  show ((oV).view.slice (orowK L b)).set = ((oV).view.slice (orow (sl (wL L) b))).set
  exact orow_eq L b ▸ rfl

theorem pts_oSl (b : Fin 16) (f : Buf (Elt F) (oLoc d)) :
    ((oSl L b).view.loc (thr d L) ↦[(oSl L b).view.set]{fullShare} f : sProp 𝕄) = oRowPts d (sl (wL L) b) f := by
  rw [set_oSl]

theorem set_xAll : (xAll).view.set = Finset.univ := by
  refine Finset.eq_univ_iff_forall.mpr fun j => Finset.mem_map.mpr ⟨j, Finset.mem_univ _, ?_⟩
  funext a
  refine Fin.ext ?_
  match a with
  | 0 => show 0 + 1 * (j 0).val = (j 0).val; omega
  | 1 => show 0 + 1 * (j 1).val = (j 1).val; omega

theorem pts_xAll (q : PosShare TreeShare) (f : Buf (Elt F) (xLoc d)) :
    ((xAll).view.loc (thr d L) ↦[(xAll).view.set]{q} f : sProp 𝕄) = xPts d q f := by
  rw [set_xAll]

/-! ## Values -/

/-- Entry `x` of a batch's part of the list is entry `320 n + x` of the list. -/
theorem read_iSl (b : Fin 16) (fi : Buf (Elt F) (iLoc d)) (x : S320.Idx) :
    (iSl L b).view.read (Elt F) fi x
      = fi (ix1 (⟨320 * (sl (wL L) b).val + (x 0).val, by have := (x 0).isLt; change (x 0).val < 320 at this; have := (sl (wL L) b).isLt; omega⟩ : Fin 163840)) := by
  refine ((View.read_apply _ _).trans (cast_eq _ _)).trans (congrArg fi ?_)
  funext a
  match a with
  | 0 =>
    refine Fin.ext ?_
    show k1_off1 L (BitVec.ofNat 32 (8 * b.val)) 0 + 1 * (x 0).val = 320 * (sl (wL L) b).val + (x 0).val
    rw [off1_val, Nat.one_mul]

theorem read_xAll (fx : Buf (Elt F) (xLoc d)) : (xAll).view.read (Elt F) fx = fx := by
  funext x
  refine ((View.read_apply _ _).trans (cast_eq _ _)).trans (congrArg fx ?_)
  funext a
  refine Fin.ext ?_
  match a with
  | 0 => show 0 + 1 * (x 0).val = (x 0).val; omega
  | 1 => show 0 + 1 * (x 1).val = (x 1).val; omega

/-- The 320 rows of block `n`: those that its part of the list names. -/
def rows (fi : S163840.Idx → BitVec 32) (fx : S102400x128.Idx → F .f32) (n : Fin 512) : S320x128.Idx → F .f32 := fun x =>
  fetched fi fx ⟨320 * n.val + (x 0).val, by have := (x 0).isLt; change (x 0).val < 320 at this; omega⟩ (x 1)

/-- What the gather brings is the batch's rows. -/
theorem gathered_eq (b : Fin 16) (fi : Buf (Elt F) (iLoc d)) (fx : Buf (Elt F) (xLoc d)) (hpre : ∀ j, (fi j).toNat < 102400)
    (lst : S320.Idx → Elt F .i32) (hl : ∀ x, lst x = (iSl L b).view.read (Elt F) fi x)
    (hn : S320.numel = S320x128.size gathers_S102400x128_S320x128.axis') (hin : ∀ x, (lst x).toNat < S102400x128.size gathers_S102400x128_S320x128.axis) :
    SparseCore.gatherPayload (F := F) (e := .f32) gathers_S102400x128_S320x128 ((xAll).view.read (Elt F) fx) (SparseCore.rows lst hn hin)
      = rows fi fx (sl (wL L) b) := by
  funext x
  unfold SparseCore.gatherPayload rows fetched
  rw [read_xAll d]
  refine congrArg fx ?_
  funext a
  match a with
  | 0 =>
    refine (Shape.Gathers.idx_axis _ _ _).trans (Fin.ext ?_)
    show (lst _).toNat = (fi _).toNat % 102400
    rw [hl, read_iSl, Nat.mod_eq_of_lt (hpre _)]
    congr 2
    funext c
    match c with
    | 0 =>
      refine Fin.ext ?_
      show 320 * (sl (wL L) b).val + _ = 320 * (sl (wL L) b).val + _
      congr 1
      exact ((Shape.rowMajor_val_one (S320.rowMajor.symm _)).symm.trans (congrArg Fin.val (Equiv.apply_symm_apply _ _)))
  | 1 =>
    refine Fin.ext ?_
    exact Shape.Gathers.idx_of_ne gathers_S102400x128_S320x128 _ x (1 : Fin 2) (by decide)

/-- A batch's rows of the result, written with them. -/
theorem oRow_written (b : Fin 16) (fi : Buf (Elt F) (iLoc d)) (fx : Buf (Elt F) (xLoc d)) (fo : Buf (Elt F) (oLoc d)) :
    ((oSl L b).view.loc (thr d L) ↦[(oSl L b).view.set]{fullShare} (oSl L b).view.write (Elt F) fo (rows fi fx (sl (wL L) b)) Finset.univ : sProp 𝕄)
      = oRowPts d (sl (wL L) b) (outVal fi fx) := by
  refine Eq.trans (pointsTo_congr fun j hj => ?_) (pts_oSl d L b _)
  obtain ⟨y, -, rfl⟩ := Finset.mem_map.mp hj
  refine ((View.write_emb_of_mem _ _ (Finset.mem_univ y)).trans (cast_eq _ _)).trans ?_
  unfold rows outVal
  congr 1
  · refine Fin.ext ?_
    show 320 * (sl (wL L) b).val + (y 0).val = k1_off2 L (BitVec.ofNat 32 (8 * b.val)) 0 + 1 * (y 0).val
    rw [off2_val0]; omega
  · refine Fin.ext ?_
    show (y 1).val = k1_off2 L (BitVec.ofNat 32 (8 * b.val)) 1 + 1 * (y 1).val
    rw [off2_val1]; omega

/-! ## What a bank holds -/

/-- A bank's list buffer, at some contents. -/
def iBuf (u : Bool) : sProp 𝕄 := iprop(∃ f : Buf (Elt F) ((iM u).view.loc (thr d L)), (iM u).view.loc (thr d L) ↦[(iM u).view.set]{fullShare} f)
/-- A bank's row buffer, at some contents. -/
def rBuf (u : Bool) : sProp 𝕄 := iprop(∃ f : Buf (Elt F) ((rM u).view.loc (thr d L)), (rM u).view.loc (thr d L) ↦[(rM u).view.set]{fullShare} f)
/-- A bank's row buffer holding `v`. -/
def rHas (u : Bool) (v : S320x128.Idx → F .f32) : sProp 𝕄 :=
  iprop(∃ f : Buf (Elt F) ((rM u).view.loc (thr d L)), ⌜(rM u).view.read (Elt F) f = v⌝ ∗ (rM u).view.loc (thr d L) ↦[(rM u).view.set]{fullShare} f)

/-- The gather of batch `b` into bank `u` is under way. -/
def gathering (q : PosShare TreeShare) (fi : Buf (Elt F) (iLoc d)) (fx : Buf (Elt F) (xLoc d)) (u : Bool) (b : Fin 16) : sProp 𝕄 :=
  Transfers.Flight countersEmb (thr d L) (.dma (gS u)) (default : HIx 2) (rM u).view.dmaCredit
    iprop(rHas d L u (rows fi fx (sl (wL L) b)) ∗ xPts d q fx ∗ iBuf d L u)

/-- The write of batch `b` out of bank `u` is under way. -/
def writing (fi : Buf (Elt F) (iLoc d)) (fx : Buf (Elt F) (xLoc d)) (u : Bool) (b : Fin 16) : sProp 𝕄 :=
  Transfers.Flight countersEmb (thr d L) (.dma (wS u)) (default : HIx 2) (oSl L b).view.dmaCredit
    iprop(oRowPts d (sl (wL L) b) (outVal fi fx) ∗ rBuf d L u)

/-- What the task owes, the waits that it has made on its own transfers recorded. -/
def owing (O : CellTallies nD τ sig (HIx 2)) (W : Waits sig (HIx 2)) : sProp 𝕄 :=
  iprop(∃ W', ⌜∀ p ∈ W', p ∈ W ∨ p.2 = none⌝ ∗ owes (thr d L) O W')

/-! ## The steps -/

variable [FloatOps F] [Named F]

/-- The levels that a wait reads. -/
abbrev levels : sProp 𝕄 := levAts (K (F := F)).L (K (F := F)).lev

/-- A wait for one of the task's own transfers: what it delivers, and its semaphore at zero. -/
theorem wp_own {sp sp' : Space} {s s' : Shape} {e e' : EltTy} {sem : DmaSem sig}
    {srcw : Memref sig (thr d L).2.kind sp' s' e'} {dstw : Memref sig (thr d L).2.kind sp s e} {hsrc : srcw.view.WordExact} {hdst : dstw.view.WordExact}
    {k : PUnit → Pr F L} {N : ℕ} (hN : dstw.view.dmaCredit = N) {D : sProp 𝕄} {O : CellTallies nD τ sig (HIx 2)} {W : Waits sig (HIx 2)}
    (hO : ∀ g, O g none = 0) {Q : PUnit → sProp 𝕄} :
    iprop(levels ∗ Transfers.Flight countersEmb (thr d L) (.dma sem) (default : HIx 2) N D ∗ owing d L O W)
      ⊢ iprop((iprop(D ∗ semVal (thr d L, SemLoc.dma sem) 0 ∗ owing d L O W)
            -∗ wp frame (wpE (defs₀ (F := F)) 𝒱₀ (thr d L) none) Set.univ (k ⟨⟩) Q)
          -∗ wp frame (wpE (defs₀ (F := F)) 𝒱₀ (thr d L) none) Set.univ (.op (.waitDma2 sem srcw dstw hsrc hdst) k) Q) := by
  unfold owing
  iintro ⟨#Hlv, Hfl, %W', %hW', HO⟩ Hk
  ihave Hmw := (show levAts (K (F := F)).L (K (F := F)).lev ⊢ Transfers.MayWaits (thr d L) (default : HIx 2) O from
    (K (F := F)).mayWaits_none (thr := thr d L) hO) $$ Hlv
  iapply (Transfers.wp_waitLocalO countersEmb 𝒱₀ (thr d L) none (default : HIx 2) hN) $$ [Hfl HO Hmw]
  · isplitl [Hfl]; · iexact Hfl
    isplitl [HO]; · iexact HO
    iapply (Transfers.MayWaits.elim (SemLoc.dma sem)) $$ Hmw
  iintro ⟨HD, Hs, HO⟩
  iapply Hk
  isplitl [HD]; · iexact HD
  isplitl [Hs]; · iexact Hs
  iexists _; isplitr
  swap; · iexact HO
  ipureintro; intro p hp
  rcases Finset.mem_insert.mp hp with hp | hp; · exact .inr (hp ▸ rfl)
  exact hW' p hp

/-- Batch `b` is fetched into bank `u`. -/
theorem wp_fetch (u : Bool) (b : Fin 16) (qi q : PosShare TreeShare) (fi : Buf (Elt F) (iLoc d)) (fx : Buf (Elt F) (xLoc d)) (hpre : ∀ j, (fi j).toNat < 102400)
    {O : CellTallies nD τ sig (HIx 2)} {W : Waits sig (HIx 2)} (hO : ∀ g, O g none = 0) {k : Pr F L} {Q : PUnit → sProp 𝕄} :
    iprop(levels ∗ iPts d qi fi ∗ xPts d q fx ∗ iBuf d L u ∗ rBuf d L u ∗ semVal (thr d L, SemLoc.dma (lS b)) 0 ∗ semVal (thr d L, SemLoc.dma (gS u)) 0 ∗ owing d L O W)
      ⊢ iprop((iprop(iPts d qi fi ∗ gathering d L q fi fx u b ∗ semVal (thr d L, SemLoc.dma (lS b)) 0 ∗ owing d L O W)
            -∗ wp frame (wpE (defs₀ (F := F)) 𝒱₀ (thr d L) none) Set.univ k Q)
          -∗ wp frame (wpE (defs₀ (F := F)) 𝒱₀ (thr d L) none) Set.univ (fetch L u b k) Q) := by
  unfold fetch iBuf rBuf
  iintro ⟨#Hlv, Hi, Hx, ⟨%fs, Hs⟩, ⟨%fr, Hr⟩, Hl, Hg, HO⟩ Hk
  ihave Hi2 := (pointsTo_split_subset (q := qi) (f := fi) (S := Finset.univ) (Finset.subset_univ (iSl L b).view.set)).1 $$ Hi
  icases Hi2 with ⟨Hib, Hir⟩
  iapply (Transfers.wp_dmaLocal countersEmb 𝒱₀ (thr d L) none (default : HIx 2) (iM u).view.dmaCredit rfl
    (View.dmaCredit_pos _ (by decide)) subset_rfl) $$ [Hib Hs Hl]
  · isplitl [Hib]; · iexact Hib
    isplitl [Hs]; · iexact Hs
    iexact Hl
  iintro Hfl
  iapply (wp_own d L rfl hO) $$ [Hfl HO]
  · isplitr; · iexact Hlv
    isplitl [Hfl]; · iexact Hfl
    iexact HO
  iintro ⟨⟨Hs, Hib⟩, Hl, HO⟩
  have hin : ∀ x, ((iM u).view.read (Elt F) ((iM u).view.write (Elt F) fs ((iSl L b).view.read (Elt F) fi) Finset.univ) x).toNat
      < S102400x128.size gathers_S102400x128_S320x128.axis := by
    intro x; rw [View.read_write_univ, read_iSl]; exact hpre _
  ihave Hx' := (Entails.of_eq (pts_xAll (F := F) d L _ _).symm) $$ Hx
  iapply (SparseCore.wp_indirectGatherLocal countersEmb 𝒱₀ (thr d L) none (hg := gathers_S102400x128_S320x128) (default : HIx 2)
      (rM u).view.dmaCredit (SparseCore.sum_rowCredit_eq_dmaCredit _ _ (fun _ => rfl)) (by decide) hin) $$ [Hx' Hr Hs Hg]
  · isplitl [Hx']; · iexact Hx'
    isplitl [Hr]; · iexact Hr
    isplitl [Hs]; · iexact Hs
    iexact Hg
  iintro Hfl
  iapply Hk
  isplitl [Hib Hir]
  · iapply (pointsTo_split_subset (q := qi) (f := fi) (S := Finset.univ) (Finset.subset_univ (iSl L b).view.set)).2
    isplitl [Hib] <;> iassumption
  isplitl [Hfl]
  · unfold gathering
    iapply (Transfers.Flight_mono countersEmb (thr d L) ?_) $$ Hfl
    iintro ⟨Hr, Hx, Hs⟩
    isplitl [Hr]
    · unfold rHas
      iexists _; isplitr
      swap; · iexact Hr
      ipureintro
      rw [View.read_write_univ]
      exact gathered_eq d L b fi fx hpre _ (fun x => by rw [View.read_write_univ]) rfl hin
    isplitl [Hx]; · iapply (Entails.of_eq (pts_xAll (F := F) d L _ _)); iexact Hx
    unfold iBuf
    iexists _; iexact Hs
  isplitl [Hl]; · iexact Hl
  iexact HO

/-- Batch `b` is put out of bank `u`. -/
theorem wp_putOut (u : Bool) (b : Fin 16) (q : PosShare TreeShare) (fi : Buf (Elt F) (iLoc d)) (fx : Buf (Elt F) (xLoc d)) (fo : Buf (Elt F) (oLoc d))
    {O : CellTallies nD τ sig (HIx 2)} {W : Waits sig (HIx 2)} (hO : ∀ g, O g none = 0) {k : Pr F L} {Q : PUnit → sProp 𝕄} :
    iprop(levels ∗ gathering d L q fi fx u b ∗ oRowPts d (sl (wL L) b) fo ∗ semVal (thr d L, SemLoc.dma (wS u)) 0 ∗ owing d L O W)
      ⊢ iprop((iprop(writing d L fi fx u b ∗ xPts d q fx ∗ iBuf d L u ∗ semVal (thr d L, SemLoc.dma (gS u)) 0 ∗ owing d L O W)
            -∗ wp frame (wpE (defs₀ (F := F)) 𝒱₀ (thr d L) none) Set.univ k Q)
          -∗ wp frame (wpE (defs₀ (F := F)) 𝒱₀ (thr d L) none) Set.univ (putOut L u b k) Q) := by
  unfold putOut gathering
  iintro ⟨#Hlv, Hfl, Ho, Hw, HO⟩ Hk
  iapply (wp_own d L rfl hO) $$ [Hfl HO]
  · isplitr; · iexact Hlv
    isplitl [Hfl]; · iexact Hfl
    iexact HO
  unfold rHas
  iintro ⟨⟨⟨%fr, %hfr, Hr⟩, Hx, Hs⟩, Hg, HO⟩
  ihave Ho' := (Entails.of_eq (pts_oSl (F := F) d L b _).symm) $$ Ho
  iapply (Transfers.wp_dmaLocal countersEmb 𝒱₀ (thr d L) none (default : HIx 2) (oSl L b).view.dmaCredit rfl
    (View.dmaCredit_pos _ (by decide)) subset_rfl) $$ [Hr Ho' Hw]
  · isplitl [Hr]; · iexact Hr
    isplitl [Ho']; · iexact Ho'
    iexact Hw
  iintro Hfl
  iapply Hk
  isplitl [Hfl]
  · unfold writing
    iapply (Transfers.Flight_mono countersEmb (thr d L) ?_) $$ Hfl
    iintro ⟨Ho, Hr⟩
    isplitl [Ho]
    · iapply (Entails.of_eq ((congrArg (fun v => ((oSl L b).view.loc (thr d L) ↦[(oSl L b).view.set]{fullShare}
        (oSl L b).view.write (Elt F) fo v Finset.univ : sProp 𝕄)) hfr).trans (oRow_written (F := F) d L b fi fx fo)))
      iexact Ho
    unfold rBuf
    iexists _; iexact Hr
  isplitl [Hx]; · iexact Hx
  isplitl [Hs]; · iexact Hs
  isplitl [Hg]; · iexact Hg
  iexact HO

/-- The write of batch `b` out of bank `u` is awaited. -/
theorem wp_await (u : Bool) (b : Fin 16) (fi : Buf (Elt F) (iLoc d)) (fx : Buf (Elt F) (xLoc d))
    {O : CellTallies nD τ sig (HIx 2)} {W : Waits sig (HIx 2)} (hO : ∀ g, O g none = 0) {k : Pr F L} {Q : PUnit → sProp 𝕄} :
    iprop(levels ∗ writing d L fi fx u b ∗ owing d L O W)
      ⊢ iprop((iprop(oRowPts d (sl (wL L) b) (outVal fi fx) ∗ rBuf d L u ∗ semVal (thr d L, SemLoc.dma (wS u)) 0 ∗ owing d L O W)
            -∗ wp frame (wpE (defs₀ (F := F)) 𝒱₀ (thr d L) none) Set.univ k Q)
          -∗ wp frame (wpE (defs₀ (F := F)) 𝒱₀ (thr d L) none) Set.univ (await L u b k) Q) := by
  unfold await writing
  iintro ⟨#Hlv, Hfl, HO⟩ Hk
  iapply (wp_own d L rfl hO) $$ [Hfl HO]
  · isplitr; · iexact Hlv
    isplitl [Hfl]; · iexact Hfl
    iexact HO
  iintro ⟨⟨Ho, Hr⟩, Hw, HO⟩
  iapply Hk
  isplitl [Ho]; · iexact Ho
  isplitl [Hr]; · iexact Hr
  isplitl [Hw]; · iexact Hw
  iexact HO

end Tile

end Cert.Proof.WholeGather

end
-- ==== Proof.WholeGather.Tile.lean ====
/-
  The whole task of the SparseCore call on one vector subcore, by induction on the number of batches left to put out: the
  16 blocks of the result end at `outVal`, and the shares, the buffers and the semaphores at zero come back.
-/
module

public import proofs.«01_k».proof.Proof.WholeGather.Batch

@[expose] public section

noncomputable section

namespace Cert.Proof.WholeGather

open Cert.WholeIdeal Cert.WholeIdeal.Gen
open Cert.Proof.Whole

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "iV" => (Memref.whole Cert.WholeIdeal.main_v14_scv : Memref Cert.WholeIdeal.sig Kind.scVector Space.hbm Cert.WholeIdeal.S163840 EltTy.i32)
local notation "xV" => (Memref.whole Cert.WholeIdeal.main_v10_scv : Memref Cert.WholeIdeal.sig Kind.scVector Space.hbm Cert.WholeIdeal.S102400x128 EltTy.f32)
local notation "oV" => (Memref.whole Cert.WholeIdeal.main_v15_scv : Memref Cert.WholeIdeal.sig Kind.scVector Space.hbm Cert.WholeIdeal.S163840x128 EltTy.f32)

variable (d : Dev nD) (L : grid1.Coords)

/-! ## Families over the banks and over the batches -/

/-- Something of each bank. -/
abbrev both (Φ : Bool → sProp 𝕄) : sProp 𝕄 := iprop(Φ false ∗ Φ true)

theorem both_of (Φ : Bool → sProp 𝕄) (u : Bool) : iprop(Φ u ∗ Φ (!u)) ⊢ both Φ := by
  cases u
  · exact Entails.refl _
  · iintro ⟨H1, H0⟩
    isplitl [H0]; · iapply (Entails.of_eq (congrArg Φ Bool.not_true)); iexact H0
    iexact H1

theorem both_of' (Φ : Bool → sProp 𝕄) (u : Bool) : iprop(Φ (!u) ∗ Φ u) ⊢ both Φ := by
  have h := both_of Φ (!u)
  rwa [Bool.not_not] at h

theorem bigSep_bool (Φ : Bool → sProp 𝕄) : bigSep Finset.univ Φ = both Φ := by
  rw [show (Finset.univ : Finset Bool) = {false, true} by decide, SparseCore.bigSep_insert' (by decide), bigSep_singleton]

/-- A family over the members that `f` names, and over the rest. -/
theorem bigSep_named {I J : Type} [DecidableEq I] [DecidableEq J] [Fintype J] {s : Finset I} {f : J → I} (hf : Function.Injective f) (hs : ∀ x, f x ∈ s)
    (Φ : I → sProp 𝕄) : bigSep s Φ = iprop(bigSep Finset.univ (fun x => Φ (f x)) ∗ bigSep (s \ Finset.univ.image f) Φ) := by
  refine (bigSep_sdiff_split (t := Finset.univ.image f) (fun y hy => ?_)).trans ?_
  · obtain ⟨x, -, rfl⟩ := Finset.mem_image.mp hy; exact hs x
  · rw [SparseCore.bigSep_image_of_injOn hf.injOn]; rfl

/-- The batches before batch `m`, and those from batch `m` on. -/
def before (m : ℕ) : Finset (Fin 16) := Finset.univ.filter fun b => b.val < m
def since (m : ℕ) : Finset (Fin 16) := Finset.univ.filter fun b => m ≤ b.val

theorem bt_val {m : ℕ} (hm : m < 16) : (bt m).val = m := Nat.mod_eq_of_lt hm

theorem before_succ (Φ : Fin 16 → sProp 𝕄) {m : ℕ} (hm : m < 16) : bigSep (before (m + 1)) Φ = iprop(Φ (bt m) ∗ bigSep (before m) Φ) := by
  rw [show before (m + 1) = insert (bt m) (before m) by
    ext b; simp only [before, Finset.mem_filter, Finset.mem_univ, true_and, Finset.mem_insert, Fin.ext_iff, bt_val hm]; omega]
  exact SparseCore.bigSep_insert' (by simp only [before, Finset.mem_filter, Finset.mem_univ, true_and, bt_val hm]; omega)

theorem since_succ (Φ : Fin 16 → sProp 𝕄) {m : ℕ} (hm : m < 16) : bigSep (since m) Φ = iprop(Φ (bt m) ∗ bigSep (since (m + 1)) Φ) := by
  rw [show since m = insert (bt m) (since (m + 1)) by
    ext b; simp only [since, Finset.mem_filter, Finset.mem_univ, true_and, Finset.mem_insert, Fin.ext_iff, bt_val hm]; omega]
  exact SparseCore.bigSep_insert' (by simp only [since, Finset.mem_filter, Finset.mem_univ, true_and, bt_val hm]; omega)

theorem before_zero : before 0 = ∅ := by decide
theorem before_all : before 16 = Finset.univ := by decide
theorem since_zero : since 0 = Finset.univ := by decide

/-! ## What the task holds -/

/-- The semaphores of the lists' copies, at zero. -/
def lists : sProp 𝕄 := bigSep Finset.univ fun b : Fin 16 => semVal (thr d L, SemLoc.dma (lS b)) 0

theorem lists_take (b : Fin 16) : (lists (F := F) d L) = iprop(semVal (thr d L, SemLoc.dma (lS b)) 0
    ∗ bigSep (Finset.univ.erase b) fun b : Fin 16 => semVal (thr d L, SemLoc.dma (lS b)) 0) :=
  SparseCore.bigSep_erase' (Finset.mem_univ b)

/-- The task's blocks of the result, at `f`. -/
abbrev blocks (f : Buf (Elt F) (oLoc d)) (s : Finset (Fin 16)) : sProp 𝕄 := bigSep s fun b => oRowPts d (sl (wL L) b) f

theorem blocks_before (f : Buf (Elt F) (oLoc d)) {m : ℕ} (hm : m < 16) :
    blocks d L f (before (m + 1)) = iprop(oRowPts d (sl (wL L) (bt m)) f ∗ blocks d L f (before m)) := before_succ _ hm
theorem blocks_since (f : Buf (Elt F) (oLoc d)) {m : ℕ} (hm : m < 16) :
    blocks d L f (since m) = iprop(oRowPts d (sl (wL L) (bt m)) f ∗ blocks d L f (since (m + 1))) := since_succ _ hm

section Task
variable (qi : PosShare TreeShare) (qx : Bool → PosShare TreeShare) (fi : Buf (Elt F) (iLoc d)) (fx : Buf (Elt F) (xLoc d)) (fo : Buf (Elt F) (oLoc d))
  (O : CellTallies nD τ sig (HIx 2)) (W : Waits sig (HIx 2))

/-- With `n` batches left to fetch, the next of them into bank `u`: that bank's write is under way and so is the other bank's gather. -/
def mid (n : ℕ) (u : Bool) : sProp 𝕄 :=
  iprop(iPts d qi fi ∗ gathering d L (qx (!u)) fi fx (!u) (bt (15 - n)) ∗ writing d L fi fx u (bt (14 - n))
    ∗ xPts d (qx u) fx ∗ iBuf d L u ∗ semVal (thr d L, SemLoc.dma (gS u)) 0 ∗ semVal (thr d L, SemLoc.dma (wS (!u))) 0
    ∗ lists d L ∗ blocks d L (outVal fi fx) (before (14 - n)) ∗ blocks d L fo (since (15 - n)) ∗ owing d L O W)

/-- At the start, the blocks being at `fo`, and at the end, when they are at `outVal`. -/
def holds (f : Buf (Elt F) (oLoc d)) : sProp 𝕄 :=
  iprop(iPts d qi fi ∗ both (fun u => xPts d (qx u) fx) ∗ both (iBuf d L) ∗ both (rBuf d L)
      ∗ both (fun u => semVal (thr d L, SemLoc.dma (gS u)) 0) ∗ both (fun u => semVal (thr d L, SemLoc.dma (wS u)) 0)
      ∗ lists d L ∗ blocks d L f Finset.univ ∗ owing d L O W)

variable [FloatOps F] [Named F]

/-- The rest of the task, with `n` batches left to fetch. -/
theorem wp_pipe (hpre : ∀ j, (fi j).toNat < 102400) (hO : ∀ g, O g none = 0) : ∀ (n : ℕ), n ≤ 14 → ∀ u : Bool,
    iprop(levels ∗ mid d L qi qx fi fx fo O W n u)
      ⊢ wp frame (wpE (defs₀ (F := F)) 𝒱₀ (thr d L) none) Set.univ (pipe L n u) fun _ => holds d L qi qx fi fx O W (outVal fi fx)
  | 0, _, u => by
    unfold mid pipe holds
    rw [blocks_since d L _ (show 15 - 0 < 16 by omega)]
    iintro ⟨#Hlv, Hi, Hga, Hwr, Hx, Hib, Hg, Hw, Hl, Hd, ⟨Ho, -⟩, HO⟩
    iapply (wp_putOut d L (!u) (bt 15) (qx (!u)) fi fx fo hO) $$ [Hga Ho Hw HO]
    · isplitr; · iexact Hlv
      isplitl [Hga]; · iexact Hga
      isplitl [Ho]; · iexact Ho
      isplitl [Hw]; · iexact Hw
      iexact HO
    iintro ⟨Hwr', Hx', Hib', Hg', HO⟩
    iapply (wp_await d L u (bt 14) fi fx hO) $$ [Hwr HO]
    · isplitr; · iexact Hlv
      isplitl [Hwr]; · iexact Hwr
      iexact HO
    iintro ⟨Ho, Hrb, Hw, HO⟩
    iapply (wp_await d L (!u) (bt 15) fi fx hO) $$ [Hwr' HO]
    · isplitr; · iexact Hlv
      isplitl [Hwr']; · iexact Hwr'
      iexact HO
    iintro ⟨Ho', Hrb', Hw', HO⟩
    rw [wp_pure]; imodintro
    isplitl [Hi]; · iexact Hi
    isplitl [Hx Hx']; · iapply (both_of (fun u => xPts d (qx u) fx) u); isplitl [Hx] <;> iassumption
    isplitl [Hib Hib']; · iapply (both_of (iBuf d L) u); isplitl [Hib] <;> iassumption
    isplitl [Hrb Hrb']; · iapply (both_of (rBuf d L) u); isplitl [Hrb] <;> iassumption
    isplitl [Hg Hg']; · iapply (both_of (fun u => semVal (thr d L, SemLoc.dma (gS u)) 0) u); isplitl [Hg] <;> iassumption
    isplitl [Hw Hw']; · iapply (both_of (fun u => semVal (thr d L, SemLoc.dma (wS u)) 0) u); isplitl [Hw] <;> iassumption
    isplitl [Hl]; · iexact Hl
    isplitl [Hd Ho Ho']
    · rw [← before_all, blocks_before d L _ (show 15 < 16 by omega), blocks_before d L _ (show 14 < 16 by omega)]
      isplitl [Ho']; · iexact Ho'
      isplitl [Ho]; · iexact Ho
      iexact Hd
    iexact HO
  | n + 1, hn, u => by
    unfold pipe
    unfold mid
    rw [show 15 - (n + 1) = 14 - n by omega, show 14 - (n + 1) = 13 - n by omega, blocks_since d L _ (show 14 - n < 16 by omega),
      show 14 - n + 1 = 15 - n by omega, lists_take d L (bt (15 - n))]
    iintro ⟨#Hlv, Hi, Hga, Hwr, Hx, Hib, Hg, Hw, ⟨Hl, Hls⟩, Hd, ⟨Ho, Hos⟩, HO⟩
    iapply (wp_await d L u (bt (13 - n)) fi fx hO) $$ [Hwr HO]
    · isplitr; · iexact Hlv
      isplitl [Hwr]; · iexact Hwr
      iexact HO
    iintro ⟨Hod, Hrb, Hwu, HO⟩
    iapply (wp_fetch d L u (bt (15 - n)) qi (qx u) fi fx hpre hO) $$ [Hi Hx Hib Hrb Hl Hg HO]
    · isplitr; · iexact Hlv
      isplitl [Hi]; · iexact Hi
      isplitl [Hx]; · iexact Hx
      isplitl [Hib]; · iexact Hib
      isplitl [Hrb]; · iexact Hrb
      isplitl [Hl]; · iexact Hl
      isplitl [Hg]; · iexact Hg
      iexact HO
    iintro ⟨Hi, Hga', Hl, HO⟩
    iapply (wp_putOut d L (!u) (bt (14 - n)) (qx (!u)) fi fx fo hO) $$ [Hga Ho Hw HO]
    · isplitr; · iexact Hlv
      isplitl [Hga]; · iexact Hga
      isplitl [Ho]; · iexact Ho
      isplitl [Hw]; · iexact Hw
      iexact HO
    iintro ⟨Hwr, Hx, Hib, Hg, HO⟩
    iapply (wp_pipe hpre hO n (by omega) (!u))
    isplitr; · iexact Hlv
    unfold mid
    rw [Bool.not_not, show 14 - n = 13 - n + 1 by omega, blocks_before d L _ (show 13 - n < 16 by omega), show 13 - n + 1 = 14 - n by omega,
      lists_take d L (bt (15 - n))]
    isplitl [Hi]; · iexact Hi
    isplitl [Hga']; · iexact Hga'
    isplitl [Hwr]; · iexact Hwr
    isplitl [Hx]; · iexact Hx
    isplitl [Hib]; · iexact Hib
    isplitl [Hg]; · iexact Hg
    isplitl [Hwu]; · iexact Hwu
    isplitl [Hl Hls]
    · isplitl [Hl]; · iexact Hl
      iexact Hls
    isplitl [Hod Hd]
    · isplitl [Hod]; · iexact Hod
      iexact Hd
    isplitl [Hos]; · iexact Hos
    iexact HO

attribute [local irreducible] pipe in
/-- The whole task. -/
theorem wp_task (hpre : ∀ j, (fi j).toNat < 102400) (hO : ∀ g, O g none = 0) :
    iprop(levels ∗ holds d L qi qx fi fx O W fo)
      ⊢ wp frame (wpE (defs₀ (F := F)) 𝒱₀ (thr d L) none) Set.univ (task L) fun _ => holds d L qi qx fi fx O W (outVal fi fx) := by
  unfold task holds
  rw [← since_zero, blocks_since d L _ (show 0 < 16 by omega)]
  iintro ⟨#Hlv, Hi, ⟨Hx0, Hx1⟩, ⟨Hib0, Hib1⟩, ⟨Hrb0, Hrb1⟩, ⟨Hg0, Hg1⟩, ⟨Hw0, Hw1⟩, Hl, ⟨Ho, Hos⟩, HO⟩
  ihave Hl' := (Entails.of_eq (lists_take d L (bt 0))) $$ Hl
  icases Hl' with ⟨Hl, Hls⟩
  iapply (wp_fetch d L false (bt 0) qi (qx false) fi fx hpre hO) $$ [Hi Hx0 Hib0 Hrb0 Hl Hg0 HO]
  · isplitr; · iexact Hlv
    isplitl [Hi]; · iexact Hi
    isplitl [Hx0]; · iexact Hx0
    isplitl [Hib0]; · iexact Hib0
    isplitl [Hrb0]; · iexact Hrb0
    isplitl [Hl]; · iexact Hl
    isplitl [Hg0]; · iexact Hg0
    iexact HO
  iintro ⟨Hi, Hga0, Hl, HO⟩
  ihave Hl' := (Entails.of_eq (lists_take d L (bt 0)).symm) $$ [Hl Hls]; · isplitl [Hl] <;> iassumption
  ihave Hl'' := (Entails.of_eq (lists_take d L (bt 1))) $$ Hl'
  icases Hl'' with ⟨Hl, Hls⟩
  iapply (wp_fetch d L true (bt 1) qi (qx true) fi fx hpre hO) $$ [Hi Hx1 Hib1 Hrb1 Hl Hg1 HO]
  · isplitr; · iexact Hlv
    isplitl [Hi]; · iexact Hi
    isplitl [Hx1]; · iexact Hx1
    isplitl [Hib1]; · iexact Hib1
    isplitl [Hrb1]; · iexact Hrb1
    isplitl [Hl]; · iexact Hl
    isplitl [Hg1]; · iexact Hg1
    iexact HO
  iintro ⟨Hi, Hga1, Hl, HO⟩
  ihave Hl' := (Entails.of_eq (lists_take d L (bt 1)).symm) $$ [Hl Hls]; · isplitl [Hl] <;> iassumption
  iapply (wp_putOut d L false (bt 0) (qx false) fi fx fo hO) $$ [Hga0 Ho Hw0 HO]
  · isplitr; · iexact Hlv
    isplitl [Hga0]; · iexact Hga0
    isplitl [Ho]; · iexact Ho
    isplitl [Hw0]; · iexact Hw0
    iexact HO
  iintro ⟨Hwr, Hx0, Hib0, Hg0, HO⟩
  iapply (wp_pipe d L qi qx fi fx fo O W hpre hO 14 (le_refl _) false)
  isplitr; · iexact Hlv
  unfold mid
  isplitl [Hi]; · iexact Hi
  isplitl [Hga1]; · iexact Hga1
  isplitl [Hwr]; · iexact Hwr
  isplitl [Hx0]; · iexact Hx0
  isplitl [Hib0]; · iexact Hib0
  isplitl [Hg0]; · iexact Hg0
  isplitl [Hw1]; · iexact Hw1
  isplitl [Hl']; · iexact Hl'
  isplitr; · unfold blocks; rw [before_zero, bigSep_empty]; iempintro
  isplitl [Hos]; · iexact Hos
  iexact HO

end Task

/-! ## The subcore's own semaphores and buffers -/

/-- The task's semaphores. -/
def semOf : Bool ⊕ (Bool ⊕ Fin 16) → DmaSem sig | .inl u => gS u | .inr (.inl u) => wS u | .inr (.inr b) => lS b
theorem semOf_inj : Function.Injective semOf := by decide
theorem semOf_scoped : ∀ x, (SemLoc.dma (semOf x) : SemLoc sig).isScoped .scVector = true := by decide
abbrev cellOf (x : Bool ⊕ (Bool ⊕ Fin 16)) : GSem nD τ sig := (thr d L, SemLoc.dma (semOf x))

/-- The subcore's other semaphores, at zero. -/
def restSems : sProp 𝕄 := bigSep (ownCells (thr d L) \ Finset.univ.image (cellOf d L)) fun g => semVal g 0

theorem ownSems0_V : (ownSems0 (thr d L) : sProp 𝕄)
    = iprop((both (fun u => semVal (thr d L, SemLoc.dma (gS u)) 0) ∗ both (fun u => semVal (thr d L, SemLoc.dma (wS u)) 0) ∗ lists d L) ∗ restSems d L) := by
  unfold SparseCore.Cfg.ownSems0 restSems lists
  rw [bigSep_named (s := ownCells (thr d L)) (f := cellOf d L)
    (fun x y e => semOf_inj (SemLoc.dma.inj (Prod.mk.inj e).2)) (fun x => mem_ownCells.mpr ⟨rfl, semOf_scoped x⟩),
    bigSep_univ_sum, bigSep_univ_sum, bigSep_bool, bigSep_bool]
  rfl

/-- The task's buffers. -/
def refOf : Bool ⊕ Bool → Ref sig .scVector | .inl u => iRef u | .inr u => rRef u
theorem refOf_inj : Function.Injective refOf := by decide
abbrev bufOf (x : Bool ⊕ Bool) : DevRef τ sig := (Proc.scVector (cV L) (jV L)).devRef (refOf x)
theorem bufOf_mem (x : Bool ⊕ Bool) : bufOf L x ∈ ownRefs (τ := τ) (sig := sig) (.scVector (cV L) (jV L)) := by
  rcases x with u | u <;> cases u <;> exact SparseCore.Cfg.mem_ownRefs_of_owner rfl

/-- The subcore's other buffers. -/
def restBufs : sProp 𝕄 := bigSep (ownRefs (τ := τ) (sig := sig) (.scVector (cV L) (jV L)) \ Finset.univ.image (bufOf L)) fun b =>
  iprop(∃ f, ((d, b) : Loc nD τ sig) ↦{fullShare} f)

theorem iBuf_eq (u : Bool) : (iBuf (F := F) d L u) = iprop(∃ f, ((d, bufOf L (.inl u)) : Loc nD τ sig) ↦{fullShare} f) := by
  unfold iBuf
  cases u
  · rw [show (iM false).view.set = Finset.univ from View.set_whole _]; rfl
  · rw [show (iM true).view.set = Finset.univ from View.set_whole _]; rfl
theorem rBuf_eq (u : Bool) : (rBuf (F := F) d L u) = iprop(∃ f, ((d, bufOf L (.inr u)) : Loc nD τ sig) ↦{fullShare} f) := by
  unfold rBuf
  cases u
  · rw [show (rM false).view.set = Finset.univ from View.set_whole _]; rfl
  · rw [show (rM true).view.set = Finset.univ from View.set_whole _]; rfl

theorem ownBufs_V : (ownBufs (thr d L) : sProp 𝕄) = iprop((both (iBuf d L) ∗ both (rBuf d L)) ∗ restBufs d L) := by
  unfold SparseCore.Cfg.ownBufs restBufs
  rw [bigSep_named (s := ownRefs (τ := τ) (sig := sig) (thr d L).2) (f := bufOf L)
    (fun x y e => refOf_inj (Proc.devRef_injective _ e)) (bufOf_mem L), bigSep_univ_sum, bigSep_bool, bigSep_bool,
    show iBuf (F := F) d L = _ from funext (iBuf_eq d L), show rBuf (F := F) d L = _ from funext (rBuf_eq d L)]
  rfl

/-! ## The body -/

variable [FloatOps F] [Named F]

/-- A share of the table, halved between the banks. -/
def halves (q : PosShare TreeShare) (u : Bool) : PosShare TreeShare := pieceOf q 2 (by decide) (if u then 1 else 0)

theorem xPts_halves (q : PosShare TreeShare) (f : Buf (Elt F) (xLoc d)) : (xPts d q f : sProp 𝕄) = both fun u => xPts d (halves q u) f := by
  refine (pointsTo_piecesOf (o := 2) Finset.univ f (by decide) q).trans ?_
  rw [show (Finset.univ : Finset (Fin 2)) = {0, 1} by decide, SparseCore.bigSep_insert' (by decide), bigSep_singleton]
  rfl

theorem tile_body (hF : (K (F := F)).Facts) (qi qx : PosShare TreeShare) (fi : Buf (Elt F) (iLoc d)) (fx : Buf (Elt F) (xLoc d)) (fo : Buf (Elt F) (oLoc d))
    (hpre : ∀ j, (fi j).toNat < 102400) (O : CellTallies nD τ sig (HIx 2)) (W : Waits sig (HIx 2)) (hO : ∀ g, O g none = 0) :
    iprop(levAts (K (F := F)).L (K (F := F)).lev ∗ emp
        ∗ (iPts d qi fi ∗ xPts d qx fx ∗ blocks d L fo Finset.univ)
        ∗ scopedBufs (thr d L) ∗ scopedSems0 (thr d L) ∗ owes (thr d L) O W)
      ⊢ wp frame (wpE (defs₀ (F := F)) 𝒱₀ (thr d L) none) Set.univ (task L)
          fun _ => iprop((iPts d qi fi ∗ xPts d qx fx ∗ blocks d L (outVal fi fx) Finset.univ)
            ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V, ownBufs_V, xPts_halves]
  refine BI.Entails.trans ?_ (BI.Entails.trans (BI.sep_mono (wp_task d L qi (halves qx) fi fx fo O W hpre hO) (BI.Entails.refl iprop(restBufs d L ∗ restSems d L)))
    (BI.Entails.trans (wp_frame_r (Fr := frame) (wpE := wpE (defs₀ (F := F)) 𝒱₀ (thr d L) none) (E := Set.univ) (p := task L) (R := iprop(restBufs d L ∗ restSems d L))) (wp_mono frame _ _ fun _ => ?_)))
  · show _ ⊢ iprop((levels ∗ holds d L qi (halves qx) fi fx O W fo) ∗ restBufs d L ∗ restSems d L)
    unfold holds owing
    iintro ⟨#Hlv, -, ⟨Hi, Hx, Ho⟩, ⟨⟨Hib, Hrb⟩, Hbs⟩, ⟨⟨Hg, Hw, Hl⟩, Hss⟩, HO⟩
    isplitr [Hbs Hss]
    · isplitr; · iexact Hlv
      isplitl [Hi]; · iexact Hi
      isplitl [Hx]; · iexact Hx
      isplitl [Hib]; · iexact Hib
      isplitl [Hrb]; · iexact Hrb
      isplitl [Hg]; · iexact Hg
      isplitl [Hw]; · iexact Hw
      isplitl [Hl]; · iexact Hl
      isplitl [Ho]; · iexact Ho
      iexists W; isplitr
      · ipureintro; exact fun p hp => .inl hp
      iexact HO
    isplitl [Hbs] <;> iassumption
  · show iprop(holds d L qi (halves qx) fi fx O W (outVal fi fx) ∗ restBufs d L ∗ restSems d L) ⊢ _
    unfold holds owing
    iintro ⟨⟨Hi, Hx, Hib, Hrb, Hg, Hw, Hl, Ho, HO⟩, Hbs, Hss⟩
    isplitl [Hi Hx Ho]
    · isplitl [Hi]; · iexact Hi
      isplitl [Hx]; · iexact Hx
      iexact Ho
    isplitl [Hib Hrb Hbs]
    · isplitl [Hib Hrb]
      · isplitl [Hib] <;> iassumption
      iexact Hbs
    isplitl [Hg Hw Hl Hss]
    · isplitl [Hg Hw Hl]
      · isplitl [Hg]; · iexact Hg
        isplitl [Hw]; · iexact Hw
        iexact Hl
      iexact Hss
    iexact HO

end Cert.Proof.WholeGather

end
-- ==== Proof.WholeGather.Launch.lean ====
/-
  What the gathering call's tasks take and bring back: a share of the flattened row numbers, a share of the table and sixteen
  blocks of 320 rows of the result. Together the tasks hold the three arrays whole.
-/
module

public import proofs.«01_k».proof.Proof.WholeGather.Tile

@[expose] public section

noncomputable section

namespace Cert.Proof.WholeGather

open Cert.WholeIdeal Cert.WholeIdeal.Gen
open Cert.Proof.Whole

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)

variable {F : FTy → Type}

local notation "𝕄" => MT nD τ sig (HIx 2) (Elt F) ℕ UU ℕ

variable [FloatOps F]

/-! ## Shares and blocks -/

/-- Task `(c, i)`'s share of an array that every task reads. -/
def shr (c : Fin 2) (i : Fin 16) : PosShare TreeShare := pieceOf (pieceOf fullShare 2 (by decide) c) 16 (by decide) i

theorem pts_shares {ℓ : Loc nD τ sig} (f : Buf (Elt F) ℓ) :
    (ℓ ↦{fullShare} f : sProp 𝕄) = bigSep Finset.univ fun c : Fin 2 => bigSep Finset.univ fun i : Fin 16 => ℓ ↦{shr c i} f := by
  rw [pointsTo_piecesOf (o := 2) Finset.univ f (by decide) fullShare]
  exact bigSep_congr fun c _ => pointsTo_piecesOf (o := 16) Finset.univ f (by decide) _

theorem oRowSet_eq (n : Fin 512) : oRowSet n = (orow n).set := by
  show ((View.whole (main_v15_scv : Ref sig .scVector)).slice (orow n)).set = _
  rw [View.set_slice]; exact Finset.map_refl

/-- The block that batch `b` of task `(c, i)` writes. -/
abbrev blk (p : Fin 2 × Fin 16 × Fin 16) : Fin 512 := sl (wid p.1 p.2.1) p.2.2

theorem blk_inj (p p' : Fin 2 × Fin 16 × Fin 16) (h : blk p = blk p') : p = p' := by
  obtain ⟨c, i, b⟩ := p
  obtain ⟨c', i', b'⟩ := p'
  have := congrArg Fin.val h
  simp only [sl, wid] at this
  exact Prod.ext (Fin.ext (by show c.val = c'.val; omega))
    (Prod.ext (Fin.ext (by show i.val = i'.val; omega)) (Fin.ext (by show b.val = b'.val; omega)))

theorem orows_disjoint : ∀ p ∈ (Finset.univ : Finset (Fin 2 × Fin 16 × Fin 16)), ∀ p' ∈ (Finset.univ : Finset (Fin 2 × Fin 16 × Fin 16)), p ≠ p' →
    Disjoint (oRowSet (blk p)) (oRowSet (blk p')) :=
  fun p _ p' _ h => by rw [oRowSet_eq, oRowSet_eq]; exact Rect.part_disjoint odiv fun e => h (blk_inj p p' e)

theorem orows_cover : (Finset.univ : Finset (Fin 2 × Fin 16 × Fin 16)).biUnion (fun p => oRowSet (blk p)) = Finset.univ := by
  refine Finset.eq_univ_iff_forall.mpr fun j => ?_
  have hj : j ∈ (Finset.univ : Finset (Fin 512)).biUnion fun n => (orow n).set := by rw [Rect.biUnion_part odiv]; exact Finset.mem_univ _
  obtain ⟨n, -, hn⟩ := Finset.mem_biUnion.mp hj
  refine Finset.mem_biUnion.mpr ⟨(⟨n.val / 16 % 2, Nat.mod_lt _ (by decide)⟩, ⟨n.val / 32, by omega⟩, ⟨n.val % 16, Nat.mod_lt _ (by decide)⟩), Finset.mem_univ _, ?_⟩
  rw [oRowSet_eq]
  have e : blk (⟨n.val / 16 % 2, Nat.mod_lt _ (by decide)⟩, ⟨n.val / 32, by omega⟩, ⟨n.val % 16, Nat.mod_lt _ (by decide)⟩) = n :=
    Fin.ext (by show 16 * (2 * (n.val / 32) + n.val / 16 % 2) + n.val % 16 = n.val; omega)
  rw [e]; exact hn

/-- The blocks of task `(c, i)`, at `f`. -/
abbrev tBlocks (d : Dev nD) (c : Fin 2) (i : Fin 16) (f : Buf (Elt F) (oLoc d)) : sProp 𝕄 :=
  bigSep Finset.univ fun b : Fin 16 => oRowPts d (sl (wid c i) b) f

theorem oPts_rows (d : Dev nD) (f : Buf (Elt F) (oLoc d)) :
    (oLoc d ↦{fullShare} f : sProp 𝕄) = bigSep Finset.univ fun c : Fin 2 => bigSep Finset.univ fun i : Fin 16 => tBlocks d c i f := by
  have h1 : (bigSep Finset.univ fun c : Fin 2 => bigSep Finset.univ fun i : Fin 16 => tBlocks d c i f)
      = bigSep Finset.univ fun p : Fin 2 × Fin 16 × Fin 16 => oRowPts d (blk p) f :=
    (bigSep_congr fun c _ => (bigSep_univ_prod fun q : Fin 16 × Fin 16 => oRowPts d (blk (c, q)) f).symm).trans
      (bigSep_univ_prod fun p : Fin 2 × Fin 16 × Fin 16 => oRowPts d (blk p) f).symm
  rw [h1, ← pointsTo_biUnion Finset.univ (ℓ := oLoc d) (fun p : Fin 2 × Fin 16 × Fin 16 => oRowSet (blk p)) orows_disjoint, orows_cover]; try rfl

/-! ## What the call hands over -/

/-- What task `(c, i)` holds: its shares, and its blocks of the result at `f`. -/
abbrev tPts (d : Dev nD) (c : Fin 2) (i : Fin 16) (fi : Buf (Elt F) (iLoc d)) (fx : Buf (Elt F) (xLoc d)) (f : Buf (Elt F) (oLoc d)) : sProp 𝕄 :=
  iprop(iPts d (shr c i) fi ∗ xPts d (shr c i) fx ∗ tBlocks d c i f)
/-- What SparseCore `c`'s tasks hold together. -/
abbrev cPts (d : Dev nD) (c : Fin 2) (fi : Buf (Elt F) (iLoc d)) (fx : Buf (Elt F) (xLoc d)) (f : Buf (Elt F) (oLoc d)) : sProp 𝕄 := bigSep Finset.univ fun i : Fin 16 => tPts d c i fi fx f

def coordsV (c : Fin (grid1.bound 0)) (s : Fin (grid1.bound 1)) : grid1.Coords :=
  fun | 0 => c | 1 => s | ⟨_ + 2, h⟩ => absurd h (Nat.not_lt.2 (Nat.le_add_left _ _))

theorem bigSep_tasks (Φ : Fin 16 → sProp 𝕄) :
    (bigSep Finset.univ fun i : Fin ((K (F := F)).nSub 0) => Φ (Fin.cast nSub_0 i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_0 c)) = bigSep Finset.univ Φ :=
  bigSep_congr fun _ _ => congrArg Φ (Fin.ext rfl)

/-- The tasks' holdings together: the two arrays that are read and the result. -/
theorem cores_eq (d : Dev nD) (fi : Buf (Elt F) (iLoc d)) (fx : Buf (Elt F) (xLoc d)) (f : Buf (Elt F) (oLoc d)) :
    (bigSep Finset.univ fun c : Fin ((K (F := F)).nCore 0) => cPts d (Fin.cast nCore_0 c) fi fx f)
      = (iprop((iLoc d ↦{fullShare} fi) ∗ (xLoc d ↦{fullShare} fx) ∗ oLoc d ↦{fullShare} f) : sProp 𝕄) := by
  refine (bigSep_cores (F := F) fun c => cPts d c fi fx f).trans ?_
  rw [pts_shares fi, pts_shares fx, oPts_rows]
  unfold cPts tPts
  simp only [bigSep_sep']

/-- A SparseCore's holdings are its tasks'. -/
theorem split (d : Dev nD) (c : Fin ((K (F := F)).nCore 0)) (fi : Buf (Elt F) (iLoc d)) (fx : Buf (Elt F) (xLoc d)) (f g : Buf (Elt F) (oLoc d)) :
    (cPts d (Fin.cast nCore_0 c) fi fx f : sProp 𝕄) ⊢ |={Set.univ}=> iprop(
      (bigSep Finset.univ fun i : Fin ((K (F := F)).nSub 0) => tPts d (Fin.cast nCore_0 c) (Fin.cast nSub_0 i) fi fx f)
      ∗ ((bigSep Finset.univ fun i : Fin ((K (F := F)).nSub 0) => tPts d (Fin.cast nCore_0 c) (Fin.cast nSub_0 i) fi fx g)
          -∗ cPts d (Fin.cast nCore_0 c) fi fx g)) := by
  rw [bigSep_tasks (F := F) (fun i => tPts d (Fin.cast nCore_0 c) i fi fx f),
    bigSep_tasks (F := F) (fun i => tPts d (Fin.cast nCore_0 c) i fi fx g)]
  iintro H; imodintro
  isplitl [H]; · iexact H
  iintro H; iexact H

end Cert.Proof.WholeGather

end
-- ==== Proof.WholeFuse.Base.lean ====
/-
  The SparseCore call that gathers five value rows for each query and writes their mean: the program as the launch theorem
  sees it, the arrays, and what the call computes. `outVal` is the result as a function of the list of row numbers and of
  the table: at query `q` and lane `l`, the five numbers that the list's entries `5q … 5q+4` name in column `l`, added from
  the left and multiplied by the kernel's constant. Stated at any float instance.
-/
module

public import proofs.«01_k».proof.Proof.Whole.Base

@[expose] public section

noncomputable section

namespace Cert.Proof.WholeFuse

open Cert.WholeIdeal Cert.WholeIdeal.Gen
open Cert.Proof.Whole

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The arrays -/

/-- The row numbers as they are given, the table, the row numbers flattened, the result. -/
abbrev aLoc (d : Dev nD) : Loc nD τ sig := (SparseCore.T d).loc main_v16
abbrev xLoc (d : Dev nD) : Loc nD τ sig := (SparseCore.T d).loc main_arg2
abbrev iLoc (d : Dev nD) : Loc nD τ sig := (SparseCore.T d).loc main_v17
abbrev oLoc (d : Dev nD) : Loc nD τ sig := (SparseCore.T d).loc main_v18

/-! ## What the call computes -/

section Value
variable [FloatOps F] [Named F]

/-- The kernel's constant. -/
def fifth : F .f32 := Named.named κ "fifth" 0x3E4CCCCD#32

/-- The row of the table that a list entry names. -/
def rowOf (v : BitVec 32) : Fin 100000 := ⟨v.toNat % 100000, Nat.mod_lt _ (by decide)⟩

/-- Entry `(n, l)` of the gathered rows: column `l` of the row that entry `n` of the list names. -/
def fetched (fi : S20480.Idx → BitVec 32) (fx : S100000x128.Idx → F .f32) (n : ℕ) (hn : n < 20480) (l : Fin 128) : F .f32 :=
  fx (ix2 (rowOf (fi (ix1 (⟨n, hn⟩ : Fin 20480)))) l)

/-- Five numbers added from the left and multiplied by the constant. -/
def mean5 (a b c e g : F .f32) : F .f32 :=
  FloatOps.mulf (FloatOps.addf (FloatOps.addf (FloatOps.addf (FloatOps.addf a b) c) e) g) fifth

/-- The result of the call. -/
def outVal (fi : S20480.Idx → BitVec 32) (fx : S100000x128.Idx → F .f32) : S4096x128.Idx → F .f32 := fun j =>
  mean5 (fetched fi fx (5 * (j 0).val) (by have := (j 0).isLt; simp only [S4096x128] at this; change (j 0).val < 4096 at this; omega) (j 1))
    (fetched fi fx (5 * (j 0).val + 1) (by have := (j 0).isLt; change (j 0).val < 4096 at this; omega) (j 1))
    (fetched fi fx (5 * (j 0).val + 2) (by have := (j 0).isLt; change (j 0).val < 4096 at this; omega) (j 1))
    (fetched fi fx (5 * (j 0).val + 3) (by have := (j 0).isLt; change (j 0).val < 4096 at this; omega) (j 1))
    (fetched fi fx (5 * (j 0).val + 4) (by have := (j 0).isLt; change (j 0).val < 4096 at this; omega) (j 1))

/-- Block of 128 rows that a task computes from its 640 gathered rows. -/
def blk (g : S640x128.Idx → F .f32) : S128x128.Idx → F .f32 := fun y =>
  mean5 (g (ix2 (⟨5 * (y 0).val, by have := (y 0).isLt; change (y 0).val < 128 at this; omega⟩ : Fin 640) (y 1)))
    (g (ix2 (⟨5 * (y 0).val + 1, by have := (y 0).isLt; change (y 0).val < 128 at this; omega⟩ : Fin 640) (y 1)))
    (g (ix2 (⟨5 * (y 0).val + 2, by have := (y 0).isLt; change (y 0).val < 128 at this; omega⟩ : Fin 640) (y 1)))
    (g (ix2 (⟨5 * (y 0).val + 3, by have := (y 0).isLt; change (y 0).val < 128 at this; omega⟩ : Fin 640) (y 1)))
    (g (ix2 (⟨5 * (y 0).val + 4, by have := (y 0).isLt; change (y 0).val < 128 at this; omega⟩ : Fin 640) (y 1)))

/-- Task `w`'s 640 gathered rows: those that its part of the list names. -/
def scr (fi : S20480.Idx → BitVec 32) (fx : S100000x128.Idx → F .f32) (w : Fin 32) : S640x128.Idx → F .f32 := fun x =>
  fetched fi fx (640 * w.val + (x 0).val) (by have := (x 0).isLt; change (x 0).val < 640 at this; omega) (x 1)

/-- Row `128 w + y` of the result is row `y` of task `w`'s block. -/
theorem outVal_row (fi : S20480.Idx → BitVec 32) (fx : S100000x128.Idx → F .f32) (w : Fin 32) (y : S128x128.Idx) (j : S4096x128.Idx)
    (h0 : (j 0).val = 128 * w.val + (y 0).val) (h1 : (j 1).val = (y 1).val) : outVal fi fx j = blk (scr fi fx w) y := by
  have e1 : j 1 = y 1 := Fin.ext h1
  have key : ∀ n m (hn : n < 20480) (hm : m < 20480), n = m → fetched fi fx n hn (j 1) = fetched fi fx m hm (y 1) := by
    intro n m hn hm e; subst e; rw [e1]
  unfold outVal blk scr
  congr 1 <;> exact key _ _ _ _ (by rw [h0]; show _ = _ + (_ : ℕ); first | (simp only [ix2]; omega) | omega)

end Value

end Cert.Proof.WholeFuse

end
-- ==== Proof.WholeFuse.Tile.lean ====
/-
  One task of the SparseCore call, on vector subcore `s` of SparseCore `c`: it fetches its 640 entries of the list of row
  numbers, transfers the rows of the table that they name by the indirect gather, adds them five by five in a loop of 128
  trips and writes its block of 128 rows of the result. `tile_body` carries the values: the block ends at `outVal`.
-/
module

public import proofs.«01_k».proof.Proof.WholeFuse.Base

@[expose] public section

noncomputable section

namespace Cert.Proof.WholeFuse

open Cert.WholeIdeal Cert.WholeIdeal.Gen
open Cert.Proof.Whole

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "iV" => (Memref.whole Cert.WholeIdeal.main_v17_scv : Memref Cert.WholeIdeal.sig Kind.scVector Space.hbm Cert.WholeIdeal.S20480 EltTy.i32)
local notation "xV" => (Memref.whole Cert.WholeIdeal.main_arg2_scv : Memref Cert.WholeIdeal.sig Kind.scVector Space.hbm Cert.WholeIdeal.S100000x128 EltTy.f32)
local notation "oV" => (Memref.whole Cert.WholeIdeal.main_v18_scv : Memref Cert.WholeIdeal.sig Kind.scVector Space.hbm Cert.WholeIdeal.S4096x128 EltTy.f32)
local notation "sV" => (Memref.whole Cert.WholeIdeal.cc3_scratch0 : Memref Cert.WholeIdeal.sig Kind.scVector Space.vmem Cert.WholeIdeal.S640 EltTy.i32)
local notation "rV" => (Memref.whole Cert.WholeIdeal.cc3_scratch1 : Memref Cert.WholeIdeal.sig Kind.scVector Space.vmem Cert.WholeIdeal.S640x128 EltTy.f32)
local notation "bV" => (Memref.whole Cert.WholeIdeal.cc3_scratch2 : Memref Cert.WholeIdeal.sig Kind.scVector Space.vmem Cert.WholeIdeal.S128x128 EltTy.f32)

theorem odiv : 32 ∣ S4096x128.size 0 := ⟨128, rfl⟩
abbrev orow (w : Fin 32) : Rect S4096x128 := Rect.part (s := S4096x128) (a₀ := 0) odiv w
abbrev oRowSet (w : Fin 32) : Finset S4096x128.Idx := ((oV).view.slice (orow w)).set

/-- A share of the flattened row numbers, a share of the table, one task's block of the result. -/
abbrev iPts (d : Dev nD) (q : PosShare TreeShare) (f : Buf (Elt F) (iLoc d)) : sProp 𝕄 := iLoc d ↦{q} f
abbrev xPts (d : Dev nD) (q : PosShare TreeShare) (f : Buf (Elt F) (xLoc d)) : sProp 𝕄 := xLoc d ↦{q} f
abbrev oRowPts (d : Dev nD) (w : Fin 32) (f : Buf (Elt F) (oLoc d)) : sProp 𝕄 := oLoc d ↦[oRowSet w]{fullShare} f

/-! ## The task's coordinates and its views -/

section Tile

variable (d : Dev nD) (L : grid3.Coords)

abbrev cV (L : grid3.Coords) : Fin τ.nSC := (L 0).castLE hcore3
abbrev jV (L : grid3.Coords) : Fin τ.nSub := (L 1).castLE hsub3
theorem bound_zero : grid3.bound 0 = 2 := rfl
theorem bound_one : grid3.bound 1 = 16 := rfl
/-- The task's number: twice its subcore plus its SparseCore. -/
def wid (c : Fin 2) (s : Fin 16) : Fin 32 := ⟨2 * s.val + c.val, by omega⟩
abbrev wL (L : grid3.Coords) : Fin 32 := wid (Fin.cast bound_zero (L 0)) (Fin.cast bound_one (L 1))

abbrev irowK (L : grid3.Coords) : Rect S20480 := Rect.unit (s := S20480) (k3_off1 L) S640.size (k3_off1_inb L)
abbrev orowK (L : grid3.Coords) : Rect S4096x128 := Rect.unit (s := S4096x128) (k3_off18 L) S128x128.size (k3_off18_inb L)
abbrev iRowK (L : grid3.Coords) : Memref sig .scVector .hbm S640 .i32 := (iV).slice (irowK L) (fun _ => rfl)
abbrev oRowK (L : grid3.Coords) : Memref sig .scVector .hbm S128x128 .f32 := (oV).slice (orowK L) (fun _ => rfl)
abbrev xAllK : Memref sig .scVector .hbm S100000x128 .f32 := (xV).slice (Rect.unit (s := S100000x128) ![0, 0] S100000x128.size inb_S100000x128_S100000x128_0_0) (fun _ => rfl)

theorem off1_val : k3_off1 L 0 = 640 * (wL L).val := by
  rw [k3_off1_eq]; show 1280 * (L 1).val + 640 * (L 0).val = 640 * (2 * (L 1).val + (L 0).val); omega
theorem off18_val0 : k3_off18 L 0 = 128 * (wL L).val := by
  rw [k3_off18_eq]; show 256 * (L 1).val + 128 * (L 0).val = 128 * (2 * (L 1).val + (L 0).val); omega
theorem off18_val1 : k3_off18 L 1 = 0 := by
  rw [k3_off18_eq]; simp

theorem orowK_eq : orowK L = orow (wL L) := by
  unfold orowK orow Rect.part Rect.block
  congr 1 <;> funext a
  · match a with
    | 0 => show k3_off18 L 0 = _; rw [off18_val0]; simp [Shape.partIx, Shape.partSize]; try omega
    | 1 => show k3_off18 L 1 = _; rw [off18_val1]; simp [Shape.partIx, Shape.partSize]
  · match a with
    | 0 => simp [Shape.partSize]
    | 1 => simp [Shape.partSize]

theorem set_oRowK : (oRowK L).view.set = oRowSet (wL L) := by
  show ((oV).view.slice (orowK L)).set = ((oV).view.slice (orow (wL L))).set
  exact orowK_eq L ▸ rfl

theorem pts_oRowK (f : Buf (Elt F) (oLoc d)) :
    ((oRowK L).view.loc (V d (cV L) (jV L)) ↦[(oRowK L).view.set]{fullShare} f : sProp 𝕄) = oLoc d ↦[oRowSet (wL L)]{fullShare} f := by
  rw [set_oRowK]
theorem pts_iV (q : PosShare TreeShare) (f : Buf (Elt F) (iLoc d)) :
    ((iV).view.loc (V d (cV L) (jV L)) ↦{q} f : sProp 𝕄) = iLoc d ↦{q} f := rfl
theorem pts_xV (q : PosShare TreeShare) (f : Buf (Elt F) (xLoc d)) :
    ((xV).view.loc (V d (cV L) (jV L)) ↦{q} f : sProp 𝕄) = xLoc d ↦{q} f := rfl
theorem pts_sV (f : Buf (Elt F) ((V d (cV L) (jV L)).loc cc3_scratch0)) :
    ((sV).view.loc (V d (cV L) (jV L)) ↦{fullShare} f : sProp 𝕄) = (V d (cV L) (jV L)).loc cc3_scratch0 ↦{fullShare} f := rfl
theorem pts_rV (f : Buf (Elt F) ((V d (cV L) (jV L)).loc cc3_scratch1)) :
    ((rV).view.loc (V d (cV L) (jV L)) ↦{fullShare} f : sProp 𝕄) = (V d (cV L) (jV L)).loc cc3_scratch1 ↦{fullShare} f := rfl
theorem pts_bV (f : Buf (Elt F) ((V d (cV L) (jV L)).loc cc3_scratch2)) :
    ((bV).view.loc (V d (cV L) (jV L)) ↦{fullShare} f : sProp 𝕄) = (V d (cV L) (jV L)).loc cc3_scratch2 ↦{fullShare} f := rfl

/-! ## The task's semaphores and scratch buffers -/

abbrev cGcell (d : Dev nD) (c : Fin τ.nSC) (i : Fin τ.nSub) : GSem nD τ sig := (V d c i, .dma cc3_scratch3.sem)
abbrev cAcell (d : Dev nD) (c : Fin τ.nSC) (i : Fin τ.nSub) : GSem nD τ sig := (V d c i, .dma cc3_scoped0.sem)
abbrev cBcell (d : Dev nD) (c : Fin τ.nSC) (i : Fin τ.nSub) : GSem nD τ sig := (V d c i, .dma cc3_scoped1.sem)

theorem ownSems0_V :
    (ownSems0 (V d (cV L) (jV L)) : sProp 𝕄)
      = iprop(semVal (cGcell d (cV L) (jV L)) 0 ∗ semVal (cAcell d (cV L) (jV L)) 0 ∗ semVal (cBcell d (cV L) (jV L)) 0
          ∗ bigSep ((((ownCells (V d (cV L) (jV L))).erase (cGcell d (cV L) (jV L))).erase (cAcell d (cV L) (jV L))).erase (cBcell d (cV L) (jV L))) fun g => semVal g 0) := by
  unfold SparseCore.Cfg.ownSems0
  rw [SparseCore.bigSep_erase' ((mem_ownCells (g := cGcell d (cV L) (jV L))).mpr ⟨rfl, by
      show (SemLoc.dma cc3_scratch3.sem : SemLoc sig).isScoped .scVector = true; decide⟩),
    SparseCore.bigSep_erase' (Finset.mem_erase.mpr ⟨by simp [cGcell, cAcell]; decide, (mem_ownCells (g := cAcell d (cV L) (jV L))).mpr ⟨rfl, by
      show (SemLoc.dma cc3_scoped0.sem : SemLoc sig).isScoped .scVector = true; decide⟩⟩),
    SparseCore.bigSep_erase' (Finset.mem_erase.mpr ⟨by simp [cAcell, cBcell]; decide, Finset.mem_erase.mpr ⟨by simp [cGcell, cBcell]; decide,
      (mem_ownCells (g := cBcell d (cV L) (jV L))).mpr ⟨rfl, by show (SemLoc.dma cc3_scoped1.sem : SemLoc sig).isScoped .scVector = true; decide⟩⟩⟩)]

/-- The three scratch buffers are among the subcore's own: they are them, at some contents, and the rest. -/
theorem ownBufs_V :
    (ownBufs (V d (cV L) (jV L)) : sProp 𝕄)
      = iprop((∃ f, (V d (cV L) (jV L)).loc cc3_scratch0 ↦{fullShare} f) ∗ (∃ f, (V d (cV L) (jV L)).loc cc3_scratch1 ↦{fullShare} f)
          ∗ (∃ f, (V d (cV L) (jV L)).loc cc3_scratch2 ↦{fullShare} f)
          ∗ bigSep ((((ownRefs (τ := τ) (.scVector (cV L) (jV L))).erase ((Proc.scVector (cV L) (jV L)).devRef cc3_scratch0)).erase
              ((Proc.scVector (cV L) (jV L)).devRef cc3_scratch1)).erase ((Proc.scVector (cV L) (jV L)).devRef cc3_scratch2))
              fun b => iprop(∃ f, ((d, b) : Loc nD τ sig) ↦{fullShare} f)) := by
  unfold SparseCore.Cfg.ownBufs
  have m0 := SparseCore.Cfg.mem_ownRefs_of_owner (p := Proc.scVector (cV L) (jV L)) (b := (Proc.scVector (cV L) (jV L)).devRef cc3_scratch0) rfl
  have m1 := SparseCore.Cfg.mem_ownRefs_of_owner (p := Proc.scVector (cV L) (jV L)) (b := (Proc.scVector (cV L) (jV L)).devRef cc3_scratch1) rfl
  have m2 := SparseCore.Cfg.mem_ownRefs_of_owner (p := Proc.scVector (cV L) (jV L)) (b := (Proc.scVector (cV L) (jV L)).devRef cc3_scratch2) rfl
  have n10 : (Proc.scVector (cV L) (jV L)).devRef cc3_scratch1 ≠ (Proc.scVector (cV L) (jV L)).devRef cc3_scratch0 :=
    fun e => absurd (Proc.devRef_injective _ e) (show (cc3_scratch1 : Ref sig .scVector) ≠ cc3_scratch0 by decide)
  have n20 : (Proc.scVector (cV L) (jV L)).devRef cc3_scratch2 ≠ (Proc.scVector (cV L) (jV L)).devRef cc3_scratch0 :=
    fun e => absurd (Proc.devRef_injective _ e) (show (cc3_scratch2 : Ref sig .scVector) ≠ cc3_scratch0 by decide)
  have n21 : (Proc.scVector (cV L) (jV L)).devRef cc3_scratch2 ≠ (Proc.scVector (cV L) (jV L)).devRef cc3_scratch1 :=
    fun e => absurd (Proc.devRef_injective _ e) (show (cc3_scratch2 : Ref sig .scVector) ≠ cc3_scratch1 by decide)
  refine (SparseCore.bigSep_erase' m0).trans ?_
  rw [SparseCore.bigSep_erase' (Finset.mem_erase.mpr ⟨n10, m1⟩), SparseCore.bigSep_erase' (Finset.mem_erase.mpr ⟨n21, Finset.mem_erase.mpr ⟨n20, m2⟩⟩)]

/-! ## What the fetches leave -/

/-- Entry `x` of the task's part of the list is entry `640 w + x` of the list. -/
theorem read_iRowK (fi : Buf (Elt F) (iLoc d)) (x : S640.Idx) :
    (iRowK L).view.read (Elt F) fi x
      = fi (ix1 (⟨640 * (wL L).val + (x 0).val, by have := (x 0).isLt; change (x 0).val < 640 at this; have := (wL L).isLt; omega⟩ : Fin 20480)) := by
  refine ((View.read_apply _ _).trans (cast_eq _ _)).trans (congrArg fi ?_)
  funext a
  match a with
  | 0 =>
    refine Fin.ext ?_
    show k3_off1 L 0 + 1 * (x 0).val = 640 * (wL L).val + (x 0).val
    rw [off1_val, Nat.one_mul]

theorem read_xAllK (fx : Buf (Elt F) (xLoc d)) : (xAllK).view.read (Elt F) fx = fx := by
  funext x
  refine ((View.read_apply _ _).trans (cast_eq _ _)).trans (congrArg fx ?_)
  funext a
  refine Fin.ext ?_
  match a with
  | 0 => show 0 + 1 * (x 0).val = (x 0).val; omega
  | 1 => show 0 + 1 * (x 1).val = (x 1).val; omega

/-- The offsets that the stream reads are in range: what the list's fetch landed is the task's part of it, each word below
    the table's number of rows. -/
theorem inb_of_pre (fi : Buf (Elt F) (iLoc d)) (hpre : ∀ j, (fi j).toNat < 100000) (fs : Buf (Elt F) ((V d (cV L) (jV L)).loc cc3_scratch0)) (pay : S640.Idx → Elt F .i32)
    (hpay : pay = (iRowK L).view.read (Elt F) fi) :
    ∀ x, ((sV).view.read (Elt F) (View.write (Elt F) (sV).view fs pay Finset.univ) x).toNat < S100000x128.size gathers_S100000x128_S640x128.axis := by
  subst hpay; intro x
  rw [View.write_whole_univ]
  simp only [Memref.view_whole, View.read_whole]
  rw [read_iRowK]
  exact hpre _

/-- The row buffer written whole holds what was written. -/
theorem pts_gathered (fr g g' : Buf (Elt F) ((V d (cV L) (jV L)).loc cc3_scratch1)) (h : g = g') :
    ((rV).view.loc (V d (cV L) (jV L)) ↦[(rV).view.set]{fullShare} View.write (Elt F) (rV).view fr g Finset.univ : sProp 𝕄)
      = (rV).view.loc (V d (cV L) (jV L)) ↦{fullShare} g' := by
  rw [h, View.write_whole_univ, show (rV).view.set = Finset.univ from View.set_whole _]

variable [FloatOps F] [Named F]

/-- The gathered rows are `scr`: row `n` of the row buffer is the row of the table that entry `640 w + n` of the list names. -/
theorem gathered_eq (fi : Buf (Elt F) (iLoc d)) (fx : Buf (Elt F) (xLoc d)) (hpre : ∀ j, (fi j).toNat < 100000)
    (lst : S640.Idx → Elt F .i32) (hl : ∀ x, lst x = (iRowK L).view.read (Elt F) fi x)
    (hn : S640.numel = S640x128.size gathers_S100000x128_S640x128.axis') (hin : ∀ x, (lst x).toNat < S100000x128.size gathers_S100000x128_S640x128.axis) :
    SparseCore.gatherPayload (F := F) (e := .f32) gathers_S100000x128_S640x128 ((xAllK).view.read (Elt F) fx) (SparseCore.rows lst hn hin) = scr fi fx (wL L) := by
  funext x
  unfold SparseCore.gatherPayload scr fetched
  rw [read_xAllK d]
  refine congrArg fx ?_
  funext a
  match a with
  | 0 =>
    refine (Shape.Gathers.idx_axis _ _ _).trans (Fin.ext ?_)
    show (lst _).toNat = (fi _).toNat % 100000
    rw [hl, read_iRowK, Nat.mod_eq_of_lt (hpre _)]
    congr 2
    funext b
    match b with
    | 0 =>
      refine Fin.ext ?_
      show 640 * (wL L).val + _ = 640 * (wL L).val + _
      congr 1
      exact ((Shape.rowMajor_val_one (S640.rowMajor.symm _)).symm.trans (congrArg Fin.val (Equiv.apply_symm_apply _ _)))
  | 1 =>
    refine Fin.ext ?_
    exact Shape.Gathers.idx_of_ne gathers_S100000x128_S640x128 _ x (1 : Fin 2) (by decide)

/-! ## One row of the block -/

/-- Sixteen lanes that a load takes from the row buffer. -/
theorem read_lane (off : Fin 2 → ℕ) (h : ∀ a, off a + S1x16.size a ≤ S640x128.size a) (g : Buf (Elt F) ((V d (cV L) (jV L)).loc cc3_scratch1)) (x : S1x16.Idx) :
    View.readAt (Elt F) (rV).view (Rect.unit (s := S640x128) off S1x16.size h).toLoadRect g x = g ((Rect.unit (s := S640x128) off S1x16.size h).emb x) := rfl

theorem pay2_apply (a b c e q : Vec F S1x16 .f32) (x : S1x16.Idx) : k3_pay2 a b c e q x = mean5 (a x) (b x) (c x) (e x) (q x) := by
  obtain ⟨u, i, rfl⟩ : ∃ (u : Fin 1) (i : Fin 16), x = ix2 u i := ⟨x 0, x 1, eq_ix2 x⟩
  rw [Fin.fin_one_eq_zero u]
  unfold k3_pay2
  refine (shapeCast_a_1a_apply _ _ _ _).trans ?_
  show mean5 (shapeCast S16 a _ (ix1 i)) (shapeCast S16 b _ (ix1 i)) (shapeCast S16 c _ (ix1 i)) (shapeCast S16 e _ (ix1 i)) (shapeCast S16 q _ (ix1 i)) = _
  simp only [shapeCast_1a_a_apply]

theorem pay3_apply (a b c e q : Vec F S1x16 .f32) (x : S1x16.Idx) : k3_pay3 a b c e q x = mean5 (a x) (b x) (c x) (e x) (q x) := by
  obtain ⟨u, i, rfl⟩ : ∃ (u : Fin 1) (i : Fin 16), x = ix2 u i := ⟨x 0, x 1, eq_ix2 x⟩
  rw [Fin.fin_one_eq_zero u]
  unfold k3_pay3
  refine (shapeCast_a_1a_apply _ _ _ _).trans ?_
  show mean5 (shapeCast S16 a _ (ix1 i)) (shapeCast S16 b _ (ix1 i)) (shapeCast S16 c _ (ix1 i)) (shapeCast S16 e _ (ix1 i)) (shapeCast S16 q _ (ix1 i)) = _
  simp only [shapeCast_1a_a_apply]

theorem pay5_apply (a b c e q : Vec F S1x16 .f32) (x : S1x16.Idx) : k3_pay5 (k3_pay4 a) b c e q x = mean5 (a x) (b x) (c x) (e x) (q x) := by
  obtain ⟨u, i, rfl⟩ : ∃ (u : Fin 1) (i : Fin 16), x = ix2 u i := ⟨x 0, x 1, eq_ix2 x⟩
  rw [Fin.fin_one_eq_zero u]
  unfold k3_pay5 k3_pay4
  refine (shapeCast_a_1a_apply _ _ _ _).trans ?_
  show mean5 (shapeCast S16 a _ (ix1 i)) (shapeCast S16 b _ (ix1 i)) (shapeCast S16 c _ (ix1 i)) (shapeCast S16 e _ (ix1 i)) (shapeCast S16 q _ (ix1 i)) = _
  simp only [shapeCast_1a_a_apply]

theorem pay7_apply (a b c e q : Vec F S1x16 .f32) (x : S1x16.Idx) : k3_pay7 (k3_pay6 a b) c e q x = mean5 (a x) (b x) (c x) (e x) (q x) := by
  obtain ⟨u, i, rfl⟩ : ∃ (u : Fin 1) (i : Fin 16), x = ix2 u i := ⟨x 0, x 1, eq_ix2 x⟩
  rw [Fin.fin_one_eq_zero u]
  unfold k3_pay7 k3_pay6
  refine (shapeCast_a_1a_apply _ _ _ _).trans ?_
  show mean5 (shapeCast S16 a _ (ix1 i)) (shapeCast S16 b _ (ix1 i)) (shapeCast S16 c _ (ix1 i)) (shapeCast S16 e _ (ix1 i)) (shapeCast S16 q _ (ix1 i)) = _
  simp only [shapeCast_1a_a_apply]

theorem pay9_apply (a b c e q : Vec F S1x16 .f32) (x : S1x16.Idx) : k3_pay9 (k3_pay8 a b c) e q x = mean5 (a x) (b x) (c x) (e x) (q x) := by
  obtain ⟨u, i, rfl⟩ : ∃ (u : Fin 1) (i : Fin 16), x = ix2 u i := ⟨x 0, x 1, eq_ix2 x⟩
  rw [Fin.fin_one_eq_zero u]
  unfold k3_pay9 k3_pay8
  refine (shapeCast_a_1a_apply _ _ _ _).trans ?_
  show mean5 (shapeCast S16 a _ (ix1 i)) (shapeCast S16 b _ (ix1 i)) (shapeCast S16 c _ (ix1 i)) (shapeCast S16 e _ (ix1 i)) (shapeCast S16 q _ (ix1 i)) = _
  simp only [shapeCast_1a_a_apply]

theorem pay12_apply (a b c e q : Vec F S1x16 .f32) (x : S1x16.Idx) : k3_pay12 (k3_pay10 a b c) (k3_pay11 e) q x = mean5 (a x) (b x) (c x) (e x) (q x) := by
  obtain ⟨u, i, rfl⟩ : ∃ (u : Fin 1) (i : Fin 16), x = ix2 u i := ⟨x 0, x 1, eq_ix2 x⟩
  rw [Fin.fin_one_eq_zero u]
  unfold k3_pay12 k3_pay10 k3_pay11
  refine (shapeCast_a_1a_apply _ _ _ _).trans ?_
  show mean5 (shapeCast S16 a _ (ix1 i)) (shapeCast S16 b _ (ix1 i)) (shapeCast S16 c _ (ix1 i)) (shapeCast S16 e _ (ix1 i)) (shapeCast S16 q _ (ix1 i)) = _
  simp only [shapeCast_1a_a_apply]

theorem pay14_apply (a b c e q : Vec F S1x16 .f32) (x : S1x16.Idx) : k3_pay14 (k3_pay13 a b c e) q x = mean5 (a x) (b x) (c x) (e x) (q x) := by
  obtain ⟨u, i, rfl⟩ : ∃ (u : Fin 1) (i : Fin 16), x = ix2 u i := ⟨x 0, x 1, eq_ix2 x⟩
  rw [Fin.fin_one_eq_zero u]
  unfold k3_pay14 k3_pay13
  refine (shapeCast_a_1a_apply _ _ _ _).trans ?_
  show mean5 (shapeCast S16 a _ (ix1 i)) (shapeCast S16 b _ (ix1 i)) (shapeCast S16 c _ (ix1 i)) (shapeCast S16 e _ (ix1 i)) (shapeCast S16 q _ (ix1 i)) = _
  simp only [shapeCast_1a_a_apply]

theorem pay1_apply (a b c e q : Vec F S1x16 .f32) (x : S1x16.Idx) : k3_pay1 (k3_pay15 a b c e q) x = mean5 (a x) (b x) (c x) (e x) (q x) := by
  obtain ⟨u, i, rfl⟩ : ∃ (u : Fin 1) (i : Fin 16), x = ix2 u i := ⟨x 0, x 1, eq_ix2 x⟩
  rw [Fin.fin_one_eq_zero u]
  unfold k3_pay1 k3_pay15
  refine (shapeCast_a_1a_apply _ _ _ _).trans ?_
  show mean5 (shapeCast S16 a _ (ix1 i)) (shapeCast S16 b _ (ix1 i)) (shapeCast S16 c _ (ix1 i)) (shapeCast S16 e _ (ix1 i)) (shapeCast S16 q _ (ix1 i)) = _
  simp only [shapeCast_1a_a_apply]

/-- Sixteen lanes of row `k` from the same lanes of rows `5k … 5k+4` of the row buffer. -/
theorem piece_eq (k c : ℕ) (g : Buf (Elt F) ((V d (cV L) (jV L)).loc cc3_scratch1)) (off o0 o1 o2 o3 o4 : Fin 2 → ℕ)
    (h : ∀ a, off a + S1x16.size a ≤ S128x128.size a)
    (h0 : ∀ a, o0 a + S1x16.size a ≤ S640x128.size a) (h1 : ∀ a, o1 a + S1x16.size a ≤ S640x128.size a) (h2 : ∀ a, o2 a + S1x16.size a ≤ S640x128.size a)
    (h3 : ∀ a, o3 a + S1x16.size a ≤ S640x128.size a) (h4 : ∀ a, o4 a + S1x16.size a ≤ S640x128.size a)
    (e : off = ![k, c]) (e0 : o0 = ![5 * k + 0, c]) (e1 : o1 = ![5 * k + 1, c]) (e2 : o2 = ![5 * k + 2, c]) (e3 : o3 = ![5 * k + 3, c]) (e4 : o4 = ![5 * k + 4, c])
    (x : S1x16.Idx) :
    mean5 (View.readAt (Elt F) (rV).view (Rect.unit (s := S640x128) o0 S1x16.size h0).toLoadRect g x)
        (View.readAt (Elt F) (rV).view (Rect.unit (s := S640x128) o1 S1x16.size h1).toLoadRect g x)
        (View.readAt (Elt F) (rV).view (Rect.unit (s := S640x128) o2 S1x16.size h2).toLoadRect g x)
        (View.readAt (Elt F) (rV).view (Rect.unit (s := S640x128) o3 S1x16.size h3).toLoadRect g x)
        (View.readAt (Elt F) (rV).view (Rect.unit (s := S640x128) o4 S1x16.size h4).toLoadRect g x)
      = blk g ((Rect.unit (s := S128x128) off S1x16.size h).emb x) := by
  subst e e0 e1 e2 e3 e4
  have hx : (x 0).val = 0 := Nat.lt_one_iff.mp (x 0).isLt
  have key : ∀ (r : ℕ) (hr : ∀ a, (![5 * k + r, c] : Fin 2 → ℕ) a + S1x16.size a ≤ S640x128.size a) (hb : 5 * (k + 1 * (x 0).val) + r < 640),
      g ((Rect.unit (s := S640x128) ![5 * k + r, c] S1x16.size hr).emb x)
        = g (ix2 (⟨5 * (k + 1 * (x 0).val) + r, hb⟩ : Fin 640) ((Rect.unit (s := S128x128) ![k, c] S1x16.size h).emb x 1)) := by
    intro r hr hb
    refine congrArg g (funext fun a => Fin.ext ?_)
    match a with
    | 0 => show 5 * k + r + 1 * (x 0).val = 5 * (k + 1 * (x 0).val) + r; omega
    | 1 => rfl
  unfold blk
  simp only [read_lane]
  congr 1 <;> exact key _ _ _

/-- A place of the block that is not in row `k` lies outside every piece of row `k`. -/
theorem not_row (k c : ℕ) (off : Fin 2 → ℕ) (h : ∀ a, off a + S1x16.size a ≤ S128x128.size a) (e : off = ![k, c]) (y : S128x128.Idx) (hy : (y 0).val < k) :
    y ∉ (Rect.unit (s := S128x128) off S1x16.size h).set := by
  subst e
  exact Rect.not_mem_set_of_axis _ y 0 k 1 rfl rfl rfl (.inl hy)

/-- A place of row `k` lies in the piece of its sixteen lanes. -/
theorem in_row (k c : ℕ) (off : Fin 2 → ℕ) (h : ∀ a, off a + S1x16.size a ≤ S128x128.size a) (e : off = ![k, c]) (y : S128x128.Idx) (hy : (y 0).val = k)
    (hc : c ≤ (y 1).val) (hc' : (y 1).val < c + 16) : y ∈ (Rect.unit (s := S128x128) off S1x16.size h).set := by
  subst e
  refine (Rect.unit (s := S128x128) ![k, c] S1x16.size h).mem_set.mpr fun a => ?_
  match a with
  | 0 => exact ⟨0, Nat.one_pos, by show (y 0).val = k + 1 * 0; omega⟩
  | 1 => exact ⟨(y 1).val - c, by show _ < 16; omega, by show (y 1).val = c + 1 * _; omega⟩

/-- The block after the writes of row `k`, each of them a piece of row `k`: the rows before `k` stand as they were. -/
theorem after_row (k : ℕ) (g : Buf (Elt F) ((V d (cV L) (jV L)).loc cc3_scratch1)) (f : Buf (Elt F) ((V d (cV L) (jV L)).loc cc3_scratch2))
    (Ls : List (View.Piece (Elt F) S128x128 .f32)) (hf : ∀ y : S128x128.Idx, (y 0).val < k → f y = blk g y)
    (h1 : ∀ y : S128x128.Idx, (y 0).val < k → ∀ p ∈ Ls, y ∉ p.1.set) (h2 : ∀ p ∈ Ls, ∀ x, p.2 x = blk g (p.1.emb x))
    (h3 : ∀ y : S128x128.Idx, (y 0).val = k → ∃ p ∈ Ls, y ∈ p.1.set) (y : S128x128.Idx) (hy : (y 0).val < k + 1) :
    (bV).view.writes (Elt F) f Ls y = blk g y := by
  rcases Nat.lt_or_ge (y 0).val k with hlt | hge
  · exact (View.read_writes_apply_of_forall_not_mem (Val := Elt F) (bV).view f y Ls (h1 y hlt)).trans (hf y hlt)
  · exact View.read_writes_apply_of_pieces (Val := Elt F) (bV).view f (blk g) Ls h2 y (h3 y (by omega))

/-! ## The task -/

/-- What the loop holds before trip `k`: the gathered rows, the block computed up to row `k`, the rest of the task's state as it
    was. -/
def inv (g : Buf (Elt F) ((V d (cV L) (jV L)).loc cc3_scratch1)) (k : ℕ) (_ : BitVec 32) : sProp 𝕄 :=
  iprop(((rV).view.loc (V d (cV L) (jV L)) ↦{fullShare} g : sProp 𝕄)
    ∗ (∃ f : Buf (Elt F) ((V d (cV L) (jV L)).loc cc3_scratch2), ⌜∀ y : S128x128.Idx, (y 0).val < k → f y = blk g y⌝ ∗ ((bV).view.loc (V d (cV L) (jV L)) ↦{fullShare} f : sProp 𝕄)))

set_option maxHeartbeats 4000000 in
/-- One trip of the loop: row `k` of the block from rows `5k … 5k+4` of the row buffer, sixteen lanes at a time. -/
theorem trip (g : Buf (Elt F) ((V d (cV L) (jV L)).loc cc3_scratch1)) (k : Fin k3_t1_loop.trips) (acc : BitVec 32) :
    inv d L g k.val acc ⊢ wp frame (wpE (defs₀ (F := F)) 𝒱₀ (V d (cV L) (jV L)) none) Set.univ
      (k3_t1_body L iV (Memref.isWhole_whole _) xV (Memref.isWhole_whole _) oV (Memref.isWhole_whole _)
        sV (Memref.isWhole_whole _) rV (Memref.isWhole_whole _) bV (Memref.isWhole_whole _) cc3_scratch3 cc3_scoped0 cc3_scoped1 k acc)
      fun acc' => inv d L g (k.val + 1) acc' := by
  unfold inv
  iintro ⟨Hr, ⟨%f, %hf, Hb⟩⟩
  unfold k3_t1_body
  simp -proj only [k3_part1_eq_skeleton, k3_part2_eq_skeleton, k3_part3_eq_skeleton, k3_part4_eq_skeleton, k3_part5_eq_skeleton, k3_part6_eq_skeleton, k3_part7_eq_skeleton]
  unfold k3_part1_skel k3_part2_skel k3_part3_skel k3_part4_skel k3_part5_skel k3_part6_skel k3_part7_skel
  sl_exec
  sl_step
  isplitl [Hr]; · iexact Hr
  iexists _; isplitr
  swap; · iexact Hb
  ipureintro
  refine after_row d L k.val g f _ hf ?_ ?_ ?_
  · intro y hlt
    simp only [List.forall_mem_cons, List.not_mem_nil, false_implies, implies_true, and_true]
    exact ⟨not_row _ _ _ _ (k3_off17_eq k) y hlt, not_row _ _ _ _ (k3_off15_eq k) y hlt, not_row _ _ _ _ (k3_off13_eq k) y hlt, not_row _ _ _ _ (k3_off11_eq k) y hlt,
      not_row _ _ _ _ (k3_off9_eq k) y hlt, not_row _ _ _ _ (k3_off7_eq k) y hlt, not_row _ _ _ _ (k3_off5_eq k) y hlt, not_row _ _ _ _ (k3_off3_eq k) y hlt⟩
  · simp only [List.forall_mem_cons, List.not_mem_nil, false_implies, implies_true, and_true]
    refine ⟨?_, ?_, ?_, ?_, ?_, ?_, ?_, ?_⟩
    · exact fun x => (pay1_apply _ _ _ _ _ x).trans (piece_eq d L k 112 g _ _ _ _ _ _ _ _ _ _ _ _ (k3_off17_eq k) (k3_off16_eq k 0) (k3_off16_eq k 1) (k3_off16_eq k 2) (k3_off16_eq k 3) (k3_off16_eq k 4) x)
    · exact fun x => (pay14_apply _ _ _ _ _ x).trans (piece_eq d L k 96 g _ _ _ _ _ _ _ _ _ _ _ _ (k3_off15_eq k) (k3_off14_eq k 0) (k3_off14_eq k 1) (k3_off14_eq k 2) (k3_off14_eq k 3) (k3_off14_eq k 4) x)
    · exact fun x => (pay12_apply _ _ _ _ _ x).trans (piece_eq d L k 80 g _ _ _ _ _ _ _ _ _ _ _ _ (k3_off13_eq k) (k3_off12_eq k 0) (k3_off12_eq k 1) (k3_off12_eq k 2) (k3_off12_eq k 3) (k3_off12_eq k 4) x)
    · exact fun x => (pay9_apply _ _ _ _ _ x).trans (piece_eq d L k 64 g _ _ _ _ _ _ _ _ _ _ _ _ (k3_off11_eq k) (k3_off10_eq k 0) (k3_off10_eq k 1) (k3_off10_eq k 2) (k3_off10_eq k 3) (k3_off10_eq k 4) x)
    · exact fun x => (pay7_apply _ _ _ _ _ x).trans (piece_eq d L k 48 g _ _ _ _ _ _ _ _ _ _ _ _ (k3_off9_eq k) (k3_off8_eq k 0) (k3_off8_eq k 1) (k3_off8_eq k 2) (k3_off8_eq k 3) (k3_off8_eq k 4) x)
    · exact fun x => (pay5_apply _ _ _ _ _ x).trans (piece_eq d L k 32 g _ _ _ _ _ _ _ _ _ _ _ _ (k3_off7_eq k) (k3_off6_eq k 0) (k3_off6_eq k 1) (k3_off6_eq k 2) (k3_off6_eq k 3) (k3_off6_eq k 4) x)
    · exact fun x => (pay3_apply _ _ _ _ _ x).trans (piece_eq d L k 16 g _ _ _ _ _ _ _ _ _ _ _ _ (k3_off5_eq k) (k3_off4_eq k 0) (k3_off4_eq k 1) (k3_off4_eq k 2) (k3_off4_eq k 3) (k3_off4_eq k 4) x)
    · exact fun x => (pay2_apply _ _ _ _ _ x).trans (piece_eq d L k 0 g _ _ _ _ _ _ _ _ _ _ _ _ (k3_off3_eq k) (k3_off2_eq k 0) (k3_off2_eq k 1) (k3_off2_eq k 2) (k3_off2_eq k 3) (k3_off2_eq k 4) x)
  · intro y hk
    have hy1 : (y 1).val < 128 := (y 1).isLt
    simp only [List.exists_mem_cons_iff, List.not_mem_nil, false_and, exists_false, or_false]
    rcases Nat.lt_or_ge (y 1).val 64 with h | h
    · rcases Nat.lt_or_ge (y 1).val 32 with h' | h'
      · rcases Nat.lt_or_ge (y 1).val 16 with h'' | h''
        · exact .inr (.inr (.inr (.inr (.inr (.inr (.inr (in_row _ _ _ _ (k3_off3_eq k) y hk (by omega) (by omega))))))))
        · exact .inr (.inr (.inr (.inr (.inr (.inr (.inl (in_row _ _ _ _ (k3_off5_eq k) y hk (by omega) (by omega))))))))
      · rcases Nat.lt_or_ge (y 1).val 48 with h'' | h''
        · exact .inr (.inr (.inr (.inr (.inr (.inl (in_row _ _ _ _ (k3_off7_eq k) y hk (by omega) (by omega)))))))
        · exact .inr (.inr (.inr (.inr (.inl (in_row _ _ _ _ (k3_off9_eq k) y hk (by omega) (by omega))))))
    · rcases Nat.lt_or_ge (y 1).val 96 with h' | h'
      · rcases Nat.lt_or_ge (y 1).val 80 with h'' | h''
        · exact .inr (.inr (.inr (.inl (in_row _ _ _ _ (k3_off11_eq k) y hk (by omega) (by omega)))))
        · exact .inr (.inr (.inl (in_row _ _ _ _ (k3_off13_eq k) y hk (by omega) (by omega))))
      · rcases Nat.lt_or_ge (y 1).val 112 with h'' | h''
        · exact .inr (.inl (in_row _ _ _ _ (k3_off15_eq k) y hk (by omega) (by omega)))
        · exact .inl (in_row _ _ _ _ (k3_off17_eq k) y hk (by omega) (by omega))

/-- The task's rows of the result, written with its block. -/
theorem oRow_written (fi : Buf (Elt F) (iLoc d)) (fx : Buf (Elt F) (xLoc d)) (fo : Buf (Elt F) (oLoc d)) (f : Buf (Elt F) ((V d (cV L) (jV L)).loc cc3_scratch2))
    (hf : ∀ y : S128x128.Idx, (y 0).val < k3_t1_loop.trips → f y = blk (scr fi fx (wL L)) y) :
    ((oRowK L).view.loc (V d (cV L) (jV L)) ↦[(oRowK L).view.set]{fullShare} (oRowK L).view.writes (Elt F) fo [⟨Rect.whole S128x128, (bV).view.read (Elt F) f⟩] : sProp 𝕄)
      = oRowPts d (wL L) (outVal fi fx) := by
  refine Eq.trans (pointsTo_congr fun j hj => ?_) (pts_oRowK d L _)
  obtain ⟨y, -, rfl⟩ := Finset.mem_map.mp hj
  have h1 := View.read_writes_cons_emb (Val := Elt F) (oRowK L).view fo (Rect.whole S128x128) ((bV).view.read (Elt F) f) [] y
  have e : (Rect.whole S128x128).emb y = y := by
    funext a; refine Fin.ext ?_
    show 0 + 1 * (y a).val = (y a).val; omega
  rw [e] at h1
  refine (((View.read_apply _ _).trans (cast_eq _ _)).symm.trans h1).trans ((hf y (y 0).isLt).trans (outVal_row fi fx (wL L) y _ ?_ ?_).symm)
  · show k3_off18 L 0 + 1 * (y 0).val = _
    rw [off18_val0]; omega
  · show k3_off18 L 1 + 1 * (y 1).val = _
    rw [off18_val1]; omega

set_option maxHeartbeats 4000000 in
theorem tile_body (hF : (K (F := F)).Facts) (qi qx : PosShare TreeShare) (fi : Buf (Elt F) (iLoc d)) (fx : Buf (Elt F) (xLoc d)) (fo : Buf (Elt F) (oLoc d))
    (hpre : ∀ j, (fi j).toNat < 100000) (O : CellTallies nD τ sig (HIx 2)) (W : Waits sig (HIx 2)) (hO : ∀ g, O g none = 0) :
    iprop(levAts (K (F := F)).L (K (F := F)).lev ∗ emp
        ∗ (iPts d qi fi ∗ xPts d qx fx ∗ oRowPts d (wL L) fo)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc3_sc2 L iV (Memref.isWhole_whole _) xV (Memref.isWhole_whole _) oV (Memref.isWhole_whole _)
            sV (Memref.isWhole_whole _) rV (Memref.isWhole_whole _) bV (Memref.isWhole_whole _) cc3_scratch3 cc3_scoped0 cc3_scoped1)
          fun _ => iprop((iPts d qi fi ∗ xPts d qx fx ∗ oRowPts d (wL L) (outVal fi fx))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc3_sc2_eq_skeleton]; unfold cc3_sc2_skel
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fr, Hr⟩, ⟨%fb, Hb⟩, Hbufs⟩, ⟨HsemG, HsemA, HsemB, Hsems⟩, HO⟩
  ihave Hmw := (show levAts (K (F := F)).L (K (F := F)).lev ⊢ Transfers.MayWaits (V d (cV L) (jV L)) (default : HIx 2) O from
    (K (F := F)).mayWaits_none (thr := V d (cV L) (jV L)) hO) $$ Hlv
  ihave Hi' := (Entails.of_eq (pts_iV (F := F) d L _ _).symm) $$ Hi
  ihave Ho' := (Entails.of_eq (pts_oRowK (F := F) d L _).symm) $$ Ho
  ihave Hx' := (Entails.of_eq (pts_xV (F := F) d L _ _).symm) $$ Hx
  ihave Hs' := (Entails.of_eq (pts_sV (F := F) d L _).symm) $$ Hs
  ihave Hr' := (Entails.of_eq (pts_rV (F := F) d L _).symm) $$ Hr
  ihave Hb' := (Entails.of_eq (pts_bV (F := F) d L _).symm) $$ Hb
  sl_exec
  -- the indirect gather: a share of the table, the row buffer, the list's buffer and the cell at zero go in; the `Flight` comes back
  ihave Hxs := (pointsTo_split_subset (q := qx) (f := fx) (S := Finset.univ) (Finset.subset_univ (xAllK).view.set)).1 $$ Hx'
  icases Hxs with ⟨Hxs, Hxr⟩
  have hrs : (rV).view.set = Finset.univ := View.set_whole _
  have hss : (sV).view.set = Finset.univ := View.set_whole _
  ihave Hr'' := (Entails.of_eq (show ((rV).view.loc (V d (cV L) (jV L)) ↦{fullShare} fr : sProp 𝕄)
      = (rV).view.loc (V d (cV L) (jV L)) ↦[(rV).view.set]{fullShare} fr by rw [hrs])) $$ Hr'
  ihave Hs'' := (Entails.of_eq (show ((sV).view.loc (V d (cV L) (jV L)) ↦{fullShare} View.write (Elt F) (sV).view fs (tile_body.sl.dma0 d L fi) Finset.univ : sProp 𝕄)
      = (sV).view.loc (V d (cV L) (jV L)) ↦[(sV).view.set]{fullShare} View.write (Elt F) (sV).view fs (tile_body.sl.dma0 d L fi) Finset.univ
      by rw [hss])) $$ Hs'
  iapply (SparseCore.wp_indirectGatherLocal countersEmb 𝒱₀ (V d (cV L) (jV L)) none (hg := gathers_S100000x128_S640x128) (default : HIx 2)
      (rV).view.dmaCredit (SparseCore.sum_rowCredit_eq_dmaCredit _ _ (fun _ => rfl)) (by decide) (inb_of_pre d L fi hpre fs _ rfl)) $$ [Hxs Hr'' Hs'' HsemG]
  · isplitl [Hxs]; · iexact Hxs
    isplitl [Hr'']; · iexact Hr''
    isplitl [Hs'']; · iexact Hs''
    iexact HsemG
  iintro Hfl
  sl_exec
  iapply (Transfers.wp_waitLocalO countersEmb 𝒱₀ (V d (cV L) (jV L)) none (default : HIx 2) (rfl : (rV).view.dmaCredit = _)) $$ [Hfl HO]
  · isplitl [Hfl]; · iexact Hfl
    isplitl [HO]; · iexact HO
    iapply (Transfers.MayWaits.elim (SemLoc.dma cc3_scratch3.sem)) $$ Hmw
  iintro ⟨⟨Hr', Hxs, Hs'⟩, HsemG, HO⟩
  ihave Hx' := (pointsTo_split_subset (q := qx) (f := fx) (S := Finset.univ) (Finset.subset_univ (xAllK).view.set)).2 $$ [Hxs Hxr]; · isplitl [Hxs] <;> iassumption
  ihave Hr3 := (Entails.of_eq (pts_gathered (F := F) d L fr _ _ (gathered_eq d L fi fx hpre
    ((sV).view.read (Elt F) (View.write (Elt F) (sV).view fs ((iRowK L).view.read (Elt F) fi) Finset.univ)) (fun x => by
    rw [View.write_whole_univ]; rfl) rfl (inb_of_pre d L fi hpre fs _ rfl)))) $$ Hr'
  ihave Hs3 := (Entails.of_eq (show ((sV).view.loc (V d (cV L) (jV L)) ↦[(sV).view.set]{fullShare} _ : sProp 𝕄)
      = (sV).view.loc (V d (cV L) (jV L)) ↦{fullShare} _ by rw [hss])) $$ Hs'
  sl_exec
  sl_for (inv d L (scr fi fx (wL L))) $$ [Hr3 Hb']
  case region =>
    intro k _
    exact trip d L _ k _
  · unfold inv
    isplitl [Hr3]; · iexact Hr3
    iexists fb; isplitr
    swap; · iexact Hb'
    ipureintro
    intro y hy; exact absurd hy (Nat.not_lt_zero _)
  iintro %acc HI
  unfold inv
  icases HI with ⟨Hr3, ⟨%f, %hf, Hb'⟩⟩
  sl_exec
  sl_step
  isplitl [Hi' Hx' Ho']
  · isplitl [Hi']; · iapply (Entails.of_eq (pts_iV (F := F) d L _ _)); iexact Hi'
    isplitl [Hx']; · iexact Hx'
    iapply (Entails.of_eq (oRow_written d L fi fx fo f hf)); iexact Ho'
  isplitl [Hs3 Hr3 Hb' Hbufs]
  · isplitl [Hs3]; · iexists _; iexact Hs3
    isplitl [Hr3]; · iexists _; iexact Hr3
    isplitl [Hb']; · iexists _; iexact Hb'
    iexact Hbufs
  isplitl [HsemA HsemB HsemG Hsems]
  · isplitl [HsemG]; · iexact HsemG
    isplitl [HsemA]; · iexact HsemA
    isplitl [HsemB]; · iexact HsemB
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

end Cert.Proof.WholeFuse

end
-- ==== Proof.WholeFuse.Launch.lean ====
/-
  What the fusing call's tasks take and bring back: a share of the flattened row numbers, a share of the table and a block
  of 128 rows of the result. Together the tasks hold the three arrays whole.
-/
module

public import proofs.«01_k».proof.Proof.WholeFuse.Tile

@[expose] public section

noncomputable section

namespace Cert.Proof.WholeFuse

open Cert.WholeIdeal Cert.WholeIdeal.Gen
open Cert.Proof.Whole

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)

variable {F : FTy → Type}

local notation "𝕄" => MT nD τ sig (HIx 2) (Elt F) ℕ UU ℕ

variable [FloatOps F] [Named F]

/-! ## Shares and blocks -/

/-- Task `(c, i)`'s share of an array that every task reads. -/
def shr (c : Fin 2) (i : Fin 16) : PosShare TreeShare := pieceOf (pieceOf fullShare 2 (by decide) c) 16 (by decide) i

theorem pts_shares {ℓ : Loc nD τ sig} (f : Buf (Elt F) ℓ) :
    (ℓ ↦{fullShare} f : sProp 𝕄) = bigSep Finset.univ fun c : Fin 2 => bigSep Finset.univ fun i : Fin 16 => ℓ ↦{shr c i} f := by
  rw [pointsTo_piecesOf (o := 2) Finset.univ f (by decide) fullShare]
  exact bigSep_congr fun c _ => pointsTo_piecesOf (o := 16) Finset.univ f (by decide) _

theorem oRowSet_eq (w : Fin 32) : oRowSet w = (orow w).set := by
  show ((View.whole (main_v18_scv : Ref sig .scVector)).slice (orow w)).set = _
  rw [View.set_slice]; exact Finset.map_refl

theorem wid_inj (p p' : Fin 2 × Fin 16) (h : wid p.1 p.2 = wid p'.1 p'.2) : p = p' := by
  have := congrArg Fin.val h
  simp only [wid] at this
  exact Prod.ext (Fin.ext (by omega)) (Fin.ext (by omega))

theorem orows_disjoint : ∀ p ∈ (Finset.univ : Finset (Fin 2 × Fin 16)), ∀ p' ∈ (Finset.univ : Finset (Fin 2 × Fin 16)), p ≠ p' →
    Disjoint (oRowSet (wid p.1 p.2)) (oRowSet (wid p'.1 p'.2)) :=
  fun p _ p' _ h => by rw [oRowSet_eq, oRowSet_eq]; exact Rect.part_disjoint odiv fun e => h (wid_inj p p' e)

theorem orows_cover : (Finset.univ : Finset (Fin 2 × Fin 16)).biUnion (fun p => oRowSet (wid p.1 p.2)) = Finset.univ := by
  refine Finset.eq_univ_iff_forall.mpr fun j => ?_
  have hj : j ∈ (Finset.univ : Finset (Fin 32)).biUnion fun w => (orow w).set := by rw [Rect.biUnion_part odiv]; exact Finset.mem_univ _
  obtain ⟨w, -, hw⟩ := Finset.mem_biUnion.mp hj
  refine Finset.mem_biUnion.mpr ⟨(⟨w.val % 2, Nat.mod_lt _ (by decide)⟩, ⟨w.val / 2, by omega⟩), Finset.mem_univ _, ?_⟩
  rw [oRowSet_eq]
  have e : wid ⟨w.val % 2, Nat.mod_lt _ (by decide)⟩ ⟨w.val / 2, by omega⟩ = w := Fin.ext (by show 2 * (w.val / 2) + w.val % 2 = w.val; omega)
  rw [e]; exact hw

theorem oPts_rows (d : Dev nD) (f : Buf (Elt F) (oLoc d)) :
    (oLoc d ↦{fullShare} f : sProp 𝕄) = bigSep Finset.univ fun c : Fin 2 => bigSep Finset.univ fun i : Fin 16 => oRowPts d (wid c i) f := by
  rw [← bigSep_univ_prod (fun p : Fin 2 × Fin 16 => oRowPts d (wid p.1 p.2) f),
    ← pointsTo_biUnion Finset.univ (ℓ := oLoc d) (fun p : Fin 2 × Fin 16 => oRowSet (wid p.1 p.2)) orows_disjoint, orows_cover]; try rfl

/-! ## What the call hands over -/

/-- What task `(c, i)` holds: its shares, and its block of the result at `f`. -/
abbrev tPts (d : Dev nD) (c : Fin 2) (i : Fin 16) (fi : Buf (Elt F) (iLoc d)) (fx : Buf (Elt F) (xLoc d)) (f : Buf (Elt F) (oLoc d)) : sProp 𝕄 :=
  iprop(iPts d (shr c i) fi ∗ xPts d (shr c i) fx ∗ oRowPts d (wid c i) f)
/-- What SparseCore `c`'s tasks hold together. -/
abbrev cPts (d : Dev nD) (c : Fin 2) (fi : Buf (Elt F) (iLoc d)) (fx : Buf (Elt F) (xLoc d)) (f : Buf (Elt F) (oLoc d)) : sProp 𝕄 := bigSep Finset.univ fun i : Fin 16 => tPts d c i fi fx f

def coordsV (c : Fin (grid3.bound 0)) (s : Fin (grid3.bound 1)) : grid3.Coords :=
  fun | 0 => c | 1 => s | ⟨_ + 2, h⟩ => absurd h (Nat.not_lt.2 (Nat.le_add_left _ _))

theorem bigSep_tasks (Φ : Fin 16 → sProp 𝕄) :
    (bigSep Finset.univ fun i : Fin ((K (F := F)).nSub 1) => Φ (Fin.cast nSub_1 i)) = bigSep Finset.univ Φ :=
  bigSep_congr fun _ _ => congrArg Φ (Fin.ext rfl)
theorem bigSep_cores (Φ : Fin 2 → sProp 𝕄) :
    (bigSep Finset.univ fun c : Fin ((K (F := F)).nCore 1) => Φ (Fin.cast nCore_1 c)) = bigSep Finset.univ Φ :=
  bigSep_congr fun _ _ => congrArg Φ (Fin.ext rfl)

/-- The tasks' holdings together: the two arrays that are read and the result. -/
theorem cores_eq (d : Dev nD) (fi : Buf (Elt F) (iLoc d)) (fx : Buf (Elt F) (xLoc d)) (f : Buf (Elt F) (oLoc d)) :
    (bigSep Finset.univ fun c : Fin ((K (F := F)).nCore 1) => cPts d (Fin.cast nCore_1 c) fi fx f)
      = (iprop((iLoc d ↦{fullShare} fi) ∗ (xLoc d ↦{fullShare} fx) ∗ oLoc d ↦{fullShare} f) : sProp 𝕄) := by
  refine (bigSep_cores (F := F) fun c => cPts d c fi fx f).trans ?_
  rw [pts_shares fi, pts_shares fx, oPts_rows]
  unfold cPts tPts
  simp only [bigSep_sep']

/-- A SparseCore's holdings are its tasks'. -/
theorem split (d : Dev nD) (c : Fin ((K (F := F)).nCore 1)) (fi : Buf (Elt F) (iLoc d)) (fx : Buf (Elt F) (xLoc d)) (f g : Buf (Elt F) (oLoc d)) :
    (cPts d (Fin.cast nCore_1 c) fi fx f : sProp 𝕄) ⊢ |={Set.univ}=> iprop(
      (bigSep Finset.univ fun i : Fin ((K (F := F)).nSub 1) => tPts d (Fin.cast nCore_1 c) (Fin.cast nSub_1 i) fi fx f)
      ∗ ((bigSep Finset.univ fun i : Fin ((K (F := F)).nSub 1) => tPts d (Fin.cast nCore_1 c) (Fin.cast nSub_1 i) fi fx g)
          -∗ cPts d (Fin.cast nCore_1 c) fi fx g)) := by
  rw [bigSep_tasks (F := F) (fun i => tPts d (Fin.cast nCore_1 c) i fi fx f),
    bigSep_tasks (F := F) (fun i => tPts d (Fin.cast nCore_1 c) i fi fx g)]
  iintro H; imodintro
  isplitl [H]; · iexact H
  iintro H; iexact H

end Cert.Proof.WholeFuse

end
-- ==== Proof.Whole.Host.lean ====
/-
  What @main's host operations compute: the queries and the keys with unit rows, the keys padded, and the changes of shape between the
  calls; and the values of the main thread's buffers from one call to the next.
-/
module

public import proofs.«01_k».proof.Proof.Whole.Select
public import proofs.«01_k».proof.Proof.Whole.Phase
public import proofs.«01_k».proof.Proof.WholeGather.Launch
public import proofs.«01_k».proof.Proof.WholeFuse.Launch

@[expose] public section

noncomputable section

namespace Cert.Proof.Whole

open Cert.WholeIdeal Cert.WholeIdeal.Gen

open Idealize.ShloMosaic Idealize.ShloMosaic.ValueIdx
open Idealize.ShloMosaic.TcCoe
open Idealize.ShloMosaic.StableHlo
open Idealize.SL.Sem

variable {F : FTy → Type} [FloatOps F] [Named F]

/-! ## What the host computes -/

/-- The queries, each row divided by its norm (or by 1e-8 where that is more). -/
def qn (a : S4096x128.Idx → F .f32) : S4096x128.Idx → F .f32 :=
  Host.divf a (broadcastInDim S4096x128 ![0, 1] bcast_S4096x1_S4096x128_0_1
    (maximumf (Host.sqrt (broadcastInDim S4096x1 ![0] bcast_S4096_S4096x1_0
        (Host.reduceAdd (mulf a a) (constant S_ .f32 0x00000000#32) reducesTo_S4096x128_S4096_d1 h_S_)))
      (broadcastInDim S4096x1 ![] bcast_S_S4096x1 (constant S_ .f32 0x322BCC77#32))))

/-- The keys, likewise. -/
def kn (a : S100000x128.Idx → F .f32) : S100000x128.Idx → F .f32 :=
  Host.divf a (broadcastInDim S100000x128 ![0, 1] bcast_S100000x1_S100000x128_0_1
    (maximumf (Host.sqrt (broadcastInDim S100000x1 ![0] bcast_S100000_S100000x1_0
        (Host.reduceAdd (mulf a a) (constant S_ .f32 0x00000000#32) reducesTo_S100000x128_S100000_d1 h_S_)))
      (broadcastInDim S100000x1 ![] bcast_S_S100000x1 (constant S_ .f32 0x322BCC77#32))))

/-- The keys with unit rows, padded to 102400 rows. -/
def knp (a : S100000x128.Idx → F .f32) : S102400x128.Idx → F .f32 :=
  pad S102400x128 ![0, 0] ![2400, 0] ![0, 0] (kn a) (sitofp .f32 (constantI S_ 32 0#32)) pads_S100000x128_S102400x128_024000_000 h_S_

/-! ## The operations between the calls -/

/-- The operations before the first call. -/
abbrev opsA : List (HloOp τ sig (Elt F)) :=
  [ TRef.binary (TRef.of (T := ⟨S4096x128, .f32⟩) main_arg0) (TRef.of (T := ⟨S4096x128, .f32⟩) main_arg0) (TRef.of (T := ⟨S4096x128, .f32⟩) main_call0_v0) mulf,
    TRef.nullary (TRef.of (T := ⟨S_, .f32⟩) main_call0_cst) (constant S_ .f32 0x00000000#32),
    TRef.binary (TRef.of (T := ⟨S4096x128, .f32⟩) main_call0_v0) (TRef.of (T := ⟨S_, .f32⟩) main_call0_cst) (TRef.of (T := ⟨S4096, .f32⟩) main_call0_v1) (fun x v => Host.reduceAdd x v reducesTo_S4096x128_S4096_d1 h_S_),
    TRef.unary (TRef.of (T := ⟨S4096, .f32⟩) main_call0_v1) (TRef.of (T := ⟨S4096x1, .f32⟩) main_call0_v2) (broadcastInDim S4096x1 ![0] bcast_S4096_S4096x1_0),
    TRef.unary (TRef.of (T := ⟨S4096x1, .f32⟩) main_call0_v2) (TRef.of (T := ⟨S4096x1, .f32⟩) main_v0) Host.sqrt,
    nullary main_cst (constant S_ .f32 0x322BCC77#32),
    unary main_cst main_v1 (broadcastInDim S4096x1 ![] bcast_S_S4096x1 : (⟨S_, .f32⟩ : BufTy).Contents (Elt F) → (⟨S4096x1, .f32⟩ : BufTy).Contents (Elt F)),
    binary main_v0 main_v1 main_v2 (maximumf : (⟨S4096x1, .f32⟩ : BufTy).Contents (Elt F) → (⟨S4096x1, .f32⟩ : BufTy).Contents (Elt F) → (⟨S4096x1, .f32⟩ : BufTy).Contents (Elt F)),
    unary main_v2 main_v3 (broadcastInDim S4096x128 ![0, 1] bcast_S4096x1_S4096x128_0_1 : (⟨S4096x1, .f32⟩ : BufTy).Contents (Elt F) → (⟨S4096x128, .f32⟩ : BufTy).Contents (Elt F)),
    binary main_arg0 main_v3 main_v4 (Host.divf : (⟨S4096x128, .f32⟩ : BufTy).Contents (Elt F) → (⟨S4096x128, .f32⟩ : BufTy).Contents (Elt F) → (⟨S4096x128, .f32⟩ : BufTy).Contents (Elt F)),
    TRef.binary (TRef.of (T := ⟨S100000x128, .f32⟩) main_arg1) (TRef.of (T := ⟨S100000x128, .f32⟩) main_arg1) (TRef.of (T := ⟨S100000x128, .f32⟩) main_call1_v0) mulf,
    TRef.nullary (TRef.of (T := ⟨S_, .f32⟩) main_call1_cst) (constant S_ .f32 0x00000000#32),
    TRef.binary (TRef.of (T := ⟨S100000x128, .f32⟩) main_call1_v0) (TRef.of (T := ⟨S_, .f32⟩) main_call1_cst) (TRef.of (T := ⟨S100000, .f32⟩) main_call1_v1) (fun x v => Host.reduceAdd x v reducesTo_S100000x128_S100000_d1 h_S_),
    TRef.unary (TRef.of (T := ⟨S100000, .f32⟩) main_call1_v1) (TRef.of (T := ⟨S100000x1, .f32⟩) main_call1_v2) (broadcastInDim S100000x1 ![0] bcast_S100000_S100000x1_0),
    TRef.unary (TRef.of (T := ⟨S100000x1, .f32⟩) main_call1_v2) (TRef.of (T := ⟨S100000x1, .f32⟩) main_v5) Host.sqrt,
    nullary main_cst_0 (constant S_ .f32 0x322BCC77#32),
    unary main_cst_0 main_v6 (broadcastInDim S100000x1 ![] bcast_S_S100000x1 : (⟨S_, .f32⟩ : BufTy).Contents (Elt F) → (⟨S100000x1, .f32⟩ : BufTy).Contents (Elt F)),
    binary main_v5 main_v6 main_v7 (maximumf : (⟨S100000x1, .f32⟩ : BufTy).Contents (Elt F) → (⟨S100000x1, .f32⟩ : BufTy).Contents (Elt F) → (⟨S100000x1, .f32⟩ : BufTy).Contents (Elt F)),
    unary main_v7 main_v8 (broadcastInDim S100000x128 ![0, 1] bcast_S100000x1_S100000x128_0_1 : (⟨S100000x1, .f32⟩ : BufTy).Contents (Elt F) → (⟨S100000x128, .f32⟩ : BufTy).Contents (Elt F)),
    binary main_arg1 main_v8 main_v9 (Host.divf : (⟨S100000x128, .f32⟩ : BufTy).Contents (Elt F) → (⟨S100000x128, .f32⟩ : BufTy).Contents (Elt F) → (⟨S100000x128, .f32⟩ : BufTy).Contents (Elt F)),
    nullary main_c (constantI S_ 32 0#32),
    TRef.unary (TRef.of (T := ⟨S_, .i32⟩) main_c) (TRef.of (T := ⟨S_, .f32⟩) main_call2_v0) (sitofp .f32),
    TRef.binary (TRef.of (T := ⟨S100000x128, .f32⟩) main_v9) (TRef.of (T := ⟨S_, .f32⟩) main_call2_v0) (TRef.of (T := ⟨S102400x128, .f32⟩) main_v10) (fun x v => pad S102400x128 ![0, 0] ![2400, 0] ![0, 0] x v pads_S100000x128_S102400x128_024000_000 h_S_) ]

/-- The operations between the first call and the second. -/
abbrev opsB : List (HloOp τ sig (Elt F)) :=
  [ unary main_v11 main_v12 ((transpose S8x512x40 [0, 2, 1] · transposes_S8x40x512_S8x512x40_0_2_1) : (⟨S8x40x512, .i32⟩ : BufTy).Contents (Elt F) → (⟨S8x512x40, .i32⟩ : BufTy).Contents (Elt F)),
    StableHlo.reshape main_v12 main_v13 (rfl : (.i32 : EltTy) = .i32) shapeCasts_S8x512x40_S4096x40,
    StableHlo.reshape main_v13 main_v14 (rfl : (.i32 : EltTy) = .i32) shapeCasts_S4096x40_S163840 ]

/-- The operation between the third call and the last. -/
abbrev opsC : List (HloOp τ sig (Elt F)) :=
  [ StableHlo.reshape main_v16 main_v17 (rfl : (.i32 : EltTy) = .i32) shapeCasts_S4096x5_S20480 ]

set_option maxRecDepth 8192 in
/-- @main: the operations and the calls in their order. -/
theorem main_eq (d : Dev nD) : main (F := F) d
    = (seq opsA >>= fun _ => Prog.lift (.customCall (SparseCore.inner (Pipeline.entry 0)) ()) >>= fun _ =>
        seq opsB >>= fun _ => (sc (F := F)).run d 0 >>= fun _ => Prog.lift (.customCall (SparseCore.inner (Pipeline.entry 1)) ()) >>= fun _ =>
        seq opsC >>= fun _ => (sc (F := F)).run d 1) := rfl

theorem sub_uc {op : HloOp τ sig (Elt F)} (h : op.bufs ⊆ tcRefs τ sig) : op.bufs ⊆ ucRefs :=
  fun b hb => Finset.mem_filter.mpr ⟨h hb, by rw [op.no_scoped b hb]; exact Bool.false_ne_true⟩

set_option maxRecDepth 16384 in
theorem opsA_sub : ∀ op ∈ (opsA : List (HloOp τ sig (Elt F))), op.bufs ⊆ ucRefs := by
  refine List.forall_iff_forall_mem.mp ?_
  refine ⟨sub_uc (binary_bufs_sub ..), sub_uc (nullary_bufs_sub ..), sub_uc (binary_bufs_sub ..), sub_uc (unary_bufs_sub ..), sub_uc (unary_bufs_sub ..), sub_uc (nullary_bufs_sub ..), sub_uc (unary_bufs_sub ..), sub_uc (binary_bufs_sub ..), sub_uc (unary_bufs_sub ..), sub_uc (binary_bufs_sub ..), sub_uc (binary_bufs_sub ..), sub_uc (nullary_bufs_sub ..), sub_uc (binary_bufs_sub ..), sub_uc (unary_bufs_sub ..), sub_uc (unary_bufs_sub ..), sub_uc (nullary_bufs_sub ..), sub_uc (unary_bufs_sub ..), sub_uc (binary_bufs_sub ..), sub_uc (unary_bufs_sub ..), sub_uc (binary_bufs_sub ..), sub_uc (nullary_bufs_sub ..), sub_uc (unary_bufs_sub ..), sub_uc (binary_bufs_sub ..)⟩
theorem opsB_sub : ∀ op ∈ (opsB : List (HloOp τ sig (Elt F))), op.bufs ⊆ ucRefs := by
  refine List.forall_iff_forall_mem.mp ?_
  exact ⟨sub_uc (unary_bufs_sub ..), sub_uc (reshape_bufs_sub ..), sub_uc (reshape_bufs_sub ..)⟩
theorem opsC_sub : ∀ op ∈ (opsC : List (HloOp τ sig (Elt F))), op.bufs ⊆ ucRefs := by
  refine List.forall_iff_forall_mem.mp ?_
  exact sub_uc (reshape_bufs_sub ..)

theorem opsA_fresh : ∀ op ∈ (opsA : List (HloOp τ sig (Elt F))), op.fresh = ∅ := by
  refine List.forall_iff_forall_mem.mp ?_
  exact ⟨rfl, rfl, rfl, rfl, rfl, rfl, rfl, rfl, rfl, rfl, rfl, rfl, rfl, rfl, rfl, rfl, rfl, rfl, rfl, rfl, rfl, rfl, rfl⟩
theorem opsB_fresh : ∀ op ∈ (opsB : List (HloOp τ sig (Elt F))), op.fresh = ∅ := by
  refine List.forall_iff_forall_mem.mp ?_
  exact ⟨rfl, rfl, rfl⟩
theorem opsC_fresh : ∀ op ∈ (opsC : List (HloOp τ sig (Elt F))), op.fresh = ∅ := by
  refine List.forall_iff_forall_mem.mp ?_
  exact (rfl : (StableHlo.reshape main_v16 main_v17 (rfl : (.i32 : EltTy) = .i32) shapeCasts_S4096x5_S20480 : HloOp τ sig (Elt F)).fresh = ∅)

/-! ## The values from one call to the next -/

/-- A valuation with one of the main thread's buffers replaced. -/
abbrev put1 (W : Valuation τ sig (Elt F)) (b : Ref sig .tc) (f : (Proc.devRef (τ := τ) .tc b).ty.Contents (Elt F)) : Valuation τ sig (Elt F) :=
  Function.update W (Proc.devRef .tc b) f

theorem put1_self (W : Valuation τ sig (Elt F)) (b : Ref sig .tc) (f : (Proc.devRef (τ := τ) .tc b).ty.Contents (Elt F)) :
    put1 W b f (Proc.devRef .tc b) = f := Function.update_self _ _ _
theorem put1_ne (W : Valuation τ sig (Elt F)) (b b' : Ref sig .tc) (f : (Proc.devRef (τ := τ) .tc b).ty.Contents (Elt F)) (h : b' ≠ b) :
    put1 W b f (Proc.devRef .tc b') = W (Proc.devRef .tc b') := Function.update_of_ne (fun e => h (Proc.devRef_injective _ e)) _ _

variable (m : (ℓ : Loc nD τ sig) → Buf (Elt F) ℓ)

def W0 (d : Dev nD) : Valuation τ sig (Elt F) := fun b => m (d, b)
def W1 (d : Dev nD) : Valuation τ sig (Elt F) := after opsA (W0 m d)
def W2 (d : Dev nD) : Valuation τ sig (Elt F) := put1 (W1 m d) main_v11 (phOut (fun c b => W1 m c b) d)
def W3 (d : Dev nD) : Valuation τ sig (Elt F) := after opsB (W2 m d)
def W4 (d : Dev nD) : Valuation τ sig (Elt F) := put1 (W3 m d) main_v15 (WholeGather.outVal (W3 m d main_v14) (W3 m d main_v10))
def W5 (d : Dev nD) : Valuation τ sig (Elt F) := put1 (W4 m d) main_v16 (selOut (fun c b => W4 m c b) d)
def W6 (d : Dev nD) : Valuation τ sig (Elt F) := after opsC (W5 m d)
def W7 (d : Dev nD) : Valuation τ sig (Elt F) := put1 (W6 m d) main_v18 (WholeFuse.outVal (W6 m d main_v17) (W6 m d main_arg2))

/-! ## What they are -/

set_option maxRecDepth 8192 in
set_option maxHeartbeats 2000000 in
theorem W1_q (d : Dev nD) : W1 m d main_v4 = qn (m ((SparseCore.T d).loc main_arg0)) := by
  unfold W1; simp only [opsA, TRef.binary, TRef.nullary, TRef.ternary, TRef.unary, TRef.toBuf, TRef.ofBuf, cast_eq]; after_results_simp <;> rfl
set_option maxRecDepth 8192 in
set_option maxHeartbeats 2000000 in
theorem W1_k (d : Dev nD) : W1 m d main_v10 = knp (m ((SparseCore.T d).loc main_arg1)) := by
  unfold W1; simp only [opsA, TRef.binary, TRef.nullary, TRef.ternary, TRef.unary, TRef.toBuf, TRef.ofBuf, cast_eq]; after_results_simp <;> rfl
set_option maxRecDepth 8192 in
theorem W1_arg0 (d : Dev nD) : W1 m d main_arg0 = m ((SparseCore.T d).loc main_arg0) := by
  unfold W1; simp only [opsA, TRef.binary, TRef.nullary, TRef.ternary, TRef.unary, TRef.toBuf, TRef.ofBuf, cast_eq]; after_results_simp <;> rfl
set_option maxRecDepth 8192 in
theorem W1_arg1 (d : Dev nD) : W1 m d main_arg1 = m ((SparseCore.T d).loc main_arg1) := by
  unfold W1; simp only [opsA, TRef.binary, TRef.nullary, TRef.ternary, TRef.unary, TRef.toBuf, TRef.ofBuf, cast_eq]; after_results_simp <;> rfl
set_option maxRecDepth 8192 in
theorem W1_arg2 (d : Dev nD) : W1 m d main_arg2 = m ((SparseCore.T d).loc main_arg2) := by
  unfold W1; simp only [opsA, TRef.binary, TRef.nullary, TRef.ternary, TRef.unary, TRef.toBuf, TRef.ofBuf, cast_eq]; after_results_simp <;> rfl

/-- A buffer that the operations between the first two calls do not write. -/
theorem W3_keep (d : Dev nD) (b : Ref sig .tc) (h : b ≠ main_v11) (h12 : b ≠ main_v12) (h13 : b ≠ main_v13) (h14 : b ≠ main_v14) :
    W3 m d b = W1 m d b := by
  have e : W3 m d b = W2 m d b := by
    unfold W3
    rw [after_cons, after_cons, after_cons, after_nil]
    rw [HloOp.result_of_not_mem _ _ (fun hw => h14 (Proc.devRef_injective _ (Finset.mem_singleton.mp hw))),
      HloOp.result_of_not_mem _ _ (fun hw => h13 (Proc.devRef_injective _ (Finset.mem_singleton.mp hw))),
      HloOp.result_of_not_mem _ _ (fun hw => h12 (Proc.devRef_injective _ (Finset.mem_singleton.mp hw)))]
  rw [e]; exact put1_ne _ _ _ _ h

/-- A buffer that the operation before the last call does not write. -/
theorem W6_keep (d : Dev nD) (b : Ref sig .tc) (h17 : b ≠ main_v17) : W6 m d b = W5 m d b := by
  unfold W6
  rw [after_cons, after_nil, HloOp.result_of_not_mem _ _ (fun hw => h17 (Proc.devRef_injective _ (Finset.mem_singleton.mp hw)))]

/-- The candidates' numbers, one row for each query. -/
def numbers (a0 : S4096x128.Idx → F .f32) (a1 : S100000x128.Idx → F .f32) : S4096x40.Idx → BitVec 32 :=
  shapeCast S4096x40 (transpose S8x512x40 [0, 2, 1] (phase (knp a1) (qn a0)) transposes_S8x40x512_S8x512x40_0_2_1) shapeCasts_S8x512x40_S4096x40

/-- The same in one list. -/
def listed (a0 : S4096x128.Idx → F .f32) (a1 : S100000x128.Idx → F .f32) : S163840.Idx → BitVec 32 :=
  shapeCast S163840 (numbers a0 a1) shapeCasts_S4096x40_S163840

/-- The five chosen numbers of each query. -/
def chosen (a0 : S4096x128.Idx → F .f32) (a1 : S100000x128.Idx → F .f32) : S4096x5.Idx → BitVec 32 :=
  sel (qn a0) (WholeGather.outVal (listed a0 a1) (knp a1)) (numbers a0 a1)

/-- The result of the kernel. -/
def result (a0 : S4096x128.Idx → F .f32) (a1 a2 : S100000x128.Idx → F .f32) : S4096x128.Idx → F .f32 :=
  WholeFuse.outVal (shapeCast S20480 (chosen a0 a1) shapeCasts_S4096x5_S20480) a2

theorem W3_13 (d : Dev nD) : W3 m d main_v13 = numbers (m ((SparseCore.T d).loc main_arg0)) (m ((SparseCore.T d).loc main_arg1)) := by
  have e : W3 m d main_v13 = shapeCast S4096x40 (transpose S8x512x40 [0, 2, 1] (W2 m d main_v11 : S8x40x512.Idx → BitVec 32) transposes_S8x40x512_S8x512x40_0_2_1) shapeCasts_S8x512x40_S4096x40 := by
    unfold W3; after_results_simp <;> rfl
  rw [e]
  unfold W2
  rw [put1_self, phOut_eq, W1_q, W1_k]; rfl

theorem W3_14 (d : Dev nD) : W3 m d main_v14 = listed (m ((SparseCore.T d).loc main_arg0)) (m ((SparseCore.T d).loc main_arg1)) := by
  have e : W3 m d main_v14 = shapeCast S163840 (W3 m d main_v13 : S4096x40.Idx → BitVec 32) shapeCasts_S4096x40_S163840 := by
    unfold W3; after_results_simp <;> rfl
  rw [e, W3_13]; rfl

theorem W3_10 (d : Dev nD) : W3 m d main_v10 = knp (m ((SparseCore.T d).loc main_arg1)) :=
  (W3_keep m d _ (by decide) (by decide) (by decide) (by decide)).trans (W1_k m d)

theorem W5_16 (d : Dev nD) : W5 m d main_v16 = chosen (m ((SparseCore.T d).loc main_arg0)) (m ((SparseCore.T d).loc main_arg1)) := by
  unfold W5
  rw [put1_self, selOut_eq]
  have h4 : W4 m d main_v4 = qn (m ((SparseCore.T d).loc main_arg0)) :=
    (put1_ne _ _ _ _ (by decide)).trans ((W3_keep m d _ (by decide) (by decide) (by decide) (by decide)).trans (W1_q m d))
  have h13 : W4 m d main_v13 = numbers (m ((SparseCore.T d).loc main_arg0)) (m ((SparseCore.T d).loc main_arg1)) :=
    (put1_ne _ _ _ _ (by decide)).trans (W3_13 m d)
  have h15 : W4 m d main_v15 = WholeGather.outVal (listed (m ((SparseCore.T d).loc main_arg0)) (m ((SparseCore.T d).loc main_arg1))) (knp (m ((SparseCore.T d).loc main_arg1))) := by
    unfold W4; rw [put1_self, W3_14, W3_10]
  rw [h4, h13, h15]; rfl

theorem W6_17 (d : Dev nD) : W6 m d main_v17
    = shapeCast S20480 (chosen (m ((SparseCore.T d).loc main_arg0)) (m ((SparseCore.T d).loc main_arg1))) shapeCasts_S4096x5_S20480 := by
  have e : W6 m d main_v17 = shapeCast S20480 (W5 m d main_v16 : S4096x5.Idx → BitVec 32) shapeCasts_S4096x5_S20480 := by
    unfold W6; after_results_simp <;> rfl
  rw [e, W5_16]

/-- A buffer that nothing after the first host operations writes. -/
theorem W6_low (d : Dev nD) (b : Ref sig .tc) (h : b ∉ ([main_v11, main_v12, main_v13, main_v14, main_v15, main_v16, main_v17] : List (Ref sig .tc))) :
    W6 m d b = W1 m d b := by
  simp only [List.mem_cons, List.not_mem_nil, not_or, or_false] at h
  obtain ⟨h1, h2, h3, h4, h5, h6, h7⟩ := h
  rw [W6_keep m d b h7]
  exact (put1_ne _ _ _ _ h6).trans ((put1_ne _ _ _ _ h5).trans (W3_keep m d b h1 h2 h3 h4))

theorem W7_18 (d : Dev nD) : W7 m d main_v18
    = result (m ((SparseCore.T d).loc main_arg0)) (m ((SparseCore.T d).loc main_arg1)) (m ((SparseCore.T d).loc main_arg2)) := by
  unfold W7; rw [put1_self, W6_17, W6_low m d main_arg2 (by decide), W1_arg2]; rfl
theorem W7_arg0 (d : Dev nD) : W7 m d main_arg0 = m ((SparseCore.T d).loc main_arg0) :=
  (put1_ne _ _ _ _ (by decide)).trans ((W6_low m d main_arg0 (by decide)).trans (W1_arg0 m d))
theorem W7_arg1 (d : Dev nD) : W7 m d main_arg1 = m ((SparseCore.T d).loc main_arg1) :=
  (put1_ne _ _ _ _ (by decide)).trans ((W6_low m d main_arg1 (by decide)).trans (W1_arg1 m d))
theorem W7_arg2 (d : Dev nD) : W7 m d main_arg2 = m ((SparseCore.T d).loc main_arg2) :=
  (put1_ne _ _ _ _ (by decide)).trans ((W6_low m d main_arg2 (by decide)).trans (W1_arg2 m d))

end Cert.Proof.Whole

end
-- ==== Proof.Whole.Launch.lean ====
/-
  The launch of the whole kernel: @main's host operations, its two TensorCore calls as regions of the main thread, and its two
  SparseCore calls, in their order. The main thread holds its buffers at the valuations `W0` … `W7`; each SparseCore call takes
  the three buffers it works on out of them and brings them back. At the end the result's buffer holds `result` of the arguments, the
  arguments are as they were and every semaphore counter is zero.
-/
module

public import proofs.«01_k».proof.Proof.Whole.Host

@[expose] public section

noncomputable section

namespace Cert.Proof.Whole

open Cert.WholeIdeal Cert.WholeIdeal.Gen

open Idealize.ShloMosaic Idealize.ShloMosaic.ValueIdx
open Idealize.ShloMosaic.TcCoe
open Idealize.ShloMosaic.SparseCore (S V T)
open Idealize.ShloMosaic.SparseCore.Cfg (HIx Pay tileRest)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held seq after)

variable {F : FTy → Type} [FloatOps F] [Named F] (m : (ℓ : Loc nD τ sig) → Buf (Elt F) ℓ) (ρ : Dev nD → PrngReg)

local notation "𝕄" => MM F

/-! ## What the SparseCore calls hand over -/

/-- The lists of row numbers and the tables that the two calls read, what the result's buffers hold before and after. -/
abbrev gi (d : Dev nD) : Buf (Elt F) (WholeGather.iLoc d) := W3 m d main_v14
abbrev gx (d : Dev nD) : Buf (Elt F) (WholeGather.xLoc d) := W3 m d main_v10
abbrev go₀ (d : Dev nD) : Buf (Elt F) (WholeGather.oLoc d) := W3 m d main_v15
abbrev go₁ (d : Dev nD) : Buf (Elt F) (WholeGather.oLoc d) := WholeGather.outVal (gi m d) (gx m d)
abbrev fi (d : Dev nD) : Buf (Elt F) (WholeFuse.iLoc d) := W6 m d main_v17
abbrev fx (d : Dev nD) : Buf (Elt F) (WholeFuse.xLoc d) := W6 m d main_arg2
abbrev fo₀ (d : Dev nD) : Buf (Elt F) (WholeFuse.oLoc d) := W6 m d main_v18
abbrev fo₁ (d : Dev nD) : Buf (Elt F) (WholeFuse.oLoc d) := WholeFuse.outVal (fi m d) (fx m d)

def P : (K (F := F)).Pay (nD := nD) (Val := Elt F) (Name := ℕ) (U := UU) where
  st := fun q d c => match q with
    | 0 => WholeGather.cPts d (Fin.cast nCore_0 c) (gi m d) (gx m d) (go₀ m d)
    | 1 => WholeFuse.cPts d (Fin.cast nCore_1 c) (fi m d) (fx m d) (fo₀ m d)
  dn := fun q d c => match q with
    | 0 => WholeGather.cPts d (Fin.cast nCore_0 c) (gi m d) (gx m d) (go₁ m d)
    | 1 => WholeFuse.cPts d (Fin.cast nCore_1 c) (fi m d) (fx m d) (fo₁ m d)
  go := fun q d c i => match q with
    | 0 => WholeGather.tPts d (Fin.cast nCore_0 c) (Fin.cast nSub_0 i) (gi m d) (gx m d) (go₀ m d)
    | 1 => WholeFuse.tPts d (Fin.cast nCore_1 c) (Fin.cast nSub_1 i) (fi m d) (fx m d) (fo₀ m d)
  td := fun q d c i => match q with
    | 0 => WholeGather.tPts d (Fin.cast nCore_0 c) (Fin.cast nSub_0 i) (gi m d) (gx m d) (go₁ m d)
    | 1 => WholeFuse.tPts d (Fin.cast nCore_1 c) (Fin.cast nSub_1 i) (fi m d) (fx m d) (fo₁ m d)
  x := fun _ _ => iprop(emp)

instance P_storable : (P (F := F) m).IsStorable where
  st q d c := match q with
    | 0 => (inferInstance : BI.Storable (upEmb : UEmb _ 𝕄) (WholeGather.cPts d (Fin.cast nCore_0 c) (gi m d) (gx m d) (go₀ m d)))
    | 1 => (inferInstance : BI.Storable (upEmb : UEmb _ 𝕄) (WholeFuse.cPts d (Fin.cast nCore_1 c) (fi m d) (fx m d) (fo₀ m d)))
  dn q d c := match q with
    | 0 => (inferInstance : BI.Storable (upEmb : UEmb _ 𝕄) (WholeGather.cPts d (Fin.cast nCore_0 c) (gi m d) (gx m d) (go₁ m d)))
    | 1 => (inferInstance : BI.Storable (upEmb : UEmb _ 𝕄) (WholeFuse.cPts d (Fin.cast nCore_1 c) (fi m d) (fx m d) (fo₁ m d)))
  go q d c i := match q with
    | 0 => (inferInstance : BI.Storable (upEmb : UEmb _ 𝕄) (WholeGather.tPts d (Fin.cast nCore_0 c) (Fin.cast nSub_0 i) (gi m d) (gx m d) (go₀ m d)))
    | 1 => (inferInstance : BI.Storable (upEmb : UEmb _ 𝕄) (WholeFuse.tPts d (Fin.cast nCore_1 c) (Fin.cast nSub_1 i) (fi m d) (fx m d) (fo₀ m d)))
  td q d c i := match q with
    | 0 => (inferInstance : BI.Storable (upEmb : UEmb _ 𝕄) (WholeGather.tPts d (Fin.cast nCore_0 c) (Fin.cast nSub_0 i) (gi m d) (gx m d) (go₁ m d)))
    | 1 => (inferInstance : BI.Storable (upEmb : UEmb _ 𝕄) (WholeFuse.tPts d (Fin.cast nCore_1 c) (Fin.cast nSub_1 i) (fi m d) (fx m d) (fo₁ m d)))

/-- What the proof asks of the launch memory: the row numbers that the calls compute are rows of the tables. -/
def PreOK : Prop := ∀ d : Dev nD,
  (∀ j : S163840.Idx, (listed (m ((SparseCore.T d).loc main_arg0)) (m ((SparseCore.T d).loc main_arg1)) j).toNat < 102400)
  ∧ ∀ j : S4096x5.Idx, (chosen (m ((SparseCore.T d).loc main_arg0)) (m ((SparseCore.T d).loc main_arg1)) j).toNat < 100000

theorem gi_lt (hpre : PreOK m) (d : Dev nD) (j : S163840.Idx) : (gi m d j : BitVec 32).toNat < 102400 := by
  have h := (hpre d).1 j
  rw [← W3_14] at h; exact h
theorem fi_lt (hpre : PreOK m) (d : Dev nD) (j : S20480.Idx) : (fi m d j : BitVec 32).toNat < 100000 := by
  have h : ((W6 m d main_v17 : S20480.Idx → BitVec 32) j).toNat < 100000 := by rw [W6_17]; exact (hpre d).2 _
  exact h

/-! ## The tasks -/

theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem gather_vector (c : Fin τ.nSC) (s : Fin τ.nSub) :
    defs₀ (F := F) (.scVector c s) 1 () = SparseCore.onTile hcore1 hsub1 (fun c s => WholeGather.task (WholeGather.coordsV c s)) ⟨⟩ c s := by
  simp only [← WholeGather.body_eq]; rfl

set_option maxRecDepth 16384 in
theorem tileObl0 (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [gather_vector]; simp only [SparseCore.onTile, hci, and_self, ↓reduceDIte]
  exact (WholeGather.tile_body d (WholeGather.coordsV ⟨_, hci.1⟩ ⟨_, hci.2⟩) hF _ _ (gi m d) (gx m d) (go₀ m d) (gi_lt m hpre d) O W hO).trans
    (wp_mono frame _ _ fun _ => obl_post)

local notation "iV" => (Memref.whole Cert.WholeIdeal.main_v17_scv : Memref Cert.WholeIdeal.sig Kind.scVector Space.hbm Cert.WholeIdeal.S20480 EltTy.i32)
local notation "xV" => (Memref.whole Cert.WholeIdeal.main_arg2_scv : Memref Cert.WholeIdeal.sig Kind.scVector Space.hbm Cert.WholeIdeal.S100000x128 EltTy.f32)
local notation "oV" => (Memref.whole Cert.WholeIdeal.main_v18_scv : Memref Cert.WholeIdeal.sig Kind.scVector Space.hbm Cert.WholeIdeal.S4096x128 EltTy.f32)
local notation "sV" => (Memref.whole Cert.WholeIdeal.cc3_scratch0 : Memref Cert.WholeIdeal.sig Kind.scVector Space.vmem Cert.WholeIdeal.S640 EltTy.i32)
local notation "rV" => (Memref.whole Cert.WholeIdeal.cc3_scratch1 : Memref Cert.WholeIdeal.sig Kind.scVector Space.vmem Cert.WholeIdeal.S640x128 EltTy.f32)
local notation "bV" => (Memref.whole Cert.WholeIdeal.cc3_scratch2 : Memref Cert.WholeIdeal.sig Kind.scVector Space.vmem Cert.WholeIdeal.S128x128 EltTy.f32)

theorem fuse_vector (c : Fin τ.nSC) (s : Fin τ.nSub) :
    defs₀ (F := F) (.scVector c s) 3 ()
      = SparseCore.onTile hcore3 hsub3 (fun c s => cc3_sc2 (WholeFuse.coordsV c s)
          iV (Memref.isWhole_whole _) xV (Memref.isWhole_whole _) oV (Memref.isWhole_whole _)
          sV (Memref.isWhole_whole _) rV (Memref.isWhole_whole _) bV (Memref.isWhole_whole _) cc3_scratch3 cc3_scoped0 cc3_scoped1) ⟨⟩ c s := rfl

set_option maxRecDepth 16384 in
theorem tileObl1 (hF : (K (F := F)).Facts) (hpre : PreOK m) : (K (F := F)).TileObl (D (F := F)) 𝒱 (P m) v₀ 1 := by
  intro d c i O W hO _ _
  simp only [show (P m).ox = fun _ _ => 0 from rfl, add_zero]
  have hci : ((K (F := F)).core 1 c).val < grid3.bound 0 ∧ ((K (F := F)).sub 1 i).val < grid3.bound 1 := ⟨c.isLt, i.isLt⟩
  change _ ⊢ wp _ _ _ (Pipeline.liftProg (defs₀ (F := F) (.scVector ((K (F := F)).core 1 c) ((K (F := F)).sub 1 i)) 3 ())) _
  refine BI.Entails.trans ?_ (Pipeline.wp_liftProg (D (F := F)) (Pipeline.defs_kernel pcfgs defs₀) 𝒱₀ _ Set.univ none _ _)
  rw [fuse_vector]; simp only [SparseCore.onTile, hci, and_self, ↓reduceDIte]
  exact (WholeFuse.tile_body d (WholeFuse.coordsV ⟨_, hci.1⟩ ⟨_, hci.2⟩) hF _ _ (fi m d) (fx m d) (fo₀ m d) (fi_lt m hpre d) O W hO).trans
    (wp_mono frame _ _ fun _ => obl_post)

theorem vecSplit0 : (K (F := F)).VecSplit' (P m) 0 := fun d c => WholeGather.split d c (gi m d) (gx m d) (go₀ m d) (go₁ m d)
theorem vecSplit1 : (K (F := F)).VecSplit' (P m) 1 := fun d c => WholeFuse.split d c (fi m d) (fx m d) (fo₀ m d) (fo₁ m d)

/-! ## The launch element of the certificate's ghost state -/

/-- The pipelines' launch element. -/
def uP : UP := initOf (Pipeline.cells (nD := nD) (τ := τ) (Pipeline.pin (pcfgs (F := F)) adm) cellOf_inj) (Pipeline.launchToks (nD := nD) (τ := τ) (Pipeline.pin (pcfgs (F := F)) adm) cellOf_inj)

def u₀ : UU := (initOf (K (F := F)).hsCells (K (F := F)).hsToks, (uP (F := F), 1))

/-- What the launch deals device `d`'s main thread: both pipelines' ghost state. -/
abbrev G (d : Dev nD) : sProp 𝕄 :=
  iprop((bigSep Finset.univ fun p : Fin 2 => Pipeline.cellsGhost (Pipeline.pin (pcfgs (F := F)) adm) EP p d)
    ∗ bigSep Finset.univ fun p : Fin 2 => Pipeline.toksInit (Pipeline.pin (pcfgs (F := F)) adm) EP p d)

theorem bigSep_fin2 (Φ : Fin 2 → sProp 𝕄) : bigSep Finset.univ Φ = iprop(Φ 0 ∗ Φ 1) := by
  rw [show (Finset.univ : Finset (Fin 2)) = {0, 1} from rfl, SparseCore.bigSep_insert' (by decide), bigSep_singleton]

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 2 => (P m).x q thr) := by
  unfold u₀
  iintro Hu
  ihave H := (ownU_pair (initOf (K (F := F)).hsCells (K (F := F)).hsToks) ((uP (F := F), (1 : Counters)))) $$ Hu
  icases H with ⟨HH, HR⟩
  ihave H := (own_pair_emb (embR : Emb (UP × Counters) (MT nD τ sig (HIx 2) (Elt F) ℕ UU ℕ)) (uP (F := F)) (1 : Counters)) $$ HR
  icases H with ⟨HP, -⟩
  ihave HP := (show (BI.own (((Emb.inl : Emb UP (UP × Counters)).trans embR) (uP (F := F))) : sProp 𝕄)
      ⊢ BI.own (EP (initOf (Pipeline.cells (nD := nD) (τ := τ) (Pipeline.pin (pcfgs (F := F)) adm) cellOf_inj) (Pipeline.launchToks (nD := nD) (τ := τ) (Pipeline.pin (pcfgs (F := F)) adm) cellOf_inj)))
      from BI.Entails.refl _) $$ HP
  imod (Pipeline.fund_ghost (Pipeline.pin (pcfgs (F := F)) adm) EP cellOf_inj) $$ HP with ⟨Hg, Ht⟩
  imodintro
  isplitl [HH]; · iexact HH
  isplitl [Hg Ht]
  · simp only [bigSep_sep']
    isplitl [Hg]; · iexact Hg
    iexact Ht
  rw [show (bigSep Finset.univ fun thr : Thread nD τ => bigSep Finset.univ fun q : Fin 2 => (P (F := F) m).x q thr) = bigSep Finset.univ fun _ => iprop(emp) from
    bigSep_congr fun _ _ => bigSep_emp' _, bigSep_emp']
  iempintro

/-! ## The calls on the main thread -/

/-- A TensorCore call of @main, by its region. -/
theorem wp_region {p : Fin 2} {pdats} (R : Pipeline.RegionSeg (pcfgs (F := F)) adm pdats none defs₀ 𝒱₀ (K (F := F)).L (K (F := F)).lev p) (d : Dev nD)
    {β : Type} (k : PUnit → Prog (TpuEff nD τ sig (Elt F) (SparseCore.Sig (ΛP (F := F)) 2) .tc) β) (Φ : β → sProp 𝕄) :
    iprop(boundary (T d) ∗ R.pre d ∗ levAts (K (F := F)).L (K (F := F)).lev
        ∗ Pipeline.cellsGhost (Pipeline.pin (pcfgs (F := F)) adm) EP p d ∗ Pipeline.toksInit (Pipeline.pin (pcfgs (F := F)) adm) EP p d)
      ⊢ iprop((iprop(boundary (T d) ∗ R.post d) -∗ wp frame (wpE ((K (F := F)).defs (D (F := F))) 𝒱 (T d) none) Set.univ (k ⟨⟩) Φ)
        -∗ wp frame (wpE ((K (F := F)).defs (D (F := F))) 𝒱 (T d) none) Set.univ (Prog.lift (.customCall (SparseCore.inner (Pipeline.entry p)) ()) >>= k) Φ) := by
  rw [wp_bind]
  iintro ⟨Hb, Hpre, Hlv, Hg, Ht⟩ Hk
  iapply ((K (F := F)).wp_liftProg (D (F := F)) 𝒱 (T d) Set.univ none (.op (.customCall (Pipeline.entry p) ()) .ret) _)
  iapply (Pipeline.RegionSeg.wp (pcfgs (F := F)) adm pdats none cellOf_inj EP defs₀ 𝒱₀ (K (F := F)).L (K (F := F)).lev R d none (fun u h => nomatch h) .ret _)
  isplitl [Hk]
  · iintro H
    rw [wp_ret]; imodintro
    iapply Hk; iexact H
  isplitl [Hb]; · iexact Hb
  isplitl [Hpre]; · iexact Hpre
  isplitl [Hlv]; · iexact Hlv
  isplitl [Hg]; · iexact Hg
  iexact Ht

/-! ## The three buffers of a SparseCore call, taken out and put back -/

abbrev g3 : Finset (DevRef τ sig) := {Proc.devRef .tc main_v14, Proc.devRef .tc main_v10, Proc.devRef .tc main_v15}
abbrev f3 : Finset (DevRef τ sig) := {Proc.devRef .tc main_v17, Proc.devRef .tc main_arg2, Proc.devRef .tc main_v18}

theorem mem_uc (b : Ref sig .tc) (h : ¬ b.isScoped) : Proc.devRef (τ := τ) .tc b ∈ ucRefs := by
  refine Finset.mem_filter.mpr ⟨StableHlo.devRef_mem_tcRefs b, ?_⟩
  exact h
theorem g3_sub : g3 ⊆ ucRefs := by
  intro b hb
  simp only [Finset.mem_insert, Finset.mem_singleton] at hb
  rcases hb with rfl | rfl | rfl <;> exact mem_uc _ (by decide)
theorem f3_sub : f3 ⊆ ucRefs := by
  intro b hb
  simp only [Finset.mem_insert, Finset.mem_singleton] at hb
  rcases hb with rfl | rfl | rfl <;> exact mem_uc _ (by decide)

theorem held_g3 (d : Dev nD) (V : Valuation τ sig (Elt F)) : (held (T d) g3 V : sProp 𝕄)
    = iprop((WholeGather.iLoc d ↦{fullShare} V main_v14) ∗ (WholeGather.xLoc d ↦{fullShare} V main_v10) ∗ WholeGather.oLoc d ↦{fullShare} V main_v15) := by
  unfold held
  rw [SparseCore.bigSep_insert' (by decide), SparseCore.bigSep_insert' (by decide), bigSep_singleton]
theorem held_f3 (d : Dev nD) (V : Valuation τ sig (Elt F)) : (held (T d) f3 V : sProp 𝕄)
    = iprop((WholeFuse.iLoc d ↦{fullShare} V main_v17) ∗ (WholeFuse.xLoc d ↦{fullShare} V main_arg2) ∗ WholeFuse.oLoc d ↦{fullShare} V main_v18) := by
  unfold held
  rw [SparseCore.bigSep_insert' (by decide), SparseCore.bigSep_insert' (by decide), bigSep_singleton]

theorem take_g3 (d : Dev nD) : (held (T d) ucRefs (W3 m d) : sProp 𝕄)
    = iprop(((WholeGather.iLoc d ↦{fullShare} gi m d) ∗ (WholeGather.xLoc d ↦{fullShare} gx m d) ∗ WholeGather.oLoc d ↦{fullShare} go₀ m d)
        ∗ held (T d) (ucRefs \ g3) (W3 m d)) := by
  rw [StableHlo.held_sub_split (T d) g3_sub, held_g3]
theorem back_g3 (d : Dev nD) : (held (T d) ucRefs (W4 m d) : sProp 𝕄)
    = iprop(((WholeGather.iLoc d ↦{fullShare} gi m d) ∗ (WholeGather.xLoc d ↦{fullShare} gx m d) ∗ WholeGather.oLoc d ↦{fullShare} go₁ m d)
        ∗ held (T d) (ucRefs \ g3) (W3 m d)) := by
  rw [StableHlo.held_sub_split (T d) g3_sub, held_g3]
  have h1 : W4 m d main_v14 = W3 m d main_v14 := put1_ne _ _ _ _ (by decide)
  have h2 : W4 m d main_v10 = W3 m d main_v10 := put1_ne _ _ _ _ (by decide)
  have hr : (held (T d) (ucRefs \ g3) (W4 m d) : sProp 𝕄) = held (T d) (ucRefs \ g3) (W3 m d) := by
    unfold held
    refine bigSep_congr fun b hb => ?_
    have hne : b ≠ Proc.devRef .tc main_v15 := fun e => (Finset.mem_sdiff.mp hb).2 (by rw [e]; exact Finset.mem_insert_of_mem (Finset.mem_insert_of_mem (Finset.mem_singleton_self _)))
    have e : W4 m d b = W3 m d b := Function.update_of_ne hne _ _
    rw [e]
  have h3 : W4 m d main_v15 = go₁ m d := put1_self _ _ _
  rw [hr, h1, h2, h3]

theorem take_f3 (d : Dev nD) : (held (T d) ucRefs (W6 m d) : sProp 𝕄)
    = iprop(((WholeFuse.iLoc d ↦{fullShare} fi m d) ∗ (WholeFuse.xLoc d ↦{fullShare} fx m d) ∗ WholeFuse.oLoc d ↦{fullShare} fo₀ m d)
        ∗ held (T d) (ucRefs \ f3) (W6 m d)) := by
  rw [StableHlo.held_sub_split (T d) f3_sub, held_f3]
theorem back_f3 (d : Dev nD) : (held (T d) ucRefs (W7 m d) : sProp 𝕄)
    = iprop(((WholeFuse.iLoc d ↦{fullShare} fi m d) ∗ (WholeFuse.xLoc d ↦{fullShare} fx m d) ∗ WholeFuse.oLoc d ↦{fullShare} fo₁ m d)
        ∗ held (T d) (ucRefs \ f3) (W6 m d)) := by
  rw [StableHlo.held_sub_split (T d) f3_sub, held_f3]
  have h1 : W7 m d main_v17 = W6 m d main_v17 := put1_ne _ _ _ _ (by decide)
  have h2 : W7 m d main_arg2 = W6 m d main_arg2 := put1_ne _ _ _ _ (by decide)
  have hr : (held (T d) (ucRefs \ f3) (W7 m d) : sProp 𝕄) = held (T d) (ucRefs \ f3) (W6 m d) := by
    unfold held
    refine bigSep_congr fun b hb => ?_
    have hne : b ≠ Proc.devRef .tc main_v18 := fun e => (Finset.mem_sdiff.mp hb).2 (by rw [e]; exact Finset.mem_insert_of_mem (Finset.mem_insert_of_mem (Finset.mem_singleton_self _)))
    have e : W7 m d b = W6 m d b := Function.update_of_ne hne _ _
    rw [e]
  have h3 : W7 m d main_v18 = fo₁ m d := put1_self _ _ _
  rw [hr, h1, h2, h3]

/-- The four buffers that the claims read. -/
abbrev r4 : Finset (DevRef τ sig) := {Proc.devRef .tc main_arg0, Proc.devRef .tc main_arg1, Proc.devRef .tc main_arg2, Proc.devRef .tc main_v18}
theorem r4_sub : r4 ⊆ ucRefs := by
  intro b hb
  simp only [Finset.mem_insert, Finset.mem_singleton] at hb
  rcases hb with rfl | rfl | rfl | rfl <;> exact mem_uc _ (by decide)

/-- The arrays of the claims. -/
abbrev l0 (d : Dev nD) : Loc nD τ sig := (SparseCore.T d).loc main_arg0
abbrev l1 (d : Dev nD) : Loc nD τ sig := (SparseCore.T d).loc main_arg1
abbrev l2 (d : Dev nD) : Loc nD τ sig := (SparseCore.T d).loc main_arg2
abbrev lo (d : Dev nD) : Loc nD τ sig := (SparseCore.T d).loc main_v18

/-- The result. -/
def res (d : Dev nD) : Buf (Elt F) (lo d) := result (m (l0 d)) (m (l1 d)) (m (l2 d))

/-- What @main leaves: the arguments as they were, the result computed. -/
abbrev FIN (d : Dev nD) : sProp 𝕄 :=
  iprop((l0 d ↦{fullShare} m (l0 d)) ∗ (l1 d ↦{fullShare} m (l1 d)) ∗ (l2 d ↦{fullShare} m (l2 d)) ∗ lo d ↦{fullShare} res m d)

theorem take_r4 (d : Dev nD) : (held (T d) ucRefs (W7 m d) : sProp 𝕄) = iprop(FIN m d ∗ held (T d) (ucRefs \ r4) (W7 m d)) := by
  rw [StableHlo.held_sub_split (T d) r4_sub]
  unfold held
  rw [SparseCore.bigSep_insert' (by decide), SparseCore.bigSep_insert' (by decide), SparseCore.bigSep_insert' (by decide), bigSep_singleton]
  rw [W7_18, W7_arg0, W7_arg1, W7_arg2]; rfl

/-! ## The SparseCore calls' payloads -/

theorem st0_eq (d : Dev nD) : (bigSep Finset.univ fun c : Fin ((K (F := F)).nCore 0) => (P m).st 0 d c)
    = iprop((WholeGather.iLoc d ↦{fullShare} gi m d) ∗ (WholeGather.xLoc d ↦{fullShare} gx m d) ∗ WholeGather.oLoc d ↦{fullShare} go₀ m d) :=
  WholeGather.cores_eq d _ _ _
theorem dn0_eq (d : Dev nD) : (bigSep Finset.univ fun c : Fin ((K (F := F)).nCore 0) => (P m).dn 0 d c)
    = iprop((WholeGather.iLoc d ↦{fullShare} gi m d) ∗ (WholeGather.xLoc d ↦{fullShare} gx m d) ∗ WholeGather.oLoc d ↦{fullShare} go₁ m d) :=
  WholeGather.cores_eq d _ _ _
theorem st1_eq (d : Dev nD) : (bigSep Finset.univ fun c : Fin ((K (F := F)).nCore 1) => (P m).st 1 d c)
    = iprop((WholeFuse.iLoc d ↦{fullShare} fi m d) ∗ (WholeFuse.xLoc d ↦{fullShare} fx m d) ∗ WholeFuse.oLoc d ↦{fullShare} fo₀ m d) :=
  WholeFuse.cores_eq d _ _ _
theorem dn1_eq (d : Dev nD) : (bigSep Finset.univ fun c : Fin ((K (F := F)).nCore 1) => (P m).dn 1 d c)
    = iprop((WholeFuse.iLoc d ↦{fullShare} fi m d) ∗ (WholeFuse.xLoc d ↦{fullShare} fx m d) ∗ WholeFuse.oLoc d ↦{fullShare} fo₁ m d) :=
  WholeFuse.cores_eq d _ _ _

/-! ## The regions -/

/-- The first TensorCore call's region. -/
def reg0 := phReg (F := F) (fun c b => W1 m c b) (fun c b => W2 m c b) (fun _ => put1_self _ _ _) (fun _ b h => put1_ne _ _ b _ h)
/-- The second's. -/
def reg1 := selReg (F := F) (fun c b => W4 m c b) (fun c b => W5 m c b) (fun _ => put1_self _ _ _) (fun _ b h => put1_ne _ _ b _ h)

theorem reg0_pre (d : Dev nD) : (reg0 m).pre d = iprop(held (T d) ucRefs (W1 m d) ∗ owesTc d 0) := by
  rw [← unscopedBufs_held d (W1 m d)]; rfl
theorem reg0_post (d : Dev nD) : (reg0 m).post d = iprop(held (T d) ucRefs (W2 m d) ∗ owesTc d 0) := by
  rw [← unscopedBufs_held d (W2 m d)]; rfl
theorem reg1_pre (d : Dev nD) : (reg1 m).pre d = iprop(held (T d) ucRefs (W4 m d) ∗ owesTc d 1) := by
  rw [← unscopedBufs_held d (W4 m d)]; rfl
theorem reg1_post (d : Dev nD) : (reg1 m).post d = iprop(held (T d) ucRefs (W5 m d) ∗ owesTc d 1) := by
  rw [← unscopedBufs_held d (W5 m d)]; rfl

theorem G_eq (d : Dev nD) : (G d : sProp 𝕄)
    = iprop((Pipeline.cellsGhost (Pipeline.pin (pcfgs (F := F)) adm) EP 0 d ∗ Pipeline.cellsGhost (Pipeline.pin (pcfgs (F := F)) adm) EP 1 d)
      ∗ Pipeline.toksInit (Pipeline.pin (pcfgs (F := F)) adm) EP 0 d ∗ Pipeline.toksInit (Pipeline.pin (pcfgs (F := F)) adm) EP 1 d) := by
  unfold G
  rw [bigSep_fin2, bigSep_fin2]

theorem after3 (d : Dev nD) : (held (d.tc : Thread nD τ) ucRefs (after opsB (W2 m d)) : sProp 𝕄) = held (SparseCore.T d) ucRefs (W3 m d) := rfl
theorem after6 (d : Dev nD) : (held (d.tc : Thread nD τ) ucRefs (after opsC (W5 m d)) : sProp 𝕄) = held (SparseCore.T d) ucRefs (W6 m d) := rfl

/-- The main thread's buffers at the launch. -/
theorem start_held (d : Dev nD) : (unscopedBufs d (fun b => m ((SparseCore.T d).loc b)) : sProp 𝕄) = held (T d) ucRefs (W0 m d) := by
  rw [← unscopedBufs_held d (W0 m d)]; rfl

/-- What the main thread owes, taken out of its state in the protocol of the calls. -/
theorem tcSt_owes (d : Dev nD) (n : ℕ) : ∃ R : sProp 𝕄, ((K (F := F)).tcSt EH d n : sProp 𝕄) = iprop(owesTc d n ∗ R) := by
  unfold SparseCore.Cfg.tcSt owesTc
  exact ⟨_, rfl⟩

/-! ## @main -/

/-- @main on device `d`'s TensorCore. -/
theorem hmain (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 2 ∗ FIN m d ∗ (K (F := F)).tcEnd d) := by
  obtain ⟨R0, hR0⟩ := tcSt_owes (F := F) d 0
  obtain ⟨R1, hR1⟩ := tcSt_owes (F := F) d 1
  unfold SparseCore.Cfg.tcRes SparseCore.Cfg.tcEnd
  rw [main_eq, start_held]
  rw [G_eq]
  iintro ⟨#Hctx, Hst, ⟨Hb, Hh, Hts, -⟩, ⟨Hg0, Hg1⟩, Ht0, Ht1⟩
  ihave #Hlv := ((K (F := F)).ctx_levAts κ) $$ Hctx
  -- the host's operations
  iapply (StableHlo.wp_seq 𝒱 none Set.univ d ucRefs _ opsA opsA_sub opsA_fresh (W0 m d)) $$ [Hb Hh]
  · isplitl [Hb]; · iexact Hb
    iexact Hh
  iintro ⟨Hb, Hh⟩
  -- the first TensorCore call
  ihave Hst' := (Entails.of_eq hR0) $$ Hst
  icases Hst' with ⟨HO, HR⟩
  iapply (wp_region (reg0 m) d _ _) $$ [Hb Hh HO Hg0 Ht0]
  · rw [reg0_pre]
    isplitl [Hb]; · iexact Hb
    isplitl [Hh HO]
    · isplitl [Hh]; · iexact Hh
      iexact HO
    isplitr; · iexact Hlv
    isplitl [Hg0]; · iexact Hg0
    iexact Ht0
  rw [reg0_post]
  iintro ⟨Hb, Hh, HO⟩
  ihave Hst := (Entails.of_eq hR0.symm) $$ [HO HR]
  · isplitl [HO]; · iexact HO
    iexact HR
  -- the changes of shape
  iapply (StableHlo.wp_seq 𝒱 none Set.univ d ucRefs _ opsB opsB_sub opsB_fresh (W2 m d)) $$ [Hb Hh]
  · isplitl [Hb]; · iexact Hb
    iexact Hh
  iintro ⟨Hb, Hh⟩
  -- the gathering call
  rw [wp_bind]
  ihave Hh := (Entails.of_eq (after3 m d)) $$ Hh
  ihave Hh' := (Entails.of_eq (take_g3 m d)) $$ Hh
  icases Hh' with ⟨H3, Hh⟩
  iapply ((K (F := F)).wp_run (D (F := F)) 𝒱 (EH := EH) (P := P m) κ d 0) $$ [Hst H3 Hh Hb Hts Hg1 Ht1]
  isplitr; · iexact Hctx
  isplitl [Hst]; · iexact Hst
  isplitl [H3]
  · rw [st0_eq]; iexact H3
  iintro ⟨Hst, Hdn⟩
  ihave H3 := (Entails.of_eq (dn0_eq m d)) $$ Hdn
  ihave Hh := (Entails.of_eq (back_g3 m d).symm) $$ [H3 Hh]
  · isplitl [H3]; · iexact H3
    iexact Hh
  -- the second TensorCore call
  ihave Hst' := (Entails.of_eq (show ((K (F := F)).tcSt EH d ((0 : Fin 2).val + 1) : sProp 𝕄) = iprop(owesTc d 1 ∗ R1) from hR1)) $$ Hst
  icases Hst' with ⟨HO, HR⟩
  iapply (wp_region (reg1 m) d _ _) $$ [Hb Hh HO Hg1 Ht1]
  · rw [reg1_pre]
    isplitl [Hb]; · iexact Hb
    isplitl [Hh HO]
    · isplitl [Hh]; · iexact Hh
      iexact HO
    isplitr; · iexact Hlv
    isplitl [Hg1]; · iexact Hg1
    iexact Ht1
  rw [reg1_post]
  iintro ⟨Hb, Hh, HO⟩
  ihave Hst := (Entails.of_eq hR1.symm) $$ [HO HR]
  · isplitl [HO]; · iexact HO
    iexact HR
  iapply (StableHlo.wp_seq 𝒱 none Set.univ d ucRefs _ opsC opsC_sub opsC_fresh (W5 m d)) $$ [Hb Hh]
  · isplitl [Hb]; · iexact Hb
    iexact Hh
  iintro ⟨Hb, Hh⟩
  -- the fusing call
  ihave Hh := (Entails.of_eq (after6 m d)) $$ Hh
  ihave Hh' := (Entails.of_eq (take_f3 m d)) $$ Hh
  icases Hh' with ⟨H3, Hh⟩
  iapply ((K (F := F)).wp_run (D (F := F)) 𝒱 (EH := EH) (P := P m) κ d 1) $$ [Hst H3 Hh Hb Hts]
  isplitr; · iexact Hctx
  isplitl [Hst]; · iexact Hst
  isplitl [H3]
  · rw [st1_eq]; iexact H3
  iintro ⟨Hst, Hdn⟩
  ihave H3 := (Entails.of_eq (dn1_eq m d)) $$ Hdn
  ihave Hh := (Entails.of_eq (back_f3 m d).symm) $$ [H3 Hh]
  · isplitl [H3]; · iexact H3
    iexact Hh
  ihave Hh' := (Entails.of_eq (take_r4 m d)) $$ Hh
  icases Hh' with ⟨HF, -⟩
  isplitl [Hst]; · iexact Hst
  isplitl [HF]; · iexact HF
  isplitl [Hb]; · iexact Hb
  iexact Hts

/-- What the claims read of device `d`'s final state. -/
def fq (d : Dev nD) (s' : Phys nD τ sig (Elt F)) : Prop :=
  s'.mem.mem (lo d) = res m d ∧ s'.mem.mem (l0 d) = m (l0 d) ∧ s'.mem.mem (l1 d) = m (l1 d) ∧ s'.mem.mem (l2 d) = m (l2 d)

set_option maxRecDepth 16384 in
theorem hfin (d : Dev nD) (s' : Phys nD τ sig (Elt F)) : iprop(FIN m d ∗ SI s') ⊢ (⌜fq m d s'⌝ : sProp 𝕄) := by
  iintro ⟨⟨Ha, Hb, Hc, Ho⟩, HSI⟩
  ihave H := (persistent_entails_right (SI_pointsTo_agree (st := s') (ℓ := l0 d) (I := Finset.univ) (q := fullShare) (f := m (l0 d)))) $$ [HSI Ha]
  · isplitl [HSI] <;> iassumption
  icases H with ⟨%h1, HSI, -⟩
  ihave H := (persistent_entails_right (SI_pointsTo_agree (st := s') (ℓ := l1 d) (I := Finset.univ) (q := fullShare) (f := m (l1 d)))) $$ [HSI Hb]
  · isplitl [HSI] <;> iassumption
  icases H with ⟨%h2, HSI, -⟩
  ihave H := (persistent_entails_right (SI_pointsTo_agree (st := s') (ℓ := l2 d) (I := Finset.univ) (q := fullShare) (f := m (l2 d)))) $$ [HSI Hc]
  · isplitl [HSI] <;> iassumption
  icases H with ⟨%h3, HSI, -⟩
  ihave H := (SI_pointsTo_agree (st := s') (ℓ := lo d) (I := Finset.univ) (q := fullShare) (f := res m d)) $$ [HSI Ho]
  · isplitl [HSI] <;> iassumption
  icases H with %h4
  ipureintro
  exact ⟨funext fun i => h4 i (Finset.mem_univ i), funext fun i => h1 i (Finset.mem_univ i), funext fun i => h2 i (Finset.mem_univ i), funext fun i => h3 i (Finset.mem_univ i)⟩

/-! ## The program's run -/

def QC : PUnit × MemSt nD τ sig (Elt F) → Prop := fun r =>
  (∀ c : Dev nD, r.2.mem (lo c) = res m c ∧ r.2.mem (l0 c) = m (l0 c) ∧ r.2.mem (l1 c) = m (l1 c) ∧ r.2.mem (l2 c) = m (l2 c)) ∧ r.2.sem = fun _ => 0

/-- Every execution ends, nothing faulting, with the result at `res`, the arguments as they were and every counter at zero. -/
theorem run_main [∀ e, Nonempty (Elt F e)] (hpre : PreOK m) :
    θ_run (Cert.WholeIdeal.defs (F := F)) (Cert.WholeIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq | 1 => nomatch hq)
    (fun q _ => match q with | 0 => tileObl0 m facts hpre | 1 => tileObl1 m facts hpre)
    (fun q _ => match q with | 0 => SparseCore.Cfg.VecSplit.of_plain (vecSplit0 m) | 1 => SparseCore.Cfg.VecSplit.of_plain (vecSplit1 m))
    m ρ main (fun d => G d) (FIN m) (u₀ (F := F)) (sep_elim_left.trans (hu₀ m)) (hmain m ρ) (fq m) (hfin m) (QC m) (fun _ h hz => ⟨h, hz⟩)

end Cert.Proof.Whole

end
-- ==== Proof.Whole.PhaseValue.lean ====
/-
  The values of the first call at `Ideal`. Entry `(c, y)` of a block's table is the largest score of the eight keys of chunk `c` with query `y`
  of the block, and minus infinity for the chunks that are padding; a round's answer is a row with the largest entry of its column, and the
  round lowers that entry to minus infinity.
-/
module

public import proofs.«01_k».proof.Proof.Whole.Host
public import Idealize.ShloMosaic.Lib.MatmulPlain
public import Idealize.ShloMosaic.Lib.Pointwise

@[expose] public section

noncomputable section

namespace Cert.Proof.Whole

open Cert.WholeIdeal Cert.WholeIdeal.Gen Idealize.ShloMosaic.ValueIdx
open Idealize.ShloMosaic hiding ix1 ix2 ix3 eq_ix1 eq_ix2 eq_ix3

/-- The word of minus infinity. -/
theorem ofBits_bot : Ideal.ofBits .f32 0xFF800000#32 = (⊥ : EReal) := by
  simp [Ideal.ofBits, Ideal.ieee]
theorem ofBits_zero : Ideal.ofBits .f32 0x00000000#32 = (0 : EReal) := by
  simp [Ideal.ofBits, Ideal.ieee]

/-- A fold of the maximum from minus infinity: an upper bound, and one of the values. -/
theorem fold_max_spec {n : ℕ} (hn : 0 < n) (g : Fin n → EReal) :
    (∀ k, g k ≤ (Finset.univ : Finset (Fin n)).fold max ⊥ g) ∧ ∃ k, (Finset.univ : Finset (Fin n)).fold max ⊥ g = g k := by
  have e : (Finset.univ : Finset (Fin n)).fold max ⊥ g = Finset.univ.sup g := rfl
  rw [e]
  refine ⟨fun k => Finset.le_sup (Finset.mem_univ k), ?_⟩
  obtain ⟨k, -, hk⟩ := Finset.exists_mem_eq_sup (Finset.univ : Finset (Fin n)) ⟨⟨0, hn⟩, Finset.mem_univ _⟩ g
  exact ⟨k, hk⟩

/-- The test whether row `r` of point `k` is a chunk of keys. -/
theorem slt_chunk (k r : ℕ) (hk : k < 50) (hr : r < 256) :
    IntOp.cmpi .slt (IntOp.addi (Scalar.muli (BitVec.ofNat 32 k) 256#32) (BitVec.ofNat 32 r)) 12500#32 = BitVec.ofBool (decide (256 * k + r < 12500)) := by
  have hn : (IntOp.addi (Scalar.muli (BitVec.ofNat 32 k) 256#32) (BitVec.ofNat 32 r)).toNat = 256 * k + r := by
    show ((BitVec.ofNat 32 k) * 256#32 + BitVec.ofNat 32 r).toNat = _
    simp only [BitVec.toNat_add, BitVec.toNat_mul, BitVec.toNat_ofNat]
    omega
  generalize IntOp.addi (Scalar.muli (BitVec.ofNat 32 k) 256#32) (BitVec.ofNat 32 r) = w at hn
  show BitVec.ofBool (BitVec.slt w 12500#32) = _
  rw [BitVec.slt_eq_decide]
  congr 1
  simp only [BitVec.toInt_eq_toNat_cond, BitVec.toNat_ofNat, Nat.reducePow, Nat.reduceMod, hn]
  refine decide_eq_decide.mpr ?_
  omega

/-- The score of row `r` of one array with row `s` of another. -/
def dot {m n : ℕ} (X : (⟨2, ![m, 128]⟩ : Shape).Idx → EReal) (Y : (⟨2, ![n, 128]⟩ : Shape).Idx → EReal) (r : Fin m) (s : Fin n) : EReal :=
  ∑ k : Fin 128, X (ix2 r k) * Y (ix2 s k)

/-- The largest score of chunk `r` of the point's keys with query `y`. -/
def best (X0 : S2048x128.Idx → EReal) (X1 : S512x128.Idx → EReal) (r : Fin 256) (y : Fin 512) : EReal :=
  (Finset.univ : Finset (Fin 8)).fold max ⊥ fun j => dot (m := 2048) (n := 512) X0 X1 ⟨8 * r.val + j.val, by omega⟩ y

/-- The point's scores, each key with each query. -/
def prodOf (X0 : FVec Ideal S2048x128 .f32) (X1 : FVec Ideal S512x128 .f32) : FVec Ideal S2048x512 .f32 :=
  matmul dot_S2048x128_S512x128_S2048x512_1_1_0_0_n_n none X0 X1 (constant S2048x512 .f32 0x00000000#32)

/-- Their maxima by chunk. -/
def maxOf (X0 : FVec Ideal S2048x128 .f32) (X1 : FVec Ideal S512x128 .f32) : FVec Ideal S256x512 .f32 :=
  multiReduction .maximumf [1] S256x512 (shapeCast S256x8x512 (prodOf X0 X1) shapeCasts_S2048x512_S256x8x512) 0xFF800000#32 reduces_S256x8x512_S256x512 (.inl rfl) rfl

theorem maxOf_apply (X0 : FVec Ideal S2048x128 .f32) (X1 : FVec Ideal S512x128 .f32) (r : Fin 256) (y : Fin 512) :
    maxOf X0 X1 (ix2 r y) = best X0 X1 r y := by
  unfold maxOf
  refine (multiReduction_maximumf_eq_fold _ _ _ _ _ _).trans ?_
  refine (Shape.Reduces.fold_fiber_r3_a1 (n0 := 256) (n1 := 8) (n2 := 512) reduces_S256x8x512_S256x512 (ix2 r y) _ _ _).trans ?_
  unfold best
  rw [show (FloatOps.ofBits (F := Ideal) .f32 0xFF800000#32) = (⊥ : EReal) from ofBits_bot]
  refine congrArg (fun g => Finset.fold max (⊥ : EReal) g (Finset.univ : Finset (Fin 8))) (funext fun j => ?_)
  have hj := j.isLt
  refine (shapeCast_apply _ _ _ (ix2 (⟨8 * r.val + j.val, by omega⟩ : Fin 2048) y) ?_).trans ?_
  · rw [Shape.rowMajor_val_two, Shape.rowMajor_val_three]
    show (8 * r.val + j.val) * 512 + y.val = (r.val * 8 + j.val) * 512 + y.val
    omega
  · refine (Ideal.matmul_transposedRhs_apply (M := 2048) (K := 128) (N := 512) (φ₁ := .f32) (φ₂ := .f32) none X0 X1 _ _ _).trans ?_
    rw [show (constant (F := Ideal) S2048x512 .f32 0x00000000#32) (ix2 (⟨8 * r.val + j.val, by omega⟩ : Fin 2048) y) = (0 : EReal) from ofBits_zero, zero_add]
    rfl

theorem pay1_apply (i : grid0.Coords) (k : ℕ) (hk : (i 1).val = k) (X0 : S2048x128.Idx → EReal) (X1 : S512x128.Idx → EReal) (r : Fin 256) (y : Fin 512) :
    k0_pay1 (F := Ideal) i X0 X1 (ix2 r y) = if 256 * k + r.val < 12500 then best X0 X1 r y else ⊥ := by
  have hk50 : k < 50 := hk ▸ (i 1).isLt
  have hs : k0_pay1 (F := Ideal) i X0 X1 (ix2 r y) = Scalar.select
      (IntOp.cmpi .slt (IntOp.addi (Scalar.muli (BitVec.ofNat 32 (i 1).val) 256#32) (iota Kind.tc S256x512 32 [0] iota_S256x512_d0_w32 (ix2 r y))) 12500#32)
      (maxOf X0 X1 (ix2 r y)) (Ideal.ofBits .f32 0xFF800000#32) := by
    unfold k0_pay1
    simp only [shapeCast_id]
    rfl
  rw [hs, hk, iota_single_apply, show ((ix2 r y : S256x512.Idx) 0).val = r.val from rfl, slt_chunk k r.val hk50 r.isLt, ofBits_bot, maxOf_apply]
  by_cases h : 256 * k + r.val < 12500
  · rw [if_pos h, decide_eq_true h]; rfl
  · rw [if_neg h, decide_eq_false h]; rfl

/-! ## The rounds -/

/-- The first of the places of the largest entries is what the index reduction answers. -/
theorem reduceIndex_ext {s t : Shape} (axis : Fin s.rank) (h : s.Reduces [axis] t) (x : s.Idx → EReal) (j : t.Idx) :
    ∃ E : Finset s.Idx, (∀ i, i ∈ E ↔ h.drop i = j ∧ ∀ i', h.drop i' = j → x i' ≤ x i)
      ∧ Ideal.reduceIndex .argMax axis h x j = BitVec.ofNat 32 ((E.image fun i => (i axis).val).min.getD 0) := by
  refine ⟨_, fun i => ?_, rfl⟩
  simp only [Finset.mem_filter, Finset.mem_univ, true_and, if_pos, not_lt]

/-- A round's answer at a column: a row with the largest entry. -/
theorem argOf_spec (S : S12800x512.Idx → EReal) (y : Fin 512) :
    ∃ b : Fin 12800, argOf (F := Ideal) S (ix1 y) = BitVec.ofNat 32 b.val ∧ ∀ c : Fin 12800, S (ix2 c y) ≤ S (ix2 b y) := by
  obtain ⟨E, hE, e⟩ := reduceIndex_ext 0 reduces_S12800x512_S512 S (ix1 y)
  have hfib (i : S12800x512.Idx) : reduces_S12800x512_S512.drop i = ix1 y ↔ ∃ k : Fin 12800, ix2 k y = i :=
    Shape.Reduces.fiber_r2_a0 (n0 := 12800) (n1 := 512) reduces_S12800x512_S512 (ix1 y) i
  have hmem (i : S12800x512.Idx) (hi : i ∈ E) : ∃ b : Fin 12800, ix2 b y = i ∧ ∀ c : Fin 12800, S (ix2 c y) ≤ S (ix2 b y) := by
    have hi := (hE i).mp hi
    obtain ⟨b, hb⟩ := (hfib i).mp hi.1
    refine ⟨b, hb, fun c => ?_⟩
    rw [hb]
    exact hi.2 (ix2 c y) ((hfib _).mpr ⟨c, rfl⟩)
  have hne : ((E).image fun i => (i 0).val).Nonempty := by
    obtain ⟨b, -, hb⟩ := Finset.exists_max_image (Finset.univ : Finset (Fin 12800)) (fun c => S (ix2 c y)) ⟨0, Finset.mem_univ _⟩
    refine Finset.image_nonempty.mpr ⟨ix2 b y, (hE _).mpr ⟨(hfib _).mpr ⟨b, rfl⟩, fun i' hi' => ?_⟩⟩
    obtain ⟨c, hc⟩ := (hfib i').mp hi'
    rw [← hc]
    exact hb c (Finset.mem_univ _)
  obtain ⟨n, hn⟩ := Finset.min_of_nonempty hne
  obtain ⟨i, hi, hin⟩ := Finset.mem_image.mp (Finset.mem_of_min hn)
  obtain ⟨b, hb, hmax⟩ := hmem i hi
  refine ⟨b, ?_, hmax⟩
  have hnb : n = b.val := by rw [← hin, ← hb]
  rw [hn] at e
  rw [← hnb]
  exact e

/-- The row that a round answers at a column. -/
def armax (S : S12800x512.Idx → EReal) (y : Fin 512) : ℕ := (argOf_spec S y).choose.val
theorem armax_lt (S : S12800x512.Idx → EReal) (y : Fin 512) : armax S y < 12800 := (argOf_spec S y).choose.isLt
theorem argOf_eq (S : S12800x512.Idx → EReal) (y : Fin 512) : argOf (F := Ideal) S (ix1 y) = BitVec.ofNat 32 (armax S y) :=
  (argOf_spec S y).choose_spec.1
theorem armax_max (S : S12800x512.Idx → EReal) (y : Fin 512) (c : Fin 12800) : S (ix2 c y) ≤ S (ix2 (⟨armax S y, armax_lt S y⟩ : Fin 12800) y) :=
  (argOf_spec S y).choose_spec.2 c

/-- One row repeated down the rows. -/
theorem broadcastRow {α : Type} {m n : ℕ} (hn : n ≠ 1) (x : (⟨2, ![1, n]⟩ : Shape).Idx → α) (h : (⟨2, ![1, n]⟩ : Shape).Broadcasts ⟨2, ![m, n]⟩)
    (c : Fin m) (y : Fin n) : broadcastTo ⟨2, ![m, n]⟩ x h (ix2 c y) = x (ix2 (0 : Fin 1) y) := by
  unfold broadcastTo
  refine congrArg x (funext fun a => Fin.ext ?_)
  match a with
  | ⟨0, _⟩ => rfl
  | ⟨1, _⟩ => exact congrArg Fin.val (dif_neg hn)

/-- The round lowers that entry. -/
theorem lowerOf_apply (S : S12800x512.Idx → EReal) (c : Fin 12800) (y : Fin 512) :
    lowerOf (F := Ideal) S (ix2 c y) = if c.val = armax S y then ⊥ else S (ix2 c y) := by
  have hs : lowerOf (F := Ideal) S (ix2 c y) = Scalar.select
      (IntOp.cmpi .eq (iota Kind.tc S12800x512 32 [0] iota_S12800x512_d0_w32 (ix2 c y))
        (broadcastTo S12800x512 (shapeCast S1x512 (argOf (F := Ideal) S) shapeCasts_S512_S1x512) broadcasts_S1x512_S12800x512 (ix2 c y)))
      (Ideal.ofBits .f32 0xFF800000#32) (S (ix2 c y)) := by
    unfold lowerOf k0_pay16
    simp only [shapeCast_id]
    rfl
  have hb : broadcastTo S12800x512 (shapeCast S1x512 (argOf (F := Ideal) S) shapeCasts_S512_S1x512) broadcasts_S1x512_S12800x512 (ix2 c y) = argOf (F := Ideal) S (ix1 y) := by
    refine Eq.trans (b := shapeCast S1x512 (argOf (F := Ideal) S) shapeCasts_S512_S1x512 (ix2 (0 : Fin 1) y)) ?_ ?_
    · exact broadcastRow (by decide) _ _ c y
    · refine shapeCast_apply _ _ _ (ix1 y) ?_
      rw [Shape.rowMajor_val_one, Shape.rowMajor_val_two]
      show y.val = 0 * 512 + y.val
      omega
  have hlt := armax_lt S y
  have hcl := c.isLt
  rw [hs, hb, argOf_eq, iota_single_apply, ofBits_bot]
  show Scalar.select (BitVec.ofBool (BitVec.ofNat 32 c.val == BitVec.ofNat 32 (armax S y))) _ _ = _
  have he : (BitVec.ofNat 32 c.val == BitVec.ofNat 32 (armax S y)) = decide (c.val = armax S y) := by
    rw [Bool.eq_iff_iff, beq_iff_eq, decide_eq_true_eq]
    refine ⟨fun h => ?_, fun h => by rw [h]⟩
    have := congrArg BitVec.toNat h
    simp only [BitVec.toNat_ofNat] at this
    omega
  rw [he]
  by_cases h : c.val = armax S y
  · rw [if_pos h, decide_eq_true h]; rfl
  · rw [if_neg h, decide_eq_false h]; rfl

end Cert.Proof.Whole

end
-- ==== Proof.Whole.TopK.lean ====
/-
  The mathematics of the selection, over plain sequences. `IsTop f n p`: `p` lists the numbers below 100000 in falling order of `f`, `n` of
  them; where `f` has no two equal values there is one such list. Five chunks of eight, each time the chunk with the largest maximum of those
  left, hold the five largest values; five choices of the largest of their forty list them.
-/
module

public import Mathlib.Data.EReal.Basic
public import Mathlib.Data.Finset.Card

@[expose] public section

namespace Cert.Proof.TopK

/-- `p 0`, …, `p (n - 1)` are, in their order, the numbers below 100000 with the largest values of `f`. -/
def IsTop (f : ℕ → EReal) (n : ℕ) (p : ℕ → ℕ) : Prop :=
  ∀ t < n, p t < 100000 ∧ (∀ s < t, p s ≠ p t) ∧ ∀ i < 100000, (∀ s < t, p s ≠ i) → f i ≤ f (p t)

/-- No two numbers below 100000 have the same value. -/
def Distinct (f : ℕ → EReal) : Prop := ∀ i < 100000, ∀ j < 100000, f i = f j → i = j

theorem IsTop.unique {f : ℕ → EReal} (hf : Distinct f) {n : ℕ} {p p' : ℕ → ℕ} (h : IsTop f n p) (h' : IsTop f n p') :
    ∀ t < n, p t = p' t := by
  intro t
  induction t using Nat.strong_induction_on with
  | _ t ih =>
    intro ht
    obtain ⟨hl, hne, hmax⟩ := h t ht
    obtain ⟨hl', hne', hmax'⟩ := h' t ht
    refine hf _ hl _ hl' (le_antisymm ?_ ?_)
    · exact hmax' _ hl fun s hs => by rw [← ih s hs (hs.trans ht)]; exact hne s hs
    · exact hmax _ hl' fun s hs => by rw [ih s hs (hs.trans ht)]; exact hne' s hs

section Chunks

variable {f : ℕ → EReal} (hf : Distinct f) {T : ℕ → ℕ → EReal} {b : ℕ → ℕ}
  (hle : ∀ c < 12500, ∀ j < 8, f (8 * c + j) ≤ T 0 c) (hat : ∀ c < 12500, ∃ j < 8, T 0 c = f (8 * c + j))
  (hbot : ∀ c, 12500 ≤ c → T 0 c = ⊥) (hstep : ∀ t c, T (t + 1) c = if c = b t then ⊥ else T t c)
  (hb : ∀ t, b t < 12800) (hmax : ∀ t, ∀ c < 12800, T t c ≤ T t (b t))

include hf hle in
/-- A chunk's maximum is above the bottom. -/
theorem chunk_pos (c : ℕ) (hc : c < 12500) : ⊥ < T 0 c := by
  by_contra h
  have h0 : T 0 c = ⊥ := not_bot_lt_iff.mp h
  have e (j : ℕ) (hj : j < 8) : f (8 * c + j) = ⊥ := by have := hle c hc j hj; rw [h0] at this; exact le_bot_iff.mp this
  have := hf (8 * c + 0) (by omega) (8 * c + 1) (by omega) ((e 0 (by omega)).trans (e 1 (by omega)).symm)
  omega

include hstep in
/-- Before round `t` the chosen chunks are at the bottom and the others as at first. -/
theorem table_at (t c : ℕ) : T t c = if ∃ s < t, b s = c then ⊥ else T 0 c := by
  induction t with
  | zero => simp
  | succ t ih =>
    rw [hstep]
    by_cases h : c = b t
    · rw [if_pos h, if_pos ⟨t, Nat.lt_succ_self t, h.symm⟩]
    · rw [if_neg h, ih]
      congr 1
      refine propext ⟨fun ⟨s, hs, e⟩ => ⟨s, hs.trans (Nat.lt_succ_self t), e⟩, fun ⟨s, hs, e⟩ => ⟨s, ?_, e⟩⟩
      rcases Nat.lt_succ_iff_lt_or_eq.mp hs with h' | h'
      · exact h'
      · exact absurd e.symm (h' ▸ h)

include hf hle hbot hstep hmax in
/-- In each of five rounds the chosen chunk is a chunk of keys, not chosen before, and no chunk that is never chosen has a larger maximum. -/
theorem chunks (t : ℕ) (ht : t < 5) :
    b t < 12500 ∧ (∀ s < t, b s ≠ b t) ∧ ∀ c < 12500, (∀ s < 5, b s ≠ c) → T 0 c ≤ T 0 (b t) := by
  -- a chunk not chosen before
  obtain ⟨c0, hc0, hn0⟩ := Finset.exists_mem_notMem_of_card_lt_card (s := (Finset.range t).image b) (t := Finset.range 12500)
    (by refine lt_of_le_of_lt Finset.card_image_le ?_; rw [Finset.card_range, Finset.card_range]; omega)
  have hc0 := Finset.mem_range.mp hc0
  have hfree : ¬ ∃ s < t, b s = c0 := fun ⟨s, hs, e⟩ => hn0 (Finset.mem_image.mpr ⟨s, Finset.mem_range.mpr hs, e⟩)
  have hpos : ⊥ < T t (b t) := by
    refine lt_of_lt_of_le (chunk_pos hf hle c0 hc0) ?_
    have := hmax t c0 (by omega)
    rw [table_at hstep t c0, if_neg hfree] at this
    exact this
  have hnew : ¬ ∃ s < t, b s = b t := fun h => by
    rw [table_at hstep t (b t), if_pos h] at hpos; exact lt_irrefl _ hpos
  have hval : T t (b t) = T 0 (b t) := by rw [table_at hstep t (b t), if_neg hnew]
  refine ⟨?_, fun s hs e => hnew ⟨s, hs, e⟩, fun c hc hcn => ?_⟩
  · by_contra h
    rw [hval, hbot _ (not_lt.mp h)] at hpos
    exact lt_irrefl _ hpos
  · have := hmax t c (by omega)
    rw [hval, table_at hstep t c, if_neg (fun ⟨s, hs, e⟩ => hcn s (hs.trans ht) e)] at this
    exact this

include hf hle hat hbot hstep hmax in
/-- The five choices of the largest of the forty candidates, each time the least candidate among the largest, list the five numbers with the
    largest values. -/
theorem select {S : ℕ → ℕ → EReal} {M : ℕ → EReal} {C p : ℕ → ℕ} (hC : ∀ k < 40, C k = 8 * b (k / 8) + k % 8)
    (hS0 : ∀ k < 40, S 0 k = f (C k)) (hSM : ∀ t, ∀ k < 40, S t k ≤ M t) (hp : ∀ t, ∃ k < 40, S t k = M t ∧ p t = C k)
    (hSs : ∀ t, ∀ k < 40, S (t + 1) k = if S t k = M t ∧ C k = p t then ⊥ else S t k) : IsTop f 5 p := by
  have hch := chunks hf hle hbot hstep hmax
  have hCinj : ∀ k < 40, ∀ k' < 40, C k = C k' → k = k' := by
    intro k hk k' hk' e
    rw [hC k hk, hC k' hk'] at e
    have e8 : b (k / 8) = b (k' / 8) := by omega
    have eq : k / 8 = k' / 8 := by
      rcases lt_trichotomy (k / 8) (k' / 8) with h | h | h
      · exact absurd e8 ((hch (k' / 8) (by omega)).2.1 _ h)
      · exact h
      · exact absurd e8.symm ((hch (k / 8) (by omega)).2.1 _ h)
    omega
  have hClt : ∀ k < 40, C k < 100000 := fun k hk => by
    have := (hch (k / 8) (by omega)).1
    rw [hC k hk]; omega
  have hSt : ∀ t, ∀ k < 40, S t k = if ∃ s < t, p s = C k then ⊥ else f (C k) := by
    intro t
    induction t with
    | zero => intro k hk; simpa using hS0 k hk
    | succ t ih =>
      intro k hk
      rw [hSs t k hk]
      by_cases h : C k = p t
      · obtain ⟨k0, hk0, hm, e⟩ := hp t
        have : k = k0 := hCinj k hk k0 hk0 (h.trans e)
        rw [if_pos ⟨this ▸ hm, h⟩, if_pos ⟨t, Nat.lt_succ_self t, h.symm⟩]
      · rw [if_neg (fun h' => h h'.2), ih k hk]
        congr 1
        refine propext ⟨fun ⟨s, hs, e⟩ => ⟨s, hs.trans (Nat.lt_succ_self t), e⟩, fun ⟨s, hs, e⟩ => ⟨s, ?_, e⟩⟩
        rcases Nat.lt_succ_iff_lt_or_eq.mp hs with h' | h'
        · exact h'
        · exact absurd e.symm (h' ▸ h)
  choose kk hkk hkM hkp using hp
  intro t ht
  -- a chunk none of whose candidates is chosen yet
  obtain ⟨u, hu, hun⟩ := Finset.exists_mem_notMem_of_card_lt_card (s := (Finset.range t).image fun s => kk s / 8) (t := Finset.range 5)
    (by refine lt_of_le_of_lt Finset.card_image_le ?_; rw [Finset.card_range, Finset.card_range]; exact ht)
  have hu := Finset.mem_range.mp hu
  have hfree : ∀ j < 8, ¬ ∃ s < t, p s = C (8 * u + j) := by
    rintro j hj ⟨s, hs, e⟩
    rw [hkp s] at e
    have := hCinj _ (hkk s) _ (by omega) e
    exact hun (Finset.mem_image.mpr ⟨s, Finset.mem_range.mpr hs, by omega⟩)
  have hCu : ∀ j < 8, C (8 * u + j) = 8 * b u + j := fun j hj => by
    rw [hC _ (by omega), show (8 * u + j) / 8 = u by omega, show (8 * u + j) % 8 = j by omega]
  have hM : ∀ j < 8, f (8 * b u + j) ≤ M t := fun j hj => by
    have := hSM t (8 * u + j) (by omega)
    rw [hSt t _ (by omega), if_neg (hfree j hj), hCu j hj] at this
    exact this
  have hbu := (hch u hu).1
  have hMpos : ⊥ < M t := by
    by_contra h
    have h0 := not_bot_lt_iff.mp h
    have e (j : ℕ) (hj : j < 8) : f (8 * b u + j) = ⊥ := by have := hM j hj; rw [h0] at this; exact le_bot_iff.mp this
    have := hf (8 * b u + 0) (by omega) (8 * b u + 1) (by omega) ((e 0 (by omega)).trans (e 1 (by omega)).symm)
    omega
  have hnew : ¬ ∃ s < t, p s = C (kk t) := fun h => by
    have := hkM t
    rw [hSt t _ (hkk t), if_pos h] at this
    rw [← this] at hMpos
    exact lt_irrefl _ hMpos
  have hval : f (p t) = M t := by rw [hkp t, ← hkM t, hSt t _ (hkk t), if_neg hnew]
  refine ⟨by rw [hkp t]; exact hClt _ (hkk t), fun s hs e => hnew ⟨s, hs, by rw [e, hkp t]⟩, fun i hi hin => ?_⟩
  rw [hval]
  by_cases hci : ∃ s < 5, b s = i / 8
  · obtain ⟨s, hs, e⟩ := hci
    have hk : 8 * s + i % 8 < 40 := by omega
    have eC : C (8 * s + i % 8) = i := by
      rw [hC _ hk, show (8 * s + i % 8) / 8 = s by omega, show (8 * s + i % 8) % 8 = i % 8 by omega, e]; omega
    have := hSM t _ hk
    rw [hSt t _ hk, eC, if_neg (fun ⟨r, hr, e⟩ => hin r hr e)] at this
    exact this
  · have h1 := (hch u hu).2.2 (i / 8) (by omega) (fun s hs e => hci ⟨s, hs, e⟩)
    have h2 := hle (i / 8) (by omega) (i % 8) (by omega)
    rw [show 8 * (i / 8) + i % 8 = i by omega] at h2
    obtain ⟨j, hj, e⟩ := hat (b u) hbu
    exact h2.trans (h1.trans (e ▸ hM j hj))

end Chunks

end Cert.Proof.TopK

end
-- ==== Proof.Whole.Candidates.lean ====
/-
  The forty candidates of a query at `Ideal`: the numbers of the keys of five chunks, where the chunk of each round is one with the largest
  maximum of those that no earlier round chose.
-/
module

public import proofs.«01_k».proof.Proof.Whole.PhaseValue
public import proofs.«01_k».proof.Proof.Whole.TopK
public import Idealize.ShloMosaic.Lib.KernelVsHost

@[expose] public section

noncomputable section

namespace Cert.Proof.Whole

open Cert.WholeIdeal Cert.WholeIdeal.Gen Idealize.ShloMosaic.ValueIdx
open Idealize.ShloMosaic hiding ix1 ix2 ix3 eq_ix1 eq_ix2 eq_ix3

variable (a0 : S4096x128.Idx → EReal) (a1 : S100000x128.Idx → EReal) (q : Fin 4096)

/-- The score of key `i` with query `q`, both with unit rows. -/
def scoreOf (i : ℕ) : EReal := if h : i < 100000 then dot (kn (F := Ideal) a1) (qn (F := Ideal) a0) ⟨i, h⟩ q else ⊥

theorem best_le (X0 : S2048x128.Idx → EReal) (X1 : S512x128.Idx → EReal) (r : Fin 256) (y : Fin 512) (j : Fin 8) :
    dot (m := 2048) (n := 512) X0 X1 ⟨8 * r.val + j.val, by omega⟩ y ≤ best X0 X1 r y :=
  (fold_max_spec (n := 8) (by decide) fun j => dot (m := 2048) (n := 512) X0 X1 ⟨8 * r.val + j.val, by omega⟩ y).1 j
theorem best_at (X0 : S2048x128.Idx → EReal) (X1 : S512x128.Idx → EReal) (r : Fin 256) (y : Fin 512) :
    ∃ j : Fin 8, best X0 X1 r y = dot (m := 2048) (n := 512) X0 X1 ⟨8 * r.val + j.val, by omega⟩ y :=
  (fold_max_spec (n := 8) (by decide) fun j => dot (m := 2048) (n := 512) X0 X1 ⟨8 * r.val + j.val, by omega⟩ y).2

/-- A padded key below 100000 is the key. -/
theorem knp_apply (n : ℕ) (hn : n < 100000) (hn' : n < 102400) (d : Fin 128) :
    knp (F := Ideal) a1 (ix2 (⟨n, hn'⟩ : Fin 102400) d) = kn (F := Ideal) a1 (ix2 (⟨n, hn⟩ : Fin 100000) d) := by
  unfold knp
  refine pad_apply_of_inside _ _ _ _ _ _ _ _ (ix2 (⟨n, hn⟩ : Fin 100000) d) fun a => ?_
  match a with
  | ⟨0, _⟩ => show n = 0 + n * (0 + 1); omega
  | ⟨1, _⟩ => show d.val = 0 + d.val * (0 + 1); omega

theorem dot_knp (n : ℕ) (hn : n < 100000) (hn' : n < 102400) :
    dot (knp (F := Ideal) a1) (qn (F := Ideal) a0) (⟨n, hn'⟩ : Fin 102400) q = scoreOf a0 a1 q n := by
  unfold scoreOf
  rw [dif_pos hn]
  unfold dot
  refine Finset.sum_congr rfl fun d _ => ?_
  rw [knp_apply a1 n hn hn' d]

/-- The query's block and its place in the block. -/
def qb : Fin 8 := ⟨q.val / 512, by have := q.isLt; omega⟩
def qy : Fin 512 := ⟨q.val % 512, by omega⟩

/-- The table of the query's block. -/
def tbl : S12800x512.Idx → EReal := table (F := Ideal) (knp (F := Ideal) a1) (qn (F := Ideal) a0) (qb q)

/-- The chunk maxima of the query before round `t`. -/
def colAt (t c : ℕ) : EReal := if h : c < 12800 then tab (F := Ideal) (tbl a0 a1 q) t (ix2 (⟨c, h⟩ : Fin 12800) (qy q)) else ⊥

/-- The chunk of round `t`. -/
def chunkAt (t : ℕ) : ℕ := armax (tab (F := Ideal) (tbl a0 a1 q) t) (qy q)

theorem chunkAt_lt (t : ℕ) : chunkAt a0 a1 q t < 12800 := armax_lt _ _

theorem colAt_step (t c : ℕ) : colAt a0 a1 q (t + 1) c = if c = chunkAt a0 a1 q t then ⊥ else colAt a0 a1 q t c := by
  unfold colAt
  by_cases h : c < 12800
  · rw [dif_pos h, dif_pos h]
    exact lowerOf_apply _ _ _
  · rw [dif_neg h, dif_neg h, ite_self]

theorem colAt_max (t c : ℕ) (hc : c < 12800) : colAt a0 a1 q t c ≤ colAt a0 a1 q t (chunkAt a0 a1 q t) := by
  unfold colAt
  rw [dif_pos hc, dif_pos (chunkAt_lt a0 a1 q t)]
  exact armax_max _ _ _

theorem tbl_apply (c : ℕ) (h : c < 12800) :
    tbl a0 a1 q (ix2 (⟨c, h⟩ : Fin 12800) (qy q)) = if c < 12500 then
      best (blkK (F := Ideal) (knp (F := Ideal) a1) ⟨c / 256, by omega⟩) (blkP (F := Ideal) (qn (F := Ideal) a0) (qb q)) ⟨c % 256, by omega⟩ (qy q) else ⊥ := by
  refine Eq.trans (pay1_apply (grid0.coords (ptOf (qb q) ⟨c / 256, by omega⟩)) (c / 256) ?_ (blkK (F := Ideal) (knp (F := Ideal) a1) ⟨c / 256, by omega⟩)
    (blkP (F := Ideal) (qn (F := Ideal) a0) (qb q)) ⟨c % 256, by omega⟩ (qy q)) ?_
  · refine (coords0_1 _).trans ?_
    show (50 * (qb q).val + c / 256) % 50 = c / 256
    omega
  · have e : 256 * (c / 256) + c % 256 = c := by omega
    show (if 256 * (c / 256) + c % 256 < 12500 then _ else _) = _
    rw [e]

theorem dot_blk (c j : ℕ) (hc : c < 12500) (hj : j < 8) (h : 8 * (c % 256) + j < 2048) (h' : c / 256 < 50) :
    dot (m := 2048) (n := 512) (blkK (F := Ideal) (knp (F := Ideal) a1) ⟨c / 256, h'⟩) (blkP (F := Ideal) (qn (F := Ideal) a0) (qb q)) ⟨8 * (c % 256) + j, h⟩ (qy q)
      = scoreOf a0 a1 q (8 * c + j) := by
  rw [← dot_knp a0 a1 q (8 * c + j) (by omega) (by omega)]
  unfold dot
  refine Finset.sum_congr rfl fun d _ => ?_
  unfold blkK blkP
  have e1 : (⟨c / 256 * 2048 + (8 * (c % 256) + j), by omega⟩ : Fin 102400) = ⟨8 * c + j, by omega⟩ := Fin.ext (by show c / 256 * 2048 + (8 * (c % 256) + j) = 8 * c + j; omega)
  have e2 : (⟨(qb q).val * 512 + (qy q).val, by have := (qb q).isLt; have := (qy q).isLt; omega⟩ : Fin 4096) = q := Fin.ext (by show q.val / 512 * 512 + q.val % 512 = q.val; omega)
  exact congrArg₂ (· * ·) (congrArg (fun r => knp (F := Ideal) a1 (ix2 r d)) e1) (congrArg (fun r => qn (F := Ideal) a0 (ix2 r d)) e2)

theorem colAt_le (c : ℕ) (hc : c < 12500) (j : ℕ) (hj : j < 8) : scoreOf a0 a1 q (8 * c + j) ≤ colAt a0 a1 q 0 c := by
  unfold colAt
  rw [dif_pos (by omega : c < 12800)]
  show _ ≤ tbl a0 a1 q _
  rw [tbl_apply a0 a1 q c (by omega), if_pos hc, ← dot_blk a0 a1 q c j hc hj (by omega) (by omega)]
  exact best_le _ _ ⟨c % 256, by omega⟩ (qy q) (⟨j, hj⟩ : Fin 8)

theorem colAt_at (c : ℕ) (hc : c < 12500) : ∃ j < 8, colAt a0 a1 q 0 c = scoreOf a0 a1 q (8 * c + j) := by
  unfold colAt
  rw [dif_pos (by omega : c < 12800)]
  show ∃ j < 8, tbl a0 a1 q _ = _
  rw [tbl_apply a0 a1 q c (by omega), if_pos hc]
  obtain ⟨j, hj⟩ := best_at (blkK (F := Ideal) (knp (F := Ideal) a1) ⟨c / 256, by omega⟩) (blkP (F := Ideal) (qn (F := Ideal) a0) (qb q)) ⟨c % 256, by omega⟩ (qy q)
  refine ⟨j.val, j.isLt, ?_⟩
  rw [← dot_blk a0 a1 q c j.val hc j.isLt (by omega) (by omega)]
  exact hj

theorem colAt_bot (c : ℕ) (hc : 12500 ≤ c) : colAt a0 a1 q 0 c = ⊥ := by
  unfold colAt
  split
  case isTrue h =>
    show tbl a0 a1 q _ = _
    rw [tbl_apply a0 a1 q c h, if_neg (by omega)]
  case isFalse => rfl

/-- Candidate `k` of the query. -/
def candAt (k : ℕ) : ℕ := 8 * chunkAt a0 a1 q (k / 8) + k % 8

theorem candAt_lt (k : ℕ) : candAt a0 a1 q k < 102400 := by
  have := chunkAt_lt a0 a1 q (k / 8)
  unfold candAt; omega

theorem numbers_apply (k : Fin 40) : numbers (F := Ideal) a0 a1 (ix2 q k) = BitVec.ofNat 32 (candAt a0 a1 q k.val) := by
  have hk := k.isLt
  have hq := q.isLt
  unfold numbers
  refine (shapeCast_apply _ _ _ (ix3 (qb q) (qy q) k) ?_).trans ?_
  · rw [Shape.rowMajor_val_two, Shape.rowMajor_val_three]
    show (q.val / 512 * 512 + q.val % 512) * 40 + k.val = q.val * 40 + k.val
    omega
  refine Eq.trans (b := phase (F := Ideal) (knp (F := Ideal) a1) (qn (F := Ideal) a0) (ix3 (qb q) k (qy q))) ?_ ?_
  · unfold transpose
    refine congrArg _ (funext fun a => Fin.ext ?_)
    match a with
    | ⟨0, _⟩ => rfl
    | ⟨1, _⟩ => rfl
    | ⟨2, _⟩ => rfl
  · show row (argOf (F := Ideal) (tab (F := Ideal) (tbl a0 a1 q) (k.val / 8))) (BitVec.ofNat 32 (k.val % 8)) (ix3 (0 : Fin 1) (0 : Fin 1) (qy q)) = _
    unfold row
    refine (shapeCast_apply _ _ _ (ix1 (qy q)) ?_).trans ?_
    · rw [Shape.rowMajor_val_one, Shape.rowMajor_val_three]
      show (qy q).val = (0 * 1 + 0) * 512 + (qy q).val
      omega
    · show argOf (F := Ideal) (tab (F := Ideal) (tbl a0 a1 q) (k.val / 8)) (ix1 (qy q)) * 8#32 + BitVec.ofNat 32 (k.val % 8) = _
      rw [argOf_eq]
      show BitVec.ofNat 32 (chunkAt a0 a1 q (k.val / 8)) * 8#32 + BitVec.ofNat 32 (k.val % 8) = _
      have := chunkAt_lt a0 a1 q (k.val / 8)
      apply BitVec.eq_of_toNat_eq
      unfold candAt
      simp only [BitVec.toNat_add, BitVec.toNat_mul, BitVec.toNat_ofNat]
      omega

theorem numbers_toNat (k : Fin 40) : (numbers (F := Ideal) a0 a1 (ix2 q k)).toNat = candAt a0 a1 q k.val := by
  have := candAt_lt a0 a1 q k.val
  rw [numbers_apply, BitVec.toNat_ofNat]
  omega

/-- Entry `40 q + k` of the list is the candidate. -/
theorem listed_apply (k : Fin 40) (n : ℕ) (hn : n < 163840) (e : n = 40 * q.val + k.val) :
    listed (F := Ideal) a0 a1 (ix1 (⟨n, hn⟩ : Fin 163840)) = numbers (F := Ideal) a0 a1 (ix2 q k) := by
  subst e
  unfold listed
  refine shapeCast_apply _ _ _ (ix2 q k) ?_
  rw [Shape.rowMajor_val_two, Shape.rowMajor_val_one]
  show q.val * 40 + k.val = 40 * q.val + k.val
  omega

/-- Every entry of the list is the number of a padded key. -/
theorem listed_lt (j : S163840.Idx) : (listed (F := Ideal) a0 a1 j).toNat < 102400 := by
  have hj : (j 0).val < 163840 := (j 0).isLt
  have e := listed_apply a0 a1 (⟨(j 0).val / 40, by omega⟩ : Fin 4096) (⟨(j 0).val % 40, by omega⟩ : Fin 40) (j 0).val hj
    (by show (j 0).val = 40 * ((j 0).val / 40) + (j 0).val % 40; omega)
  have hj' : j = ix1 (⟨(j 0).val, hj⟩ : Fin 163840) := eq_ix1 j
  rw [hj', e, numbers_toNat]
  exact candAt_lt _ _ _ _

end Cert.Proof.Whole

end
-- ==== Proof.Whole.SelectValue.lean ====
/-
  The values of the third call at `Ideal`. The product of 64 queries with all their candidates' rows is 64 × 2560; of its stripe of 40 columns
  for query `r` only row `r` is wanted, and the sum of the 64 stripes, each with its other rows at zero, gives it. A choice is the least
  candidate of those whose score is the row's largest, and lowers that candidate's score to minus infinity.
-/
module

public import proofs.«01_k».proof.Proof.Whole.PhaseValue

@[expose] public section

noncomputable section

namespace Cert.Proof.Whole

open Cert.WholeIdeal Cert.WholeIdeal.Gen Idealize.ShloMosaic.ValueIdx
open Idealize.ShloMosaic hiding ix1 ix2 ix3 eq_ix1 eq_ix2 eq_ix3

section Stripes

variable {F : FTy → Type} [FloatOps F] [Named F]

/-- The 40 columns from column `o`. -/
def stripe (p : FVec F S64x2560 .f32) (o : ℕ) : FVec F S64x40 .f32 := fun j => p (ix2 (j 0) (⟨(o + (j 1).val) % 2560, Nat.mod_lt _ (by decide)⟩ : Fin 2560))

theorem stripe_eq (p : FVec F S64x2560 .f32) (o : ℕ) (h : S64x2560.Slices ![0, o] S64x40) : extractStridedSlice S64x40 ![0, o] p h = stripe p o := by
  funext j
  have h1 : o + 40 ≤ 2560 := h.2 (1 : Fin 2)
  have hj : (j 1).val < 40 := (j 1).isLt
  unfold stripe
  refine congrArg p (funext fun a => Fin.ext ?_)
  match a with
  | ⟨0, _⟩ => show 0 + (j 0).val = (j 0).val; omega
  | ⟨1, _⟩ => show o + (j 1).val = (o + (j 1).val) % 2560; omega

/-- The sum of the first `n` stripes, each with all its rows but its own at zero. -/
def accOf (p : FVec F S64x2560 .f32) : ℕ → FVec F S64x40 .f32
  | 0 => broadcast S64x40 (Scalar.ofBits .f32 0x00000000#32)
  | n + 1 => addf (accOf p n) (select (cmpi .eq (iota .tc S64x40 32 [0] iota_S64x40_d0_w32) (broadcast S64x40 (BitVec.ofNat 32 n))) (stripe p (n * 40))
      (broadcast S64x40 (Scalar.ofBits .f32 0x00000000#32)))

theorem acc_6 (X0 : S64x128.Idx → F .f32) (X1 : S2560x128.Idx → F .f32) : k2_pay6 X0 X1 = accOf (k2_pay5 X0 X1) 5 := by
  unfold k2_pay6; simp only [stripe_eq]; rfl

theorem acc_10 (p : FVec F S64x2560 .f32) : k2_pay10 p (iota .tc S64x40 32 [0] iota_S64x40_d0_w32) (accOf p 5) (stripe p 200) k2_pay8 k2_pay9 = accOf p 13 := by
  unfold k2_pay10 k2_pay8 k2_pay9; simp only [stripe_eq]; rfl
theorem acc_12 (p : FVec F S64x2560 .f32) : k2_pay12 p (iota .tc S64x40 32 [0] iota_S64x40_d0_w32) (accOf p 13) (k2_pay11 p) 13#32 = accOf p 20 := by
  unfold k2_pay12 k2_pay11; simp only [stripe_eq]; rfl
theorem acc_16 (p : FVec F S64x2560 .f32) : k2_pay16 p (iota .tc S64x40 32 [0] iota_S64x40_d0_w32) (accOf p 20) (k2_pay13 p) (k2_pay14 (iota .tc S64x40 32 [0] iota_S64x40_d0_w32)) k2_pay15 = accOf p 28 := by
  unfold k2_pay16 k2_pay13 k2_pay14 k2_pay15; simp only [stripe_eq]; rfl
theorem acc_18 (p : FVec F S64x2560 .f32) : k2_pay18 p (iota .tc S64x40 32 [0] iota_S64x40_d0_w32) (accOf p 28) (k2_pay17 p) 28#32 = accOf p 35 := by
  unfold k2_pay18 k2_pay17; simp only [stripe_eq]; rfl
theorem acc_22 (p : FVec F S64x2560 .f32) : k2_pay22 p (iota .tc S64x40 32 [0] iota_S64x40_d0_w32) (accOf p 35) (k2_pay19 p) (k2_pay20 (iota .tc S64x40 32 [0] iota_S64x40_d0_w32)) k2_pay21 = accOf p 43 := by
  unfold k2_pay22 k2_pay19 k2_pay20 k2_pay21; simp only [stripe_eq]; rfl
theorem acc_24 (p : FVec F S64x2560 .f32) : k2_pay24 p (iota .tc S64x40 32 [0] iota_S64x40_d0_w32) (accOf p 43) (k2_pay23 p) 43#32 = accOf p 50 := by
  unfold k2_pay24 k2_pay23; simp only [stripe_eq]; rfl
theorem acc_28 (p : FVec F S64x2560 .f32) : k2_pay28 p (iota .tc S64x40 32 [0] iota_S64x40_d0_w32) (accOf p 50) (k2_pay25 p) (k2_pay26 (iota .tc S64x40 32 [0] iota_S64x40_d0_w32)) k2_pay27 = accOf p 58 := by
  unfold k2_pay28 k2_pay25 k2_pay26 k2_pay27; simp only [stripe_eq]; rfl
theorem acc_30 (p : FVec F S64x2560 .f32) : k2_pay30 p (iota .tc S64x40 32 [0] iota_S64x40_d0_w32) (accOf p 58) (k2_pay29 p) 58#32 = accOf p 64 := by
  unfold k2_pay30 k2_pay29; simp only [stripe_eq]; rfl

/-- The scores are the sum of all the stripes. -/
theorem scores_eq (X0 : S64x128.Idx → F .f32) (X1 : S2560x128.Idx → F .f32) : scores X0 X1 = accOf (k2_pay5 X0 X1) 64 := by
  unfold scores
  rw [acc_6, show k2_pay7 X0 X1 = stripe (k2_pay5 X0 X1) 200 from stripe_eq _ 200 slices_S64x2560_o0_200_S64x40]
  dsimp only
  rw [acc_10, acc_12, acc_16, acc_18, acc_22, acc_24, acc_28, acc_30]

end Stripes

/-- Its own stripe is what a row's sum holds, once it has been added. -/
theorem accOf_apply (p : FVec Ideal S64x2560 .f32) (r : Fin 64) (k : Fin 40) (n : ℕ) (hn : n ≤ 64) :
    accOf p n (ix2 r k) = if r.val < n then p (ix2 r (⟨40 * r.val + k.val, by omega⟩ : Fin 2560)) else (0 : EReal) := by
  have hr := r.isLt
  have hk := k.isLt
  induction n with
  | zero => exact ofBits_zero
  | succ n ih =>
    have hs : accOf p (n + 1) (ix2 r k) = (accOf p n (ix2 r k) : EReal) + Scalar.select
        (IntOp.cmpi .eq (iota .tc S64x40 32 [0] iota_S64x40_d0_w32 (ix2 r k)) (BitVec.ofNat 32 n)) (stripe p (n * 40) (ix2 r k)) (Ideal.ofBits .f32 0x00000000#32) := rfl
    rw [hs, ih (by omega), iota_single_apply, ofBits_zero]
    have hc : IntOp.cmpi .eq (BitVec.ofNat 32 ((ix2 r k : S64x40.Idx) 0).val) (BitVec.ofNat 32 n) = BitVec.ofBool (decide (r.val = n)) := by
      show BitVec.ofBool (BitVec.ofNat 32 r.val == BitVec.ofNat 32 n) = _
      congr 1
      rw [Bool.eq_iff_iff, beq_iff_eq, decide_eq_true_eq]
      refine ⟨fun h => ?_, fun h => by rw [h]⟩
      have := congrArg BitVec.toNat h
      simp only [BitVec.toNat_ofNat] at this
      omega
    rw [hc]
    by_cases h : r.val = n
    · rw [decide_eq_true h, if_neg (by omega), if_pos (by omega), zero_add]
      show p _ = p _
      refine congrArg (fun c : Fin 2560 => p (ix2 r c)) (Fin.ext ?_)
      show (n * 40 + k.val) % 2560 = 40 * r.val + k.val
      omega
    · rw [decide_eq_false h]
      show _ + (0 : EReal) = _
      rw [add_zero]
      by_cases h' : r.val < n
      · rw [if_pos h', if_pos (by omega)]
      · rw [if_neg h', if_neg (by omega)]

/-- The score of candidate `k` of query `r` of the block. -/
theorem scores_apply (X0 : S64x128.Idx → EReal) (X1 : S2560x128.Idx → EReal) (r : Fin 64) (k : Fin 40) :
    scores (F := Ideal) X0 X1 (ix2 r k) = dot (m := 64) (n := 2560) X0 X1 r (⟨40 * r.val + k.val, by omega⟩ : Fin 2560) := by
  rw [scores_eq, accOf_apply _ r k 64 (le_refl _), if_pos r.isLt]
  unfold k2_pay5
  simp only [shapeCast_id]
  refine (Ideal.matmul_transposedRhs_apply (M := 64) (K := 128) (N := 2560) (φ₁ := .f32) (φ₂ := .f32) none X0 X1 _ _ _).trans ?_
  rw [show (constant (F := Ideal) S64x2560 .f32 0x00000000#32) (ix2 r (⟨40 * r.val + k.val, by omega⟩ : Fin 2560)) = (0 : EReal) from ofBits_zero, zero_add]
  rfl

/-! ## A choice -/

/-- One column repeated along the columns. -/
theorem broadcastCol {α : Type} {m n : ℕ} (hm : m ≠ 1) (x : (⟨2, ![m, 1]⟩ : Shape).Idx → α) (h : (⟨2, ![m, 1]⟩ : Shape).Broadcasts ⟨2, ![m, n]⟩)
    (r : Fin m) (k : Fin n) : broadcastTo ⟨2, ![m, n]⟩ x h (ix2 r k) = x (ix2 r (0 : Fin 1)) := by
  unfold broadcastTo
  refine congrArg x (funext fun a => Fin.ext ?_)
  match a with
  | ⟨0, _⟩ => exact congrArg Fin.val (dif_neg hm)
  | ⟨1, _⟩ => rfl

/-- A value for each row, repeated along the row. -/
theorem along {α : Type} (w : S64.Idx → α) (r : Fin 64) (k : Fin 40) :
    broadcastTo S64x40 (shapeCast S64x1 w shapeCasts_S64_S64x1) broadcasts_S64x1_S64x40 (ix2 r k) = w (ix1 r) := by
  refine (broadcastCol (by decide) _ _ r k).trans (shapeCast_apply _ _ _ (ix1 r) ?_)
  rw [Shape.rowMajor_val_one, Shape.rowMajor_val_two]
  show r.val = r.val * 1 + 0
  omega

/-- The largest score of a row. -/
def rowMax (s : S64x40.Idx → EReal) (r : Fin 64) : EReal := (Finset.univ : Finset (Fin 40)).fold max ⊥ fun k => s (ix2 r k)

theorem rowMax_eq (s : FVec Ideal S64x40 .f32) (r : Fin 64) :
    multiReduction .maximumf [1] S64 s 0xFF800000#32 reduces_S64x40_S64 (.inl rfl) rfl (ix1 r) = rowMax s r := by
  refine (multiReduction_maximumf_eq_fold _ _ _ _ _ _).trans ?_
  refine (Shape.Reduces.fold_fiber_r2_a1 (n0 := 64) (n1 := 40) reduces_S64x40_S64 (ix1 r) _ _ _).trans ?_
  rw [show (FloatOps.ofBits (F := Ideal) .f32 0xFF800000#32) = (⊥ : EReal) from ofBits_bot]
  rfl

theorem maskOf_apply (s : FVec Ideal S64x40 .f32) (cand : IVec S64x40 32) (r : Fin 64) (k : Fin 40) :
    maskOf s cand (ix2 r k) = if s (ix2 r k) = rowMax s r then cand (ix2 r k) else 2147483647#32 := by
  have hs : maskOf s cand (ix2 r k) = Scalar.select (Ideal.cmp .oeq (s (ix2 r k)) (broadcastTo S64x40 (shapeCast S64x1
      (multiReduction .maximumf [1] S64 s 0xFF800000#32 reduces_S64x40_S64 (.inl rfl) rfl) shapeCasts_S64_S64x1) broadcasts_S64x1_S64x40 (ix2 r k)))
      (cand (ix2 r k)) 2147483647#32 := rfl
  rw [hs, along, rowMax_eq]
  show Scalar.select (BitVec.ofBool (decide (s (ix2 r k) = rowMax s r))) _ _ = _
  by_cases h : s (ix2 r k) = rowMax s r
  · rw [if_pos h, decide_eq_true h]; rfl
  · rw [if_neg h, decide_eq_false h]; rfl

theorem fold_minsi_spec {ι : Type} [DecidableEq ι] (g : ι → BitVec 32) (s : Finset ι) (init : BitVec 32) :
    (∀ i ∈ s, (s.fold IntOp.minsi init g).toInt ≤ (g i).toInt) ∧ (s.fold IntOp.minsi init g = init ∨ ∃ i ∈ s, s.fold IntOp.minsi init g = g i) := by
  refine Finset.induction_on s ⟨fun i hi => absurd hi (Finset.notMem_empty i), Or.inl Finset.fold_empty⟩ ?_
  intro a s has ih
  rw [Finset.fold_insert has]
  obtain ⟨h1, h2⟩ := ih
  generalize Finset.fold IntOp.minsi init g s = f at h1 h2
  have hm : IntOp.minsi (g a) f = if (g a).toInt < f.toInt then g a else f := by
    unfold IntOp.minsi
    simp only [BitVec.sle_eq_decide, BitVec.slt_eq_decide, decide_eq_true_eq]
  rw [hm]
  by_cases h : (g a).toInt < f.toInt
  · rw [if_pos h]
    refine ⟨fun i hi => ?_, Or.inr ⟨a, Finset.mem_insert_self _ _, rfl⟩⟩
    rcases Finset.mem_insert.mp hi with rfl | hi
    · exact le_refl _
    · exact h.le.trans (h1 i hi)
  · rw [if_neg h]
    refine ⟨fun i hi => ?_, h2.imp id fun ⟨i, hi, e⟩ => ⟨i, Finset.mem_insert_of_mem hi, e⟩⟩
    rcases Finset.mem_insert.mp hi with rfl | hi
    · omega
    · exact h1 i hi

theorem toInt_small (v : BitVec 32) (h : v.toNat < 102400) : v.toInt < (2147483647#32 : BitVec 32).toInt := by
  have e : v.toInt = v.toNat := BitVec.toInt_eq_toNat_of_lt (by omega)
  have e' : (2147483647#32 : BitVec 32).toInt = 2147483647 := by decide
  rw [e, e']
  omega

/-- A row's choice is a candidate with the row's largest score. -/
theorem pickOf_spec (s : FVec Ideal S64x40 .f32) (cand : IVec S64x40 32) (r : Fin 64) (hc : ∀ k : Fin 40, (cand (ix2 r k)).toNat < 102400) :
    ∃ k : Fin 40, s (ix2 r k) = rowMax s r ∧ pickOf s cand (ix1 r) = cand (ix2 r k) := by
  have e : pickOf s cand (ix1 r) = (Finset.univ : Finset (Fin 40)).fold IntOp.minsi 2147483647#32 fun k => maskOf s cand (ix2 r k) := by
    refine (multiReductionI_eq_fold _ _ _ _ _ _).trans ?_
    exact Shape.Reduces.fold_fiber_r2_a1 (n0 := 64) (n1 := 40) reduces_S64x40_S64 (ix1 r) _ _ _
  obtain ⟨h1, h2⟩ := fold_minsi_spec (fun k : Fin 40 => maskOf s cand (ix2 r k)) Finset.univ 2147483647#32
  rw [← e] at h1 h2
  obtain ⟨k0, hk0⟩ := (fold_max_spec (n := 40) (by decide) fun k => s (ix2 r k)).2
  have hm0 : maskOf s cand (ix2 r k0) = cand (ix2 r k0) := by rw [maskOf_apply]; exact if_pos hk0.symm
  have hlt : (pickOf s cand (ix1 r)).toInt < (2147483647#32 : BitVec 32).toInt := by
    have := h1 k0 (Finset.mem_univ _)
    rw [hm0] at this
    exact lt_of_le_of_lt this (toInt_small _ (hc k0))
  rcases h2 with h2 | ⟨k, -, h2⟩
  · rw [h2] at hlt; exact absurd hlt (lt_irrefl _)
  · refine ⟨k, ?_⟩
    rw [h2, maskOf_apply]
    by_cases h : s (ix2 r k) = rowMax s r
    · exact ⟨h, if_pos h⟩
    · rw [h2, maskOf_apply, if_neg h] at hlt
      exact absurd hlt (lt_irrefl _)

theorem nextOf_apply (s : FVec Ideal S64x40 .f32) (cand : IVec S64x40 32) (r : Fin 64) (k : Fin 40) (hc : ∀ k : Fin 40, (cand (ix2 r k)).toNat < 102400) :
    nextOf s cand (ix2 r k) = if s (ix2 r k) = rowMax s r ∧ cand (ix2 r k) = pickOf s cand (ix1 r) then (⊥ : EReal) else s (ix2 r k) := by
  have hs : nextOf s cand (ix2 r k) = Scalar.select (IntOp.cmpi .eq (maskOf s cand (ix2 r k))
      (broadcastTo S64x40 (shapeCast S64x1 (pickOf s cand) shapeCasts_S64_S64x1) broadcasts_S64x1_S64x40 (ix2 r k))) (Ideal.ofBits .f32 0xFF800000#32) (s (ix2 r k)) := rfl
  rw [hs, along, ofBits_bot]
  show Scalar.select (BitVec.ofBool (maskOf s cand (ix2 r k) == pickOf s cand (ix1 r))) _ _ = _
  have hb : (maskOf s cand (ix2 r k) == pickOf s cand (ix1 r)) = decide (s (ix2 r k) = rowMax s r ∧ cand (ix2 r k) = pickOf s cand (ix1 r)) := by
    rw [Bool.eq_iff_iff, beq_iff_eq, decide_eq_true_eq, maskOf_apply]
    by_cases h : s (ix2 r k) = rowMax s r
    · rw [if_pos h]; exact ⟨fun e => ⟨h, e⟩, fun e => e.2⟩
    · rw [if_neg h]
      refine ⟨fun e => ?_, fun e => absurd e.1 h⟩
      obtain ⟨k', -, hk'⟩ := pickOf_spec s cand r hc
      have := toInt_small _ (hc k')
      rw [← hk', ← e] at this
      exact absurd this (lt_irrefl _)
  rw [hb]
  by_cases h : s (ix2 r k) = rowMax s r ∧ cand (ix2 r k) = pickOf s cand (ix1 r)
  · rw [if_pos h, decide_eq_true h]; rfl
  · rw [if_neg h, decide_eq_false h]; rfl

end Cert.Proof.Whole

end
-- ==== Proof.Whole.Chosen.lean ====
/-
  The choices at `Ideal`: where no two keys have the same score with a query, the five numbers chosen for it are those of its five best keys,
  the best first.
-/
module

public import proofs.«01_k».proof.Proof.Whole.Candidates
public import proofs.«01_k».proof.Proof.Whole.SelectValue

@[expose] public section

noncomputable section

namespace Cert.Proof.Whole

open Cert.WholeIdeal Cert.WholeIdeal.Gen Idealize.ShloMosaic.ValueIdx
open Idealize.ShloMosaic hiding ix1 ix2 ix3 eq_ix1 eq_ix2 eq_ix3

variable (a0 : S4096x128.Idx → EReal) (a1 : S100000x128.Idx → EReal) (q : Fin 4096)

/-- The query's block of 64 and its place in the block. -/
def sb : Fin 64 := ⟨q.val / 64, by have := q.isLt; omega⟩
def sy : Fin 64 := ⟨q.val % 64, by omega⟩

/-- The candidates' rows, and the block's candidates. -/
def gath : S163840x128.Idx → EReal := WholeGather.outVal (F := Ideal) (listed (F := Ideal) a0 a1) (knp (F := Ideal) a1)
def blkCand : IVec S64x40 32 := k2_pay31 (F := Ideal) (blkN (numbers (F := Ideal) a0 a1) (sb q))

/-- The block's scores before choice `t`. -/
def blkScores (t : ℕ) : FVec Ideal S64x40 .f32 :=
  scoresAt (F := Ideal) (scores (F := Ideal) (blkQ (F := Ideal) (qn (F := Ideal) a0) (sb q)) (blkR (F := Ideal) (gath a0 a1) (sb q))) (blkCand a0 a1 q) t

/-- The number chosen in choice `t`. -/
def pickAt (t : ℕ) : ℕ := (pickOf (F := Ideal) (blkScores a0 a1 q t) (blkCand a0 a1 q) (ix1 (sy q))).toNat

theorem q_eq (h : (sb q).val * 64 + (sy q).val < 4096) : (⟨(sb q).val * 64 + (sy q).val, h⟩ : Fin 4096) = q :=
  Fin.ext (by show q.val / 64 * 64 + q.val % 64 = q.val; omega)

theorem blkCand_apply (k : Fin 40) : blkCand a0 a1 q (ix2 (sy q) k) = numbers (F := Ideal) a0 a1 (ix2 q k) := by
  unfold blkCand k2_pay31
  simp only [shapeCast_id]
  exact congrArg (fun r => numbers (F := Ideal) a0 a1 (ix2 r k)) (q_eq q _)

theorem blkCand_toNat (k : Fin 40) : (blkCand a0 a1 q (ix2 (sy q) k)).toNat = candAt a0 a1 q k.val := by
  rw [blkCand_apply, numbers_toNat]

theorem blkCand_lt (k : Fin 40) : (blkCand a0 a1 q (ix2 (sy q) k)).toNat < 102400 := by
  rw [blkCand_toNat]; exact candAt_lt _ _ _ _

/-- A choice's number. -/
theorem chosen_toNat (t : Fin 5) : (chosen (F := Ideal) a0 a1 (ix2 q t)).toNat = pickAt a0 a1 q t.val := by
  refine congrArg BitVec.toNat ?_
  show shapeCast S64x1 (pickOf (F := Ideal) (blkScores a0 a1 q t.val) (blkCand a0 a1 q)) shapeCasts_S64_S64x1 (ix2 (sy q) (0 : Fin 1)) = _
  refine shapeCast_apply _ _ _ (ix1 (sy q)) ?_
  rw [Shape.rowMajor_val_one, Shape.rowMajor_val_two]
  show (sy q).val = (sy q).val * 1 + 0
  omega

/-- Row `40 q + k` of the gathered rows is the candidate's key. -/
theorem gath_apply (k : Fin 40) (n : ℕ) (hn : n < 163840) (e : n = 40 * q.val + k.val) (d : Fin 128) :
    gath a0 a1 (ix2 (⟨n, hn⟩ : Fin 163840) d) = knp (F := Ideal) a1 (ix2 (⟨candAt a0 a1 q k.val, candAt_lt a0 a1 q k.val⟩ : Fin 102400) d) := by
  show knp (F := Ideal) a1 (ix2 (WholeGather.rowOf (listed (F := Ideal) a0 a1 (ix1 (⟨n, hn⟩ : Fin 163840)))) d) = _
  refine congrArg (fun r => knp (F := Ideal) a1 (ix2 r d)) (Fin.ext ?_)
  show (listed (F := Ideal) a0 a1 (ix1 (⟨n, hn⟩ : Fin 163840))).toNat % 102400 = candAt a0 a1 q k.val
  rw [listed_apply a0 a1 q k n hn e, numbers_toNat]
  exact Nat.mod_eq_of_lt (candAt_lt _ _ _ _)

theorem blkScores_zero (k : Fin 40) (hc : candAt a0 a1 q k.val < 100000) : blkScores a0 a1 q 0 (ix2 (sy q) k) = scoreOf a0 a1 q (candAt a0 a1 q k.val) := by
  have hk := k.isLt
  have hq := q.isLt
  have hy : (sy q).val < 64 := (sy q).isLt
  show scores (F := Ideal) _ _ _ = _
  rw [scores_apply, ← dot_knp a0 a1 q _ hc (candAt_lt _ _ _ _)]
  unfold dot
  refine Finset.sum_congr rfl fun d _ => ?_
  rw [mul_comm]
  refine congrArg₂ (· * ·) ?_ ?_
  · refine Eq.trans ?_ (gath_apply a0 a1 q k ((sb q).val * 2560 + (40 * (sy q).val + k.val)) (by have := (sb q).isLt; omega) ?_ d)
    · rfl
    · show q.val / 64 * 2560 + (40 * (q.val % 64) + k.val) = 40 * q.val + k.val
      omega
  · exact congrArg (fun r => qn (F := Ideal) a0 (ix2 r d)) (q_eq q _)

/-- The five numbers chosen are those of the five best keys. -/
theorem pickAt_top (hf : TopK.Distinct (scoreOf a0 a1 q)) : TopK.IsTop (scoreOf a0 a1 q) 5 (pickAt a0 a1 q) := by
  have hch := TopK.chunks hf (colAt_le a0 a1 q) (colAt_bot a0 a1 q) (colAt_step a0 a1 q) (colAt_max a0 a1 q)
  refine TopK.select (T := colAt a0 a1 q) (b := chunkAt a0 a1 q) (C := candAt a0 a1 q)
    (S := fun t k => if h : k < 40 then blkScores a0 a1 q t (ix2 (sy q) (⟨k, h⟩ : Fin 40)) else ⊥)
    (M := fun t => rowMax (blkScores a0 a1 q t) (sy q))
    hf (colAt_le a0 a1 q) (colAt_at a0 a1 q) (colAt_bot a0 a1 q) (colAt_step a0 a1 q) (colAt_max a0 a1 q) (fun k _ => rfl) ?_ ?_ ?_ ?_
  · intro k hk
    rw [dif_pos hk]
    refine blkScores_zero a0 a1 q ⟨k, hk⟩ ?_
    have := (hch (k / 8) (by omega)).1
    show 8 * chunkAt a0 a1 q (k / 8) + k % 8 < 100000
    omega
  · intro t k hk
    rw [dif_pos hk]
    exact (fold_max_spec (n := 40) (by decide) fun k => blkScores a0 a1 q t (ix2 (sy q) k)).1 ⟨k, hk⟩
  · intro t
    obtain ⟨k, h1, h2⟩ := pickOf_spec (blkScores a0 a1 q t) (blkCand a0 a1 q) (sy q) (blkCand_lt a0 a1 q)
    refine ⟨k.val, k.isLt, ?_, ?_⟩
    · rw [dif_pos k.isLt]
      exact h1
    · unfold pickAt
      rw [h2, blkCand_toNat]
  · intro t k hk
    rw [dif_pos hk, dif_pos hk]
    refine (nextOf_apply (blkScores a0 a1 q t) (blkCand a0 a1 q) (sy q) ⟨k, hk⟩ (blkCand_lt a0 a1 q)).trans ?_
    have e : (blkCand a0 a1 q (ix2 (sy q) (⟨k, hk⟩ : Fin 40)) = pickOf (F := Ideal) (blkScores a0 a1 q t) (blkCand a0 a1 q) (ix1 (sy q))) ↔ candAt a0 a1 q k = pickAt a0 a1 q t := by
      unfold pickAt
      rw [← blkCand_toNat a0 a1 q ⟨k, hk⟩]
      exact BitVec.toNat_inj.symm
    simp only [e]

end Cert.Proof.Whole

end
-- ==== Proof.Whole.Sorted.lean ====
/-
  A sort of a row and the choice of a row's greatest entries, at extended reals: each arranges the row's positions, and the entries come in order.
-/
module

public import proofs.«01_k».proof.Proof.Whole.TopK
public import Idealize.ShloMosaic.PureOps
public import Idealize.ShloMosaic.Lib.SortFacts
public import Idealize.ShloMosaic.Lib.ValueIdx

@[expose] public section

noncomputable section

namespace Cert.Proof.Sorted

open Idealize.ShloMosaic.ValueIdx
open Idealize.ShloMosaic

variable {m n : ℕ}

/-- The positions along the second axis through an index. -/
theorem along_one (q : Fin m) (i k : Fin n) (h : 1 < (⟨2, ![m, n]⟩ : Shape).rank) :
    Shape.Idx.along (s := ⟨2, ![m, n]⟩) (ix2 q i) ⟨1, h⟩ k = ix2 q k := by
  funext a
  match a with
  | ⟨0, _⟩ => rfl
  | ⟨1, _⟩ => rfl

/-- The arrangement by an order has no inversion. -/
theorem arranged (x : Fin n → EReal) (before : EReal → EReal → Bool) (lt : EReal → EReal → Prop)
    (hb : ∀ l r, before l r = true ↔ lt l r) (hirr : ∀ a b, lt a b → ¬ lt b a) (htr : ∀ a b c, ¬ lt a b → ¬ lt b c → ¬ lt a c) :
    ∃ π : Fin n → Fin n, π = sortedFrom (fun k k' => before (x k) (x k')) ∧ Function.Injective π ∧ Function.Surjective π
      ∧ ∀ i j, i < j → ¬ lt (x (π j)) (x (π i)) := by
  have hf : ∀ l r, before l r = false ↔ ¬ lt l r := fun l r => by rw [← hb, Bool.not_eq_true]
  refine ⟨_, rfl, sortedFrom_injective _, sortedFrom_surjective _, fun i j hij => ?_⟩
  have h := sortedFrom_noInversion (fun k k' => before (x k) (x k')) (fun k k' => before (x k) (x k'))
    (fun a b h => (hf _ _).mpr (hirr _ _ ((hb _ _).mp h))) (fun _ _ h => h)
    (fun a b c h1 h2 => (hf _ _).mpr (htr _ _ _ ((hf _ _).mp h1) ((hf _ _).mp h2))) i j hij
  exact (hf _ _).mp h

/-- A row sorted upwards. -/
theorem sort_row (cmp : EReal → EReal → BitVec 1) (hc : ∀ l r, (cmp l r == 1#1) = true ↔ l < r)
    (x : (⟨2, ![m, n]⟩ : Shape).Idx → EReal) (q : Fin m) :
    ∃ π : Fin n → Fin n, Function.Surjective π ∧ (∀ i, Host.sort ⟨2, ![m, n]⟩ 1 cmp x (ix2 q i) = x (ix2 q (π i)))
      ∧ ∀ i j, i < j → x (ix2 q (π i)) ≤ x (ix2 q (π j)) := by
  obtain ⟨π, e, -, hs, hm⟩ := arranged (fun k => x (ix2 q k)) (fun l r => cmp l r == 1#1) (· < ·) hc (fun _ _ h => not_lt.mpr h.le)
    (fun _ _ _ h1 h2 => not_lt.mpr ((not_lt.mp h2).trans (not_lt.mp h1)))
  refine ⟨π, hs, fun i => ?_, fun i j hij => not_lt.mp (hm i j hij)⟩
  have hd : 1 < (⟨2, ![m, n]⟩ : Shape).rank := by show 1 < 2; decide
  unfold Host.sort
  rw [dif_pos hd, e]
  refine (congrArg x (along_one q i _ hd)).trans (congrArg (fun z => x (ix2 q z)) ?_)
  exact congrFun (congrArg sortedFrom (funext fun k => funext fun k' =>
    congrArg₂ (fun a b => cmp (x a) (x b) == 1#1) (along_one q i k hd) (along_one q i k' hd))) i

/-- A row whose sorted entries differ from their neighbours has no two entries alike. -/
theorem injective_of_sorted (cmp : EReal → EReal → BitVec 1) (hc : ∀ l r, (cmp l r == 1#1) = true ↔ l < r)
    (x : (⟨2, ![m, n]⟩ : Shape).Idx → EReal) (q : Fin m)
    (hne : ∀ i (h : i + 1 < n), Host.sort ⟨2, ![m, n]⟩ 1 cmp x (ix2 q (⟨i, by omega⟩ : Fin n)) ≠ Host.sort ⟨2, ![m, n]⟩ 1 cmp x (ix2 q (⟨i + 1, h⟩ : Fin n))) :
    ∀ k k' : Fin n, x (ix2 q k) = x (ix2 q k') → k = k' := by
  obtain ⟨π, hs, he, hm⟩ := sort_row cmp hc x q
  have hlt : ∀ i j : Fin n, i < j → x (ix2 q (π i)) < x (ix2 q (π j)) := by
    intro i j hij
    have hj := j.isLt
    have h1 : i.val + 1 < n := by have : i.val < j.val := hij; omega
    have h2 := hne i.val h1
    rw [he, he] at h2
    have h3 : x (ix2 q (π i)) < x (ix2 q (π ⟨i.val + 1, h1⟩)) := lt_of_le_of_ne (hm _ _ (by show i.val < i.val + 1; omega)) h2
    rcases Nat.lt_or_ge (i.val + 1) j.val with h | h
    · exact h3.trans_le (hm _ _ h)
    · have e : (⟨i.val + 1, h1⟩ : Fin n) = j := Fin.ext (by have : i.val < j.val := hij; show i.val + 1 = j.val; omega)
      rw [e] at h3
      exact h3
  intro k k' hk
  obtain ⟨i, rfl⟩ := hs k
  obtain ⟨j, rfl⟩ := hs k'
  rcases lt_trichotomy i j with h | h | h
  · exact absurd hk (hlt i j h).ne
  · rw [h]
  · exact absurd hk (hlt j i h).ne'

/-- The positions of a row's greatest entries, the greatest first. -/
theorem topK_row {w : ℕ} (gt : EReal → EReal → BitVec 1) (hc : ∀ l r, (gt l r == 1#1) = true ↔ r < l)
    (x : (⟨2, ![m, n]⟩ : Shape).Idx → EReal) (h : (⟨2, ![m, n]⟩ : Shape).Slices (fun _ => 0) ⟨2, ![m, w]⟩) (hw : w ≤ n) (q : Fin m) :
    ∃ π : Fin n → Fin n, Function.Injective π ∧ Function.Surjective π
      ∧ (∀ t : Fin w, (Host.topK ⟨2, ![m, w]⟩ 1 gt x h).2 (ix2 q t) = BitVec.ofNat 32 (π ⟨t.val, by have := t.isLt; omega⟩).val)
      ∧ ∀ i j, i < j → x (ix2 q (π j)) ≤ x (ix2 q (π i)) := by
  obtain ⟨π, e, hi, hs, hm⟩ := arranged (fun k => x (ix2 q k)) (fun l r => gt l r == 1#1) (· > ·) hc (fun _ _ h => not_lt.mpr (le_of_lt h))
    (fun _ _ _ h1 h2 => not_lt.mpr ((not_lt.mp h1).trans (not_lt.mp h2)))
  refine ⟨π, hi, hs, fun t => ?_, fun i j hij => not_lt.mp (hm i j hij)⟩
  have hd : 1 < (⟨2, ![m, n]⟩ : Shape).rank := by show 1 < 2; decide
  have ht : ∀ (y : (⟨2, ![m, n]⟩ : Shape).Idx → BitVec 32), extractStridedSlice ⟨2, ![m, w]⟩ (fun _ => 0) y h (ix2 q t) = y (ix2 q (⟨t.val, by have := t.isLt; omega⟩ : Fin n)) := by
    intro y
    unfold extractStridedSlice
    refine congrArg y (funext fun a => Fin.ext ?_)
    match a with
    | ⟨0, _⟩ => exact Nat.zero_add _
    | ⟨1, _⟩ => exact Nat.zero_add _
  unfold Host.topK
  dsimp only
  rw [ht]
  unfold Host.sort2
  rw [dif_pos hd]
  dsimp only
  rw [dif_pos hd, e]
  refine congrArg (fun z : Fin n => BitVec.ofNat 32 z.val) ?_
  exact congrFun (congrArg sortedFrom (funext fun k => funext fun k' =>
    congrArg₂ (fun a b => gt (x a) (x b) == 1#1) (along_one q _ k hd) (along_one q _ k' hd))) _

/-- They are the row's best positions. -/
theorem isTop_of (x : Fin 100000 → EReal) (f : ℕ → EReal) (hf : ∀ i (h : i < 100000), f i = x ⟨i, h⟩) (π : Fin 100000 → Fin 100000)
    (hi : Function.Injective π) (hs : Function.Surjective π) (hm : ∀ i j, i < j → x (π j) ≤ x (π i)) (p : ℕ → ℕ)
    (hp : ∀ t (h : t < 100000), t < 5 → p t = (π ⟨t, h⟩).val) : TopK.IsTop f 5 p := by
  intro t ht
  have hp' : ∀ s (h : s < 5), p s = (π (⟨s, by omega⟩ : Fin 100000)).val := fun s h => hp s (by omega) h
  refine ⟨?_, fun s hst e => ?_, fun i hi' hn => ?_⟩
  · rw [hp' t ht]; exact (π _).isLt
  · rw [hp' t ht, hp' s (by omega)] at e
    have := congrArg Fin.val (hi (Fin.ext e))
    dsimp only at this
    omega
  · obtain ⟨j, hj⟩ := hs ⟨i, hi'⟩
    have hv : (π j).val = i := congrArg Fin.val hj
    have e1 : f i = x (π j) := by rw [hf i hi', hj]
    have e2 : f (p t) = x (π (⟨t, by omega⟩ : Fin 100000)) := by
      rw [hf (p t) (by rw [hp' t ht]; exact (π _).isLt)]
      exact congrArg x (Fin.ext (hp' t ht))
    rw [e1, e2]
    rcases Nat.lt_trichotomy t j.val with h | h | h
    · exact hm _ _ h
    · have : (⟨t, by omega⟩ : Fin 100000) = j := Fin.ext h
      rw [this]
    · refine absurd ?_ (hn j.val h)
      exact (hp' j.val (by omega)).trans hv

end Cert.Proof.Sorted

end
-- ==== Proof.Whole.Scores.lean ====
/-
  The scores as the host computes them: each is the product of a normalised key with a normalised query, and the precondition says that
  no two keys have the same score with a query. The five best keys by the host's choice.
-/
module

public import proofs.«01_k».proof.Proof.Whole.Candidates
public import proofs.«01_k».proof.Proof.Whole.Sorted
public import proofs.«01_k».proof.Proof.Gen.Pre_scores_distinct
public import Idealize.ShloMosaic.Lib.StackMember
public import Idealize.ShloMosaic.Lib.ValueLayout

@[expose] public section

noncomputable section

namespace Cert.Proof.Whole

open Cert.WholeIdeal Cert.WholeIdeal.Gen Idealize.ShloMosaic.ValueIdx
open Idealize.ShloMosaic hiding ix1 ix2 ix3 eq_ix1 eq_ix2 eq_ix3

variable (a0 : S4096x128.Idx → EReal) (a1 : S100000x128.Idx → EReal) (q : Fin 4096)

/-- All scores, one row for each query. -/
def scoreMat (h : S100000x128.Transposes [1, 0] ⟨2, ![128, 100000]⟩) : FVec Ideal ⟨2, ![4096, 100000]⟩ .f32 :=
  Host.dotGeneral (F := Ideal) (φ₁ := .f32) (φ₂ := .f32) (DotDims.plain 4096 128 100000) none (qn (F := Ideal) a0) (transpose ⟨2, ![128, 100000]⟩ [1, 0] (kn (F := Ideal) a1) h)

theorem scoreMat_apply (h : S100000x128.Transposes [1, 0] ⟨2, ![128, 100000]⟩) (i : Fin 100000) :
    scoreMat a0 a1 h (ix2 q i) = scoreOf a0 a1 q i.val := by
  unfold scoreMat scoreOf
  rw [dif_pos i.isLt]
  refine (StackMember.dotGeneral_plain_apply none _ _ q i).trans ?_
  unfold dot
  refine Finset.sum_congr rfl fun c _ => ?_
  refine Eq.trans (congrArg₂ (· * ·) rfl (transpose_ix2_apply _ h c i)) (mul_comm _ _)

/-- The order that the precondition sorts by is the order of the extended reals. -/
theorem comparator_iff (l r : EReal) : (Cert.Pre_scores_distinct.comparator_f32_d1 (F := Ideal) l r == 1#1) = true ↔ l < r := by
  have hone : ∀ b : Bool, (BitVec.ofBool b == 1#1) = true ↔ b = true := by decide
  have hs : ∀ (z : EReal) (x : EReal), z = 0 → Scalar.select (Ideal.cmp .une x x) (Ideal.ofBits .f32 0x7FC00000#32) (Scalar.select (Ideal.cmp .oeq x z) z x) = x := by
    intro z x hz
    subst hz
    have e1 : Ideal.cmp .une x x = 0#1 := by simp [Ideal.cmp]
    rw [e1]
    by_cases hx : x = 0
    · subst hx; simp [Scalar.select, Ideal.cmp]
    · simp [Scalar.select, Ideal.cmp, hx]
  have e : Cert.Pre_scores_distinct.comparator_f32_d1 (F := Ideal) l r = Ideal.cmp .olt l r := by
    show Ideal.cmp .olt (Scalar.select (Ideal.cmp .une l l) (Ideal.ofBits .f32 0x7FC00000#32) (Scalar.select (Ideal.cmp .oeq l (Ideal.ofBits .f32 0x00000000#32)) (Ideal.ofBits .f32 0x00000000#32) l))
      (Scalar.select (Ideal.cmp .une r r) (Ideal.ofBits .f32 0x7FC00000#32) (Scalar.select (Ideal.cmp .oeq r (Ideal.ofBits .f32 0x00000000#32)) (Ideal.ofBits .f32 0x00000000#32) r)) = _
    rw [hs _ l ofBits_zero, hs _ r ofBits_zero]
  rw [e]
  simp only [Ideal.cmp, hone, decide_eq_true_eq]

/-- Under the precondition no two keys have the same score with a query. -/
theorem distinct_of_pre (a2 : S100000x128.Idx → EReal) (hp : Cert.Pre_scores_distinct.fn (F := Ideal) a0 a1 a2 = fun _ => 1#1) :
    TopK.Distinct (scoreOf a0 a1 q) := by
  have hm := Sorted.injective_of_sorted (m := 4096) (n := 100000) (Cert.Pre_scores_distinct.comparator_f32_d1 (F := Ideal)) comparator_iff
    (scoreMat a0 a1 Cert.Pre_scores_distinct.Facts.transposes_S100000x128_S128x100000_1_0) q ?_
  · intro i hi j hj e
    have := hm ⟨i, hi⟩ ⟨j, hj⟩ (by rw [scoreMat_apply, scoreMat_apply]; exact e)
    exact congrArg Fin.val this
  · intro i hi
    have e := congrFun hp (ix2 q (⟨i, by omega⟩ : Fin 99999))
    have hone : ∀ b : Bool, BitVec.ofBool b = 1#1 → b = true := by decide
    have h1 : extractStridedSlice Cert.Pre_scores_distinct.S4096x99999 ![0, 0] (Host.sort ⟨2, ![4096, 100000]⟩ 1 (Cert.Pre_scores_distinct.comparator_f32_d1 (F := Ideal)) (scoreMat a0 a1 Cert.Pre_scores_distinct.Facts.transposes_S100000x128_S128x100000_1_0)) Cert.Pre_scores_distinct.Facts.slices_S4096x100000_S4096x99999_0_0 (ix2 q (⟨i, by omega⟩ : Fin 99999))
        ≠ extractStridedSlice Cert.Pre_scores_distinct.S4096x99999 ![0, 1] (Host.sort ⟨2, ![4096, 100000]⟩ 1 (Cert.Pre_scores_distinct.comparator_f32_d1 (F := Ideal)) (scoreMat a0 a1 Cert.Pre_scores_distinct.Facts.transposes_S100000x128_S128x100000_1_0)) Cert.Pre_scores_distinct.Facts.slices_S4096x100000_S4096x99999_0_1 (ix2 q (⟨i, by omega⟩ : Fin 99999)) := by
      exact of_decide_eq_true (hone _ e)
    intro he
    refine h1 ?_
    unfold extractStridedSlice
    refine Eq.trans (congrArg _ ?_) (he.trans (congrArg _ ?_))
    · funext a; apply Fin.ext
      match a with
      | ⟨0, _⟩ => exact Nat.zero_add _
      | ⟨1, _⟩ => exact Nat.zero_add _
    · funext a; apply Fin.ext
      match a with
      | ⟨0, _⟩ => exact (Nat.zero_add _).symm
      | ⟨1, _⟩ => exact Nat.add_comm _ _

/-- The host's five numbers, as a sequence. -/
def bestAt (h : S100000x128.Transposes [1, 0] ⟨2, ![128, 100000]⟩) (hs : (⟨2, ![4096, 100000]⟩ : Shape).Slices (fun _ => 0) ⟨2, ![4096, 5]⟩) : IVec ⟨2, ![4096, 5]⟩ 32 :=
  (Host.topK ⟨2, ![4096, 5]⟩ 1 (FloatOps.cmpfTotal (F := Ideal) (φ := .f32) .gt) (scoreMat a0 a1 h) hs).2

theorem bestAt_top (h : S100000x128.Transposes [1, 0] ⟨2, ![128, 100000]⟩) (hs : (⟨2, ![4096, 100000]⟩ : Shape).Slices (fun _ => 0) ⟨2, ![4096, 5]⟩) :
    TopK.IsTop (scoreOf a0 a1 q) 5 fun t => if ht : t < 5 then (bestAt a0 a1 h hs (ix2 q (⟨t, ht⟩ : Fin 5))).toNat else 0 := by
  obtain ⟨π, hi, hsu, ht, hm⟩ := Sorted.topK_row (m := 4096) (n := 100000) (w := 5) (FloatOps.cmpfTotal (F := Ideal) (φ := .f32) .gt)
    (fun l r => by
      have hone : ∀ b : Bool, (BitVec.ofBool b == 1#1) = true ↔ b = true := by decide
      show (Ideal.cmp .ogt l r == 1#1) = true ↔ r < l
      simp only [Ideal.cmp, hone, decide_eq_true_eq, gt_iff_lt]) (scoreMat a0 a1 h) hs (by decide) q
  refine Sorted.isTop_of (fun i => scoreMat a0 a1 h (ix2 q i)) _ (fun i hi' => (scoreMat_apply a0 a1 q h ⟨i, hi'⟩).symm) π hi hsu hm _ fun t h1 h2 => ?_
  rw [dif_pos h2]
  unfold bestAt
  rw [ht ⟨t, h2⟩, BitVec.toNat_ofNat]
  exact Nat.mod_eq_of_lt (lt_trans (π _).isLt (by norm_num))

end Cert.Proof.Whole

end
-- ==== Proof.Whole.Claims.lean ====
/-
  The claims about the whole kernel: each program's frame, and the kernel's result against the reference's, where no two keys have the same
  score with a query.
-/
module

public import proofs.«01_k».proof.Proof.Whole.Launch
public import proofs.«01_k».proof.Proof.Whole.Chosen
public import proofs.«01_k».proof.Proof.Whole.Scores
public import proofs.«01_k».proof.Proof.Mean.RefValue
public import proofs.«01_k».proof.Proof.Gen.WholeReferenceIdeal.Run
public import proofs.«01_k».proof.Defs
public import Idealize.ShloMosaic.Lib.Quiescent
public import Idealize.ShloMosaic.Adequacy
public import Idealize.ShloMosaic.Init

@[expose] public section

noncomputable section

namespace Cert.Proof.Whole

open Cert.WholeIdeal Cert.WholeIdeal.Gen Idealize.ShloMosaic.ValueIdx Idealize.SL.Sem
open Idealize.ShloMosaic hiding ix1 ix2 ix3 eq_ix1 eq_ix2 eq_ix3

/-- The constant is one fifth. -/
theorem fifth_eq : WholeFuse.fifth (F := Ideal) = ((1 / 5 : ℝ) : EReal) :=
  IdealRules.named_const.ideal_named_scalar _ _ _ _ rfl

/-- The mean call computes the same function here as by itself. -/
theorem fuse_eq (fi : S20480.Idx → BitVec 32) (fx : S100000x128.Idx → EReal) :
    FuseIdeal.outVal (F := Ideal) fi fx = WholeFuse.outVal (F := Ideal) fi fx := by
  have e : FuseIdeal.fifth (F := Ideal) = WholeFuse.fifth (F := Ideal) := Mean.fifth_eq.trans fifth_eq.symm
  funext j
  unfold FuseIdeal.outVal WholeFuse.outVal FuseIdeal.mean5 WholeFuse.mean5
  rw [e]
  rfl

section
variable (a0 : S4096x128.Idx → EReal) (a1 a2 : S100000x128.Idx → EReal)

theorem chosen_lt (hp : Cert.Pre_scores_distinct.fn (F := Ideal) a0 a1 a2 = fun _ => 1#1) (j : S4096x5.Idx) :
    (chosen (F := Ideal) a0 a1 j).toNat < 100000 := by
  rw [eq_ix2 j]
  refine lt_of_eq_of_lt (chosen_toNat a0 a1 (j 0) (j 1)) ?_
  exact (pickAt_top a0 a1 (j 0) (distinct_of_pre a0 a1 (j 0) a2 hp) (j 1).val (j 1).isLt).1

/-- The kernel chooses the numbers that the reference chooses. -/
theorem best_eq (hp : Cert.Pre_scores_distinct.fn (F := Ideal) a0 a1 a2 = fun _ => 1#1) (h : S100000x128.Transposes [1, 0] ⟨2, ![128, 100000]⟩)
    (hs : (⟨2, ![4096, 100000]⟩ : Shape).Slices (fun _ => 0) ⟨2, ![4096, 5]⟩) : bestAt a0 a1 h hs = chosen (F := Ideal) a0 a1 := by
  funext j
  obtain ⟨q, t, rfl⟩ : ∃ (q : Fin 4096) (t : Fin 5), j = ix2 q t := ⟨j 0, j 1, eq_ix2 j⟩
  have hd := distinct_of_pre a0 a1 q a2 hp
  have e := TopK.IsTop.unique hd (bestAt_top a0 a1 q h hs) (pickAt_top a0 a1 q hd) t.val t.isLt
  rw [dif_pos t.isLt] at e
  exact BitVec.eq_of_toNat_eq (e.trans (chosen_toNat a0 a1 q t).symm)

/-- The reference's mean of the chosen rows is the kernel's result. -/
theorem result_eq (hp : Cert.Pre_scores_distinct.fn (F := Ideal) a0 a1 a2 = fun _ => 1#1) :
    Mean.mean (F := Ideal) (chosen (F := Ideal) a0 a1) a2 = result (F := Ideal) a0 a1 a2 :=
  (Mean.mean_eq _ (chosen_lt a0 a1 a2 hp) _ a2).trans (fuse_eq _ a2)

end

/-- The reference's result by its parts. -/
theorem ref_eq (m : (ℓ : Loc Cert.WholeReferenceIdeal.nD Cert.WholeReferenceIdeal.τ Cert.WholeReferenceIdeal.sig) → Buf (Elt Ideal) ℓ) (c : Dev Cert.WholeReferenceIdeal.nD) :
    Cert.WholeReferenceIdeal.Value.res_main_v15 (F := Ideal) m c
      = Mean.mean (F := Ideal) (bestAt (m ((c.tc : Thread Cert.WholeReferenceIdeal.nD Cert.WholeReferenceIdeal.τ).loc Cert.WholeReferenceIdeal.main_arg0))
          (m ((c.tc : Thread Cert.WholeReferenceIdeal.nD Cert.WholeReferenceIdeal.τ).loc Cert.WholeReferenceIdeal.main_arg1))
          Cert.WholeReferenceIdeal.Facts₀.transposes_S100000x128_S128x100000_1_0 Cert.WholeReferenceIdeal.Facts₀.sliceFits_S4096x100000_S4096x5)
        (m ((c.tc : Thread Cert.WholeReferenceIdeal.nD Cert.WholeReferenceIdeal.τ).loc Cert.WholeReferenceIdeal.main_arg2)) := by
  unfold Cert.WholeReferenceIdeal.Value.res_main_v15 Mean.mean Mean.taken Mean.inside Mean.wrapped
  rfl

theorem ok (m : (ℓ : Loc nD τ sig) → Buf (Elt Ideal) ℓ) (h : Cert.Pre_WholeIdeal m) : PreOK (F := Ideal) m := fun d =>
  ⟨fun j => listed_lt _ _ j, fun j => chosen_lt _ _ _ (h d) j⟩

/-- The kernel's frame. -/
theorem frame_pi : Cert.quiescent_WholeIdeal := fun m ρ hpre =>
  (θ_run Cert.WholeIdeal.defs _ _).mono (fun _ h => ⟨fun c => (h.1 c).2, h.2⟩) (run_main (F := Ideal) m ρ (ok m hpre))

/-- The reference's frame; it declares no semaphore. -/
theorem frame_ri : Cert.quiescent_WholeReferenceIdeal := fun m ρ _ =>
  (θ_run Cert.WholeReferenceIdeal.defs _ _).mono (fun r h => ⟨fun c => (h c).2, Idealize.ShloMosaic.sem_eq_zero_of_no_sems (by decide) r.2⟩)
    (Cert.WholeReferenceIdeal.Value.run (F := Ideal) m ρ)

/-- From arguments that agree, the kernel's result and the reference's are one array. -/
theorem algebraic : Cert.algebraic_WholeIdeal_WholeReferenceIdeal := by
  intro m ρ m' ρ' hpre hagree
  refine ⟨fun c => res m c, (θ_run Cert.WholeIdeal.defs _ _).mono (fun _ h c => h.1 c) (run_main (F := Ideal) m ρ (ok m hpre)), ?_⟩
  refine (θ_run Cert.WholeReferenceIdeal.defs _ _).mono (fun _ h c => ⟨(h c).1.trans ?_, (h c).2⟩)
    (Cert.WholeReferenceIdeal.Value.run (F := Ideal) m' ρ')
  rw [ref_eq, (hagree c).1, (hagree c).2.1, (hagree c).2.2]
  refine Eq.trans ?_ (result_eq (m (l0 c)) (m (l1 c)) (m (l2 c)) (hpre c))
  exact congrArg (fun a => Mean.mean (F := Ideal) a (m (l2 c))) (best_eq (m (l0 c)) (m (l1 c)) (m (l2 c)) (hpre c) _ _)

end Cert.Proof.Whole

end
-- ==== Proof.lean ====
module

public import proofs.«01_k».proof.Proof.Gen.Pre_scores_distinct
public import proofs.«01_k».proof.Proof.Gen.WholeIdeal.Launch
public import proofs.«01_k».proof.Proof.Gen.WholeIdeal.Points
public import proofs.«01_k».proof.Proof.Gen.WholeReferenceIdeal.Run
public import proofs.«01_k».proof.Proof.Gen.WholeIdeal.Skeleton
public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_rows_in_range
public import proofs.«01_k».proof.Proof.Gen.ReferenceIdeal.Run
public import proofs.«01_k».proof.Proof.Gen.Candidates
public import proofs.«01_k».proof.Proof.Gen.Candidates.Skeleton
public import proofs.«01_k».proof.Proof.Gen.CandidatesIdeal
public import proofs.«01_k».proof.Proof.Gen.CandidatesIdeal.Skeleton
public import proofs.«01_k».proof.Proof.Gen.CandidatesReference
public import proofs.«01_k».proof.Proof.Gen.CandidatesReference.Run
public import proofs.«01_k».proof.Proof.Gen.CandidatesReferenceIdeal
public import proofs.«01_k».proof.Proof.Gen.CandidatesReferenceIdeal.Run
public import proofs.«01_k».proof.Proof.Gen.Pre_candidates_in_table
public import proofs.«01_k».proof.Proof.Mean.Claims
public import proofs.«01_k».proof.Proof.Rows.Claims
public import proofs.«01_k».proof.Proof.Whole.Claims
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Candidates.Gen.facts, Cert.CandidatesIdeal.Gen.facts,
    Cert.CandidatesReferenceIdeal.Gen.facts, Cert.CandidatesReference.Gen.facts, Cert.WholeIdeal.Gen.facts, Cert.WholeReferenceIdeal.Gen.facts,
    Cert.Pre_rows_in_range.Gen.facts, Cert.Pre_candidates_in_table.Gen.facts, Cert.Pre_scores_distinct.Gen.facts,
    Mean.frame_p, Mean.frame_pi, Mean.frame_ri, Rows.frame_p, Rows.frame_pi, Rows.frame_ri, Rows.frame_r, Whole.frame_pi, Whole.frame_ri,
    Mean.preserves, Mean.algebraic, Rows.preserves, Rows.algebraic, Rows.bitexact, Whole.algebraic⟩

end Cert.Proof

end
